-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdRefIdeal (m : (ℓ : Loc Cert.InBwdRefIdeal.nD Cert.InBwdRefIdeal.τ Cert.InBwdRefIdeal.sig) → Buf (Elt Ideal) ℓ) : Prop :=
  True

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_finite_attn [hPre_finite_attn : Cert.Pre_finite_attn.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))).1 = (fun _ => 1#1)
    ∧ (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))).2.1 = (fun _ => 1#1)
    ∧ (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))).2.2.1 = (fun _ => 1#1)
    ∧ (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))).2.2.2.1 = (fun _ => 1#1)
    ∧ (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))).2.2.2.2.1 = (fun _ => 1#1)
    ∧ (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))).2.2.2.2.2 = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_finite_attn [hPre_finite_attn : Cert.Pre_finite_attn.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_finite_attn.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4)) (m ((c.tc : Thread Cert.AttnBwdRefIdeal.nD Cert.AttnBwdRefIdeal.τ).loc Cert.AttnBwdRefIdeal.main_arg5))).1 = (fun _ => 1#1)
    ∧ (Cert.Pre_finite_attn.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4)) (m ((c.tc : Thread Cert.AttnBwdRefIdeal.nD Cert.AttnBwdRefIdeal.τ).loc Cert.AttnBwdRefIdeal.main_arg5))).2.1 = (fun _ => 1#1)
    ∧ (Cert.Pre_finite_attn.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4)) (m ((c.tc : Thread Cert.AttnBwdRefIdeal.nD Cert.AttnBwdRefIdeal.τ).loc Cert.AttnBwdRefIdeal.main_arg5))).2.2.1 = (fun _ => 1#1)
    ∧ (Cert.Pre_finite_attn.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4)) (m ((c.tc : Thread Cert.AttnBwdRefIdeal.nD Cert.AttnBwdRefIdeal.τ).loc Cert.AttnBwdRefIdeal.main_arg5))).2.2.2.1 = (fun _ => 1#1)
    ∧ (Cert.Pre_finite_attn.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4)) (m ((c.tc : Thread Cert.AttnBwdRefIdeal.nD Cert.AttnBwdRefIdeal.τ).loc Cert.AttnBwdRefIdeal.main_arg5))).2.2.2.2.1 = (fun _ => 1#1)
    ∧ (Cert.Pre_finite_attn.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4)) (m ((c.tc : Thread Cert.AttnBwdRefIdeal.nD Cert.AttnBwdRefIdeal.τ).loc Cert.AttnBwdRefIdeal.main_arg5))).2.2.2.2.2 = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_attn_fwd [hPre_finite_attn_fwd : Cert.Pre_finite_attn_fwd.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_attn_fwd.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3)) (m ((c.tc : Thread Cert.AttnFwdIdeal.nD Cert.AttnFwdIdeal.τ).loc Cert.AttnFwdIdeal.main_arg4))).1 = (fun _ => 1#1)
    ∧ (Cert.Pre_finite_attn_fwd.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3)) (m ((c.tc : Thread Cert.AttnFwdIdeal.nD Cert.AttnFwdIdeal.τ).loc Cert.AttnFwdIdeal.main_arg4))).2.1 = (fun _ => 1#1)
    ∧ (Cert.Pre_finite_attn_fwd.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3)) (m ((c.tc : Thread Cert.AttnFwdIdeal.nD Cert.AttnFwdIdeal.τ).loc Cert.AttnFwdIdeal.main_arg4))).2.2.1 = (fun _ => 1#1)
    ∧ (Cert.Pre_finite_attn_fwd.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3)) (m ((c.tc : Thread Cert.AttnFwdIdeal.nD Cert.AttnFwdIdeal.τ).loc Cert.AttnFwdIdeal.main_arg4))).2.2.2.1 = (fun _ => 1#1)
    ∧ (Cert.Pre_finite_attn_fwd.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3)) (m ((c.tc : Thread Cert.AttnFwdIdeal.nD Cert.AttnFwdIdeal.τ).loc Cert.AttnFwdIdeal.main_arg4))).2.2.2.2 = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_finite_attn_fwd [hPre_finite_attn_fwd : Cert.Pre_finite_attn_fwd.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_finite_attn_fwd.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3)) (m ((c.tc : Thread Cert.AttnFwdRefIdeal.nD Cert.AttnFwdRefIdeal.τ).loc Cert.AttnFwdRefIdeal.main_arg4))).1 = (fun _ => 1#1)
    ∧ (Cert.Pre_finite_attn_fwd.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3)) (m ((c.tc : Thread Cert.AttnFwdRefIdeal.nD Cert.AttnFwdRefIdeal.τ).loc Cert.AttnFwdRefIdeal.main_arg4))).2.1 = (fun _ => 1#1)
    ∧ (Cert.Pre_finite_attn_fwd.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3)) (m ((c.tc : Thread Cert.AttnFwdRefIdeal.nD Cert.AttnFwdRefIdeal.τ).loc Cert.AttnFwdRefIdeal.main_arg4))).2.2.1 = (fun _ => 1#1)
    ∧ (Cert.Pre_finite_attn_fwd.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3)) (m ((c.tc : Thread Cert.AttnFwdRefIdeal.nD Cert.AttnFwdRefIdeal.τ).loc Cert.AttnFwdRefIdeal.main_arg4))).2.2.2.1 = (fun _ => 1#1)
    ∧ (Cert.Pre_finite_attn_fwd.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3)) (m ((c.tc : Thread Cert.AttnFwdRefIdeal.nD Cert.AttnFwdRefIdeal.τ).loc Cert.AttnFwdRefIdeal.main_arg4))).2.2.2.2 = (fun _ => 1#1)

def Pre_KvBwd (m : (ℓ : Loc Cert.KvBwd.nD Cert.KvBwd.τ Cert.KvBwd.sig) → Buf (Elt Bits) ℓ) : Prop :=
  True

def Pre_KvBwdIdeal (m : (ℓ : Loc Cert.KvBwdIdeal.nD Cert.KvBwdIdeal.τ Cert.KvBwdIdeal.sig) → Buf (Elt Ideal) ℓ) : Prop :=
  True

def Pre_KvBwdRefIdeal (m : (ℓ : Loc Cert.KvBwdRefIdeal.nD Cert.KvBwdRefIdeal.τ Cert.KvBwdRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.2.2.2 = (fun _ => 1#1)

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5)
      ∧ r.2.mem ((c.tc : Thread Cert.InBwd.nD Cert.InBwd.τ).loc Cert.InBwd.main_arg6) = m ((c.tc : Thread Cert.InBwd.nD Cert.InBwd.τ).loc Cert.InBwd.main_arg6)
      ∧ r.2.mem ((c.tc : Thread Cert.InBwd.nD Cert.InBwd.τ).loc Cert.InBwd.main_arg7) = m ((c.tc : Thread Cert.InBwd.nD Cert.InBwd.τ).loc Cert.InBwd.main_arg7))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
      ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4)
      ∧ r.2.mem ((c.tc : Thread Cert.InBwdRefIdeal.nD Cert.InBwdRefIdeal.τ).loc Cert.InBwdRefIdeal.main_arg5) = m ((c.tc : Thread Cert.InBwdRefIdeal.nD Cert.InBwdRefIdeal.τ).loc Cert.InBwdRefIdeal.main_arg5)
      ∧ r.2.mem ((c.tc : Thread Cert.InBwdRefIdeal.nD Cert.InBwdRefIdeal.τ).loc Cert.InBwdRefIdeal.main_arg6) = m ((c.tc : Thread Cert.InBwdRefIdeal.nD Cert.InBwdRefIdeal.τ).loc Cert.InBwdRefIdeal.main_arg6)
      ∧ r.2.mem ((c.tc : Thread Cert.InBwdRefIdeal.nD Cert.InBwdRefIdeal.τ).loc Cert.InBwdRefIdeal.main_arg7) = m ((c.tc : Thread Cert.InBwdRefIdeal.nD Cert.InBwdRefIdeal.τ).loc Cert.InBwdRefIdeal.main_arg7))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3)
      ∧ r.2.mem ((c.tc : Thread Cert.AttnBwd.nD Cert.AttnBwd.τ).loc Cert.AttnBwd.main_arg4) = m ((c.tc : Thread Cert.AttnBwd.nD Cert.AttnBwd.τ).loc Cert.AttnBwd.main_arg4)
      ∧ r.2.mem ((c.tc : Thread Cert.AttnBwd.nD Cert.AttnBwd.τ).loc Cert.AttnBwd.main_arg5) = m ((c.tc : Thread Cert.AttnBwd.nD Cert.AttnBwd.τ).loc Cert.AttnBwd.main_arg5))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
      ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5))
      ∧ r.2.sem = fun _ => 0)

def quiescent_AttnBwdIdeal_pre_finite_attn [hAttnBwdIdeal : Cert.AttnBwdIdeal.Facts] [hPre_finite_attn : Cert.Pre_finite_attn.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_finite_attn m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
      ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3)
      ∧ r.2.mem ((c.tc : Thread Cert.AttnBwdRefIdeal.nD Cert.AttnBwdRefIdeal.τ).loc Cert.AttnBwdRefIdeal.main_arg4) = m ((c.tc : Thread Cert.AttnBwdRefIdeal.nD Cert.AttnBwdRefIdeal.τ).loc Cert.AttnBwdRefIdeal.main_arg4)
      ∧ r.2.mem ((c.tc : Thread Cert.AttnBwdRefIdeal.nD Cert.AttnBwdRefIdeal.τ).loc Cert.AttnBwdRefIdeal.main_arg5) = m ((c.tc : Thread Cert.AttnBwdRefIdeal.nD Cert.AttnBwdRefIdeal.τ).loc Cert.AttnBwdRefIdeal.main_arg5))
      ∧ r.2.sem = fun _ => 0)

def quiescent_AttnBwdRefIdeal_pre_finite_attn [hAttnBwdRefIdeal : Cert.AttnBwdRefIdeal.Facts] [hPre_finite_attn : Cert.Pre_finite_attn.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_finite_attn m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3)
      ∧ r.2.mem ((c.tc : Thread Cert.AttnBwdRefIdeal.nD Cert.AttnBwdRefIdeal.τ).loc Cert.AttnBwdRefIdeal.main_arg4) = m ((c.tc : Thread Cert.AttnBwdRefIdeal.nD Cert.AttnBwdRefIdeal.τ).loc Cert.AttnBwdRefIdeal.main_arg4)
      ∧ r.2.mem ((c.tc : Thread Cert.AttnBwdRefIdeal.nD Cert.AttnBwdRefIdeal.τ).loc Cert.AttnBwdRefIdeal.main_arg5) = m ((c.tc : Thread Cert.AttnBwdRefIdeal.nD Cert.AttnBwdRefIdeal.τ).loc Cert.AttnBwdRefIdeal.main_arg5))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3)
      ∧ r.2.mem ((c.tc : Thread Cert.AttnFwd.nD Cert.AttnFwd.τ).loc Cert.AttnFwd.main_arg4) = m ((c.tc : Thread Cert.AttnFwd.nD Cert.AttnFwd.τ).loc Cert.AttnFwd.main_arg4))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3)
      ∧ r.2.mem ((c.tc : Thread Cert.AttnFwdIdeal.nD Cert.AttnFwdIdeal.τ).loc Cert.AttnFwdIdeal.main_arg4) = m ((c.tc : Thread Cert.AttnFwdIdeal.nD Cert.AttnFwdIdeal.τ).loc Cert.AttnFwdIdeal.main_arg4))
      ∧ r.2.sem = fun _ => 0)

def quiescent_AttnFwdIdeal_pre_finite_attn_fwd [hAttnFwdIdeal : Cert.AttnFwdIdeal.Facts] [hPre_finite_attn_fwd : Cert.Pre_finite_attn_fwd.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_attn_fwd m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3)
      ∧ r.2.mem ((c.tc : Thread Cert.AttnFwdIdeal.nD Cert.AttnFwdIdeal.τ).loc Cert.AttnFwdIdeal.main_arg4) = m ((c.tc : Thread Cert.AttnFwdIdeal.nD Cert.AttnFwdIdeal.τ).loc Cert.AttnFwdIdeal.main_arg4))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3)
      ∧ r.2.mem ((c.tc : Thread Cert.AttnFwdRefIdeal.nD Cert.AttnFwdRefIdeal.τ).loc Cert.AttnFwdRefIdeal.main_arg4) = m ((c.tc : Thread Cert.AttnFwdRefIdeal.nD Cert.AttnFwdRefIdeal.τ).loc Cert.AttnFwdRefIdeal.main_arg4))
      ∧ r.2.sem = fun _ => 0)

def quiescent_AttnFwdRefIdeal_pre_finite_attn_fwd [hAttnFwdRefIdeal : Cert.AttnFwdRefIdeal.Facts] [hPre_finite_attn_fwd : Cert.Pre_finite_attn_fwd.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_finite_attn_fwd m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3)
      ∧ r.2.mem ((c.tc : Thread Cert.AttnFwdRefIdeal.nD Cert.AttnFwdRefIdeal.τ).loc Cert.AttnFwdRefIdeal.main_arg4) = m ((c.tc : Thread Cert.AttnFwdRefIdeal.nD Cert.AttnFwdRefIdeal.τ).loc Cert.AttnFwdRefIdeal.main_arg4))
      ∧ r.2.sem = fun _ => 0)

def quiescent_KvBwd [hKvBwd : Cert.KvBwd.Facts] : Prop :=
  ∀ (m : (ℓ : Loc Cert.KvBwd.nD Cert.KvBwd.τ Cert.KvBwd.sig) → Buf (Elt Bits) ℓ) (g : Dev Cert.KvBwd.nD → PrngReg), Pre_KvBwd m →
    θ_run (Cert.KvBwd.defs (F := Bits)) (onTc (τ := Cert.KvBwd.τ) (Cert.KvBwd.main (F := Bits))) ⟨m, fun _ => 0, g⟩ (fun r => (∀ c : Dev Cert.KvBwd.nD,
      r.2.mem ((c.tc : Thread Cert.KvBwd.nD Cert.KvBwd.τ).loc Cert.KvBwd.main_arg0) = m ((c.tc : Thread Cert.KvBwd.nD Cert.KvBwd.τ).loc Cert.KvBwd.main_arg0)
      ∧ r.2.mem ((c.tc : Thread Cert.KvBwd.nD Cert.KvBwd.τ).loc Cert.KvBwd.main_arg1) = m ((c.tc : Thread Cert.KvBwd.nD Cert.KvBwd.τ).loc Cert.KvBwd.main_arg1)
      ∧ r.2.mem ((c.tc : Thread Cert.KvBwd.nD Cert.KvBwd.τ).loc Cert.KvBwd.main_arg2) = m ((c.tc : Thread Cert.KvBwd.nD Cert.KvBwd.τ).loc Cert.KvBwd.main_arg2)
      ∧ r.2.mem ((c.tc : Thread Cert.KvBwd.nD Cert.KvBwd.τ).loc Cert.KvBwd.main_arg3) = m ((c.tc : Thread Cert.KvBwd.nD Cert.KvBwd.τ).loc Cert.KvBwd.main_arg3))
      ∧ r.2.sem = fun _ => 0)

def quiescent_KvBwdIdeal [hKvBwdIdeal : Cert.KvBwdIdeal.Facts] : Prop :=
  ∀ (m : (ℓ : Loc Cert.KvBwdIdeal.nD Cert.KvBwdIdeal.τ Cert.KvBwdIdeal.sig) → Buf (Elt Ideal) ℓ) (g : Dev Cert.KvBwdIdeal.nD → PrngReg), Pre_KvBwdIdeal m →
    θ_run (Cert.KvBwdIdeal.defs (F := Ideal)) (onTc (τ := Cert.KvBwdIdeal.τ) (Cert.KvBwdIdeal.main (F := Ideal))) ⟨m, fun _ => 0, g⟩ (fun r => (∀ c : Dev Cert.KvBwdIdeal.nD,
      r.2.mem ((c.tc : Thread Cert.KvBwdIdeal.nD Cert.KvBwdIdeal.τ).loc Cert.KvBwdIdeal.main_arg0) = m ((c.tc : Thread Cert.KvBwdIdeal.nD Cert.KvBwdIdeal.τ).loc Cert.KvBwdIdeal.main_arg0)
      ∧ r.2.mem ((c.tc : Thread Cert.KvBwdIdeal.nD Cert.KvBwdIdeal.τ).loc Cert.KvBwdIdeal.main_arg1) = m ((c.tc : Thread Cert.KvBwdIdeal.nD Cert.KvBwdIdeal.τ).loc Cert.KvBwdIdeal.main_arg1)
      ∧ r.2.mem ((c.tc : Thread Cert.KvBwdIdeal.nD Cert.KvBwdIdeal.τ).loc Cert.KvBwdIdeal.main_arg2) = m ((c.tc : Thread Cert.KvBwdIdeal.nD Cert.KvBwdIdeal.τ).loc Cert.KvBwdIdeal.main_arg2)
      ∧ r.2.mem ((c.tc : Thread Cert.KvBwdIdeal.nD Cert.KvBwdIdeal.τ).loc Cert.KvBwdIdeal.main_arg3) = m ((c.tc : Thread Cert.KvBwdIdeal.nD Cert.KvBwdIdeal.τ).loc Cert.KvBwdIdeal.main_arg3))
      ∧ r.2.sem = fun _ => 0)

def quiescent_KvBwdRefIdeal [hKvBwdRefIdeal : Cert.KvBwdRefIdeal.Facts] : Prop :=
  ∀ (m : (ℓ : Loc Cert.KvBwdRefIdeal.nD Cert.KvBwdRefIdeal.τ Cert.KvBwdRefIdeal.sig) → Buf (Elt Ideal) ℓ) (g : Dev Cert.KvBwdRefIdeal.nD → PrngReg), Pre_KvBwdRefIdeal m →
    θ_run (Cert.KvBwdRefIdeal.defs (F := Ideal)) (onTc (τ := Cert.KvBwdRefIdeal.τ) (Cert.KvBwdRefIdeal.main (F := Ideal))) ⟨m, fun _ => 0, g⟩ (fun r => (∀ c : Dev Cert.KvBwdRefIdeal.nD,
      r.2.mem ((c.tc : Thread Cert.KvBwdRefIdeal.nD Cert.KvBwdRefIdeal.τ).loc Cert.KvBwdRefIdeal.main_arg0) = m ((c.tc : Thread Cert.KvBwdRefIdeal.nD Cert.KvBwdRefIdeal.τ).loc Cert.KvBwdRefIdeal.main_arg0)
      ∧ r.2.mem ((c.tc : Thread Cert.KvBwdRefIdeal.nD Cert.KvBwdRefIdeal.τ).loc Cert.KvBwdRefIdeal.main_arg1) = m ((c.tc : Thread Cert.KvBwdRefIdeal.nD Cert.KvBwdRefIdeal.τ).loc Cert.KvBwdRefIdeal.main_arg1)
      ∧ r.2.mem ((c.tc : Thread Cert.KvBwdRefIdeal.nD Cert.KvBwdRefIdeal.τ).loc Cert.KvBwdRefIdeal.main_arg2) = m ((c.tc : Thread Cert.KvBwdRefIdeal.nD Cert.KvBwdRefIdeal.τ).loc Cert.KvBwdRefIdeal.main_arg2)
      ∧ r.2.mem ((c.tc : Thread Cert.KvBwdRefIdeal.nD Cert.KvBwdRefIdeal.τ).loc Cert.KvBwdRefIdeal.main_arg3) = m ((c.tc : Thread Cert.KvBwdRefIdeal.nD Cert.KvBwdRefIdeal.τ).loc Cert.KvBwdRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5)
      ∧ r.2.mem ((c.tc : Thread Cert.MergeFwd.nD Cert.MergeFwd.τ).loc Cert.MergeFwd.main_arg6) = m ((c.tc : Thread Cert.MergeFwd.nD Cert.MergeFwd.τ).loc Cert.MergeFwd.main_arg6))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
      ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5)
      ∧ r.2.mem ((c.tc : Thread Cert.MergeFwdRefIdeal.nD Cert.MergeFwdRefIdeal.τ).loc Cert.MergeFwdRefIdeal.main_arg6) = m ((c.tc : Thread Cert.MergeFwdRefIdeal.nD Cert.MergeFwdRefIdeal.τ).loc Cert.MergeFwdRefIdeal.main_arg6))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v5_0)) (v1 : (c : Dev Cert.MergeIdeal.nD) → Buf (Elt Ideal) ((c.tc : Thread Cert.MergeIdeal.nD Cert.MergeIdeal.τ).loc Cert.MergeIdeal.main_v5_1)) (v2 : (c : Dev Cert.MergeIdeal.nD) → Buf (Elt Ideal) ((c.tc : Thread Cert.MergeIdeal.nD Cert.MergeIdeal.τ).loc Cert.MergeIdeal.main_v5_2)) (v3 : (c : Dev Cert.MergeIdeal.nD) → Buf (Elt Ideal) ((c.tc : Thread Cert.MergeIdeal.nD Cert.MergeIdeal.τ).loc Cert.MergeIdeal.main_v5_3)) (v4 : (c : Dev Cert.MergeIdeal.nD) → Buf (Elt Ideal) ((c.tc : Thread Cert.MergeIdeal.nD Cert.MergeIdeal.τ).loc Cert.MergeIdeal.main_v5_4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5_0) = v0 c
          ∧ r.2.mem ((c.tc : Thread Cert.MergeIdeal.nD Cert.MergeIdeal.τ).loc Cert.MergeIdeal.main_v5_1) = v1 c
          ∧ r.2.mem ((c.tc : Thread Cert.MergeIdeal.nD Cert.MergeIdeal.τ).loc Cert.MergeIdeal.main_v5_2) = v2 c
          ∧ r.2.mem ((c.tc : Thread Cert.MergeIdeal.nD Cert.MergeIdeal.τ).loc Cert.MergeIdeal.main_v5_3) = v3 c
          ∧ r.2.mem ((c.tc : Thread Cert.MergeIdeal.nD Cert.MergeIdeal.τ).loc Cert.MergeIdeal.main_v5_4) = v4 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v39) = v0 c
          ∧ r.2.mem ((c.tc : Thread Cert.MergeRefIdeal.nD Cert.MergeRefIdeal.τ).loc Cert.MergeRefIdeal.main_v40) = v1 c
          ∧ r.2.mem ((c.tc : Thread Cert.MergeRefIdeal.nD Cert.MergeRefIdeal.τ).loc Cert.MergeRefIdeal.main_v41) = v2 c
          ∧ r.2.mem ((c.tc : Thread Cert.MergeRefIdeal.nD Cert.MergeRefIdeal.τ).loc Cert.MergeRefIdeal.main_v43) = v3 c
          ∧ r.2.mem ((c.tc : Thread Cert.MergeRefIdeal.nD Cert.MergeRefIdeal.τ).loc Cert.MergeRefIdeal.main_v44) = v4 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_InBwd_InBwdIdeal : Prop :=
  True

def algebraic_InBwdIdeal_InBwdRefIdeal [hInBwdIdeal : Cert.InBwdIdeal.Facts] [hInBwdRefIdeal : Cert.InBwdRefIdeal.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)
      ∧ m' ((c.tc : Thread Cert.InBwdRefIdeal.nD Cert.InBwdRefIdeal.τ).loc Cert.InBwdRefIdeal.main_arg3) = m ((c.tc : Thread Cert.InBwdIdeal.nD Cert.InBwdIdeal.τ).loc Cert.InBwdIdeal.main_arg3)
      ∧ m' ((c.tc : Thread Cert.InBwdRefIdeal.nD Cert.InBwdRefIdeal.τ).loc Cert.InBwdRefIdeal.main_arg4) = m ((c.tc : Thread Cert.InBwdIdeal.nD Cert.InBwdIdeal.τ).loc Cert.InBwdIdeal.main_arg4)
      ∧ m' ((c.tc : Thread Cert.InBwdRefIdeal.nD Cert.InBwdRefIdeal.τ).loc Cert.InBwdRefIdeal.main_arg5) = m ((c.tc : Thread Cert.InBwdIdeal.nD Cert.InBwdIdeal.τ).loc Cert.InBwdIdeal.main_arg5)
      ∧ m' ((c.tc : Thread Cert.InBwdRefIdeal.nD Cert.InBwdRefIdeal.τ).loc Cert.InBwdRefIdeal.main_arg6) = m ((c.tc : Thread Cert.InBwdIdeal.nD Cert.InBwdIdeal.τ).loc Cert.InBwdIdeal.main_arg6)
      ∧ m' ((c.tc : Thread Cert.InBwdRefIdeal.nD Cert.InBwdRefIdeal.τ).loc Cert.InBwdRefIdeal.main_arg7) = m ((c.tc : Thread Cert.InBwdIdeal.nD Cert.InBwdIdeal.τ).loc Cert.InBwdIdeal.main_arg7)) →
    ∃ (v0 : (c : Dev Cert.InBwdIdeal.nD) → Buf (Elt Ideal) ((c.tc : Thread Cert.InBwdIdeal.nD Cert.InBwdIdeal.τ).loc Cert.InBwdIdeal.main_v4_0)) (v1 : (c : Dev Cert.InBwdIdeal.nD) → Buf (Elt Ideal) ((c.tc : Thread Cert.InBwdIdeal.nD Cert.InBwdIdeal.τ).loc Cert.InBwdIdeal.main_v4_1)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v4_0) = v0 c
          ∧ r.2.mem ((c.tc : Thread Cert.InBwdIdeal.nD Cert.InBwdIdeal.τ).loc Cert.InBwdIdeal.main_v4_1) = v1 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
          ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
          ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v46) = v0 c
          ∧ r.2.mem ((c.tc : Thread Cert.InBwdRefIdeal.nD Cert.InBwdRefIdeal.τ).loc Cert.InBwdRefIdeal.main_v47) = v1 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)
          ∧ r.2.mem ((c.tc : Thread Cert.InBwdRefIdeal.nD Cert.InBwdRefIdeal.τ).loc Cert.InBwdRefIdeal.main_arg3) = m' ((c.tc : Thread Cert.InBwdRefIdeal.nD Cert.InBwdRefIdeal.τ).loc Cert.InBwdRefIdeal.main_arg3)
          ∧ r.2.mem ((c.tc : Thread Cert.InBwdRefIdeal.nD Cert.InBwdRefIdeal.τ).loc Cert.InBwdRefIdeal.main_arg4) = m' ((c.tc : Thread Cert.InBwdRefIdeal.nD Cert.InBwdRefIdeal.τ).loc Cert.InBwdRefIdeal.main_arg4)
          ∧ r.2.mem ((c.tc : Thread Cert.InBwdRefIdeal.nD Cert.InBwdRefIdeal.τ).loc Cert.InBwdRefIdeal.main_arg5) = m' ((c.tc : Thread Cert.InBwdRefIdeal.nD Cert.InBwdRefIdeal.τ).loc Cert.InBwdRefIdeal.main_arg5)
          ∧ r.2.mem ((c.tc : Thread Cert.InBwdRefIdeal.nD Cert.InBwdRefIdeal.τ).loc Cert.InBwdRefIdeal.main_arg6) = m' ((c.tc : Thread Cert.InBwdRefIdeal.nD Cert.InBwdRefIdeal.τ).loc Cert.InBwdRefIdeal.main_arg6)
          ∧ r.2.mem ((c.tc : Thread Cert.InBwdRefIdeal.nD Cert.InBwdRefIdeal.τ).loc Cert.InBwdRefIdeal.main_arg7) = m' ((c.tc : Thread Cert.InBwdRefIdeal.nD Cert.InBwdRefIdeal.τ).loc Cert.InBwdRefIdeal.main_arg7))

def preserves_AttnBwd_AttnBwdIdeal : Prop :=
  IdealRules.named_const.Statement Cert.AttnBwdIdeal.κ "mask" .f32 0xF149F2CA#32 ⊥

def algebraic_AttnBwdIdeal_AttnBwdRefIdeal_pre_finite_attn [hAttnBwdIdeal : Cert.AttnBwdIdeal.Facts] [hAttnBwdRefIdeal : Cert.AttnBwdRefIdeal.Facts] [hPre_finite_attn : Cert.Pre_finite_attn.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_finite_attn m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)
      ∧ m' ((c.tc : Thread Cert.AttnBwdRefIdeal.nD Cert.AttnBwdRefIdeal.τ).loc Cert.AttnBwdRefIdeal.main_arg3) = m ((c.tc : Thread Cert.AttnBwdIdeal.nD Cert.AttnBwdIdeal.τ).loc Cert.AttnBwdIdeal.main_arg3)
      ∧ m' ((c.tc : Thread Cert.AttnBwdRefIdeal.nD Cert.AttnBwdRefIdeal.τ).loc Cert.AttnBwdRefIdeal.main_arg4) = m ((c.tc : Thread Cert.AttnBwdIdeal.nD Cert.AttnBwdIdeal.τ).loc Cert.AttnBwdIdeal.main_arg4)
      ∧ m' ((c.tc : Thread Cert.AttnBwdRefIdeal.nD Cert.AttnBwdRefIdeal.τ).loc Cert.AttnBwdRefIdeal.main_arg5) = m ((c.tc : Thread Cert.AttnBwdIdeal.nD Cert.AttnBwdIdeal.τ).loc Cert.AttnBwdIdeal.main_arg5)) →
    ∃ (v0 : (c : Dev Cert.AttnBwdIdeal.nD) → Buf (Elt Ideal) ((c.tc : Thread Cert.AttnBwdIdeal.nD Cert.AttnBwdIdeal.τ).loc Cert.AttnBwdIdeal.main_v65_0)) (v1 : (c : Dev Cert.AttnBwdIdeal.nD) → Buf (Elt Ideal) ((c.tc : Thread Cert.AttnBwdIdeal.nD Cert.AttnBwdIdeal.τ).loc Cert.AttnBwdIdeal.main_v65_1)) (v2 : (c : Dev Cert.AttnBwdIdeal.nD) → Buf (Elt Ideal) ((c.tc : Thread Cert.AttnBwdIdeal.nD Cert.AttnBwdIdeal.τ).loc Cert.AttnBwdIdeal.main_v65_2)) (v3 : (c : Dev Cert.AttnBwdIdeal.nD) → Buf (Elt Ideal) ((c.tc : Thread Cert.AttnBwdIdeal.nD Cert.AttnBwdIdeal.τ).loc Cert.AttnBwdIdeal.main_v65_3)) (v4 : (c : Dev Cert.AttnBwdIdeal.nD) → Buf (Elt Ideal) ((c.tc : Thread Cert.AttnBwdIdeal.nD Cert.AttnBwdIdeal.τ).loc Cert.AttnBwdIdeal.main_v65_4)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v65_0) = v0 c
          ∧ r.2.mem ((c.tc : Thread Cert.AttnBwdIdeal.nD Cert.AttnBwdIdeal.τ).loc Cert.AttnBwdIdeal.main_v65_1) = v1 c
          ∧ r.2.mem ((c.tc : Thread Cert.AttnBwdIdeal.nD Cert.AttnBwdIdeal.τ).loc Cert.AttnBwdIdeal.main_v65_2) = v2 c
          ∧ r.2.mem ((c.tc : Thread Cert.AttnBwdIdeal.nD Cert.AttnBwdIdeal.τ).loc Cert.AttnBwdIdeal.main_v65_3) = v3 c
          ∧ r.2.mem ((c.tc : Thread Cert.AttnBwdIdeal.nD Cert.AttnBwdIdeal.τ).loc Cert.AttnBwdIdeal.main_v65_4) = v4 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
          ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
          ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v236) = v0 c
          ∧ r.2.mem ((c.tc : Thread Cert.AttnBwdRefIdeal.nD Cert.AttnBwdRefIdeal.τ).loc Cert.AttnBwdRefIdeal.main_v245) = v1 c
          ∧ r.2.mem ((c.tc : Thread Cert.AttnBwdRefIdeal.nD Cert.AttnBwdRefIdeal.τ).loc Cert.AttnBwdRefIdeal.main_v254) = v2 c
          ∧ r.2.mem ((c.tc : Thread Cert.AttnBwdRefIdeal.nD Cert.AttnBwdRefIdeal.τ).loc Cert.AttnBwdRefIdeal.main_v256) = v3 c
          ∧ r.2.mem ((c.tc : Thread Cert.AttnBwdRefIdeal.nD Cert.AttnBwdRefIdeal.τ).loc Cert.AttnBwdRefIdeal.main_v235) = v4 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2)
          ∧ r.2.mem ((c.tc : Thread Cert.AttnBwdRefIdeal.nD Cert.AttnBwdRefIdeal.τ).loc Cert.AttnBwdRefIdeal.main_arg3) = m' ((c.tc : Thread Cert.AttnBwdRefIdeal.nD Cert.AttnBwdRefIdeal.τ).loc Cert.AttnBwdRefIdeal.main_arg3)
          ∧ r.2.mem ((c.tc : Thread Cert.AttnBwdRefIdeal.nD Cert.AttnBwdRefIdeal.τ).loc Cert.AttnBwdRefIdeal.main_arg4) = m' ((c.tc : Thread Cert.AttnBwdRefIdeal.nD Cert.AttnBwdRefIdeal.τ).loc Cert.AttnBwdRefIdeal.main_arg4)
          ∧ r.2.mem ((c.tc : Thread Cert.AttnBwdRefIdeal.nD Cert.AttnBwdRefIdeal.τ).loc Cert.AttnBwdRefIdeal.main_arg5) = m' ((c.tc : Thread Cert.AttnBwdRefIdeal.nD Cert.AttnBwdRefIdeal.τ).loc Cert.AttnBwdRefIdeal.main_arg5))

def preserves_AttnFwd_AttnFwdIdeal : Prop :=
  IdealRules.named_const.Statement Cert.AttnFwdIdeal.κ "mask" .f32 0xF149F2CA#32 ⊥

def algebraic_AttnFwdIdeal_AttnFwdRefIdeal_pre_finite_attn_fwd [hAttnFwdIdeal : Cert.AttnFwdIdeal.Facts] [hAttnFwdRefIdeal : Cert.AttnFwdRefIdeal.Facts] [hPre_finite_attn_fwd : Cert.Pre_finite_attn_fwd.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_finite_attn_fwd m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)
      ∧ m' ((c.tc : Thread Cert.AttnFwdRefIdeal.nD Cert.AttnFwdRefIdeal.τ).loc Cert.AttnFwdRefIdeal.main_arg3) = m ((c.tc : Thread Cert.AttnFwdIdeal.nD Cert.AttnFwdIdeal.τ).loc Cert.AttnFwdIdeal.main_arg3)
      ∧ m' ((c.tc : Thread Cert.AttnFwdRefIdeal.nD Cert.AttnFwdRefIdeal.τ).loc Cert.AttnFwdRefIdeal.main_arg4) = m ((c.tc : Thread Cert.AttnFwdIdeal.nD Cert.AttnFwdIdeal.τ).loc Cert.AttnFwdIdeal.main_arg4)) →
    ∃ (v0 : (c : Dev Cert.AttnFwdIdeal.nD) → Buf (Elt Ideal) ((c.tc : Thread Cert.AttnFwdIdeal.nD Cert.AttnFwdIdeal.τ).loc Cert.AttnFwdIdeal.main_v65)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v65) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3)
          ∧ r.2.mem ((c.tc : Thread Cert.AttnFwdIdeal.nD Cert.AttnFwdIdeal.τ).loc Cert.AttnFwdIdeal.main_arg4) = m ((c.tc : Thread Cert.AttnFwdIdeal.nD Cert.AttnFwdIdeal.τ).loc Cert.AttnFwdIdeal.main_arg4))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v131) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2)
          ∧ r.2.mem ((c.tc : Thread Cert.AttnFwdRefIdeal.nD Cert.AttnFwdRefIdeal.τ).loc Cert.AttnFwdRefIdeal.main_arg3) = m' ((c.tc : Thread Cert.AttnFwdRefIdeal.nD Cert.AttnFwdRefIdeal.τ).loc Cert.AttnFwdRefIdeal.main_arg3)
          ∧ r.2.mem ((c.tc : Thread Cert.AttnFwdRefIdeal.nD Cert.AttnFwdRefIdeal.τ).loc Cert.AttnFwdRefIdeal.main_arg4) = m' ((c.tc : Thread Cert.AttnFwdRefIdeal.nD Cert.AttnFwdRefIdeal.τ).loc Cert.AttnFwdRefIdeal.main_arg4))

def preserves_KvBwd_KvBwdIdeal : Prop :=
  True

def algebraic_KvBwdIdeal_KvBwdRefIdeal [hKvBwdIdeal : Cert.KvBwdIdeal.Facts] [hKvBwdRefIdeal : Cert.KvBwdRefIdeal.Facts] : Prop :=
  ∀ (m : (ℓ : Loc Cert.KvBwdIdeal.nD Cert.KvBwdIdeal.τ Cert.KvBwdIdeal.sig) → Buf (Elt Ideal) ℓ) (g : Dev Cert.KvBwdIdeal.nD → PrngReg)
    (m' : (ℓ : Loc Cert.KvBwdRefIdeal.nD Cert.KvBwdRefIdeal.τ Cert.KvBwdRefIdeal.sig) → Buf (Elt Ideal) ℓ) (g' : Dev Cert.KvBwdRefIdeal.nD → PrngReg), Pre_KvBwdIdeal m →
    (∀ c : Dev Cert.KvBwdIdeal.nD,
      m' ((c.tc : Thread Cert.KvBwdRefIdeal.nD Cert.KvBwdRefIdeal.τ).loc Cert.KvBwdRefIdeal.main_arg0) = m ((c.tc : Thread Cert.KvBwdIdeal.nD Cert.KvBwdIdeal.τ).loc Cert.KvBwdIdeal.main_arg0)
      ∧ m' ((c.tc : Thread Cert.KvBwdRefIdeal.nD Cert.KvBwdRefIdeal.τ).loc Cert.KvBwdRefIdeal.main_arg1) = m ((c.tc : Thread Cert.KvBwdIdeal.nD Cert.KvBwdIdeal.τ).loc Cert.KvBwdIdeal.main_arg1)
      ∧ m' ((c.tc : Thread Cert.KvBwdRefIdeal.nD Cert.KvBwdRefIdeal.τ).loc Cert.KvBwdRefIdeal.main_arg2) = m ((c.tc : Thread Cert.KvBwdIdeal.nD Cert.KvBwdIdeal.τ).loc Cert.KvBwdIdeal.main_arg2)
      ∧ m' ((c.tc : Thread Cert.KvBwdRefIdeal.nD Cert.KvBwdRefIdeal.τ).loc Cert.KvBwdRefIdeal.main_arg3) = m ((c.tc : Thread Cert.KvBwdIdeal.nD Cert.KvBwdIdeal.τ).loc Cert.KvBwdIdeal.main_arg3)) →
    ∃ (v0 : (c : Dev Cert.KvBwdIdeal.nD) → Buf (Elt Ideal) ((c.tc : Thread Cert.KvBwdIdeal.nD Cert.KvBwdIdeal.τ).loc Cert.KvBwdIdeal.main_v2_0)) (v1 : (c : Dev Cert.KvBwdIdeal.nD) → Buf (Elt Ideal) ((c.tc : Thread Cert.KvBwdIdeal.nD Cert.KvBwdIdeal.τ).loc Cert.KvBwdIdeal.main_v2_1)),
      θ_run (Cert.KvBwdIdeal.defs (F := Ideal)) (onTc (τ := Cert.KvBwdIdeal.τ) (Cert.KvBwdIdeal.main (F := Ideal))) ⟨m, fun _ => 0, g⟩ (fun r => ∀ c : Dev Cert.KvBwdIdeal.nD,
          r.2.mem ((c.tc : Thread Cert.KvBwdIdeal.nD Cert.KvBwdIdeal.τ).loc Cert.KvBwdIdeal.main_v2_0) = v0 c
          ∧ r.2.mem ((c.tc : Thread Cert.KvBwdIdeal.nD Cert.KvBwdIdeal.τ).loc Cert.KvBwdIdeal.main_v2_1) = v1 c
          ∧ r.2.mem ((c.tc : Thread Cert.KvBwdIdeal.nD Cert.KvBwdIdeal.τ).loc Cert.KvBwdIdeal.main_arg0) = m ((c.tc : Thread Cert.KvBwdIdeal.nD Cert.KvBwdIdeal.τ).loc Cert.KvBwdIdeal.main_arg0)
          ∧ r.2.mem ((c.tc : Thread Cert.KvBwdIdeal.nD Cert.KvBwdIdeal.τ).loc Cert.KvBwdIdeal.main_arg1) = m ((c.tc : Thread Cert.KvBwdIdeal.nD Cert.KvBwdIdeal.τ).loc Cert.KvBwdIdeal.main_arg1)
          ∧ r.2.mem ((c.tc : Thread Cert.KvBwdIdeal.nD Cert.KvBwdIdeal.τ).loc Cert.KvBwdIdeal.main_arg2) = m ((c.tc : Thread Cert.KvBwdIdeal.nD Cert.KvBwdIdeal.τ).loc Cert.KvBwdIdeal.main_arg2)
          ∧ r.2.mem ((c.tc : Thread Cert.KvBwdIdeal.nD Cert.KvBwdIdeal.τ).loc Cert.KvBwdIdeal.main_arg3) = m ((c.tc : Thread Cert.KvBwdIdeal.nD Cert.KvBwdIdeal.τ).loc Cert.KvBwdIdeal.main_arg3))
      ∧ θ_run (Cert.KvBwdRefIdeal.defs (F := Ideal)) (onTc (τ := Cert.KvBwdRefIdeal.τ) (Cert.KvBwdRefIdeal.main (F := Ideal))) ⟨m', fun _ => 0, g'⟩ (fun r => ∀ c : Dev Cert.KvBwdRefIdeal.nD,
          r.2.mem ((c.tc : Thread Cert.KvBwdRefIdeal.nD Cert.KvBwdRefIdeal.τ).loc Cert.KvBwdRefIdeal.main_v84) = v0 c
          ∧ r.2.mem ((c.tc : Thread Cert.KvBwdRefIdeal.nD Cert.KvBwdRefIdeal.τ).loc Cert.KvBwdRefIdeal.main_v86) = v1 c
          ∧ r.2.mem ((c.tc : Thread Cert.KvBwdRefIdeal.nD Cert.KvBwdRefIdeal.τ).loc Cert.KvBwdRefIdeal.main_arg0) = m' ((c.tc : Thread Cert.KvBwdRefIdeal.nD Cert.KvBwdRefIdeal.τ).loc Cert.KvBwdRefIdeal.main_arg0)
          ∧ r.2.mem ((c.tc : Thread Cert.KvBwdRefIdeal.nD Cert.KvBwdRefIdeal.τ).loc Cert.KvBwdRefIdeal.main_arg1) = m' ((c.tc : Thread Cert.KvBwdRefIdeal.nD Cert.KvBwdRefIdeal.τ).loc Cert.KvBwdRefIdeal.main_arg1)
          ∧ r.2.mem ((c.tc : Thread Cert.KvBwdRefIdeal.nD Cert.KvBwdRefIdeal.τ).loc Cert.KvBwdRefIdeal.main_arg2) = m' ((c.tc : Thread Cert.KvBwdRefIdeal.nD Cert.KvBwdRefIdeal.τ).loc Cert.KvBwdRefIdeal.main_arg2)
          ∧ r.2.mem ((c.tc : Thread Cert.KvBwdRefIdeal.nD Cert.KvBwdRefIdeal.τ).loc Cert.KvBwdRefIdeal.main_arg3) = m' ((c.tc : Thread Cert.KvBwdRefIdeal.nD Cert.KvBwdRefIdeal.τ).loc Cert.KvBwdRefIdeal.main_arg3))

def preserves_Ffn_FfnIdeal : Prop :=
  True

def algebraic_FfnIdeal_FfnRefIdeal_pre_finite_ffn [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_ffn m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v7_0)) (v1 : (c : Dev Cert.FfnIdeal.nD) → Buf (Elt Ideal) ((c.tc : Thread Cert.FfnIdeal.nD Cert.FfnIdeal.τ).loc Cert.FfnIdeal.main_v7_1)) (v2 : (c : Dev Cert.FfnIdeal.nD) → Buf (Elt Ideal) ((c.tc : Thread Cert.FfnIdeal.nD Cert.FfnIdeal.τ).loc Cert.FfnIdeal.main_v7_2)) (v3 : (c : Dev Cert.FfnIdeal.nD) → Buf (Elt Ideal) ((c.tc : Thread Cert.FfnIdeal.nD Cert.FfnIdeal.τ).loc Cert.FfnIdeal.main_v7_3)) (v4 : (c : Dev Cert.FfnIdeal.nD) → Buf (Elt Ideal) ((c.tc : Thread Cert.FfnIdeal.nD Cert.FfnIdeal.τ).loc Cert.FfnIdeal.main_v7_4)) (v5 : (c : Dev Cert.FfnIdeal.nD) → Buf (Elt Ideal) ((c.tc : Thread Cert.FfnIdeal.nD Cert.FfnIdeal.τ).loc Cert.FfnIdeal.main_v7_5)) (v6 : (c : Dev Cert.FfnIdeal.nD) → Buf (Elt Ideal) ((c.tc : Thread Cert.FfnIdeal.nD Cert.FfnIdeal.τ).loc Cert.FfnIdeal.main_v7_6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7_0) = v0 c
          ∧ r.2.mem ((c.tc : Thread Cert.FfnIdeal.nD Cert.FfnIdeal.τ).loc Cert.FfnIdeal.main_v7_1) = v1 c
          ∧ r.2.mem ((c.tc : Thread Cert.FfnIdeal.nD Cert.FfnIdeal.τ).loc Cert.FfnIdeal.main_v7_2) = v2 c
          ∧ r.2.mem ((c.tc : Thread Cert.FfnIdeal.nD Cert.FfnIdeal.τ).loc Cert.FfnIdeal.main_v7_3) = v3 c
          ∧ r.2.mem ((c.tc : Thread Cert.FfnIdeal.nD Cert.FfnIdeal.τ).loc Cert.FfnIdeal.main_v7_4) = v4 c
          ∧ r.2.mem ((c.tc : Thread Cert.FfnIdeal.nD Cert.FfnIdeal.τ).loc Cert.FfnIdeal.main_v7_5) = v5 c
          ∧ r.2.mem ((c.tc : Thread Cert.FfnIdeal.nD Cert.FfnIdeal.τ).loc Cert.FfnIdeal.main_v7_6) = v6 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v65) = v0 c
          ∧ r.2.mem ((c.tc : Thread Cert.FfnRefIdeal.nD Cert.FfnRefIdeal.τ).loc Cert.FfnRefIdeal.main_v73) = v1 c
          ∧ r.2.mem ((c.tc : Thread Cert.FfnRefIdeal.nD Cert.FfnRefIdeal.τ).loc Cert.FfnRefIdeal.main_v75) = v2 c
          ∧ r.2.mem ((c.tc : Thread Cert.FfnRefIdeal.nD Cert.FfnRefIdeal.τ).loc Cert.FfnRefIdeal.main_v77) = v3 c
          ∧ r.2.mem ((c.tc : Thread Cert.FfnRefIdeal.nD Cert.FfnRefIdeal.τ).loc Cert.FfnRefIdeal.main_v79) = v4 c
          ∧ r.2.mem ((c.tc : Thread Cert.FfnRefIdeal.nD Cert.FfnRefIdeal.τ).loc Cert.FfnRefIdeal.main_v81) = v5 c
          ∧ r.2.mem ((c.tc : Thread Cert.FfnRefIdeal.nD Cert.FfnRefIdeal.τ).loc Cert.FfnRefIdeal.main_v72) = v6 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)
      ∧ m' ((c.tc : Thread Cert.MergeFwdRefIdeal.nD Cert.MergeFwdRefIdeal.τ).loc Cert.MergeFwdRefIdeal.main_arg6) = m ((c.tc : Thread Cert.MergeFwdIdeal.nD Cert.MergeFwdIdeal.τ).loc Cert.MergeFwdIdeal.main_arg6)) →
    ∃ (v0 : (c : Dev Cert.MergeFwdIdeal.nD) → Buf (Elt Ideal) ((c.tc : Thread Cert.MergeFwdIdeal.nD Cert.MergeFwdIdeal.τ).loc Cert.MergeFwdIdeal.main_v3_0)) (v1 : (c : Dev Cert.MergeFwdIdeal.nD) → Buf (Elt Ideal) ((c.tc : Thread Cert.MergeFwdIdeal.nD Cert.MergeFwdIdeal.τ).loc Cert.MergeFwdIdeal.main_v3_1)) (v2 : (c : Dev Cert.MergeFwdIdeal.nD) → Buf (Elt Ideal) ((c.tc : Thread Cert.MergeFwdIdeal.nD Cert.MergeFwdIdeal.τ).loc Cert.MergeFwdIdeal.main_v3_2)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v3_0) = v0 c
          ∧ r.2.mem ((c.tc : Thread Cert.MergeFwdIdeal.nD Cert.MergeFwdIdeal.τ).loc Cert.MergeFwdIdeal.main_v3_1) = v1 c
          ∧ r.2.mem ((c.tc : Thread Cert.MergeFwdIdeal.nD Cert.MergeFwdIdeal.τ).loc Cert.MergeFwdIdeal.main_v3_2) = v2 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
          ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v21) = v0 c
          ∧ r.2.mem ((c.tc : Thread Cert.MergeFwdRefIdeal.nD Cert.MergeFwdRefIdeal.τ).loc Cert.MergeFwdRefIdeal.main_v23) = v1 c
          ∧ r.2.mem ((c.tc : Thread Cert.MergeFwdRefIdeal.nD Cert.MergeFwdRefIdeal.τ).loc Cert.MergeFwdRefIdeal.main_v1) = v2 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5)
          ∧ r.2.mem ((c.tc : Thread Cert.MergeFwdRefIdeal.nD Cert.MergeFwdRefIdeal.τ).loc Cert.MergeFwdRefIdeal.main_arg6) = m' ((c.tc : Thread Cert.MergeFwdRefIdeal.nD Cert.MergeFwdRefIdeal.τ).loc Cert.MergeFwdRefIdeal.main_arg6))

def Claim : Prop :=
  ∃ (hMerge : Cert.Merge.Facts) (hMergeIdeal : Cert.MergeIdeal.Facts) (hMergeRefIdeal : Cert.MergeRefIdeal.Facts) (hInBwd : Cert.InBwd.Facts) (hInBwdIdeal : Cert.InBwdIdeal.Facts) (hInBwdRefIdeal : Cert.InBwdRefIdeal.Facts) (hAttnBwd : Cert.AttnBwd.Facts) (hAttnBwdIdeal : Cert.AttnBwdIdeal.Facts) (hAttnBwdRefIdeal : Cert.AttnBwdRefIdeal.Facts) (hAttnFwd : Cert.AttnFwd.Facts) (hAttnFwdIdeal : Cert.AttnFwdIdeal.Facts) (hAttnFwdRefIdeal : Cert.AttnFwdRefIdeal.Facts) (hKvBwd : Cert.KvBwd.Facts) (hKvBwdIdeal : Cert.KvBwdIdeal.Facts) (hKvBwdRefIdeal : Cert.KvBwdRefIdeal.Facts) (hFfn : Cert.Ffn.Facts) (hFfnIdeal : Cert.FfnIdeal.Facts) (hFfnRefIdeal : Cert.FfnRefIdeal.Facts) (hMergeFwd : Cert.MergeFwd.Facts) (hMergeFwdIdeal : Cert.MergeFwdIdeal.Facts) (hMergeFwdRefIdeal : Cert.MergeFwdRefIdeal.Facts) (hPre_finite_attn : Cert.Pre_finite_attn.Facts) (hPre_finite_attn_fwd : Cert.Pre_finite_attn_fwd.Facts) (hPre_finite_ffn : Cert.Pre_finite_ffn.Facts),
    quiescent_Merge (hMerge := hMerge)
    ∧ quiescent_MergeIdeal (hMergeIdeal := hMergeIdeal)
    ∧ quiescent_MergeRefIdeal (hMergeRefIdeal := hMergeRefIdeal)
    ∧ quiescent_InBwd (hInBwd := hInBwd)
    ∧ quiescent_InBwdIdeal (hInBwdIdeal := hInBwdIdeal)
    ∧ quiescent_InBwdRefIdeal (hInBwdRefIdeal := hInBwdRefIdeal)
    ∧ quiescent_AttnBwd (hAttnBwd := hAttnBwd)
    ∧ quiescent_AttnBwdIdeal (hAttnBwdIdeal := hAttnBwdIdeal)
    ∧ quiescent_AttnBwdIdeal_pre_finite_attn (hAttnBwdIdeal := hAttnBwdIdeal) (hPre_finite_attn := hPre_finite_attn)
    ∧ quiescent_AttnBwdRefIdeal (hAttnBwdRefIdeal := hAttnBwdRefIdeal)
    ∧ quiescent_AttnBwdRefIdeal_pre_finite_attn (hAttnBwdRefIdeal := hAttnBwdRefIdeal) (hPre_finite_attn := hPre_finite_attn)
    ∧ quiescent_AttnFwd (hAttnFwd := hAttnFwd)
    ∧ quiescent_AttnFwdIdeal (hAttnFwdIdeal := hAttnFwdIdeal)
    ∧ quiescent_AttnFwdIdeal_pre_finite_attn_fwd (hAttnFwdIdeal := hAttnFwdIdeal) (hPre_finite_attn_fwd := hPre_finite_attn_fwd)
    ∧ quiescent_AttnFwdRefIdeal (hAttnFwdRefIdeal := hAttnFwdRefIdeal)
    ∧ quiescent_AttnFwdRefIdeal_pre_finite_attn_fwd (hAttnFwdRefIdeal := hAttnFwdRefIdeal) (hPre_finite_attn_fwd := hPre_finite_attn_fwd)
    ∧ quiescent_KvBwd (hKvBwd := hKvBwd)
    ∧ quiescent_KvBwdIdeal (hKvBwdIdeal := hKvBwdIdeal)
    ∧ quiescent_KvBwdRefIdeal (hKvBwdRefIdeal := hKvBwdRefIdeal)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ preserves_Merge_MergeIdeal
    ∧ algebraic_MergeIdeal_MergeRefIdeal (hMergeIdeal := hMergeIdeal) (hMergeRefIdeal := hMergeRefIdeal)
    ∧ preserves_InBwd_InBwdIdeal
    ∧ algebraic_InBwdIdeal_InBwdRefIdeal (hInBwdIdeal := hInBwdIdeal) (hInBwdRefIdeal := hInBwdRefIdeal)
    ∧ preserves_AttnBwd_AttnBwdIdeal
    ∧ algebraic_AttnBwdIdeal_AttnBwdRefIdeal_pre_finite_attn (hAttnBwdIdeal := hAttnBwdIdeal) (hAttnBwdRefIdeal := hAttnBwdRefIdeal) (hPre_finite_attn := hPre_finite_attn)
    ∧ preserves_AttnFwd_AttnFwdIdeal
    ∧ algebraic_AttnFwdIdeal_AttnFwdRefIdeal_pre_finite_attn_fwd (hAttnFwdIdeal := hAttnFwdIdeal) (hAttnFwdRefIdeal := hAttnFwdRefIdeal) (hPre_finite_attn_fwd := hPre_finite_attn_fwd)
    ∧ preserves_KvBwd_KvBwdIdeal
    ∧ algebraic_KvBwdIdeal_KvBwdRefIdeal (hKvBwdIdeal := hKvBwdIdeal) (hKvBwdRefIdeal := hKvBwdRefIdeal)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn)
    ∧ preserves_MergeFwd_MergeFwdIdeal
    ∧ algebraic_MergeFwdIdeal_MergeFwdRefIdeal (hMergeFwdIdeal := hMergeFwdIdeal) (hMergeFwdRefIdeal := hMergeFwdRefIdeal)
-- ==== Pre_finite_attn.lean ====
abbrev S8192x1024 : Shape := ⟨2, ![8192, 1024]⟩
abbrev S8192x256 : Shape := ⟨2, ![8192, 256]⟩
abbrev S64 : Shape := ⟨1, ![64]⟩
abbrev S16 : Shape := ⟨1, ![16]⟩
abbrev S_ : Shape := ⟨0, ![]⟩

class Facts : Prop where
  bcast_S_S8192x1024 : S_.BroadcastsInDim S8192x1024 (![] : Fin 0 → Fin S8192x1024.rank)
  bcast_S_S8192x256 : S_.BroadcastsInDim S8192x256 (![] : Fin 0 → Fin S8192x256.rank)
  bcast_S_S64 : S_.BroadcastsInDim S64 (![] : Fin 0 → Fin S64.rank)
  bcast_S_S16 : S_.BroadcastsInDim S16 (![] : Fin 0 → Fin S16.rank)
  bitsLt_bf16_f32 : FTy.bits .bf16 < FTy.bits .f32

variable [Facts]

def fn_part1 {F : FTy → Type} [FloatOps F] (main_v2 : IVec S8192x1024 1) (main_v5 : IVec S8192x256 1) (main_v8 : IVec S64 1) (main_v11 : IVec S64 1) (main_v14 : IVec S16 1) (main_v16 : FVec F S8192x1024 .f32) (main_v17 : FVec F S8192x1024 .f32) : IVec S8192x1024 1 × IVec S8192x256 1 × IVec S64 1 × IVec S64 1 × IVec S16 1 × IVec S8192x1024 1 :=
  let main_v18 : IVec S8192x1024 1 := cmpf .olt main_v16 main_v17
  (main_v2, main_v5, main_v8, main_v11, main_v14, main_v18)

def fn {F : FTy → Type} [FloatOps F] (main_arg0 : FVec F S8192x1024 .f32) (main_arg1 : FVec F S8192x256 .f32) (main_arg2 : FVec F S64 .f32) (main_arg3 : FVec F S64 .f32) (main_arg4 : FVec F S16 .f32) (main_arg5 : FVec F S8192x1024 .bf16) : IVec S8192x1024 1 × IVec S8192x256 1 × IVec S64 1 × IVec S64 1 × IVec S16 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x256 .f32 := Host.absf main_arg1
  let main_cst_0 : FVec F S_ .f32 := constant S_ .f32 0x7F800000#32
  let main_v4 : FVec F S8192x256 .f32 := broadcastInDim S8192x256 ![] bcast_S_S8192x256 main_cst_0
  let main_v5 : IVec S8192x256 1 := cmpf .olt main_v3 main_v4
  let main_v6 : FVec F S64 .f32 := Host.absf main_arg2
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S16 .f32 := Host.absf main_arg4
  let main_cst_3 : FVec F S_ .f32 := constant S_ .f32 0x7F800000#32
  let main_v13 : FVec F S16 .f32 := broadcastInDim S16 ![] bcast_S_S16 main_cst_3
  let main_v14 : IVec S16 1 := cmpf .olt main_v12 main_v13
  let main_v15 : FVec F S8192x1024 .f32 := (extf .f32 · bitsLt_bf16_f32) main_arg5
  let main_v16 : FVec F S8192x1024 .f32 := Host.absf main_v15
  let main_cst_4 : FVec F S_ .f32 := constant S_ .f32 0x7F800000#32
  let main_v17 : FVec F S8192x1024 .f32 := broadcastInDim S8192x1024 ![] bcast_S_S8192x1024 main_cst_4
  fn_part1 (F := F) main_v2 main_v5 main_v8 main_v11 main_v14 main_v16 main_v17
-- ==== Pre_finite_attn_fwd.lean ====
abbrev S8192x1024 : Shape := ⟨2, ![8192, 1024]⟩
abbrev S8192x256 : Shape := ⟨2, ![8192, 256]⟩
abbrev S64 : Shape := ⟨1, ![64]⟩
abbrev S16 : Shape := ⟨1, ![16]⟩
abbrev S_ : Shape := ⟨0, ![]⟩

class Facts : Prop where
  bcast_S_S8192x1024 : S_.BroadcastsInDim S8192x1024 (![] : Fin 0 → Fin S8192x1024.rank)
  bcast_S_S8192x256 : S_.BroadcastsInDim S8192x256 (![] : Fin 0 → Fin S8192x256.rank)
  bcast_S_S64 : S_.BroadcastsInDim S64 (![] : Fin 0 → Fin S64.rank)
  bcast_S_S16 : S_.BroadcastsInDim S16 (![] : Fin 0 → Fin S16.rank)

variable [Facts]

def fn {F : FTy → Type} [FloatOps F] (main_arg0 : FVec F S8192x1024 .f32) (main_arg1 : FVec F S8192x256 .f32) (main_arg2 : FVec F S64 .f32) (main_arg3 : FVec F S64 .f32) (main_arg4 : FVec F S16 .f32) : IVec S8192x1024 1 × IVec S8192x256 1 × IVec S64 1 × IVec S64 1 × IVec S16 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x256 .f32 := Host.absf main_arg1
  let main_cst_0 : FVec F S_ .f32 := constant S_ .f32 0x7F800000#32
  let main_v4 : FVec F S8192x256 .f32 := broadcastInDim S8192x256 ![] bcast_S_S8192x256 main_cst_0
  let main_v5 : IVec S8192x256 1 := cmpf .olt main_v3 main_v4
  let main_v6 : FVec F S64 .f32 := Host.absf main_arg2
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S16 .f32 := Host.absf main_arg4
  let main_cst_3 : FVec F S_ .f32 := constant S_ .f32 0x7F800000#32
  let main_v13 : FVec F S16 .f32 := broadcastInDim S16 ![] bcast_S_S16 main_cst_3
  let main_v14 : IVec S16 1 := cmpf .olt main_v12 main_v13
  (main_v2, main_v5, main_v8, main_v11, main_v14)
-- ==== Pre_finite_ffn.lean ====
abbrev S4x2048x1024 : Shape := ⟨3, ![4, 2048, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S4x2048x1024 : S_.BroadcastsInDim S4x2048x1024 (![] : Fin 0 → Fin S4x2048x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S4x2048x1024 .f32) (main_arg1 : FVec F S4x2048x1024 .f32) (main_arg2 : FVec F S1024 .f32) (main_arg3 : FVec F S1024x5632 .f32) (main_arg4 : FVec F S2816x1024 .f32) : IVec S4x2048x1024 1 × IVec S4x2048x1024 1 × IVec S1024 1 × IVec S1024x5632 1 × IVec S2816x1024 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_v3 : FVec F S4x2048x1024 .f32 := Host.absf main_arg1
  let main_cst_0 : FVec F S_ .f32 := constant S_ .f32 0x7F800000#32
  let main_v4 : FVec F S4x2048x1024 .f32 := broadcastInDim S4x2048x1024 ![] bcast_S_S4x2048x1024 main_cst_0
  let main_v5 : IVec S4x2048x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x5632 .f32 := Host.absf main_arg3
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  (main_v2, main_v5, main_v8, main_v11, main_v14)
-- ==== Merge.lean ====
abbrev S8192x2048 : Shape := ⟨2, ![8192, 2048]⟩
abbrev S8192x1024 : Shape := ⟨2, ![8192, 1024]⟩
abbrev S1024x1024 : Shape := ⟨2, ![1024, 1024]⟩
abbrev S512x1024 : Shape := ⟨2, ![512, 1024]⟩
abbrev S512x2048 : Shape := ⟨2, ![512, 2048]⟩

abbrev nBuf : Space → Nat
  | .hbm => 17
  | .vmem => 21
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S8192x1024, .bf16⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S8192x1024, .bf16⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S8192x1024, .f32⟩
  | .hbm, ⟨11, _⟩ => ⟨S8192x1024, .f32⟩
  | .hbm, ⟨12, _⟩ => ⟨S8192x2048, .bf16⟩
  | .hbm, ⟨13, _⟩ => ⟨S8192x1024, .bf16⟩
  | .hbm, ⟨14, _⟩ => ⟨S8192x1024, .bf16⟩
  | .hbm, ⟨15, _⟩ => ⟨S8192x1024, .bf16⟩
  | .hbm, ⟨16, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S512x2048, .f32⟩
  | .local _ .vmem, ⟨3, _⟩ => ⟨S512x2048, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S512x2048, .bf16⟩
  | .local _ .vmem, ⟨12, _⟩ => ⟨S512x2048, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .f32⟩
  | .local _ .vmem, ⟨20, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeRefIdeal.lean ====
abbrev S8192x2048 : Shape := ⟨2, ![8192, 2048]⟩
abbrev S8192x1024 : Shape := ⟨2, ![8192, 1024]⟩
abbrev S1024x1024 : Shape := ⟨2, ![1024, 1024]⟩
abbrev S_ : Shape := ⟨0, ![]⟩

abbrev nBuf : Space → Nat
  | .hbm => 60
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S8192x1024, .bf16⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S8192x1024, .bf16⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x2048, .f32⟩
  | .hbm, ⟨50, _⟩ => ⟨S8192x1024, .f32⟩
  | .hbm, ⟨51, _⟩ => ⟨S_, .f32⟩
  | .hbm, ⟨52, _⟩ => ⟨S8192x2048, .f32⟩
  | .hbm, ⟨53, _⟩ => ⟨S8192x2048, .f32⟩
  | .hbm, ⟨54, _⟩ => ⟨S8192x2048, .bf16⟩
  | .hbm, ⟨55, _⟩ => ⟨S8192x1024, .bf16⟩
  | .hbm, ⟨56, _⟩ => ⟨S8192x1024, .bf16⟩
  | .hbm, ⟨57, _⟩ => ⟨S8192x1024, .f32⟩
  | .hbm, ⟨58, _⟩ => ⟨S8192x1024, .bf16⟩
  | .hbm, ⟨59, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== InBwd.lean ====
abbrev S4x2048x1024 : Shape := ⟨3, ![4, 2048, 1024]⟩
abbrev S1024 : Shape := ⟨1, ![1024]⟩
abbrev S1024x5376 : Shape := ⟨2, ![1024, 5376]⟩
abbrev S8192x2048 : Shape := ⟨2, ![8192, 2048]⟩
abbrev S8192x1024 : Shape := ⟨2, ![8192, 1024]⟩
abbrev S8192x256 : Shape := ⟨2, ![8192, 256]⟩
abbrev S1x1024 : Shape := ⟨2, ![1, 1024]⟩
abbrev S5376x1024 : Shape := ⟨2, ![5376, 1024]⟩
abbrev S512x2048 : Shape := ⟨2, ![512, 2048]⟩
abbrev S512x1024 : Shape := ⟨2, ![512, 1024]⟩
abbrev S512x256 : Shape := ⟨2, ![512, 256]⟩
abbrev S2048x1024 : Shape := ⟨2, ![2048, 1024]⟩
abbrev S1024x1024 : Shape := ⟨2, ![1024, 1024]⟩
abbrev S256x1024 : Shape := ⟨2, ![256, 1024]⟩
abbrev S512 : Shape := ⟨1, ![512]⟩
abbrev S512x1 : Shape := ⟨2, ![512, 1]⟩

abbrev nBuf : Space → Nat
  | .hbm => 14
  | .vmem => 17
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x5376, .f32⟩
  | .hbm, ⟨3, _⟩ => ⟨S8192x2048, .bf16⟩
  | .hbm, ⟨4, _⟩ => ⟨S8192x1024, .bf16⟩
  | .hbm, ⟨5, _⟩ => ⟨S8192x256, .bf16⟩
  | .hbm, ⟨6, _⟩ => ⟨S8192x2048, .bf16⟩
  | .hbm, ⟨7, _⟩ => ⟨S8192x1024, .f32⟩
  | .hbm, ⟨8, _⟩ => ⟨S8192x1024, .f32⟩
  | .hbm, ⟨9, _⟩ => ⟨S1x1024, .f32⟩
  | .hbm, ⟨10, _⟩ => ⟨S5376x1024, .f32⟩
  | .hbm, ⟨11, _⟩ => ⟨S5376x1024, .bf16⟩
  | .hbm, ⟨12, _⟩ => ⟨S8192x1024, .f32⟩
  | .hbm, ⟨13, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S512x256, .bf16⟩
  | .local _ .vmem, ⟨5, _⟩ => ⟨S512x256, .bf16⟩
  | .local _ .vmem, ⟨6, _⟩ => ⟨S512x2048, .bf16⟩
  | .local _ .vmem, ⟨7, _⟩ => ⟨S512x2048, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S5376x1024, .bf16⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S5376x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== InBwdRefIdeal.lean ====
abbrev S4x2048x1024 : Shape := ⟨3, ![4, 2048, 1024]⟩
abbrev S1024 : Shape := ⟨1, ![1024]⟩
abbrev S1024x5376 : Shape := ⟨2, ![1024, 5376]⟩
abbrev S8192x2048 : Shape := ⟨2, ![8192, 2048]⟩
abbrev S8192x1024 : Shape := ⟨2, ![8192, 1024]⟩
abbrev S8192x256 : Shape := ⟨2, ![8192, 256]⟩
abbrev S8192x5376 : Shape := ⟨2, ![8192, 5376]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x5376 : Shape := ⟨3, ![4, 2048, 5376]⟩
abbrev S1x1024 : Shape := ⟨2, ![1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x5376, .f32⟩
  | .hbm, ⟨3, _⟩ => ⟨S8192x2048, .bf16⟩
  | .hbm, ⟨4, _⟩ => ⟨S8192x1024, .bf16⟩
  | .hbm, ⟨5, _⟩ => ⟨S8192x256, .bf16⟩
  | .hbm, ⟨6, _⟩ => ⟨S8192x2048, .bf16⟩
  | .hbm, ⟨7, _⟩ => ⟨S8192x1024, .f32⟩
  | .hbm, ⟨8, _⟩ => ⟨S8192x2048, .f32⟩
  | .hbm, ⟨9, _⟩ => ⟨S8192x1024, .f32⟩
  | .hbm, ⟨10, _⟩ => ⟨S8192x256, .f32⟩
  | .hbm, ⟨11, _⟩ => ⟨S8192x2048, .f32⟩
  | .hbm, ⟨12, _⟩ => ⟨S8192x5376, .f32⟩
  | .hbm, ⟨13, _⟩ => ⟨S4x2048x1024, .f32⟩
  | .hbm, ⟨14, _⟩ => ⟨S_, .f32⟩
  | .hbm, ⟨15, _⟩ => ⟨S4x2048, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S_, .f32⟩
  | .hbm, ⟨21, _⟩ => ⟨S4x2048x1, .f32⟩
  | .hbm, ⟨22, _⟩ => ⟨S4x2048x1, .f32⟩
  | .hbm, ⟨23, _⟩ => ⟨S4x2048x1, .f32⟩
  | .hbm, ⟨24, _⟩ => ⟨S4x2048x1, .f32⟩
  | .hbm, ⟨25, _⟩ => ⟨S_, .f32⟩
  | .hbm, ⟨26, _⟩ => ⟨S4x2048x1, .f32⟩
  | .hbm, ⟨27, _⟩ => ⟨S4x2048x1, .f32⟩
  | .hbm, ⟨28, _⟩ => ⟨S4x2048x1024, .f32⟩
  | .hbm, ⟨29, _⟩ => ⟨S4x2048x1024, .f32⟩
  | .hbm, ⟨30, _⟩ => ⟨S1x1x1024, .f32⟩
  | .hbm, ⟨31, _⟩ => ⟨S4x2048x1024, .f32⟩
  | .hbm, ⟨32, _⟩ => ⟨S4x2048x1024, .f32⟩
  | .hbm, ⟨33, _⟩ => ⟨S4x2048x5376, .f32⟩
  | .hbm, ⟨34, _⟩ => ⟨S4x2048x5376, .f32⟩
  | .hbm, ⟨35, _⟩ => ⟨S4x2048x1024, .f32⟩
  | .hbm, ⟨36, _⟩ => ⟨S4x2048x1024, .f32⟩
  | .hbm, ⟨37, _⟩ => ⟨S4x2048x1024, .f32⟩
  | .hbm, ⟨38, _⟩ => ⟨S_, .f32⟩
  | .hbm, ⟨39, _⟩ => ⟨S1024, .f32⟩
  | .hbm, ⟨40, _⟩ => ⟨S1x1x1024, .f32⟩
  | .hbm, ⟨41, _⟩ => ⟨S4x2048x1024, .f32⟩
  | .hbm, ⟨42, _⟩ => ⟨S4x2048x1024, .f32⟩
  | .hbm, ⟨43, _⟩ => ⟨S_, .f32⟩
  | .hbm, ⟨44, _⟩ => ⟨S1024, .f32⟩
  | .hbm, ⟨45, _⟩ => ⟨S4x2048x1024, .f32⟩
  | .hbm, ⟨46, _⟩ => ⟨S_, .f32⟩
  | .hbm, ⟨47, _⟩ => ⟨S4x2048, .f32⟩
  | .hbm, ⟨48, _⟩ => ⟨S4x2048x1, .f32⟩
  | .hbm, ⟨49, _⟩ => ⟨S4x2048x1024, .f32⟩
  | .hbm, ⟨50, _⟩ => ⟨S4x2048x1024, .f32⟩
  | .hbm, ⟨51, _⟩ => ⟨S4x2048x1024, .f32⟩
  | .hbm, ⟨52, _⟩ => ⟨S4x2048x1, .f32⟩
  | .hbm, ⟨53, _⟩ => ⟨S_, .f32⟩
  | .hbm, ⟨54, _⟩ => ⟨S4x2048x1, .f32⟩
  | .hbm, ⟨55, _⟩ => ⟨S4x2048x1, .f32⟩
  | .hbm, ⟨56, _⟩ => ⟨S_, .f32⟩
  | .hbm, ⟨57, _⟩ => ⟨S4x2048, .f32⟩
  | .hbm, ⟨58, _⟩ => ⟨S4x2048x1024, .f32⟩
  | .hbm, ⟨59, _⟩ => ⟨S4x2048x1024, .f32⟩
  | .hbm, ⟨60, _⟩ => ⟨S4x2048x1024, .f32⟩
  | .hbm, ⟨61, _⟩ => ⟨S4x2048x1024, .f32⟩
  | .hbm, ⟨62, _⟩ => ⟨S4x2048x1024, .f32⟩
  | .hbm, ⟨63, _⟩ => ⟨S8192x1024, .f32⟩
  | .hbm, ⟨64, _⟩ => ⟨S1x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩

abbrev nD : Nat := 1
abbrev τ : Topo := Topo.v7x

variable {F : FTy → Type} [FloatOps F]
-- ==== AttnBwd.lean ====
abbrev S8192x1024 : Shape := ⟨2, ![8192, 1024]⟩
abbrev S8192x256 : Shape := ⟨2, ![8192, 256]⟩
abbrev S64 : Shape := ⟨1, ![64]⟩
abbrev S16 : Shape := ⟨1, ![16]⟩
abbrev S64x1 : Shape := ⟨2, ![64, 1]⟩
abbrev S64x1024 : Shape := ⟨2, ![64, 1024]⟩
abbrev S2x8 : Shape := ⟨2, ![2, 8]⟩
abbrev S2x8x128 : Shape := ⟨3, ![2, 8, 128]⟩
abbrev S2x1024 : Shape := ⟨2, ![2, 1024]⟩
abbrev S1x64 : Shape := ⟨2, ![1, 64]⟩
abbrev S128 : Shape := ⟨1, ![128]⟩
abbrev S128x1 : Shape := ⟨2, ![128, 1]⟩
abbrev S1x128 : Shape := ⟨2, ![1, 128]⟩
abbrev S8x128 : Shape := ⟨2, ![8, 128]⟩
abbrev S1x1024 : Shape := ⟨2, ![1, 1024]⟩
abbrev S128x1024 : Shape := ⟨2, ![128, 1024]⟩
abbrev S_ : Shape := ⟨0, ![]⟩
abbrev S8 : Shape := ⟨1, ![8]⟩
abbrev S8x1 : Shape := ⟨2, ![8, 1]⟩
abbrev S1x128x1024 : Shape := ⟨3, ![1, 128, 1024]⟩
abbrev S2x128x1024 : Shape := ⟨3, ![2, 128, 1024]⟩
abbrev S64x128 : Shape := ⟨2, ![64, 128]⟩
abbrev S128x256 : Shape := ⟨2, ![128, 256]⟩
abbrev S1024x128 : Shape := ⟨2, ![1024, 128]⟩
abbrev S128x64 : Shape := ⟨2, ![128, 64]⟩
abbrev S1024 : Shape := ⟨1, ![1024]⟩
abbrev S512x128 : Shape := ⟨2, ![512, 128]⟩
abbrev S1 : Shape := ⟨1, ![1]⟩
abbrev S1x1 : Shape := ⟨2, ![1, 1]⟩

abbrev nBuf : Space → Nat
  | .hbm => 87
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S64, .f32⟩
  | .hbm, ⟨3, _⟩ => ⟨S64, .f32⟩
  | .hbm, ⟨4, _⟩ => ⟨S16, .f32⟩
  | .hbm, ⟨5, _⟩ => ⟨S8192x1024, .bf16⟩
  | .hbm, ⟨6, _⟩ => ⟨S64x1, .f32⟩
  | .hbm, ⟨7, _⟩ => ⟨S64x1024, .f32⟩
  | .hbm, ⟨8, _⟩ => ⟨S2x8, .f32⟩
  | .hbm, ⟨9, _⟩ => ⟨S2x8x128, .f32⟩
  | .hbm, ⟨10, _⟩ => ⟨S2x1024, .f32⟩
  | .hbm, ⟨11, _⟩ => ⟨S1x64, .f32⟩
  | .hbm, ⟨12, _⟩ => ⟨S128, .i32⟩
  | .hbm, ⟨13, _⟩ => ⟨S128x1, .i32⟩
  | .hbm, ⟨14, _⟩ => ⟨S128, .i32⟩
  | .hbm, ⟨15, _⟩ => ⟨S1x128, .i32⟩
  | .hbm, ⟨16, _⟩ => ⟨S8x128, .i32⟩
  | .hbm, ⟨17, _⟩ => ⟨S1x1024, .i32⟩
  | .hbm, ⟨18, _⟩ => ⟨S128x1024, .i32⟩
  | .hbm, ⟨19, _⟩ => ⟨S128x1024, .i32⟩
  | .hbm, ⟨20, _⟩ => ⟨S128x1024, .i1⟩
  | .hbm, ⟨21, _⟩ => ⟨S_, .i32⟩
  | .hbm, ⟨22, _⟩ => ⟨S1x1024, .i32⟩
  | .hbm, ⟨23, _⟩ => ⟨S1x1024, .i32⟩
  | .hbm, ⟨24, _⟩ => ⟨S128x1024, .i32⟩
  | .hbm, ⟨25, _⟩ => ⟨S128x1024, .i32⟩
  | .hbm, ⟨26, _⟩ => ⟨S128x1024, .i32⟩
  | .hbm, ⟨27, _⟩ => ⟨S128x1024, .i32⟩
  | .hbm, ⟨28, _⟩ => ⟨S128x1024, .i32⟩
  | .hbm, ⟨29, _⟩ => ⟨S128x1024, .i32⟩
  | .hbm, ⟨30, _⟩ => ⟨S128x1024, .i32⟩
  | .hbm, ⟨31, _⟩ => ⟨S128x1024, .f32⟩
  | .hbm, ⟨32, _⟩ => ⟨S8, .f32⟩
  | .hbm, ⟨33, _⟩ => ⟨S8x1, .f32⟩
  | .hbm, ⟨34, _⟩ => ⟨S8x128, .f32⟩
  | .hbm, ⟨35, _⟩ => ⟨S1x1024, .f32⟩
  | .hbm, ⟨36, _⟩ => ⟨S_, .f32⟩
  | .hbm, ⟨37, _⟩ => ⟨S1x1024, .f32⟩
  | .hbm, ⟨38, _⟩ => ⟨S1x1024, .f32⟩
  | .hbm, ⟨39, _⟩ => ⟨S_, .f32⟩
  | .hbm, ⟨40, _⟩ => ⟨S1x1024, .f32⟩
  | .hbm, ⟨41, _⟩ => ⟨S1x1024, .f32⟩
  | .hbm, ⟨42, _⟩ => ⟨S_, .f32⟩
  | .hbm, ⟨43, _⟩ => ⟨S1x1024, .f32⟩
  | .hbm, ⟨44, _⟩ => ⟨S1x1024, .f32⟩
  | .hbm, ⟨45, _⟩ => ⟨S_, .f32⟩
  | .hbm, ⟨46, _⟩ => ⟨S1x1024, .f32⟩
  | .hbm, ⟨47, _⟩ => ⟨S1x1024, .f32⟩
  | .hbm, ⟨48, _⟩ => ⟨S_, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S128x1024, .f32⟩
  | .hbm, ⟨54, _⟩ => ⟨S128x1024, .f32⟩
  | .hbm, ⟨55, _⟩ => ⟨S8, .f32⟩
  | .hbm, ⟨56, _⟩ => ⟨S8x1, .f32⟩
  | .hbm, ⟨57, _⟩ => ⟨S8x128, .f32⟩
  | .hbm, ⟨58, _⟩ => ⟨S1x1024, .f32⟩
  | .hbm, ⟨59, _⟩ => ⟨S_, .f32⟩
  | .hbm, ⟨60, _⟩ => ⟨S1x1024, .f32⟩
  | .hbm, ⟨61, _⟩ => ⟨S1x1024, .f32⟩
  | .hbm, ⟨62, _⟩ => ⟨S_, .f32⟩
  | .hbm, ⟨63, _⟩ => ⟨S1x1024, .f32⟩
  | .hbm, ⟨64, _⟩ => ⟨S1x1024, .f32⟩
  | .hbm, ⟨65, _⟩ => ⟨S_, .f32⟩
  | .hbm, ⟨66, _⟩ => ⟨S1x1024, .f32⟩
  | .hbm, ⟨67, _⟩ => ⟨S1x1024, .f32⟩
  | .hbm, ⟨68, _⟩ => ⟨S_, .f32⟩
  | .hbm, ⟨69, _⟩ => ⟨S1x1024, .f32⟩
  | .hbm, ⟨70, _⟩ => ⟨S1x1024, .f32⟩
  | .hbm, ⟨71, _⟩ => ⟨S_, .f32⟩
  | .hbm, ⟨72, _⟩ => ⟨S1x1024, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S128x1024, .f32⟩
  | .hbm, ⟨77, _⟩ => ⟨S128x1024, .f32⟩
  | .hbm, ⟨78, _⟩ => ⟨S128x1024, .f32⟩
  | .hbm, ⟨79, _⟩ => ⟨S1x128x1024, .f32⟩
  | .hbm, ⟨80, _⟩ => ⟨S1x128x1024, .f32⟩
  | .hbm, ⟨81, _⟩ => ⟨S2x128x1024, .f32⟩
  | .hbm, ⟨82, _⟩ => ⟨S8192x1024, .bf16⟩
  | .hbm, ⟨83, _⟩ => ⟨S8192x256, .f32⟩
  | .hbm, ⟨84, _⟩ => ⟨S8192x256, .f32⟩
  | .hbm, ⟨85, _⟩ => ⟨S64x128, .f32⟩
  | .hbm, ⟨86, _⟩ => ⟨S8x128, .f32⟩
  | .local _ .vmem, ⟨0, _⟩ => ⟨S128x1024, .f32⟩
  | .local _ .vmem, ⟨1, _⟩ => ⟨S128x1024, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x1024, .bf16⟩
  | .local _ .vmem, ⟨7, _⟩ => ⟨S128x1024, .bf16⟩
  | .local _ .vmem, ⟨8, _⟩ => ⟨S64x1024, .f32⟩
  | .local _ .vmem, ⟨9, _⟩ => ⟨S1x64, .f32⟩
  | .local _ .vmem, ⟨10, _⟩ => ⟨S128x1024, .f32⟩
  | .local _ .vmem, ⟨11, _⟩ => ⟨S2x128x1024, .f32⟩
  | .local _ .vmem, ⟨12, _⟩ => ⟨S2x1024, .f32⟩
  | .local _ .vmem, ⟨13, _⟩ => ⟨S128x1024, .bf16⟩
  | .local _ .vmem, ⟨14, _⟩ => ⟨S128x1024, .bf16⟩
  | .local _ .vmem, ⟨15, _⟩ => ⟨S128x256, .f32⟩
  | .local _ .vmem, ⟨16, _⟩ => ⟨S128x256, .f32⟩
  | .local _ .vmem, ⟨17, _⟩ => ⟨S128x256, .f32⟩
  | .local _ .vmem, ⟨18, _⟩ => ⟨S128x256, .f32⟩
  | .local _ .vmem, ⟨19, _⟩ => ⟨S64x128, .f32⟩
  | .local _ .vmem, ⟨20, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst : Ref sig .tc := ⟨.hbm, 36, rfl⟩
abbrev main_v29 : Ref sig .tc := ⟨.hbm, 37, rfl⟩
abbrev main_v30 : Ref sig .tc := ⟨.hbm, 38, rfl⟩
abbrev main_cst_0 : Ref sig .tc := ⟨.hbm, 39, rfl⟩
abbrev main_v31 : Ref sig .tc := ⟨.hbm, 40, rfl⟩
abbrev main_v32 : Ref sig .tc := ⟨.hbm, 41, rfl⟩
abbrev main_cst_1 : Ref sig .tc := ⟨.hbm, 42, rfl⟩
abbrev main_v33 : Ref sig .tc := ⟨.hbm, 43, rfl⟩
abbrev main_v34 : Ref sig .tc := ⟨.hbm, 44, rfl⟩
abbrev main_cst_2 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_4 : Ref sig .tc := ⟨.hbm, 59, rfl⟩
abbrev main_v47 : Ref sig .tc := ⟨.hbm, 60, rfl⟩
abbrev main_v48 : Ref sig .tc := ⟨.hbm, 61, rfl⟩
abbrev main_cst_5 : Ref sig .tc := ⟨.hbm, 62, rfl⟩
abbrev main_v49 : Ref sig .tc := ⟨.hbm, 63, rfl⟩
abbrev main_v50 : Ref sig .tc := ⟨.hbm, 64, rfl⟩
abbrev main_cst_6 : Ref sig .tc := ⟨.hbm, 65, rfl⟩
abbrev main_v51 : Ref sig .tc := ⟨.hbm, 66, rfl⟩
abbrev main_v52 : Ref sig .tc := ⟨.hbm, 67, rfl⟩
abbrev main_cst_7 : Ref sig .tc := ⟨.hbm, 68, rfl⟩
abbrev main_v53 : Ref sig .tc := ⟨.hbm, 69, rfl⟩
abbrev main_v54 : Ref sig .tc := ⟨.hbm, 70, rfl⟩
abbrev main_cst_8 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65_0 : Ref sig .tc := ⟨.hbm, 82, rfl⟩
abbrev main_v65_1 : Ref sig .tc := ⟨.hbm, 83, rfl⟩
abbrev main_v65_2 : Ref sig .tc := ⟨.hbm, 84, rfl⟩
abbrev main_v65_3 : Ref sig .tc := ⟨.hbm, 85, rfl⟩
abbrev main_v65_4 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S64x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== AttnBwdIdeal.lean ====
variable {F : FTy → Type} [FloatOps F] [Named F]
def κ : String → Option EReal := fun
  | "mask" => some ⊥
  | _ => none
-- ==== AttnBwdRefIdeal.lean ====
abbrev S8192x1024 : Shape := ⟨2, ![8192, 1024]⟩
abbrev S8192x256 : Shape := ⟨2, ![8192, 256]⟩
abbrev S64 : Shape := ⟨1, ![64]⟩
abbrev S16 : Shape := ⟨1, ![16]⟩
abbrev S8192x128 : Shape := ⟨2, ![8192, 128]⟩
abbrev S4x2048x2x64 : Shape := ⟨4, ![4, 2048, 2, 64]⟩
abbrev S_ : Shape := ⟨0, ![]⟩
abbrev S4x2048x2 : Shape := ⟨3, ![4, 2048, 2]⟩
abbrev S4x2048x2x1 : Shape := ⟨4, ![4, 2048, 2, 1]⟩
abbrev S1x1x1x64 : Shape := ⟨4, ![1, 1, 1, 64]⟩
abbrev S8x128x64 : Shape := ⟨3, ![8, 128, 64]⟩
abbrev S4x2x2048x64 : Shape := ⟨4, ![4, 2, 2048, 64]⟩
abbrev S8x2048x64 : Shape := ⟨3, ![8, 2048, 64]⟩
abbrev S8x2176x64 : Shape := ⟨3, ![8, 2176, 64]⟩
abbrev S8x17x128x64 : Shape := ⟨4, ![8, 17, 128, 64]⟩
abbrev S8x16x128x64 : Shape := ⟨4, ![8, 16, 128, 64]⟩
abbrev S8x16x256x64 : Shape := ⟨4, ![8, 16, 256, 64]⟩
abbrev S128x256x64 : Shape := ⟨3, ![128, 256, 64]⟩
abbrev S128x1x64 : Shape := ⟨3, ![128, 1, 64]⟩
abbrev S64x128x16x64 : Shape := ⟨4, ![64, 128, 16, 64]⟩
abbrev S64x128x16 : Shape := ⟨3, ![64, 128, 16]⟩
abbrev S64x128x16x1 : Shape := ⟨4, ![64, 128, 16, 1]⟩
abbrev S1x128x1x64 : Shape := ⟨4, ![1, 128, 1, 64]⟩
abbrev S4x2048x2x512 : Shape := ⟨4, ![4, 2048, 2, 512]⟩
abbrev S4x2x2048x512 : Shape := ⟨4, ![4, 2, 2048, 512]⟩
abbrev S128x128x8x64 : Shape := ⟨4, ![128, 128, 8, 64]⟩
abbrev S128x128x8x256 : Shape := ⟨4, ![128, 128, 8, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S8x16 : Shape := ⟨2, ![8, 16]⟩
abbrev S128x1x1 : Shape := ⟨3, ![128, 1, 1]⟩
abbrev S1x1x256 : Shape := ⟨3, ![1, 1, 256]⟩
abbrev S128x1x256 : Shape := ⟨3, ![128, 1, 256]⟩
abbrev S1x128x256 : Shape := ⟨3, ![1, 128, 256]⟩
abbrev S128x128x256 : Shape := ⟨3, ![128, 128, 256]⟩
abbrev S1x2x1x8 : Shape := ⟨4, ![1, 2, 1, 8]⟩
abbrev S4x2x16x8 : Shape := ⟨4, ![4, 2, 16, 8]⟩
abbrev S128x1x8x1 : Shape := ⟨4, ![128, 1, 8, 1]⟩
abbrev S1x128x1x256 : Shape := ⟨4, ![1, 128, 1, 256]⟩
abbrev S128x128x1x256 : Shape := ⟨4, ![128, 128, 1, 256]⟩
abbrev S128x128x8 : Shape := ⟨3, ![128, 128, 8]⟩
abbrev S128x128x8x1 : Shape := ⟨4, ![128, 128, 8, 1]⟩
abbrev S128x64x256 : Shape := ⟨3, ![128, 64, 256]⟩
abbrev S128x8x1 : Shape := ⟨3, ![128, 8, 1]⟩
abbrev S2x8 : Shape := ⟨2, ![2, 8]⟩
abbrev S128x64 : Shape := ⟨2, ![128, 64]⟩
abbrev S112 : Shape := ⟨1, ![112]⟩
abbrev S1x128 : Shape := ⟨2, ![1, 128]⟩
abbrev S7x128 : Shape := ⟨2, ![7, 128]⟩
abbrev S8x128 : Shape := ⟨2, ![8, 128]⟩
abbrev S128x128x64 : Shape := ⟨3, ![128, 128, 64]⟩
abbrev S64x128 : Shape := ⟨2, ![64, 128]⟩

abbrev nBuf : Space → Nat
  | .hbm => 315
  | .vmem => 0
  | .smem => 0
  | _ => 0

abbrev hbmTy0_0 (i : Nat) : BufTy := match i % 128 with
  | 0 => ⟨S8192x1024, .f32⟩
  | 1 => ⟨S8192x256, .f32⟩
  | 2 => ⟨S64, .f32⟩
  | 3 => ⟨S64, .f32⟩
  | 4 => ⟨S16, .f32⟩
  | 5 => ⟨S8192x1024, .bf16⟩
  | 6 => ⟨S8192x128, .f32⟩
  | 7 => ⟨S4x2048x2x64, .f32⟩
  | 8 => ⟨S4x2048x2x64, .f32⟩
  | 9 => ⟨S_, .f32⟩
  | 10 => ⟨S4x2048x2, .f32⟩
  | 11 => ⟨S4x2048x2x1, .f32⟩
  | 12 => ⟨S_, .f32⟩
  | 13 => ⟨S4x2048x2x1, .f32⟩
  | 14 => ⟨S4x2048x2x1, .f32⟩
  | 15 => ⟨S_, .f32⟩
  | 16 => ⟨S4x2048x2x1, .f32⟩
  | 17 => ⟨S4x2048x2x1, .f32⟩
  | 18 => ⟨S4x2048x2x1, .f32⟩
  | 19 => ⟨S4x2048x2x64, .f32⟩
  | 20 => ⟨S4x2048x2x64, .f32⟩
  | 21 => ⟨S1x1x1x64, .f32⟩
  | 22 => ⟨S4x2048x2x64, .f32⟩
  | 23 => ⟨S4x2048x2x64, .f32⟩
  | 24 => ⟨S8192x128, .f32⟩
  | 25 => ⟨S4x2048x2x64, .f32⟩
  | 26 => ⟨S_, .f32⟩
  | 27 => ⟨S8x128x64, .f32⟩
  | 28 => ⟨S4x2x2048x64, .f32⟩
  | 29 => ⟨S8x2048x64, .f32⟩
  | 30 => ⟨S8x2176x64, .f32⟩
  | 31 => ⟨S8x17x128x64, .f32⟩
  | 32 => ⟨S4x2x2048x64, .f32⟩
  | 33 => ⟨S8x2048x64, .f32⟩
  | 34 => ⟨S8x2176x64, .f32⟩
  | 35 => ⟨S8x17x128x64, .f32⟩
  | 36 => ⟨S8x16x128x64, .f32⟩
  | 37 => ⟨S8x16x128x64, .f32⟩
  | 38 => ⟨S8x16x256x64, .f32⟩
  | 39 => ⟨S8x16x128x64, .f32⟩
  | 40 => ⟨S8x16x128x64, .f32⟩
  | 41 => ⟨S8x16x256x64, .f32⟩
  | 42 => ⟨S128x256x64, .f32⟩
  | 43 => ⟨S128x256x64, .f32⟩
  | 44 => ⟨S128x1x64, .f32⟩
  | 45 => ⟨S64x128x16x64, .f32⟩
  | 46 => ⟨S64x128x16x64, .f32⟩
  | 47 => ⟨S_, .f32⟩
  | 48 => ⟨S64x128x16, .f32⟩
  | 49 => ⟨S64x128x16x1, .f32⟩
  | 50 => ⟨S_, .f32⟩
  | 51 => ⟨S64x128x16x1, .f32⟩
  | 52 => ⟨S64x128x16x1, .f32⟩
  | 53 => ⟨S_, .f32⟩
  | 54 => ⟨S64x128x16x1, .f32⟩
  | 55 => ⟨S64x128x16x1, .f32⟩
  | 56 => ⟨S64x128x16x1, .f32⟩
  | 57 => ⟨S64x128x16x1, .f32⟩
  | 58 => ⟨S_, .f32⟩
  | 59 => ⟨S64x128x16x1, .f32⟩
  | 60 => ⟨S64x128x16x1, .f32⟩
  | 61 => ⟨S64x128x16x64, .f32⟩
  | 62 => ⟨S64x128x16x64, .f32⟩
  | 63 => ⟨S1x128x1x64, .f32⟩
  | 64 => ⟨S64x128x16x64, .f32⟩
  | 65 => ⟨S64x128x16x64, .f32⟩
  | 66 => ⟨S4x2048x2x512, .f32⟩
  | 67 => ⟨S4x2x2048x512, .f32⟩
  | 68 => ⟨S128x128x8x64, .f32⟩
  | 69 => ⟨S128x128x8x256, .f32⟩
  | 70 => ⟨S_, .f32⟩
  | 71 => ⟨S128x128x8x256, .f32⟩
  | 72 => ⟨S128x128x8x256, .f32⟩
  | 73 => ⟨S128, .i32⟩
  | 74 => ⟨S128x1, .i32⟩
  | 75 => ⟨S256, .i32⟩
  | 76 => ⟨S1x256, .i32⟩
  | 77 => ⟨S_, .i32⟩
  | 78 => ⟨S128x1, .i32⟩
  | 79 => ⟨S128x1, .i32⟩
  | 80 => ⟨S128x256, .i32⟩
  | 81 => ⟨S128x256, .i32⟩
  | 82 => ⟨S128x256, .i32⟩
  | 83 => ⟨S16, .i32⟩
  | 84 => ⟨S_, .i32⟩
  | 85 => ⟨S16, .i32⟩
  | 86 => ⟨S16, .i32⟩
  | 87 => ⟨S_, .i32⟩
  | 88 => ⟨S16, .i32⟩
  | 89 => ⟨S16, .i32⟩
  | 90 => ⟨S8x16, .i32⟩
  | 91 => ⟨S128x1x1, .i32⟩
  | 92 => ⟨S_, .i32⟩
  | 93 => ⟨S128x256, .i32⟩
  | 94 => ⟨S128x256, .i1⟩
  | 95 => ⟨S_, .i32⟩
  | 96 => ⟨S128x256, .i32⟩
  | 97 => ⟨S128x256, .i1⟩
  | 98 => ⟨S128x256, .i1⟩
  | 99 => ⟨S1x1x256, .i32⟩
  | 100 => ⟨S128x1x256, .i32⟩
  | 101 => ⟨S128x1x256, .i32⟩
  | 102 => ⟨S128x1x256, .i32⟩
  | 103 => ⟨S_, .i32⟩
  | 104 => ⟨S128x1x256, .i32⟩
  | 105 => ⟨S128x1x256, .i1⟩
  | 106 => ⟨S1x128x256, .i1⟩
  | 107 => ⟨S128x128x256, .i1⟩
  | 108 => ⟨S128x128x256, .i1⟩
  | 109 => ⟨S128x128x256, .i1⟩
  | 110 => ⟨S16, .f32⟩
  | 111 => ⟨S_, .f32⟩
  | 112 => ⟨S16, .f32⟩
  | 113 => ⟨S16, .f32⟩
  | 114 => ⟨S_, .f32⟩
  | 115 => ⟨S16, .f32⟩
  | 116 => ⟨S16, .f32⟩
  | 117 => ⟨S_, .f32⟩
  | 118 => ⟨S16, .f32⟩
  | 119 => ⟨S16, .f32⟩
  | 120 => ⟨S_, .f32⟩
  | 121 => ⟨S16, .f32⟩
  | 122 => ⟨S16, .f32⟩
  | 123 => ⟨S16, .f32⟩
  | 124 => ⟨S1x2x1x8, .f32⟩
  | 125 => ⟨S4x2x16x8, .f32⟩
  | 126 => ⟨S128x1x8x1, .f32⟩
  | 127 => ⟨S128x1x8x1, .f32⟩
  | _ => ⟨S8192x1024, .f32⟩

abbrev hbmTy0_1 (i : Nat) : BufTy := match i % 128 with
  | 0 => ⟨S128x256, .f32⟩
  | 1 => ⟨S128x1x256, .f32⟩
  | 2 => ⟨S1x128x1x256, .f32⟩
  | 3 => ⟨S128x128x8x256, .f32⟩
  | 4 => ⟨S128x128x8x256, .f32⟩
  | 5 => ⟨S128x128x8x256, .f32⟩
  | 6 => ⟨S128x128x1x256, .i1⟩
  | 7 => ⟨S128x128x8x256, .f32⟩
  | 8 => ⟨S_, .f32⟩
  | 9 => ⟨S_, .f32⟩
  | 10 => ⟨S128x128x8x256, .i1⟩
  | 11 => ⟨S128x128x8x256, .f32⟩
  | 12 => ⟨S128x128x8x256, .f32⟩
  | 13 => ⟨S_, .f32⟩
  | 14 => ⟨S128x128x8x256, .f32⟩
  | 15 => ⟨S1x2x1x8, .f32⟩
  | 16 => ⟨S4x2x16x8, .f32⟩
  | 17 => ⟨S128x1x8x1, .f32⟩
  | 18 => ⟨S_, .f32⟩
  | 19 => ⟨S128x128x8, .f32⟩
  | 20 => ⟨S128x128x8x1, .f32⟩
  | 21 => ⟨S128x128x8x256, .f32⟩
  | 22 => ⟨S128x128x8x256, .i1⟩
  | 23 => ⟨S128x128x8x256, .f32⟩
  | 24 => ⟨S_, .f32⟩
  | 25 => ⟨S128x128x8, .f32⟩
  | 26 => ⟨S128x128x8x1, .f32⟩
  | 27 => ⟨S128x128x8x1, .f32⟩
  | 28 => ⟨S128x128x8x1, .f32⟩
  | 29 => ⟨S128x128x8x1, .f32⟩
  | 30 => ⟨S128x128x8x1, .i1⟩
  | 31 => ⟨S128x128x8x1, .f32⟩
  | 32 => ⟨S128x128x8x1, .i1⟩
  | 33 => ⟨S_, .f32⟩
  | 34 => ⟨S128x128x8x1, .f32⟩
  | 35 => ⟨S_, .f32⟩
  | 36 => ⟨S128x128x8x1, .f32⟩
  | 37 => ⟨S_, .f32⟩
  | 38 => ⟨S128x128x8x1, .f32⟩
  | 39 => ⟨S128x128x8x1, .f32⟩
  | 40 => ⟨S128x128x8x1, .f32⟩
  | 41 => ⟨S128x128x8x1, .f32⟩
  | 42 => ⟨S128x128x8x1, .i1⟩
  | 43 => ⟨S128x128x8x1, .f32⟩
  | 44 => ⟨S128x128x8x1, .i1⟩
  | 45 => ⟨S_, .f32⟩
  | 46 => ⟨S128x128x8x1, .f32⟩
  | 47 => ⟨S_, .f32⟩
  | 48 => ⟨S128x128x8x1, .f32⟩
  | 49 => ⟨S_, .f32⟩
  | 50 => ⟨S128x128x8x1, .f32⟩
  | 51 => ⟨S128x128x8x1, .f32⟩
  | 52 => ⟨S128x128x8x1, .f32⟩
  | 53 => ⟨S128x128x8x256, .f32⟩
  | 54 => ⟨S128x128x8x256, .f32⟩
  | 55 => ⟨S128x128x8x256, .f32⟩
  | 56 => ⟨S_, .f32⟩
  | 57 => ⟨S128x128x8, .f32⟩
  | 58 => ⟨S128x128x8x1, .f32⟩
  | 59 => ⟨S128x128x8x1, .f32⟩
  | 60 => ⟨S128x128x8x1, .f32⟩
  | 61 => ⟨S128x128x8x1, .f32⟩
  | 62 => ⟨S128x128x8x1, .f32⟩
  | 63 => ⟨S128x128x8x256, .f32⟩
  | 64 => ⟨S128x128x8x256, .f32⟩
  | 65 => ⟨S128x128x8x1, .f32⟩
  | 66 => ⟨S_, .f32⟩
  | 67 => ⟨S128x128x8x1, .f32⟩
  | 68 => ⟨S128x128x8x1, .f32⟩
  | 69 => ⟨S128x128x8x64, .f32⟩
  | 70 => ⟨S4x2x2048x512, .f32⟩
  | 71 => ⟨S4x2048x2x512, .f32⟩
  | 72 => ⟨S8192x1024, .f32⟩
  | 73 => ⟨S8192x1024, .f32⟩
  | 74 => ⟨S4x2048x2x512, .f32⟩
  | 75 => ⟨S4x2x2048x512, .f32⟩
  | 76 => ⟨S128x128x8x64, .f32⟩
  | 77 => ⟨S128x64x256, .f32⟩
  | 78 => ⟨S128x256x64, .f32⟩
  | 79 => ⟨S128x128x8x256, .f32⟩
  | 80 => ⟨S128x128x8x256, .f32⟩
  | 81 => ⟨S128x128x8x256, .f32⟩
  | 82 => ⟨S128x128x8x256, .f32⟩
  | 83 => ⟨S_, .f32⟩
  | 84 => ⟨S128x128x8, .f32⟩
  | 85 => ⟨S128x128x8x1, .f32⟩
  | 86 => ⟨S128x128x8x1, .f32⟩
  | 87 => ⟨S128x128x8x256, .f32⟩
  | 88 => ⟨S128x128x8x256, .f32⟩
  | 89 => ⟨S128x128x8x1, .f32⟩
  | 90 => ⟨S_, .f32⟩
  | 91 => ⟨S128x8x1, .f32⟩
  | 92 => ⟨S128x1x8x1, .f32⟩
  | 93 => ⟨S128x128x8x1, .f32⟩
  | 94 => ⟨S_, .f32⟩
  | 95 => ⟨S128x128x8, .f32⟩
  | 96 => ⟨S128x128x8x256, .f32⟩
  | 97 => ⟨S128x128x8x256, .f32⟩
  | 98 => ⟨S128x128x8x256, .f32⟩
  | 99 => ⟨S128x128x8x256, .f32⟩
  | 100 => ⟨S_, .f32⟩
  | 101 => ⟨S128x128x8, .f32⟩
  | 102 => ⟨S128x128x8x1, .f32⟩
  | 103 => ⟨S128x128x8x1, .f32⟩
  | 104 => ⟨S128x128x8x1, .f32⟩
  | 105 => ⟨S_, .f32⟩
  | 106 => ⟨S128x8x1, .f32⟩
  | 107 => ⟨S128x1x8x1, .f32⟩
  | 108 => ⟨S128x1x8x1, .f32⟩
  | 109 => ⟨S128x128x8x1, .f32⟩
  | 110 => ⟨S_, .f32⟩
  | 111 => ⟨S128x128x8, .f32⟩
  | 112 => ⟨S128x128x8, .f32⟩
  | 113 => ⟨S128x128x8x256, .f32⟩
  | 114 => ⟨S128x128x8x256, .f32⟩
  | 115 => ⟨S128x128x8x256, .f32⟩
  | 116 => ⟨S4x2x16x8, .f32⟩
  | 117 => ⟨S_, .f32⟩
  | 118 => ⟨S2x8, .f32⟩
  | 119 => ⟨S1x2x1x8, .f32⟩
  | 120 => ⟨S16, .f32⟩
  | 121 => ⟨S_, .f32⟩
  | 122 => ⟨S128x128x8x256, .f32⟩
  | 123 => ⟨S128x128x8x256, .f32⟩
  | 124 => ⟨S_, .f32⟩
  | 125 => ⟨S128x128x8x256, .f32⟩
  | 126 => ⟨S128x128x8x256, .f32⟩
  | 127 => ⟨S128x256x64, .f32⟩
  | _ => ⟨S8192x1024, .f32⟩

abbrev hbmTy0_2 (i : Nat) : BufTy := match i % 128 with
  | 0 => ⟨S128x128x8x64, .f32⟩
  | 1 => ⟨S4x2x2048x512, .f32⟩
  | 2 => ⟨S4x2048x2x512, .f32⟩
  | 3 => ⟨S64x128x16x64, .f32⟩
  | 4 => ⟨S64x128x16x64, .f32⟩
  | 5 => ⟨S_, .f32⟩
  | 6 => ⟨S128x64, .f32⟩
  | 7 => ⟨S1x128x1x64, .f32⟩
  | 8 => ⟨S64x128x16x64, .f32⟩
  | 9 => ⟨S64x128x16x64, .f32⟩
  | 10 => ⟨S_, .f32⟩
  | 11 => ⟨S128x64, .f32⟩
  | 12 => ⟨S128x1x64, .f32⟩
  | 13 => ⟨S64x128x16x64, .f32⟩
  | 14 => ⟨S_, .f32⟩
  | 15 => ⟨S64x128x16, .f32⟩
  | 16 => ⟨S64x128x16x1, .f32⟩
  | 17 => ⟨S64x128x16x64, .f32⟩
  | 18 => ⟨S64x128x16x64, .f32⟩
  | 19 => ⟨S64x128x16x1, .f32⟩
  | 20 => ⟨S_, .f32⟩
  | 21 => ⟨S64x128x16x1, .f32⟩
  | 22 => ⟨S64x128x16x1, .f32⟩
  | 23 => ⟨S_, .f32⟩
  | 24 => ⟨S64x128x16, .f32⟩
  | 25 => ⟨S64x128x16x64, .f32⟩
  | 26 => ⟨S64x128x16x64, .f32⟩
  | 27 => ⟨S64x128x16x64, .f32⟩
  | 28 => ⟨S64x128x16x64, .f32⟩
  | 29 => ⟨S64x128x16x64, .f32⟩
  | 30 => ⟨S8192x1024, .f32⟩
  | 31 => ⟨S_, .f32⟩
  | 32 => ⟨S112, .f32⟩
  | 33 => ⟨S128, .f32⟩
  | 34 => ⟨S1x128, .f32⟩
  | 35 => ⟨S_, .f32⟩
  | 36 => ⟨S7x128, .f32⟩
  | 37 => ⟨S8x128, .f32⟩
  | 38 => ⟨S8192x1024, .bf16⟩
  | 39 => ⟨S128x128x64, .f32⟩
  | 40 => ⟨S4x2x2048x64, .f32⟩
  | 41 => ⟨S4x2048x2x64, .f32⟩
  | 42 => ⟨S8192x128, .f32⟩
  | 43 => ⟨S128x128x64, .f32⟩
  | 44 => ⟨S4x2x2048x64, .f32⟩
  | 45 => ⟨S4x2048x2x64, .f32⟩
  | 46 => ⟨S8192x128, .f32⟩
  | 47 => ⟨S8192x256, .f32⟩
  | 48 => ⟨S128x128x64, .f32⟩
  | 49 => ⟨S4x2x2048x64, .f32⟩
  | 50 => ⟨S4x2048x2x64, .f32⟩
  | 51 => ⟨S8192x128, .f32⟩
  | 52 => ⟨S128x128x64, .f32⟩
  | 53 => ⟨S4x2x2048x64, .f32⟩
  | 54 => ⟨S4x2048x2x64, .f32⟩
  | 55 => ⟨S8192x128, .f32⟩
  | 56 => ⟨S8192x256, .f32⟩
  | 57 => ⟨S128x64, .f32⟩
  | 58 => ⟨S64x128, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_7 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_c : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_c_8 : Ref sig .tc := ⟨.hbm, 84, rfl⟩
abbrev main_v68 : Ref sig .tc := ⟨.hbm, 85, rfl⟩
abbrev main_v69 : Ref sig .tc := ⟨.hbm, 86, rfl⟩
abbrev main_c_9 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_c_10 : Ref sig .tc := ⟨.hbm, 92, rfl⟩
abbrev main_v74 : Ref sig .tc := ⟨.hbm, 93, rfl⟩
abbrev main_v75 : Ref sig .tc := ⟨.hbm, 94, rfl⟩
abbrev main_c_11 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_c_12 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_cst_13 : Ref sig .tc := ⟨.hbm, 111, rfl⟩
abbrev main_v90 : Ref sig .tc := ⟨.hbm, 112, rfl⟩
abbrev main_v91 : Ref sig .tc := ⟨.hbm, 113, rfl⟩
abbrev main_cst_14 : Ref sig .tc := ⟨.hbm, 114, rfl⟩
abbrev main_v92 : Ref sig .tc := ⟨.hbm, 115, rfl⟩
abbrev main_v93 : Ref sig .tc := ⟨.hbm, 116, rfl⟩
abbrev main_cst_15 : Ref sig .tc := ⟨.hbm, 117, rfl⟩
abbrev main_v94 : Ref sig .tc := ⟨.hbm, 118, rfl⟩
abbrev main_v95 : Ref sig .tc := ⟨.hbm, 119, rfl⟩
abbrev main_cst_16 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_cst_17 : Ref sig .tc := ⟨.hbm, 136, rfl⟩
abbrev main_call0_v0 : Ref sig .tc := ⟨.hbm, 137, rfl⟩
abbrev main_v111_1 : Ref sig .tc := ⟨.hbm, 138, rfl⟩
abbrev main_call0_v2 : Ref sig .tc := ⟨.hbm, 139, rfl⟩
abbrev main_v111_0 : Ref sig .tc := ⟨.hbm, 140, rfl⟩
abbrev main_call0_cst : Ref sig .tc := ⟨.hbm, 141, rfl⟩
abbrev main_v111_2 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_cst_18 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_cst_19 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_cst_20 : Ref sig .tc := ⟨.hbm, 161, rfl⟩
abbrev main_v128 : Ref sig .tc := ⟨.hbm, 162, rfl⟩
abbrev main_cst_21 : Ref sig .tc := ⟨.hbm, 163, rfl⟩
abbrev main_v129 : Ref sig .tc := ⟨.hbm, 164, rfl⟩
abbrev main_cst_22 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_cst_23 : Ref sig .tc := ⟨.hbm, 173, rfl⟩
abbrev main_v137 : Ref sig .tc := ⟨.hbm, 174, rfl⟩
abbrev main_cst_24 : Ref sig .tc := ⟨.hbm, 175, rfl⟩
abbrev main_v138 : Ref sig .tc := ⟨.hbm, 176, rfl⟩
abbrev main_cst_25 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_cst_26 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_cst_27 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_cst_28 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_cst_29 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_cst_30 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_cst_31 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_cst_32 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_cst_33 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_cst_34 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_call1_cst : Ref sig .tc := ⟨.hbm, 249, rfl⟩
abbrev main_call1_v0 : Ref sig .tc := ⟨.hbm, 250, rfl⟩
abbrev main_v201 : Ref sig .tc := ⟨.hbm, 251, rfl⟩
abbrev main_cst_35 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_v209 : Ref sig .tc := ⟨.hbm, 260, rfl⟩
abbrev main_cst_36 : Ref sig .tc := ⟨.hbm, 261, rfl⟩
abbrev main_v210 : Ref sig .tc := ⟨.hbm, 262, rfl⟩
abbrev main_v211 : Ref sig .tc := ⟨.hbm, 263, rfl⟩
abbrev main_v212 : Ref sig .tc := ⟨.hbm, 264, rfl⟩
abbrev main_v213 : Ref sig .tc := ⟨.hbm, 265, rfl⟩
abbrev main_cst_37 : Ref sig .tc := ⟨.hbm, 266, rfl⟩
abbrev main_v214 : Ref sig .tc := ⟨.hbm, 267, rfl⟩
abbrev main_v215 : Ref sig .tc := ⟨.hbm, 268, rfl⟩
abbrev main_v216 : Ref sig .tc := ⟨.hbm, 269, rfl⟩
abbrev main_cst_38 : Ref sig .tc := ⟨.hbm, 270, rfl⟩
abbrev main_v217 : Ref sig .tc := ⟨.hbm, 271, rfl⟩
abbrev main_v218 : Ref sig .tc := ⟨.hbm, 272, rfl⟩
abbrev main_v219 : Ref sig .tc := ⟨.hbm, 273, rfl⟩
abbrev main_v220 : Ref sig .tc := ⟨.hbm, 274, rfl⟩
abbrev main_v221 : Ref sig .tc := ⟨.hbm, 275, rfl⟩
abbrev main_cst_39 : Ref sig .tc := ⟨.hbm, 276, rfl⟩
abbrev main_v222 : Ref sig .tc := ⟨.hbm, 277, rfl⟩
abbrev main_v223 : Ref sig .tc := ⟨.hbm, 278, rfl⟩
abbrev main_cst_40 : Ref sig .tc := ⟨.hbm, 279, rfl⟩
abbrev main_v224 : Ref sig .tc := ⟨.hbm, 280, rfl⟩
abbrev main_v225 : Ref sig .tc := ⟨.hbm, 281, rfl⟩
abbrev main_v226 : Ref sig .tc := ⟨.hbm, 282, rfl⟩
abbrev main_v227 : Ref sig .tc := ⟨.hbm, 283, rfl⟩
abbrev main_v228 : Ref sig .tc := ⟨.hbm, 284, rfl⟩
abbrev main_v229 : Ref sig .tc := ⟨.hbm, 285, rfl⟩
abbrev main_v230 : Ref sig .tc := ⟨.hbm, 286, rfl⟩
abbrev main_cst_41 : Ref sig .tc := ⟨.hbm, 287, rfl⟩
abbrev main_v231 : Ref sig .tc := ⟨.hbm, 288, rfl⟩
abbrev main_v232 : Ref sig .tc := ⟨.hbm, 289, rfl⟩
abbrev main_v233 : Ref sig .tc := ⟨.hbm, 290, rfl⟩
abbrev main_cst_42 : Ref sig .tc := ⟨.hbm, 291, rfl⟩
abbrev main_v234 : Ref sig .tc := ⟨.hbm, 292, rfl⟩
abbrev main_v235 : Ref sig .tc := ⟨.hbm, 293, rfl⟩
abbrev main_v236 : Ref sig .tc := ⟨.hbm, 294, rfl⟩
abbrev main_v237 : Ref sig .tc := ⟨.hbm, 295, rfl⟩
abbrev main_v238 : Ref sig .tc := ⟨.hbm, 296, rfl⟩
abbrev main_v239 : Ref sig .tc := ⟨.hbm, 297, rfl⟩
abbrev main_v240 : Ref sig .tc := ⟨.hbm, 298, rfl⟩
abbrev main_v241 : Ref sig .tc := ⟨.hbm, 299, rfl⟩
abbrev main_v242 : Ref sig .tc := ⟨.hbm, 300, rfl⟩
abbrev main_v243 : Ref sig .tc := ⟨.hbm, 301, rfl⟩
abbrev main_v244 : Ref sig .tc := ⟨.hbm, 302, rfl⟩
abbrev main_v245 : Ref sig .tc := ⟨.hbm, 303, rfl⟩
abbrev main_v246 : Ref sig .tc := ⟨.hbm, 304, rfl⟩
abbrev main_v247 : Ref sig .tc := ⟨.hbm, 305, rfl⟩
abbrev main_v248 : Ref sig .tc := ⟨.hbm, 306, rfl⟩
abbrev main_v249 : Ref sig .tc := ⟨.hbm, 307, rfl⟩
abbrev main_v250 : Ref sig .tc := ⟨.hbm, 308, rfl⟩
abbrev main_v251 : Ref sig .tc := ⟨.hbm, 309, rfl⟩
abbrev main_v252 : Ref sig .tc := ⟨.hbm, 310, rfl⟩
abbrev main_v253 : Ref sig .tc := ⟨.hbm, 311, rfl⟩
abbrev main_v254 : Ref sig .tc := ⟨.hbm, 312, rfl⟩
abbrev main_v255 : Ref sig .tc := ⟨.hbm, 313, rfl⟩
abbrev main_v256 : Ref sig .tc := ⟨.hbm, 314, rfl⟩

abbrev nD : Nat := 1
abbrev τ : Topo := Topo.v7x

variable {F : FTy → Type} [FloatOps F]
-- ==== AttnFwd.lean ====
abbrev S8192x1024 : Shape := ⟨2, ![8192, 1024]⟩
abbrev S8192x256 : Shape := ⟨2, ![8192, 256]⟩
abbrev S64 : Shape := ⟨1, ![64]⟩
abbrev S16 : Shape := ⟨1, ![16]⟩
abbrev S64x1 : Shape := ⟨2, ![64, 1]⟩
abbrev S64x1024 : Shape := ⟨2, ![64, 1024]⟩
abbrev S2x8 : Shape := ⟨2, ![2, 8]⟩
abbrev S2x8x128 : Shape := ⟨3, ![2, 8, 128]⟩
abbrev S2x1024 : Shape := ⟨2, ![2, 1024]⟩
abbrev S1x64 : Shape := ⟨2, ![1, 64]⟩
abbrev S128 : Shape := ⟨1, ![128]⟩
abbrev S128x1 : Shape := ⟨2, ![128, 1]⟩
abbrev S1x128 : Shape := ⟨2, ![1, 128]⟩
abbrev S8x128 : Shape := ⟨2, ![8, 128]⟩
abbrev S1x1024 : Shape := ⟨2, ![1, 1024]⟩
abbrev S128x1024 : Shape := ⟨2, ![128, 1024]⟩
abbrev S_ : Shape := ⟨0, ![]⟩
abbrev S8 : Shape := ⟨1, ![8]⟩
abbrev S8x1 : Shape := ⟨2, ![8, 1]⟩
abbrev S1x128x1024 : Shape := ⟨3, ![1, 128, 1024]⟩
abbrev S2x128x1024 : Shape := ⟨3, ![2, 128, 1024]⟩
abbrev S128x256 : Shape := ⟨2, ![128, 256]⟩
abbrev S1024x128 : Shape := ⟨2, ![1024, 128]⟩
abbrev S128x64 : Shape := ⟨2, ![128, 64]⟩
abbrev S64x128 : Shape := ⟨2, ![64, 128]⟩
abbrev S1024 : Shape := ⟨1, ![1024]⟩
abbrev S512x128 : Shape := ⟨2, ![512, 128]⟩

abbrev nBuf : Space → Nat
  | .hbm => 82
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S64, .f32⟩
  | .hbm, ⟨3, _⟩ => ⟨S64, .f32⟩
  | .hbm, ⟨4, _⟩ => ⟨S16, .f32⟩
  | .hbm, ⟨5, _⟩ => ⟨S64x1, .f32⟩
  | .hbm, ⟨6, _⟩ => ⟨S64x1024, .f32⟩
  | .hbm, ⟨7, _⟩ => ⟨S2x8, .f32⟩
  | .hbm, ⟨8, _⟩ => ⟨S2x8x128, .f32⟩
  | .hbm, ⟨9, _⟩ => ⟨S2x1024, .f32⟩
  | .hbm, ⟨10, _⟩ => ⟨S1x64, .f32⟩
  | .hbm, ⟨11, _⟩ => ⟨S128, .i32⟩
  | .hbm, ⟨12, _⟩ => ⟨S128x1, .i32⟩
  | .hbm, ⟨13, _⟩ => ⟨S128, .i32⟩
  | .hbm, ⟨14, _⟩ => ⟨S1x128, .i32⟩
  | .hbm, ⟨15, _⟩ => ⟨S8x128, .i32⟩
  | .hbm, ⟨16, _⟩ => ⟨S1x1024, .i32⟩
  | .hbm, ⟨17, _⟩ => ⟨S128x1024, .i32⟩
  | .hbm, ⟨18, _⟩ => ⟨S128x1024, .i32⟩
  | .hbm, ⟨19, _⟩ => ⟨S128x1024, .i1⟩
  | .hbm, ⟨20, _⟩ => ⟨S_, .i32⟩
  | .hbm, ⟨21, _⟩ => ⟨S1x1024, .i32⟩
  | .hbm, ⟨22, _⟩ => ⟨S1x1024, .i32⟩
  | .hbm, ⟨23, _⟩ => ⟨S128x1024, .i32⟩
  | .hbm, ⟨24, _⟩ => ⟨S128x1024, .i32⟩
  | .hbm, ⟨25, _⟩ => ⟨S128x1024, .i32⟩
  | .hbm, ⟨26, _⟩ => ⟨S128x1024, .i32⟩
  | .hbm, ⟨27, _⟩ => ⟨S128x1024, .i32⟩
  | .hbm, ⟨28, _⟩ => ⟨S128x1024, .i32⟩
  | .hbm, ⟨29, _⟩ => ⟨S128x1024, .i32⟩
  | .hbm, ⟨30, _⟩ => ⟨S128x1024, .f32⟩
  | .hbm, ⟨31, _⟩ => ⟨S8, .f32⟩
  | .hbm, ⟨32, _⟩ => ⟨S8x1, .f32⟩
  | .hbm, ⟨33, _⟩ => ⟨S8x128, .f32⟩
  | .hbm, ⟨34, _⟩ => ⟨S1x1024, .f32⟩
  | .hbm, ⟨35, _⟩ => ⟨S_, .f32⟩
  | .hbm, ⟨36, _⟩ => ⟨S1x1024, .f32⟩
  | .hbm, ⟨37, _⟩ => ⟨S1x1024, .f32⟩
  | .hbm, ⟨38, _⟩ => ⟨S_, .f32⟩
  | .hbm, ⟨39, _⟩ => ⟨S1x1024, .f32⟩
  | .hbm, ⟨40, _⟩ => ⟨S1x1024, .f32⟩
  | .hbm, ⟨41, _⟩ => ⟨S_, .f32⟩
  | .hbm, ⟨42, _⟩ => ⟨S1x1024, .f32⟩
  | .hbm, ⟨43, _⟩ => ⟨S1x1024, .f32⟩
  | .hbm, ⟨44, _⟩ => ⟨S_, .f32⟩
  | .hbm, ⟨45, _⟩ => ⟨S1x1024, .f32⟩
  | .hbm, ⟨46, _⟩ => ⟨S1x1024, .f32⟩
  | .hbm, ⟨47, _⟩ => ⟨S_, .f32⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S128x1024, .f32⟩
  | .hbm, ⟨53, _⟩ => ⟨S128x1024, .f32⟩
  | .hbm, ⟨54, _⟩ => ⟨S8, .f32⟩
  | .hbm, ⟨55, _⟩ => ⟨S8x1, .f32⟩
  | .hbm, ⟨56, _⟩ => ⟨S8x128, .f32⟩
  | .hbm, ⟨57, _⟩ => ⟨S1x1024, .f32⟩
  | .hbm, ⟨58, _⟩ => ⟨S_, .f32⟩
  | .hbm, ⟨59, _⟩ => ⟨S1x1024, .f32⟩
  | .hbm, ⟨60, _⟩ => ⟨S1x1024, .f32⟩
  | .hbm, ⟨61, _⟩ => ⟨S_, .f32⟩
  | .hbm, ⟨62, _⟩ => ⟨S1x1024, .f32⟩
  | .hbm, ⟨63, _⟩ => ⟨S1x1024, .f32⟩
  | .hbm, ⟨64, _⟩ => ⟨S_, .f32⟩
  | .hbm, ⟨65, _⟩ => ⟨S1x1024, .f32⟩
  | .hbm, ⟨66, _⟩ => ⟨S1x1024, .f32⟩
  | .hbm, ⟨67, _⟩ => ⟨S_, .f32⟩
  | .hbm, ⟨68, _⟩ => ⟨S1x1024, .f32⟩
  | .hbm, ⟨69, _⟩ => ⟨S1x1024, .f32⟩
  | .hbm, ⟨70, _⟩ => ⟨S_, .f32⟩
  | .hbm, ⟨71, _⟩ => ⟨S1x1024, .f32⟩
  | .hbm, ⟨72, _⟩ => ⟨S1x1024, .f32⟩
  | .hbm, ⟨73, _⟩ => ⟨S1x1024, .f32⟩
  | .hbm, ⟨74, _⟩ => ⟨S1x1024, .f32⟩
  | .hbm, ⟨75, _⟩ => ⟨S128x1024, .f32⟩
  | .hbm, ⟨76, _⟩ => ⟨S128x1024, .f32⟩
  | .hbm, ⟨77, _⟩ => ⟨S128x1024, .f32⟩
  | .hbm, ⟨78, _⟩ => ⟨S1x128x1024, .f32⟩
  | .hbm, ⟨79, _⟩ => ⟨S1x128x1024, .f32⟩
  | .hbm, ⟨80, _⟩ => ⟨S2x128x1024, .f32⟩
  | .hbm, ⟨81, _⟩ => ⟨S8192x1024, .bf16⟩
  | .local _ .vmem, ⟨0, _⟩ => ⟨S128x1024, .f32⟩
  | .local _ .vmem, ⟨1, _⟩ => ⟨S128x1024, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S64x1024, .f32⟩
  | .local _ .vmem, ⟨7, _⟩ => ⟨S1x64, .f32⟩
  | .local _ .vmem, ⟨8, _⟩ => ⟨S128x1024, .f32⟩
  | .local _ .vmem, ⟨9, _⟩ => ⟨S2x128x1024, .f32⟩
  | .local _ .vmem, ⟨10, _⟩ => ⟨S2x1024, .f32⟩
  | .local _ .vmem, ⟨11, _⟩ => ⟨S128x1024, .bf16⟩
  | .local _ .vmem, ⟨12, _⟩ => ⟨S128x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst : Ref sig .tc := ⟨.hbm, 35, rfl⟩
abbrev main_v29 : Ref sig .tc := ⟨.hbm, 36, rfl⟩
abbrev main_v30 : Ref sig .tc := ⟨.hbm, 37, rfl⟩
abbrev main_cst_0 : Ref sig .tc := ⟨.hbm, 38, rfl⟩
abbrev main_v31 : Ref sig .tc := ⟨.hbm, 39, rfl⟩
abbrev main_v32 : Ref sig .tc := ⟨.hbm, 40, rfl⟩
abbrev main_cst_1 : Ref sig .tc := ⟨.hbm, 41, rfl⟩
abbrev main_v33 : Ref sig .tc := ⟨.hbm, 42, rfl⟩
abbrev main_v34 : Ref sig .tc := ⟨.hbm, 43, rfl⟩
abbrev main_cst_2 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_4 : Ref sig .tc := ⟨.hbm, 58, rfl⟩
abbrev main_v47 : Ref sig .tc := ⟨.hbm, 59, rfl⟩
abbrev main_v48 : Ref sig .tc := ⟨.hbm, 60, rfl⟩
abbrev main_cst_5 : Ref sig .tc := ⟨.hbm, 61, rfl⟩
abbrev main_v49 : Ref sig .tc := ⟨.hbm, 62, rfl⟩
abbrev main_v50 : Ref sig .tc := ⟨.hbm, 63, rfl⟩
abbrev main_cst_6 : Ref sig .tc := ⟨.hbm, 64, rfl⟩
abbrev main_v51 : Ref sig .tc := ⟨.hbm, 65, rfl⟩
abbrev main_v52 : Ref sig .tc := ⟨.hbm, 66, rfl⟩
abbrev main_cst_7 : Ref sig .tc := ⟨.hbm, 67, rfl⟩
abbrev main_v53 : Ref sig .tc := ⟨.hbm, 68, rfl⟩
abbrev main_v54 : Ref sig .tc := ⟨.hbm, 69, rfl⟩
abbrev main_cst_8 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnFwdIdeal.lean ====
variable {F : FTy → Type} [FloatOps F] [Named F]
def κ : String → Option EReal := fun
  | "mask" => some ⊥
  | _ => none
-- ==== AttnFwdRefIdeal.lean ====
abbrev S8192x1024 : Shape := ⟨2, ![8192, 1024]⟩
abbrev S8192x256 : Shape := ⟨2, ![8192, 256]⟩
abbrev S64 : Shape := ⟨1, ![64]⟩
abbrev S16 : Shape := ⟨1, ![16]⟩
abbrev S8192x128 : Shape := ⟨2, ![8192, 128]⟩
abbrev S4x2048x2x64 : Shape := ⟨4, ![4, 2048, 2, 64]⟩
abbrev S_ : Shape := ⟨0, ![]⟩
abbrev S4x2048x2 : Shape := ⟨3, ![4, 2048, 2]⟩
abbrev S4x2048x2x1 : Shape := ⟨4, ![4, 2048, 2, 1]⟩
abbrev S1x1x1x64 : Shape := ⟨4, ![1, 1, 1, 64]⟩
abbrev S8x128x64 : Shape := ⟨3, ![8, 128, 64]⟩
abbrev S4x2x2048x64 : Shape := ⟨4, ![4, 2, 2048, 64]⟩
abbrev S8x2048x64 : Shape := ⟨3, ![8, 2048, 64]⟩
abbrev S8x2176x64 : Shape := ⟨3, ![8, 2176, 64]⟩
abbrev S8x17x128x64 : Shape := ⟨4, ![8, 17, 128, 64]⟩
abbrev S8x16x128x64 : Shape := ⟨4, ![8, 16, 128, 64]⟩
abbrev S8x16x256x64 : Shape := ⟨4, ![8, 16, 256, 64]⟩
abbrev S128x256x64 : Shape := ⟨3, ![128, 256, 64]⟩
abbrev S128x1x64 : Shape := ⟨3, ![128, 1, 64]⟩
abbrev S64x128x16x64 : Shape := ⟨4, ![64, 128, 16, 64]⟩
abbrev S64x128x16 : Shape := ⟨3, ![64, 128, 16]⟩
abbrev S64x128x16x1 : Shape := ⟨4, ![64, 128, 16, 1]⟩
abbrev S1x128x1x64 : Shape := ⟨4, ![1, 128, 1, 64]⟩
abbrev S4x2048x2x512 : Shape := ⟨4, ![4, 2048, 2, 512]⟩
abbrev S4x2x2048x512 : Shape := ⟨4, ![4, 2, 2048, 512]⟩
abbrev S128x128x8x64 : Shape := ⟨4, ![128, 128, 8, 64]⟩
abbrev S128x128x8x256 : Shape := ⟨4, ![128, 128, 8, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S8x16 : Shape := ⟨2, ![8, 16]⟩
abbrev S128x1x1 : Shape := ⟨3, ![128, 1, 1]⟩
abbrev S1x1x256 : Shape := ⟨3, ![1, 1, 256]⟩
abbrev S128x1x256 : Shape := ⟨3, ![128, 1, 256]⟩
abbrev S1x128x256 : Shape := ⟨3, ![1, 128, 256]⟩
abbrev S128x128x256 : Shape := ⟨3, ![128, 128, 256]⟩
abbrev S1x2x1x8 : Shape := ⟨4, ![1, 2, 1, 8]⟩
abbrev S4x2x16x8 : Shape := ⟨4, ![4, 2, 16, 8]⟩
abbrev S128x1x8x1 : Shape := ⟨4, ![128, 1, 8, 1]⟩
abbrev S1x128x1x256 : Shape := ⟨4, ![1, 128, 1, 256]⟩
abbrev S128x128x1x256 : Shape := ⟨4, ![128, 128, 1, 256]⟩
abbrev S128x128x8 : Shape := ⟨3, ![128, 128, 8]⟩
abbrev S128x128x8x1 : Shape := ⟨4, ![128, 128, 8, 1]⟩

abbrev nBuf : Space → Nat
  | .hbm => 161
  | .vmem => 0
  | .smem => 0
  | _ => 0

abbrev hbmTy0_0 (i : Nat) : BufTy := match i % 128 with
  | 0 => ⟨S8192x1024, .f32⟩
  | 1 => ⟨S8192x256, .f32⟩
  | 2 => ⟨S64, .f32⟩
  | 3 => ⟨S64, .f32⟩
  | 4 => ⟨S16, .f32⟩
  | 5 => ⟨S8192x128, .f32⟩
  | 6 => ⟨S4x2048x2x64, .f32⟩
  | 7 => ⟨S4x2048x2x64, .f32⟩
  | 8 => ⟨S_, .f32⟩
  | 9 => ⟨S4x2048x2, .f32⟩
  | 10 => ⟨S4x2048x2x1, .f32⟩
  | 11 => ⟨S_, .f32⟩
  | 12 => ⟨S4x2048x2x1, .f32⟩
  | 13 => ⟨S4x2048x2x1, .f32⟩
  | 14 => ⟨S_, .f32⟩
  | 15 => ⟨S4x2048x2x1, .f32⟩
  | 16 => ⟨S4x2048x2x1, .f32⟩
  | 17 => ⟨S4x2048x2x1, .f32⟩
  | 18 => ⟨S4x2048x2x64, .f32⟩
  | 19 => ⟨S4x2048x2x64, .f32⟩
  | 20 => ⟨S1x1x1x64, .f32⟩
  | 21 => ⟨S4x2048x2x64, .f32⟩
  | 22 => ⟨S4x2048x2x64, .f32⟩
  | 23 => ⟨S8192x128, .f32⟩
  | 24 => ⟨S4x2048x2x64, .f32⟩
  | 25 => ⟨S_, .f32⟩
  | 26 => ⟨S8x128x64, .f32⟩
  | 27 => ⟨S4x2x2048x64, .f32⟩
  | 28 => ⟨S8x2048x64, .f32⟩
  | 29 => ⟨S8x2176x64, .f32⟩
  | 30 => ⟨S8x17x128x64, .f32⟩
  | 31 => ⟨S4x2x2048x64, .f32⟩
  | 32 => ⟨S8x2048x64, .f32⟩
  | 33 => ⟨S8x2176x64, .f32⟩
  | 34 => ⟨S8x17x128x64, .f32⟩
  | 35 => ⟨S8x16x128x64, .f32⟩
  | 36 => ⟨S8x16x128x64, .f32⟩
  | 37 => ⟨S8x16x256x64, .f32⟩
  | 38 => ⟨S8x16x128x64, .f32⟩
  | 39 => ⟨S8x16x128x64, .f32⟩
  | 40 => ⟨S8x16x256x64, .f32⟩
  | 41 => ⟨S128x256x64, .f32⟩
  | 42 => ⟨S128x256x64, .f32⟩
  | 43 => ⟨S128x1x64, .f32⟩
  | 44 => ⟨S64x128x16x64, .f32⟩
  | 45 => ⟨S64x128x16x64, .f32⟩
  | 46 => ⟨S_, .f32⟩
  | 47 => ⟨S64x128x16, .f32⟩
  | 48 => ⟨S64x128x16x1, .f32⟩
  | 49 => ⟨S_, .f32⟩
  | 50 => ⟨S64x128x16x1, .f32⟩
  | 51 => ⟨S64x128x16x1, .f32⟩
  | 52 => ⟨S_, .f32⟩
  | 53 => ⟨S64x128x16x1, .f32⟩
  | 54 => ⟨S64x128x16x1, .f32⟩
  | 55 => ⟨S64x128x16x1, .f32⟩
  | 56 => ⟨S64x128x16x64, .f32⟩
  | 57 => ⟨S64x128x16x64, .f32⟩
  | 58 => ⟨S1x128x1x64, .f32⟩
  | 59 => ⟨S64x128x16x64, .f32⟩
  | 60 => ⟨S64x128x16x64, .f32⟩
  | 61 => ⟨S4x2048x2x512, .f32⟩
  | 62 => ⟨S4x2x2048x512, .f32⟩
  | 63 => ⟨S128x128x8x64, .f32⟩
  | 64 => ⟨S128x128x8x256, .f32⟩
  | 65 => ⟨S_, .f32⟩
  | 66 => ⟨S128x128x8x256, .f32⟩
  | 67 => ⟨S128x128x8x256, .f32⟩
  | 68 => ⟨S128, .i32⟩
  | 69 => ⟨S128x1, .i32⟩
  | 70 => ⟨S256, .i32⟩
  | 71 => ⟨S1x256, .i32⟩
  | 72 => ⟨S_, .i32⟩
  | 73 => ⟨S128x1, .i32⟩
  | 74 => ⟨S128x1, .i32⟩
  | 75 => ⟨S128x256, .i32⟩
  | 76 => ⟨S128x256, .i32⟩
  | 77 => ⟨S128x256, .i32⟩
  | 78 => ⟨S16, .i32⟩
  | 79 => ⟨S_, .i32⟩
  | 80 => ⟨S16, .i32⟩
  | 81 => ⟨S16, .i32⟩
  | 82 => ⟨S_, .i32⟩
  | 83 => ⟨S16, .i32⟩
  | 84 => ⟨S16, .i32⟩
  | 85 => ⟨S8x16, .i32⟩
  | 86 => ⟨S128x1x1, .i32⟩
  | 87 => ⟨S_, .i32⟩
  | 88 => ⟨S128x256, .i32⟩
  | 89 => ⟨S128x256, .i1⟩
  | 90 => ⟨S_, .i32⟩
  | 91 => ⟨S128x256, .i32⟩
  | 92 => ⟨S128x256, .i1⟩
  | 93 => ⟨S128x256, .i1⟩
  | 94 => ⟨S1x1x256, .i32⟩
  | 95 => ⟨S128x1x256, .i32⟩
  | 96 => ⟨S128x1x256, .i32⟩
  | 97 => ⟨S128x1x256, .i32⟩
  | 98 => ⟨S_, .i32⟩
  | 99 => ⟨S128x1x256, .i32⟩
  | 100 => ⟨S128x1x256, .i1⟩
  | 101 => ⟨S1x128x256, .i1⟩
  | 102 => ⟨S128x128x256, .i1⟩
  | 103 => ⟨S128x128x256, .i1⟩
  | 104 => ⟨S128x128x256, .i1⟩
  | 105 => ⟨S16, .f32⟩
  | 106 => ⟨S_, .f32⟩
  | 107 => ⟨S16, .f32⟩
  | 108 => ⟨S16, .f32⟩
  | 109 => ⟨S_, .f32⟩
  | 110 => ⟨S16, .f32⟩
  | 111 => ⟨S16, .f32⟩
  | 112 => ⟨S_, .f32⟩
  | 113 => ⟨S16, .f32⟩
  | 114 => ⟨S16, .f32⟩
  | 115 => ⟨S_, .f32⟩
  | 116 => ⟨S16, .f32⟩
  | 117 => ⟨S16, .f32⟩
  | 118 => ⟨S16, .f32⟩
  | 119 => ⟨S1x2x1x8, .f32⟩
  | 120 => ⟨S4x2x16x8, .f32⟩
  | 121 => ⟨S128x1x8x1, .f32⟩
  | 122 => ⟨S128x1x8x1, .f32⟩
  | 123 => ⟨S128x256, .f32⟩
  | 124 => ⟨S128x1x256, .f32⟩
  | 125 => ⟨S1x128x1x256, .f32⟩
  | 126 => ⟨S128x128x8x256, .f32⟩
  | 127 => ⟨S128x128x8x256, .f32⟩
  | _ => ⟨S8192x1024, .f32⟩

abbrev hbmTy0_1 (i : Nat) : BufTy := match i % 128 with
  | 0 => ⟨S128x128x8x256, .f32⟩
  | 1 => ⟨S128x128x1x256, .i1⟩
  | 2 => ⟨S128x128x8x256, .f32⟩
  | 3 => ⟨S_, .f32⟩
  | 4 => ⟨S_, .f32⟩
  | 5 => ⟨S128x128x8x256, .i1⟩
  | 6 => ⟨S128x128x8x256, .f32⟩
  | 7 => ⟨S128x128x8x256, .f32⟩
  | 8 => ⟨S1x2x1x8, .f32⟩
  | 9 => ⟨S4x2x16x8, .f32⟩
  | 10 => ⟨S128x1x8x1, .f32⟩
  | 11 => ⟨S_, .f32⟩
  | 12 => ⟨S128x128x8, .f32⟩
  | 13 => ⟨S128x128x8x1, .f32⟩
  | 14 => ⟨S128x128x8x1, .f32⟩
  | 15 => ⟨S128x128x8x1, .f32⟩
  | 16 => ⟨S128x128x8x256, .f32⟩
  | 17 => ⟨S128x128x8x256, .f32⟩
  | 18 => ⟨S128x128x8x256, .f32⟩
  | 19 => ⟨S_, .f32⟩
  | 20 => ⟨S128x128x8, .f32⟩
  | 21 => ⟨S128x128x8x1, .f32⟩
  | 22 => ⟨S128x128x8x1, .f32⟩
  | 23 => ⟨S128x128x8x1, .f32⟩
  | 24 => ⟨S128x128x8x1, .f32⟩
  | 25 => ⟨S128x128x8x1, .f32⟩
  | 26 => ⟨S128x128x8x256, .f32⟩
  | 27 => ⟨S128x128x8x256, .f32⟩
  | 28 => ⟨S128x128x8x64, .f32⟩
  | 29 => ⟨S4x2x2048x512, .f32⟩
  | 30 => ⟨S4x2048x2x512, .f32⟩
  | 31 => ⟨S8192x1024, .f32⟩
  | 32 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_6 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_c : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_c_7 : Ref sig .tc := ⟨.hbm, 79, rfl⟩
abbrev main_v65 : Ref sig .tc := ⟨.hbm, 80, rfl⟩
abbrev main_v66 : Ref sig .tc := ⟨.hbm, 81, rfl⟩
abbrev main_c_8 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_c_9 : Ref sig .tc := ⟨.hbm, 87, rfl⟩
abbrev main_v71 : Ref sig .tc := ⟨.hbm, 88, rfl⟩
abbrev main_v72 : Ref sig .tc := ⟨.hbm, 89, rfl⟩
abbrev main_c_10 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_c_11 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_cst_12 : Ref sig .tc := ⟨.hbm, 106, rfl⟩
abbrev main_v87 : Ref sig .tc := ⟨.hbm, 107, rfl⟩
abbrev main_v88 : Ref sig .tc := ⟨.hbm, 108, rfl⟩
abbrev main_cst_13 : Ref sig .tc := ⟨.hbm, 109, rfl⟩
abbrev main_v89 : Ref sig .tc := ⟨.hbm, 110, rfl⟩
abbrev main_v90 : Ref sig .tc := ⟨.hbm, 111, rfl⟩
abbrev main_cst_14 : Ref sig .tc := ⟨.hbm, 112, rfl⟩
abbrev main_v91 : Ref sig .tc := ⟨.hbm, 113, rfl⟩
abbrev main_v92 : Ref sig .tc := ⟨.hbm, 114, rfl⟩
abbrev main_cst_15 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_cst_16 : Ref sig .tc := ⟨.hbm, 131, rfl⟩
abbrev main_call0_v0 : Ref sig .tc := ⟨.hbm, 132, rfl⟩
abbrev main_call0_v1 : Ref sig .tc := ⟨.hbm, 133, rfl⟩
abbrev main_call0_v2 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_cst_17 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_cst_18 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩

abbrev nD : Nat := 1
abbrev τ : Topo := Topo.v7x

variable {F : FTy → Type} [FloatOps F]
-- ==== KvBwd.lean ====
abbrev S8192x256 : Shape := ⟨2, ![8192, 256]⟩
abbrev S64 : Shape := ⟨1, ![64]⟩
abbrev S64x1 : Shape := ⟨2, ![64, 1]⟩
abbrev S64x128 : Shape := ⟨2, ![64, 128]⟩
abbrev S2048x256 : Shape := ⟨2, ![2048, 256]⟩
abbrev S1920x256 : Shape := ⟨2, ![1920, 256]⟩
abbrev S128x256 : Shape := ⟨2, ![128, 256]⟩
abbrev S2048x128 : Shape := ⟨2, ![2048, 128]⟩
abbrev S128x2048 : Shape := ⟨2, ![128, 2048]⟩
abbrev S64x2048 : Shape := ⟨2, ![64, 2048]⟩
abbrev S2048 : Shape := ⟨1, ![2048]⟩
abbrev S1x2048 : Shape := ⟨2, ![1, 2048]⟩

abbrev nBuf : Space → Nat
  | .hbm => 8
  | .vmem => 10
  | .smem => 0
  | _ => 0

abbrev bufTy : (tb : Table) → Fin (tcTables nBuf tb) → BufTy
  | .hbm, ⟨0, _⟩ => ⟨S8192x256, .f32⟩
  | .hbm, ⟨1, _⟩ => ⟨S64, .f32⟩
  | .hbm, ⟨2, _⟩ => ⟨S8192x256, .f32⟩
  | .hbm, ⟨3, _⟩ => ⟨S8192x256, .f32⟩
  | .hbm, ⟨4, _⟩ => ⟨S64x1, .f32⟩
  | .hbm, ⟨5, _⟩ => ⟨S64x128, .f32⟩
  | .hbm, ⟨6, _⟩ => ⟨S8192x256, .bf16⟩
  | .hbm, ⟨7, _⟩ => ⟨S64x128, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S64x128, .f32⟩
  | .local _ .vmem, ⟨7, _⟩ => ⟨S2048x256, .bf16⟩
  | .local _ .vmem, ⟨8, _⟩ => ⟨S2048x256, .bf16⟩
  | .local _ .vmem, ⟨9, _⟩ => ⟨S64x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KvBwdRefIdeal.lean ====
abbrev S8192x256 : Shape := ⟨2, ![8192, 256]⟩
abbrev S64 : Shape := ⟨1, ![64]⟩
abbrev S128x1x64 : Shape := ⟨3, ![128, 1, 64]⟩
abbrev S8192x128 : Shape := ⟨2, ![8192, 128]⟩
abbrev S64x128x2x64 : Shape := ⟨4, ![64, 128, 2, 64]⟩
abbrev S_ : Shape := ⟨0, ![]⟩
abbrev S64x128x2 : Shape := ⟨3, ![64, 128, 2]⟩
abbrev S64x128x2x1 : Shape := ⟨4, ![64, 128, 2, 1]⟩
abbrev S1x128x1x64 : Shape := ⟨4, ![1, 128, 1, 64]⟩
abbrev S4x16x128x128 : Shape := ⟨4, ![4, 16, 128, 128]⟩
abbrev S4x1x128x128 : Shape := ⟨4, ![4, 1, 128, 128]⟩
abbrev S4x17x128x128 : Shape := ⟨4, ![4, 17, 128, 128]⟩
abbrev S4x16x256x128 : Shape := ⟨4, ![4, 16, 256, 128]⟩
abbrev S128x64 : Shape := ⟨2, ![128, 64]⟩
abbrev S64x128 : Shape := ⟨2, ![64, 128]⟩

abbrev nBuf : Space → Nat
  | .hbm => 109
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S64, .f32⟩
  | .hbm, ⟨2, _⟩ => ⟨S8192x256, .f32⟩
  | .hbm, ⟨3, _⟩ => ⟨S8192x256, .f32⟩
  | .hbm, ⟨4, _⟩ => ⟨S128x1x64, .f32⟩
  | .hbm, ⟨5, _⟩ => ⟨S8192x128, .f32⟩
  | .hbm, ⟨6, _⟩ => ⟨S64x128x2x64, .f32⟩
  | .hbm, ⟨7, _⟩ => ⟨S64x128x2x64, .f32⟩
  | .hbm, ⟨8, _⟩ => ⟨S_, .f32⟩
  | .hbm, ⟨9, _⟩ => ⟨S64x128x2, .f32⟩
  | .hbm, ⟨10, _⟩ => ⟨S64x128x2x1, .f32⟩
  | .hbm, ⟨11, _⟩ => ⟨S_, .f32⟩
  | .hbm, ⟨12, _⟩ => ⟨S64x128x2x1, .f32⟩
  | .hbm, ⟨13, _⟩ => ⟨S64x128x2x1, .f32⟩
  | .hbm, ⟨14, _⟩ => ⟨S_, .f32⟩
  | .hbm, ⟨15, _⟩ => ⟨S64x128x2x1, .f32⟩
  | .hbm, ⟨16, _⟩ => ⟨S64x128x2x1, .f32⟩
  | .hbm, ⟨17, _⟩ => ⟨S64x128x2x1, .f32⟩
  | .hbm, ⟨18, _⟩ => ⟨S64x128x2x1, .f32⟩
  | .hbm, ⟨19, _⟩ => ⟨S_, .f32⟩
  | .hbm, ⟨20, _⟩ => ⟨S64x128x2x1, .f32⟩
  | .hbm, ⟨21, _⟩ => ⟨S64x128x2x1, .f32⟩
  | .hbm, ⟨22, _⟩ => ⟨S64x128x2x64, .f32⟩
  | .hbm, ⟨23, _⟩ => ⟨S64x128x2x64, .f32⟩
  | .hbm, ⟨24, _⟩ => ⟨S1x128x1x64, .f32⟩
  | .hbm, ⟨25, _⟩ => ⟨S64x128x2x64, .f32⟩
  | .hbm, ⟨26, _⟩ => ⟨S64x128x2x64, .f32⟩
  | .hbm, ⟨27, _⟩ => ⟨S4x16x128x128, .f32⟩
  | .hbm, ⟨28, _⟩ => ⟨S8192x128, .f32⟩
  | .hbm, ⟨29, _⟩ => ⟨S4x16x128x128, .f32⟩
  | .hbm, ⟨30, _⟩ => ⟨S_, .f32⟩
  | .hbm, ⟨31, _⟩ => ⟨S4x1x128x128, .f32⟩
  | .hbm, ⟨32, _⟩ => ⟨S4x17x128x128, .f32⟩
  | .hbm, ⟨33, _⟩ => ⟨S_, .f32⟩
  | .hbm, ⟨34, _⟩ => ⟨S4x1x128x128, .f32⟩
  | .hbm, ⟨35, _⟩ => ⟨S4x16x128x128, .f32⟩
  | .hbm, ⟨36, _⟩ => ⟨S4x16x128x128, .f32⟩
  | .hbm, ⟨37, _⟩ => ⟨S4x16x256x128, .f32⟩
  | .hbm, ⟨38, _⟩ => ⟨S4x17x128x128, .f32⟩
  | .hbm, ⟨39, _⟩ => ⟨S_, .f32⟩
  | .hbm, ⟨40, _⟩ => ⟨S4x1x128x128, .f32⟩
  | .hbm, ⟨41, _⟩ => ⟨S4x16x128x128, .f32⟩
  | .hbm, ⟨42, _⟩ => ⟨S4x16x128x128, .f32⟩
  | .hbm, ⟨43, _⟩ => ⟨S4x16x256x128, .f32⟩
  | .hbm, ⟨44, _⟩ => ⟨S8192x128, .f32⟩
  | .hbm, ⟨45, _⟩ => ⟨S4x16x128x128, .f32⟩
  | .hbm, ⟨46, _⟩ => ⟨S8192x128, .f32⟩
  | .hbm, ⟨47, _⟩ => ⟨S4x16x128x128, .f32⟩
  | .hbm, ⟨48, _⟩ => ⟨S4x16x256x128, .f32⟩
  | .hbm, ⟨49, _⟩ => ⟨S8192x128, .f32⟩
  | .hbm, ⟨50, _⟩ => ⟨S4x16x128x128, .f32⟩
  | .hbm, ⟨51, _⟩ => ⟨S8192x128, .f32⟩
  | .hbm, ⟨52, _⟩ => ⟨S4x16x128x128, .f32⟩
  | .hbm, ⟨53, _⟩ => ⟨S4x16x256x128, .f32⟩
  | .hbm, ⟨54, _⟩ => ⟨S4x16x128x128, .f32⟩
  | .hbm, ⟨55, _⟩ => ⟨S4x16x128x128, .f32⟩
  | .hbm, ⟨56, _⟩ => ⟨S_, .f32⟩
  | .hbm, ⟨57, _⟩ => ⟨S4x17x128x128, .f32⟩
  | .hbm, ⟨58, _⟩ => ⟨S_, .f32⟩
  | .hbm, ⟨59, _⟩ => ⟨S4x17x128x128, .f32⟩
  | .hbm, ⟨60, _⟩ => ⟨S4x17x128x128, .f32⟩
  | .hbm, ⟨61, _⟩ => ⟨S4x1x128x128, .f32⟩
  | .hbm, ⟨62, _⟩ => ⟨S4x16x128x128, .f32⟩
  | .hbm, ⟨63, _⟩ => ⟨S4x16x128x128, .f32⟩
  | .hbm, ⟨64, _⟩ => ⟨S4x16x128x128, .f32⟩
  | .hbm, ⟨65, _⟩ => ⟨S_, .f32⟩
  | .hbm, ⟨66, _⟩ => ⟨S4x17x128x128, .f32⟩
  | .hbm, ⟨67, _⟩ => ⟨S_, .f32⟩
  | .hbm, ⟨68, _⟩ => ⟨S4x17x128x128, .f32⟩
  | .hbm, ⟨69, _⟩ => ⟨S4x17x128x128, .f32⟩
  | .hbm, ⟨70, _⟩ => ⟨S4x1x128x128, .f32⟩
  | .hbm, ⟨71, _⟩ => ⟨S4x16x128x128, .f32⟩
  | .hbm, ⟨72, _⟩ => ⟨S8192x128, .f32⟩
  | .hbm, ⟨73, _⟩ => ⟨S_, .f32⟩
  | .hbm, ⟨74, _⟩ => ⟨S8192x256, .f32⟩
  | .hbm, ⟨75, _⟩ => ⟨S64x128x2x64, .f32⟩
  | .hbm, ⟨76, _⟩ => ⟨S64x128x2x64, .f32⟩
  | .hbm, ⟨77, _⟩ => ⟨S_, .f32⟩
  | .hbm, ⟨78, _⟩ => ⟨S128x64, .f32⟩
  | .hbm, ⟨79, _⟩ => ⟨S1x128x1x64, .f32⟩
  | .hbm, ⟨80, _⟩ => ⟨S64x128x2x64, .f32⟩
  | .hbm, ⟨81, _⟩ => ⟨S64x128x2x64, .f32⟩
  | .hbm, ⟨82, _⟩ => ⟨S_, .f32⟩
  | .hbm, ⟨83, _⟩ => ⟨S128x64, .f32⟩
  | .hbm, ⟨84, _⟩ => ⟨S128x1x64, .f32⟩
  | .hbm, ⟨85, _⟩ => ⟨S64x128x2x64, .f32⟩
  | .hbm, ⟨86, _⟩ => ⟨S_, .f32⟩
  | .hbm, ⟨87, _⟩ => ⟨S64x128x2, .f32⟩
  | .hbm, ⟨88, _⟩ => ⟨S64x128x2x1, .f32⟩
  | .hbm, ⟨89, _⟩ => ⟨S64x128x2x64, .f32⟩
  | .hbm, ⟨90, _⟩ => ⟨S64x128x2x64, .f32⟩
  | .hbm, ⟨91, _⟩ => ⟨S64x128x2x1, .f32⟩
  | .hbm, ⟨92, _⟩ => ⟨S_, .f32⟩
  | .hbm, ⟨93, _⟩ => ⟨S64x128x2x1, .f32⟩
  | .hbm, ⟨94, _⟩ => ⟨S64x128x2x1, .f32⟩
  | .hbm, ⟨95, _⟩ => ⟨S_, .f32⟩
  | .hbm, ⟨96, _⟩ => ⟨S64x128x2, .f32⟩
  | .hbm, ⟨97, _⟩ => ⟨S64x128x2x64, .f32⟩
  | .hbm, ⟨98, _⟩ => ⟨S64x128x2x64, .f32⟩
  | .hbm, ⟨99, _⟩ => ⟨S64x128x2x64, .f32⟩
  | .hbm, ⟨100, _⟩ => ⟨S64x128x2x64, .f32⟩
  | .hbm, ⟨101, _⟩ => ⟨S64x128x2x64, .f32⟩
  | .hbm, ⟨102, _⟩ => ⟨S8192x128, .f32⟩
  | .hbm, ⟨103, _⟩ => ⟨S_, .f32⟩
  | .hbm, ⟨104, _⟩ => ⟨S8192x256, .f32⟩
  | .hbm, ⟨105, _⟩ => ⟨S8192x256, .f32⟩
  | .hbm, ⟨106, _⟩ => ⟨S8192x256, .bf16⟩
  | .hbm, ⟨107, _⟩ => ⟨S128x64, .f32⟩
  | .hbm, ⟨108, _⟩ => ⟨S64x128, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_6 : Ref sig .tc := ⟨.hbm, 56, rfl⟩
abbrev main_v45 : Ref sig .tc := ⟨.hbm, 57, rfl⟩
abbrev main_cst_7 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_8 : Ref sig .tc := ⟨.hbm, 65, rfl⟩
abbrev main_v52 : Ref sig .tc := ⟨.hbm, 66, rfl⟩
abbrev main_cst_9 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_10 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_11 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_12 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_13 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_14 : Ref sig .tc := ⟨.hbm, 92, rfl⟩
abbrev main_v73 : Ref sig .tc := ⟨.hbm, 93, rfl⟩
abbrev main_v74 : Ref sig .tc := ⟨.hbm, 94, rfl⟩
abbrev main_cst_15 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_16 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩

abbrev nD : Nat := 1
abbrev τ : Topo := Topo.v7x

variable {F : FTy → Type} [FloatOps F]
-- ==== Ffn.lean ====
abbrev S4x2048x1024 : Shape := ⟨3, ![4, 2048, 1024]⟩
abbrev S1024 : Shape := ⟨1, ![1024]⟩
abbrev S1024x5632 : Shape := ⟨2, ![1024, 5632]⟩
abbrev S2816x1024 : Shape := ⟨2, ![2816, 1024]⟩
abbrev S1024x4x1408 : Shape := ⟨3, ![1024, 4, 1408]⟩
abbrev S4x1024x1408 : Shape := ⟨3, ![4, 1024, 1408]⟩
abbrev S8192x1024 : Shape := ⟨2, ![8192, 1024]⟩
abbrev S1x1024 : Shape := ⟨2, ![1, 1024]⟩
abbrev S8192x2816 : Shape := ⟨2, ![8192, 2816]⟩
abbrev S8192x5632 : Shape := ⟨2, ![8192, 5632]⟩
abbrev S8x1024 : Shape := ⟨2, ![8, 1024]⟩
abbrev S256x1024 : Shape := ⟨2, ![256, 1024]⟩
abbrev S256x2816 : Shape := ⟨2, ![256, 2816]⟩
abbrev S256x5632 : Shape := ⟨2, ![256, 5632]⟩
abbrev S256 : Shape := ⟨1, ![256]⟩
abbrev S256x1 : Shape := ⟨2, ![256, 1]⟩
abbrev S1x1024x1408 : Shape := ⟨3, ![1, 1024, 1408]⟩
abbrev S1024x1408 : Shape := ⟨2, ![1024, 1408]⟩
abbrev S256x1408 : Shape := ⟨2, ![256, 1408]⟩
abbrev S1408x1024 : Shape := ⟨2, ![1408, 1024]⟩

abbrev nBuf : Space → Nat
  | .hbm => 19
  | .vmem => 22
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024x5632, .bf16⟩
  | .hbm, ⟨6, _⟩ => ⟨S1024x4x1408, .bf16⟩
  | .hbm, ⟨7, _⟩ => ⟨S4x1024x1408, .bf16⟩
  | .hbm, ⟨8, _⟩ => ⟨S8192x1024, .f32⟩
  | .hbm, ⟨9, _⟩ => ⟨S8192x1024, .f32⟩
  | .hbm, ⟨10, _⟩ => ⟨S1x1024, .f32⟩
  | .hbm, ⟨11, _⟩ => ⟨S2816x1024, .bf16⟩
  | .hbm, ⟨12, _⟩ => ⟨S8192x1024, .f32⟩
  | .hbm, ⟨13, _⟩ => ⟨S8192x1024, .bf16⟩
  | .hbm, ⟨14, _⟩ => ⟨S8192x1024, .bf16⟩
  | .hbm, ⟨15, _⟩ => ⟨S8192x2816, .bf16⟩
  | .hbm, ⟨16, _⟩ => ⟨S8192x1024, .bf16⟩
  | .hbm, ⟨17, _⟩ => ⟨S8192x5632, .bf16⟩
  | .hbm, ⟨18, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S4x1024x1408, .bf16⟩
  | .local _ .vmem, ⟨6, _⟩ => ⟨S2816x1024, .bf16⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x2816, .bf16⟩
  | .local _ .vmem, ⟨14, _⟩ => ⟨S256x2816, .bf16⟩
  | .local _ .vmem, ⟨15, _⟩ => ⟨S256x1024, .bf16⟩
  | .local _ .vmem, ⟨16, _⟩ => ⟨S256x1024, .bf16⟩
  | .local _ .vmem, ⟨17, _⟩ => ⟨S256x5632, .bf16⟩
  | .local _ .vmem, ⟨18, _⟩ => ⟨S256x5632, .bf16⟩
  | .local _ .vmem, ⟨19, _⟩ => ⟨S8x1024, .f32⟩
  | .local _ .vmem, ⟨20, _⟩ => ⟨S256x2816, .f32⟩
  | .local _ .vmem, ⟨21, _⟩ => ⟨S256x2816, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev main_v7_4 : Ref sig .tc := ⟨.hbm, 16, rfl⟩
abbrev main_v7_5 : Ref sig .tc := ⟨.hbm, 17, rfl⟩
abbrev main_v7_6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x5632 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FfnRefIdeal.lean ====
abbrev S4x2048x1024 : Shape := ⟨3, ![4, 2048, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x5632 : Shape := ⟨3, ![4, 2048, 5632]⟩
abbrev S4x2048x2816 : Shape := ⟨3, ![4, 2048, 2816]⟩
abbrev S8192x1024 : Shape := ⟨2, ![8192, 1024]⟩
abbrev S1x1024 : Shape := ⟨2, ![1, 1024]⟩
abbrev S6x1024 : Shape := ⟨2, ![6, 1024]⟩
abbrev S8x1024 : Shape := ⟨2, ![8, 1024]⟩
abbrev S8192x2816 : Shape := ⟨2, ![8192, 2816]⟩
abbrev S8192x5632 : Shape := ⟨2, ![8192, 5632]⟩

abbrev nBuf : Space → Nat
  | .hbm => 121
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x1024, .f32⟩
  | .hbm, ⟨21, _⟩ => ⟨S4x2048x1024, .f32⟩
  | .hbm, ⟨22, _⟩ => ⟨S1x1x1024, .f32⟩
  | .hbm, ⟨23, _⟩ => ⟨S4x2048x1024, .f32⟩
  | .hbm, ⟨24, _⟩ => ⟨S4x2048x1024, .f32⟩
  | .hbm, ⟨25, _⟩ => ⟨S4x2048x5632, .f32⟩
  | .hbm, ⟨26, _⟩ => ⟨S4x2048x2816, .f32⟩
  | .hbm, ⟨27, _⟩ => ⟨S4x2048x2816, .f32⟩
  | .hbm, ⟨28, _⟩ => ⟨S4x2048x2816, .f32⟩
  | .hbm, ⟨29, _⟩ => ⟨S4x2048x2816, .f32⟩
  | .hbm, ⟨30, _⟩ => ⟨S_, .f32⟩
  | .hbm, ⟨31, _⟩ => ⟨S4x2048x2816, .f32⟩
  | .hbm, ⟨32, _⟩ => ⟨S4x2048x2816, .f32⟩
  | .hbm, ⟨33, _⟩ => ⟨S_, .f32⟩
  | .hbm, ⟨34, _⟩ => ⟨S4x2048x2816, .f32⟩
  | .hbm, ⟨35, _⟩ => ⟨S4x2048x2816, .f32⟩
  | .hbm, ⟨36, _⟩ => ⟨S_, .f32⟩
  | .hbm, ⟨37, _⟩ => ⟨S4x2048x2816, .f32⟩
  | .hbm, ⟨38, _⟩ => ⟨S4x2048x2816, .f32⟩
  | .hbm, ⟨39, _⟩ => ⟨S4x2048x2816, .f32⟩
  | .hbm, ⟨40, _⟩ => ⟨S4x2048x2816, .f32⟩
  | .hbm, ⟨41, _⟩ => ⟨S4x2048x2816, .f32⟩
  | .hbm, ⟨42, _⟩ => ⟨S4x2048x1024, .f32⟩
  | .hbm, ⟨43, _⟩ => ⟨S4x2048x1024, .f32⟩
  | .hbm, ⟨44, _⟩ => ⟨S4x2048x1024, .f32⟩
  | .hbm, ⟨45, _⟩ => ⟨S4x2048x1024, .f32⟩
  | .hbm, ⟨46, _⟩ => ⟨S_, .f32⟩
  | .hbm, ⟨47, _⟩ => ⟨S4x2048x1024, .f32⟩
  | .hbm, ⟨48, _⟩ => ⟨S4x2048x1024, .f32⟩
  | .hbm, ⟨49, _⟩ => ⟨S_, .f32⟩
  | .hbm, ⟨50, _⟩ => ⟨S4x2048, .f32⟩
  | .hbm, ⟨51, _⟩ => ⟨S_, .f32⟩
  | .hbm, ⟨52, _⟩ => ⟨S4x2048, .f32⟩
  | .hbm, ⟨53, _⟩ => ⟨S4x2048, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S4x2048, .f32⟩
  | .hbm, ⟨62, _⟩ => ⟨S_, .f32⟩
  | .hbm, ⟨63, _⟩ => ⟨S4x2048, .f32⟩
  | .hbm, ⟨64, _⟩ => ⟨S4x2048, .f32⟩
  | .hbm, ⟨65, _⟩ => ⟨S4x2048x1024, .f32⟩
  | .hbm, ⟨66, _⟩ => ⟨S4x2048x1024, .f32⟩
  | .hbm, ⟨67, _⟩ => ⟨S4x2048x2816, .f32⟩
  | .hbm, ⟨68, _⟩ => ⟨S4x2048x2816, .f32⟩
  | .hbm, ⟨69, _⟩ => ⟨S4x2048x2816, .f32⟩
  | .hbm, ⟨70, _⟩ => ⟨S4x2048x2816, .f32⟩
  | .hbm, ⟨71, _⟩ => ⟨S4x2048x2816, .f32⟩
  | .hbm, ⟨72, _⟩ => ⟨S4x2048x2816, .f32⟩
  | .hbm, ⟨73, _⟩ => ⟨S4x2048x2816, .f32⟩
  | .hbm, ⟨74, _⟩ => ⟨S4x2048x5632, .f32⟩
  | .hbm, ⟨75, _⟩ => ⟨S4x2048x1024, .f32⟩
  | .hbm, ⟨76, _⟩ => ⟨S4x2048x1024, .f32⟩
  | .hbm, ⟨77, _⟩ => ⟨S_, .f32⟩
  | .hbm, ⟨78, _⟩ => ⟨S1024, .f32⟩
  | .hbm, ⟨79, _⟩ => ⟨S1x1x1024, .f32⟩
  | .hbm, ⟨80, _⟩ => ⟨S4x2048x1024, .f32⟩
  | .hbm, ⟨81, _⟩ => ⟨S4x2048x1024, .f32⟩
  | .hbm, ⟨82, _⟩ => ⟨S_, .f32⟩
  | .hbm, ⟨83, _⟩ => ⟨S1024, .f32⟩
  | .hbm, ⟨84, _⟩ => ⟨S4x2048x1024, .f32⟩
  | .hbm, ⟨85, _⟩ => ⟨S_, .f32⟩
  | .hbm, ⟨86, _⟩ => ⟨S4x2048, .f32⟩
  | .hbm, ⟨87, _⟩ => ⟨S4x2048x1, .f32⟩
  | .hbm, ⟨88, _⟩ => ⟨S4x2048x1024, .f32⟩
  | .hbm, ⟨89, _⟩ => ⟨S4x2048x1024, .f32⟩
  | .hbm, ⟨90, _⟩ => ⟨S4x2048x1, .f32⟩
  | .hbm, ⟨91, _⟩ => ⟨S_, .f32⟩
  | .hbm, ⟨92, _⟩ => ⟨S4x2048x1, .f32⟩
  | .hbm, ⟨93, _⟩ => ⟨S4x2048x1, .f32⟩
  | .hbm, ⟨94, _⟩ => ⟨S_, .f32⟩
  | .hbm, ⟨95, _⟩ => ⟨S4x2048, .f32⟩
  | .hbm, ⟨96, _⟩ => ⟨S4x2048x1024, .f32⟩
  | .hbm, ⟨97, _⟩ => ⟨S4x2048x1024, .f32⟩
  | .hbm, ⟨98, _⟩ => ⟨S4x2048x1024, .f32⟩
  | .hbm, ⟨99, _⟩ => ⟨S4x2048x1024, .f32⟩
  | .hbm, ⟨100, _⟩ => ⟨S4x2048x1024, .f32⟩
  | .hbm, ⟨101, _⟩ => ⟨S4x2048x1024, .f32⟩
  | .hbm, ⟨102, _⟩ => ⟨S8192x1024, .f32⟩
  | .hbm, ⟨103, _⟩ => ⟨S4x2048x1024, .f32⟩
  | .hbm, ⟨104, _⟩ => ⟨S4x2048x1024, .f32⟩
  | .hbm, ⟨105, _⟩ => ⟨S_, .f32⟩
  | .hbm, ⟨106, _⟩ => ⟨S1024, .f32⟩
  | .hbm, ⟨107, _⟩ => ⟨S1x1024, .f32⟩
  | .hbm, ⟨108, _⟩ => ⟨S1x1024, .f32⟩
  | .hbm, ⟨109, _⟩ => ⟨S_, .f32⟩
  | .hbm, ⟨110, _⟩ => ⟨S6x1024, .f32⟩
  | .hbm, ⟨111, _⟩ => ⟨S8x1024, .f32⟩
  | .hbm, ⟨112, _⟩ => ⟨S8192x1024, .bf16⟩
  | .hbm, ⟨113, _⟩ => ⟨S8192x1024, .f32⟩
  | .hbm, ⟨114, _⟩ => ⟨S8192x1024, .bf16⟩
  | .hbm, ⟨115, _⟩ => ⟨S8192x2816, .f32⟩
  | .hbm, ⟨116, _⟩ => ⟨S8192x2816, .bf16⟩
  | .hbm, ⟨117, _⟩ => ⟨S8192x1024, .f32⟩
  | .hbm, ⟨118, _⟩ => ⟨S8192x1024, .bf16⟩
  | .hbm, ⟨119, _⟩ => ⟨S8192x5632, .f32⟩
  | .hbm, ⟨120, _⟩ => ⟨S8192x5632, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v19_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v19_1 : Ref sig .tc := ⟨.hbm, 39, rfl⟩
abbrev main_v19_0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_cst_4 : Ref sig .tc := ⟨.hbm, 49, rfl⟩
abbrev main_v27 : Ref sig .tc := ⟨.hbm, 50, rfl⟩
abbrev main_cst_5 : Ref sig .tc := ⟨.hbm, 51, rfl⟩
abbrev main_v28 : Ref sig .tc := ⟨.hbm, 52, rfl⟩
abbrev main_v29 : Ref sig .tc := ⟨.hbm, 53, rfl⟩
abbrev main_cst_6 : Ref sig .tc := ⟨.hbm, 54, rfl⟩
abbrev main_v30 : Ref sig .tc := ⟨.hbm, 55, rfl⟩
abbrev main_cst_7 : Ref sig .tc := ⟨.hbm, 56, rfl⟩
abbrev main_v31 : Ref sig .tc := ⟨.hbm, 57, rfl⟩
abbrev main_cst_8 : Ref sig .tc := ⟨.hbm, 58, rfl⟩
abbrev main_cst_9 : Ref sig .tc := ⟨.hbm, 59, rfl⟩
abbrev main_v32 : Ref sig .tc := ⟨.hbm, 60, rfl⟩
abbrev main_v33 : Ref sig .tc := ⟨.hbm, 61, rfl⟩
abbrev main_cst_10 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_11 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_12 : Ref sig .tc := ⟨.hbm, 82, rfl⟩
abbrev main_v49 : Ref sig .tc := ⟨.hbm, 83, rfl⟩
abbrev main_v50 : Ref sig .tc := ⟨.hbm, 84, rfl⟩
abbrev main_cst_13 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_14 : Ref sig .tc := ⟨.hbm, 91, rfl⟩
abbrev main_v56 : Ref sig .tc := ⟨.hbm, 92, rfl⟩
abbrev main_v57 : Ref sig .tc := ⟨.hbm, 93, rfl⟩
abbrev main_cst_15 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_16 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst_17 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩

abbrev nD : Nat := 1
abbrev τ : Topo := Topo.v7x

variable {F : FTy → Type} [FloatOps F]
-- ==== MergeFwd.lean ====
abbrev S8192x1024 : Shape := ⟨2, ![8192, 1024]⟩
abbrev S8192x2048 : Shape := ⟨2, ![8192, 2048]⟩
abbrev S1024x1024 : Shape := ⟨2, ![1024, 1024]⟩
abbrev S512x1024 : Shape := ⟨2, ![512, 1024]⟩
abbrev S512x2048 : Shape := ⟨2, ![512, 2048]⟩

abbrev nBuf : Space → Nat
  | .hbm => 13
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .bf16⟩
  | .hbm, ⟨3, _⟩ => ⟨S8192x1024, .bf16⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S8192x1024, .bf16⟩
  | .hbm, ⟨11, _⟩ => ⟨S8192x1024, .f32⟩
  | .hbm, ⟨12, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .f32⟩
  | .local _ .vmem, ⟨3, _⟩ => ⟨S512x2048, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeFwdRefIdeal.lean ====
abbrev S8192x1024 : Shape := ⟨2, ![8192, 1024]⟩
abbrev S8192x2048 : Shape := ⟨2, ![8192, 2048]⟩
abbrev S1024x1024 : Shape := ⟨2, ![1024, 1024]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .bf16⟩
  | .hbm, ⟨3, _⟩ => ⟨S8192x1024, .bf16⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .bf16⟩
  | .hbm, ⟨33, _⟩ => ⟨S8192x1024, .f32⟩
  | .hbm, ⟨34, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Proof.MergeValue.lean ====
/- The values of the gates' gradient, block by block. -/
module

public import proofs.«01_k».proof.Proof.Gen.MergeIdeal.Value
public import proofs.«01_k».proof.Proof.Gen.MergeRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.MergeIdeal.Grad

open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ)

/-- Every row window moves one tile a point, every weight stays put. -/
theorem place : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0]
    ∧ win0_10.index t = ![t.val, 0] ∧ win0_11.index t = ![t.val, 0] :=
  (by decide +kernel : ∀ t : Fin grid0.N, _)

/-- A negated exponent, spelt as a difference from nought. -/
theorem exp_zero_sub (x : EReal) : Ideal.exp (0 - x) = Ideal.exp (-x) := by rw [zero_sub]

/-- The convolution branch's cotangent. -/
theorem dyc_final (c : Dev nD) : (dats m 0 c).arrAt 8 (cfgs 0).N
    = Cert.MergeRefIdeal.Read.val_main_v40 (F := Ideal) (m ((c : Thread nD τ).loc main_arg0)) (m ((c : Thread nD τ).loc main_arg4)) (m ((c : Thread nD τ).loc main_arg6)) := by
  refine (dats m 0 c).arrAt_eq_of_covers 8 _ (by decide +kernel) fun t _ y => ?_
  blk_simp
  rw [after0_8]; frame_out
  rw [← Cert.MergeRefIdeal.Read.val_main_v40_eq]
  pointwise [k0_pay2, k0_pay6, k0_pay7, k0_pay11, k0_pay12, exp_zero_sub]
  blk_point [iblk, V, place t]

/-- The attention branch's cotangent. -/
theorem dya_final (c : Dev nD) : (dats m 0 c).arrAt 9 (cfgs 0).N
    = Cert.MergeRefIdeal.Read.val_main_v41 (F := Ideal) (m ((c : Thread nD τ).loc main_arg0)) (m ((c : Thread nD τ).loc main_arg4)) (m ((c : Thread nD τ).loc main_arg6)) := by
  refine (dats m 0 c).arrAt_eq_of_covers 9 _ (by decide +kernel) fun t _ y => ?_
  blk_simp
  rw [after0_9]; frame_out
  rw [← Cert.MergeRefIdeal.Read.val_main_v41_eq]
  pointwise [k0_pay3, k0_pay6, k0_pay8, k0_pay11, k0_pay13, exp_zero_sub]
  blk_point [iblk, V, place t]

/-- The cotangent of the attention's output, through the transposed output weight. -/
theorem do_final (c : Dev nD) : (dats m 0 c).arrAt 10 (cfgs 0).N
    = Cert.MergeRefIdeal.Read.val_main_v43 (F := Ideal) (m ((c : Thread nD τ).loc main_arg0)) (m ((c : Thread nD τ).loc main_arg3)) (m ((c : Thread nD τ).loc main_arg4)) (m ((c : Thread nD τ).loc main_arg6)) := by
  refine (dats m 0 c).arrAt_eq_of_covers 10 _ (by decide +kernel) fun t _ y => ?_
  blk_simp
  rw [after0_10]; frame_out
  rw [← Cert.MergeRefIdeal.Read.val_main_v43_eq]
  pointwise [k0_pay4, k0_pay3, k0_pay6, k0_pay8, k0_pay11, k0_pay13, exp_zero_sub]
  blk_point [iblk, V, place t]

/-- The cotangent of the convolution's activation, through the transposed output weight. -/
theorem dh3_final (c : Dev nD) : (dats m 0 c).arrAt 11 (cfgs 0).N
    = Cert.MergeRefIdeal.Read.val_main_v44 (F := Ideal) (m ((c : Thread nD τ).loc main_arg0)) (m ((c : Thread nD τ).loc main_arg4)) (m ((c : Thread nD τ).loc main_arg5)) (m ((c : Thread nD τ).loc main_arg6)) := by
  refine (dats m 0 c).arrAt_eq_of_covers 11 _ (by decide +kernel) fun t _ y => ?_
  blk_simp
  rw [after0_11]; frame_out
  rw [← Cert.MergeRefIdeal.Read.val_main_v44_eq]
  pointwise [k0_pay5, k0_pay2, k0_pay6, k0_pay7, k0_pay11, k0_pay12, exp_zero_sub]
  blk_point [iblk, V, place t]

set_option maxHeartbeats 800000 in
/-- The gates' cotangent: the left half of the columns is the convolution's gate, the right half the attention's. -/
theorem dgg_final (c : Dev nD) : (dats m 0 c).arrAt 7 (cfgs 0).N
    = Cert.MergeRefIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7]
  rw [← Cert.MergeRefIdeal.Read.val_main_v39_eq]
  frame_out
  canon_tiles x h
  · pointwise [k0_pay1, k0_pay6, k0_pay8, k0_pay9, k0_pay11, k0_pay13, exp_zero_sub]
    blk_simp [place t]
    rw [dif_pos (by omega), dif_neg (by omega), add_zero, mul_assoc]
    blk_point [iblk, V, place t]
  · pointwise [k0_pay10, k0_pay6, k0_pay7, exp_zero_sub]
    blk_simp [place t]
    rw [dif_neg (by omega), dif_pos (by omega)]
    refine Eq.trans ((mul_assoc (_ : EReal) _ _).trans ?_) (zero_add (_ : EReal)).symm
    blk_point [iblk, V, place t]
    refine Ideal.mul_congr rfl ?_
    entry_read
    pointwise
    blk_point [place t]

end Cert.MergeIdeal.Grad
end
-- ==== Proof.MergeClaims.lean ====
/- The claims about the gates' gradient. -/
module

public import proofs.«01_k».proof.Defs
public import proofs.«01_k».proof.Proof.Gen.Merge.Frame
public import proofs.«01_k».proof.Proof.Gen.MergeRefIdeal.Run
public import proofs.«01_k».proof.Proof.MergeValue
public import Idealize.ShloMosaic.Lib.Quiescent

@[expose] public section

noncomputable section

namespace Cert.MergeClaims

open Idealize.ShloMosaic Idealize.ShloMosaic.TcCoe Idealize.SL.Sem

/-- The kernel as printed leaves its arguments alone and its counters at zero. -/
theorem frame : Cert.quiescent_Merge := fun m ρ _ => Cert.Merge.Gen.frame m ρ
/-- So does the idealized kernel. -/
theorem frame_ideal : Cert.quiescent_MergeIdeal := fun m ρ _ => Cert.MergeIdeal.Gen.frame m ρ
/-- So does the reference, which has no counters. -/
theorem frame_ref : Cert.quiescent_MergeRefIdeal := fun m ρ _ =>
  (θ_run Cert.MergeRefIdeal.defs _ _).mono
    (fun r h => ⟨fun c => (h c).2.2.2.2.2, sem_eq_zero_of_no_sems (by decide) r.2⟩)
    (Cert.MergeRefIdeal.Value.run (F := Ideal) m ρ)

/-- The gates' gradient: all five results are the reference's. -/
theorem algebraic : Cert.algebraic_MergeIdeal_MergeRefIdeal := by
  intro m ρ m' ρ' _ agree
  refine ⟨_, _, _, _, _, Cert.MergeIdeal.Value.run_blocks m ρ, ?_⟩
  refine (θ_run _ _ _).mono (fun r h c => ?_) (Cert.MergeRefIdeal.Value.run m' ρ')
  obtain ⟨h39, h40, h41, h43, h44, kept⟩ := h c
  obtain ⟨a0, a1, a2, a3, a4, a5, a6⟩ := agree c
  rw [a0, a1, a2, a3, a4, a5, a6] at h39
  rw [a0, a4, a6] at h40 h41
  rw [a0, a3, a4, a6] at h43
  rw [a0, a4, a5, a6] at h44
  exact ⟨h39.trans (Cert.MergeIdeal.Grad.dgg_final m c).symm, h40.trans (Cert.MergeIdeal.Grad.dyc_final m c).symm,
    h41.trans (Cert.MergeIdeal.Grad.dya_final m c).symm, h43.trans (Cert.MergeIdeal.Grad.do_final m c).symm,
    h44.trans (Cert.MergeIdeal.Grad.dh3_final m c).symm, kept⟩

end Cert.MergeClaims
end
-- ==== Proof.RmsGrad.lean ====
/- The gradient of a root-mean-square norm, over the extended reals, at one row. -/
module

public import Idealize.ShloMosaic.Lib.Pointwise

@[expose] public section

noncomputable section

namespace Cert.RmsGrad

open Idealize.ShloMosaic

/-- A finite nonnegative factor leaves a sum. -/
theorem sum_mul_coe {ι : Type} (s : Finset ι) (f : ι → EReal) {r : ℝ} (hr : 0 ≤ r) :
    ∑ k ∈ s, f k * (r : EReal) = (∑ k ∈ s, f k) * (r : EReal) := by
  classical
  induction s using Finset.induction_on with
  | empty => simp
  | insert a s ha ih =>
    rw [Finset.sum_insert ha, Finset.sum_insert ha, ih,
      EReal.right_distrib_of_nonneg_of_ne_top (EReal.coe_nonneg.2 hr) (EReal.coe_ne_top r)]

/-- A finite nonnegative factor leaves a difference. -/
theorem coe_mul_sub {r : ℝ} (hr : 0 ≤ r) (a b : EReal) : (r : EReal) * (a - b) = (r : EReal) * a + -((r : EReal) * b) := by
  rw [sub_eq_add_neg, EReal.left_distrib_of_nonneg_of_ne_top (EReal.coe_nonneg.2 hr) (EReal.coe_ne_top r), mul_neg]

/-- Twice a value. -/
theorem add_self (y : EReal) : y + y = ((2 : ℝ) : EReal) * y := by
  induction y with
  | bot => rw [EReal.coe_mul_bot_of_pos (by norm_num)]; rfl
  | coe y => norm_cast; ring
  | top => rw [EReal.coe_mul_top_of_pos (by norm_num)]; rfl

/-- The reciprocal root of a positive value is finite and nonnegative; divided by the value it is its own cube. -/
theorem rsqrt_pos {v : EReal} (h : 0 < v) :
    ∃ r : ℝ, 0 ≤ r ∧ Ideal.rsqrt v = r ∧ Ideal.div (Ideal.rsqrt v) v = ((r * r * r : ℝ) : EReal) := by
  induction v with
  | bot => simp at h
  | coe v =>
    have hv : 0 < v := by exact_mod_cast h
    refine ⟨(Real.sqrt v)⁻¹, inv_nonneg.2 (Real.sqrt_nonneg v), ?_, ?_⟩
    · rw [Ideal.rsqrt_coe, if_neg hv.not_gt, if_neg hv.ne']
    · rw [Ideal.rsqrt_coe, if_neg hv.not_gt, if_neg hv.ne', Ideal.div_coe hv.ne', ← EReal.coe_mul]
      congr 1
      rw [mul_assoc, ← mul_inv, Real.mul_self_sqrt hv.le, one_div]
  | top =>
    refine ⟨0, le_rfl, by simp, ?_⟩
    rw [Ideal.rsqrt_top]
    simp [Ideal.div]

/-- A square is not negative. -/
theorem mul_self_nonneg (x : EReal) : 0 ≤ x * x := by
  induction x with
  | bot => simp
  | coe x => exact_mod_cast _root_.mul_self_nonneg x
  | top => simp

/-- The mean of squares and a positive rest is positive. -/
theorem mean_pos {n : ℕ} (x : Fin n → EReal) {N e : ℝ} (hN : 0 < N) (he : 0 < e) :
    0 < Ideal.div (∑ k, x k * x k) (N : EReal) + (e : EReal) := by
  rw [Ideal.div_coe hN.ne']
  have h0 : (0 : EReal) ≤ (∑ k, x k * x k) * ((1 / N : ℝ) : EReal) :=
    mul_nonneg (Finset.sum_nonneg fun k _ => mul_self_nonneg (x k)) (by exact_mod_cast (by positivity : (0 : ℝ) ≤ 1 / N))
  calc (0 : EReal) < (e : EReal) := by exact_mod_cast he
    _ = 0 + (e : EReal) := (zero_add _).symm
    _ ≤ _ := add_le_add_left h0 _

/-- The gradient at one element, as it is written by hand and as the chain rule gives it, for the reciprocal root `r`. -/
theorem grad_eq {n : ℕ} (x d : Fin n → EReal) {N r : ℝ} (hN : 0 < N) (hr : 0 ≤ r) (a : EReal) (j : Fin n) :
    a + (r : EReal) * (d j - x j * (r : EReal) * Ideal.div (∑ k, d k * (x k * (r : EReal))) (N : EReal))
      = a + d j * (r : EReal)
        + x j * Ideal.div ((∑ k, x k * d k) * (((-(1 / 2) : ℝ) : EReal) * ((r * r * r : ℝ) : EReal))) (N : EReal)
        + Ideal.div ((∑ k, x k * d k) * (((-(1 / 2) : ℝ) : EReal) * ((r * r * r : ℝ) : EReal))) (N : EReal) * x j := by
  have hs : ∑ k, d k * (x k * (r : EReal)) = (∑ k, x k * d k) * (r : EReal) := by
    rw [← sum_mul_coe _ _ hr]
    exact Finset.sum_congr rfl fun k _ => by rw [← mul_assoc, mul_comm (d k)]
  rw [hs]
  generalize ∑ k, x k * d k = S
  rw [Ideal.div_coe hN.ne', Ideal.div_coe hN.ne', coe_mul_sub hr, mul_comm _ (x j), add_assoc (a + _), add_self, ← EReal.coe_mul]
  rw [mul_comm (d j), ← add_assoc]
  have left : -((r : EReal) * (x j * (r : EReal) * (S * (r : EReal) * ((1 / N : ℝ) : EReal))))
      = x j * S * ((-(r * r * r * (1 / N)) : ℝ) : EReal) := by
    rw [EReal.coe_neg, mul_neg]
    simp only [EReal.coe_mul]
    exact congrArg Neg.neg (by ac_rfl)
  have right : ((2 : ℝ) : EReal) * (x j * (S * ((-(1 / 2) * (r * r * r) : ℝ) : EReal) * ((1 / N : ℝ) : EReal)))
      = x j * S * ((2 * (-(1 / 2) * (r * r * r)) * (1 / N) : ℝ) : EReal) := by
    rw [EReal.coe_mul _ (1 / N), EReal.coe_mul 2]
    ac_rfl
  rw [left, right]
  congr 3
  ring

/-- A host sum over the two leading axes of three, at an index. -/
theorem sum_lead {n0 n1 n2 : Nat} (h : (⟨3, ![n0, n1, n2]⟩ : Shape).ReducesTo [0, 1] ⟨1, ![n2]⟩)
    (v : (⟨3, ![n0, n1, n2]⟩ : Shape).Idx → EReal) (init : EReal) (j : Fin n2) :
    Ideal.hostReduceAdd h v init (ix1 j) = init + ∑ a : Fin n0, ∑ b : Fin n1, v (ix3 a b j) := by
  refine congrArg (init + ·) ((Finset.sum_filter_eq_sum_of_fiber _ (fun k : Fin n0 × Fin n1 => ix3 k.1 k.2 j)
    (fun _ _ e => Prod.ext (congrFun e 0) (congrFun e 1)) (fun i => ?_) v).trans (by simp only [Fintype.sum_prod_type]))
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext b
    apply Fin.ext
    match b with
    | ⟨0, _⟩ => rfl

/-- The bit pattern of a thousand and twenty-four. -/
theorem ofBits_1024 : Ideal.ofBits .f32 0x44800000#32 = ((1024 : ℝ) : EReal) := by
  simp [Ideal.ofBits, Ideal.ieee, -EReal.coe_mul]; norm_num

/-- The bit pattern of minus a half. -/
theorem ofBits_neg_half : Ideal.ofBits .f32 0xBF000000#32 = ((-(1 / 2) : ℝ) : EReal) := by
  simp [Ideal.ofBits, Ideal.ieee, -EReal.coe_mul]; norm_num

/-- The norm's small addend is a positive number. -/
theorem ofBits_eps : ∃ e : ℝ, 0 < e ∧ Ideal.ofBits .f32 0x358637BD#32 = (e : EReal) := by
  refine ⟨_, ?_, by simp [Ideal.ofBits, Ideal.ieee, -EReal.coe_mul]; rfl⟩
  norm_num

/-- The mean of squares, and the norm's small addend. -/
def meanSq {n : ℕ} (N : EReal) (x : Fin n → EReal) : EReal := Ideal.div (∑ k, x k * x k) N + Ideal.ofBits .f32 0x358637BD#32

/-- The gradient at one element as it is written by hand: `x` the row, `d` the cotangent times the scale, `a` what it is added to. -/
def byHand {n : ℕ} (N : EReal) (x d : Fin n → EReal) (a : EReal) (j : Fin n) : EReal :=
  a + Ideal.rsqrt (meanSq N x) * (d j - x j * Ideal.rsqrt (meanSq N x) * Ideal.div (∑ k, d k * (x k * Ideal.rsqrt (meanSq N x))) N)

/-- The chain rule's factor of a row's element: twice this is the gradient through the mean of squares. -/
def through {n : ℕ} (N : EReal) (x d : Fin n → EReal) : EReal :=
  Ideal.div ((∑ k, x k * d k) * (Ideal.ofBits .f32 0xBF000000#32 * Ideal.div (Ideal.rsqrt (meanSq N x)) (meanSq N x))) N

/-- The gradient at one element as the chain rule gives it. -/
def byRule {n : ℕ} (N : EReal) (x d : Fin n → EReal) (a : EReal) (j : Fin n) : EReal :=
  a + d j * Ideal.rsqrt (meanSq N x) + x j * through N x d + through N x d * x j

/-- Both are the same, at any arguments. -/
theorem byHand_eq {n : ℕ} {N : ℝ} (hN : 0 < N) (x d : Fin n → EReal) (a : EReal) (j : Fin n) :
    byHand (N : EReal) x d a j = byRule (N : EReal) x d a j := by
  obtain ⟨e, he, hb⟩ := ofBits_eps
  obtain ⟨r, hr, hx, hy⟩ := rsqrt_pos (mean_pos x hN he)
  have h := grad_eq x d hN hr a j
  rw [← hb] at hx hy
  simp only [byHand, byRule, through, meanSq, hx, hy, ofBits_neg_half]
  rw [hx] at hy
  rw [hy]
  exact h

end Cert.RmsGrad
end
-- ==== Proof.InBwdRefValue.lean ====
/- The values of the plain program of the input projection's gradient, element by element. -/
module

public import proofs.«01_k».proof.Proof.Gen.InBwdRefIdeal.Read
public import proofs.«01_k».proof.Proof.RmsGrad
public import Idealize.ShloMosaic.Lib.Pipeline.ValueKit
public import Idealize.ShloMosaic.Lib.Pointwise

@[expose] public section

set_option maxRecDepth 16384

noncomputable section

namespace Cert.InBwdRefIdeal.Grad

open Cert.InBwdRefIdeal Cert.InBwdRefIdeal.Read Idealize.ShloMosaic

variable (x0 : (⟨S4x2048x1024, .f32⟩ : BufTy).Contents (Elt Ideal)) (x1 : (⟨S1024, .f32⟩ : BufTy).Contents (Elt Ideal)) (x2 : (⟨S1024x5376, .f32⟩ : BufTy).Contents (Elt Ideal)) (x3 : (⟨S8192x2048, .bf16⟩ : BufTy).Contents (Elt Ideal)) (x4 : (⟨S8192x1024, .bf16⟩ : BufTy).Contents (Elt Ideal)) (x5 : (⟨S8192x256, .bf16⟩ : BufTy).Contents (Elt Ideal)) (x6 : (⟨S8192x2048, .bf16⟩ : BufTy).Contents (Elt Ideal)) (x7 : (⟨S8192x1024, .f32⟩ : BufTy).Contents (Elt Ideal))

/-- The normalised rows' cotangent: the cotangent of the projection, piece by piece, times the weight. -/
def up (x2 : (⟨S1024x5376, .f32⟩ : BufTy).Contents (Elt Ideal)) (x3 : (⟨S8192x2048, .bf16⟩ : BufTy).Contents (Elt Ideal)) (x4 : (⟨S8192x1024, .bf16⟩ : BufTy).Contents (Elt Ideal)) (x5 : (⟨S8192x256, .bf16⟩ : BufTy).Contents (Elt Ideal)) (x6 : (⟨S8192x2048, .bf16⟩ : BufTy).Contents (Elt Ideal)) (R : Fin 8192) (j : Fin 1024) : EReal :=
  (∑ k : Fin 2048, x3 (ix2 R k) * x2 (ix2 j ⟨k.val, by omega⟩)) + (∑ k : Fin 1024, x4 (ix2 R k) * x2 (ix2 j ⟨2048 + k.val, by omega⟩))
    + (∑ k : Fin 256, x5 (ix2 R k) * x2 (ix2 j ⟨3072 + k.val, by omega⟩)) + ∑ k : Fin 2048, x6 (ix2 R k) * x2 (ix2 j ⟨3328 + k.val, by omega⟩)

/-- Token `s` of sequence `b` is a row of the flattened arrays. -/
def row (b : Fin 4) (s : Fin 2048) : Fin 8192 := ⟨b.val * 2048 + s.val, by omega⟩

theorem up_eq (b : Fin 4) (s : Fin 2048) (j : Fin 1024) :
    val_main_v24 (F := Ideal) x2 x3 x4 x5 x6 (ix3 b s j) = up x2 x3 x4 x5 x6 (row b s) j := by
  pointwise [val_main_v24, val_main_v22, val_main_v4, val_main_v3, val_main_v2, val_main_v1, val_main_v0, sumSplitAll]
  rw [up, add_assoc, add_assoc]
  rfl

theorem var_eq (b : Fin 4) (s : Fin 2048) (z : Fin 1) :
    val_main_v11 (F := Ideal) x0 (ix3 b s z) = RmsGrad.meanSq (Ideal.ofBits .f32 0x44800000#32) (fun k => x0 (ix3 b s k)) := by
  pointwise [val_main_v11, val_main_v10, val_main_v9, val_main_v8, val_main_v7, val_main_v6, val_main_v5, val_main_cst, val_main_cst_0, val_main_cst_1]
  rfl

theorem cube_eq (b : Fin 4) (s : Fin 2048) (z : Fin 1) :
    val_main_v15 (F := Ideal) x0 (ix3 b s z) = Ideal.ofBits .f32 0xBF000000#32 * Ideal.div (Ideal.rsqrt (RmsGrad.meanSq (Ideal.ofBits .f32 0x44800000#32) (fun k => x0 (ix3 b s k)))) (RmsGrad.meanSq (Ideal.ofBits .f32 0x44800000#32) (fun k => x0 (ix3 b s k))) := by
  rw [val_main_v15_apply, val_main_v14_apply, val_main_v13_apply, val_main_v12_apply, var_eq]
  pointwise [val_main_cst_2]

theorem scale_eq (b : Fin 4) (s : Fin 2048) (j : Fin 1024) : val_main_v28 (F := Ideal) x1 (ix3 b s j) = x1 (ix1 j) := by
  pointwise [val_main_v28, val_main_v18]

theorem scaled_eq (b : Fin 4) (s : Fin 2048) (j : Fin 1024) :
    val_main_v29 (F := Ideal) x1 x2 x3 x4 x5 x6 (ix3 b s j) = up x2 x3 x4 x5 x6 (row b s) j * x1 (ix1 j) := by
  rw [val_main_v29_apply, up_eq, scale_eq, Ideal.mulf_def]

theorem through_eq (b : Fin 4) (s : Fin 2048) :
    val_main_v40 (F := Ideal) x0 x1 x2 x3 x4 x5 x6 (ix2 b s) = RmsGrad.through (Ideal.ofBits .f32 0x44800000#32) (fun k => x0 (ix3 b s k)) (fun k => up x2 x3 x4 x5 x6 (row b s) k * x1 (ix1 k)) := by
  pointwise [val_main_v40, val_main_cst_7]
  rw [Fin.sum_univ_one, val_main_v39_apply, val_main_v38_apply, val_main_v37_apply, cube_eq]
  pointwise [val_main_v33, val_main_v32, val_main_cst_5, val_main_cst_6]
  simp only [val_main_v31_apply, Ideal.mulf_def, scaled_eq, RmsGrad.through]

theorem spread_eq (b : Fin 4) (s : Fin 2048) (j : Fin 1024) :
    val_main_v41 (F := Ideal) x0 x1 x2 x3 x4 x5 x6 (ix3 b s j) = RmsGrad.through (Ideal.ofBits .f32 0x44800000#32) (fun k => x0 (ix3 b s k)) (fun k => up x2 x3 x4 x5 x6 (row b s) k * x1 (ix1 k)) := by
  pointwise [val_main_v41]
  rw [through_eq]

theorem root_eq (b : Fin 4) (s : Fin 2048) (j : Fin 1024) :
    val_main_v34 (F := Ideal) x0 (ix3 b s j) = Ideal.rsqrt (RmsGrad.meanSq (Ideal.ofBits .f32 0x44800000#32) (fun k => x0 (ix3 b s k))) := by
  pointwise [val_main_v34]
  rw [val_main_v12_apply, var_eq]
  pointwise []

theorem rows_eq (b : Fin 4) (s : Fin 2048) (j : Fin 1024) : val_main_v23 (F := Ideal) x7 (ix3 b s j) = x7 (ix2 (row b s) j) := by
  pointwise [val_main_v23]
  rfl

theorem dx3_eq (b : Fin 4) (s : Fin 2048) (j : Fin 1024) :
   val_main_v45 (F := Ideal) x0 x1 x2 x3 x4 x5 x6 x7 (ix3 b s j)
     = RmsGrad.byRule (Ideal.ofBits .f32 0x44800000#32) (fun k => x0 (ix3 b s k)) (fun k => up x2 x3 x4 x5 x6 (row b s) k * x1 (ix1 k)) (x7 (ix2 (row b s) j)) j := by
  rw [val_main_v45_apply, val_main_v44_apply, val_main_v43_apply, val_main_v42_apply, val_main_v36_apply, val_main_v35_apply, scaled_eq, spread_eq, root_eq, rows_eq,
    RmsGrad.byRule]
  generalize RmsGrad.through _ _ _ = T
  generalize RmsGrad.meanSq _ _ = M
  generalize up _ _ _ _ _ _ _ = U
  rfl

theorem dx_eq (R : Fin 8192) (j : Fin 1024) (b : Fin 4) (s : Fin 2048) (h : R = row b s) :
    val_main_v46 (F := Ideal) x0 x1 x2 x3 x4 x5 x6 x7 (ix2 R j) = val_main_v45 (F := Ideal) x0 x1 x2 x3 x4 x5 x6 x7 (ix3 b s j) := by
  subst h
  pointwise [val_main_v46]
  have hb : (⟨(row b s).val / 2048, by omega⟩ : Fin 4) = b := by apply Fin.ext; simp only [row]; omega
  have hs : (⟨(row b s).val % 2048, by omega⟩ : Fin 2048) = s := by apply Fin.ext; simp only [row]; omega
  rw [hb, hs]

theorem dg_eq (z : Fin 1) (j : Fin 1024) :
   val_main_v47 (F := Ideal) x0 x2 x3 x4 x5 x6 (ix2 z j) = ∑ b : Fin 4, ∑ s : Fin 2048, x0 (ix3 b s j) * Ideal.rsqrt (RmsGrad.meanSq (Ideal.ofBits .f32 0x44800000#32) (fun k => x0 (ix3 b s k))) * up x2 x3 x4 x5 x6 (row b s) j := by
  pointwise [val_main_v47, val_main_v30, val_main_v27, val_main_v26, val_main_v25, val_main_v17, val_main_v16, val_main_v12, RmsGrad.sum_lead, val_main_cst_3, val_main_cst_4]
  simp only [up_eq, var_eq, Fin.sum_univ_one]

/-- What one row adds to the scale's gradient. -/
def rowTerm (x0 : (⟨S4x2048x1024, .f32⟩ : BufTy).Contents (Elt Ideal)) (x2 : (⟨S1024x5376, .f32⟩ : BufTy).Contents (Elt Ideal)) (x3 : (⟨S8192x2048, .bf16⟩ : BufTy).Contents (Elt Ideal)) (x4 : (⟨S8192x1024, .bf16⟩ : BufTy).Contents (Elt Ideal)) (x5 : (⟨S8192x256, .bf16⟩ : BufTy).Contents (Elt Ideal)) (x6 : (⟨S8192x2048, .bf16⟩ : BufTy).Contents (Elt Ideal)) (R : Fin 8192) (j : Fin 1024) : EReal :=
  up x2 x3 x4 x5 x6 R j * (x0 (ix3 ⟨R.val / 2048, by omega⟩ ⟨R.val % 2048, by omega⟩ j)
    * Ideal.rsqrt (RmsGrad.meanSq (Ideal.ofBits .f32 0x44800000#32) (fun k => x0 (ix3 ⟨R.val / 2048, by omega⟩ ⟨R.val % 2048, by omega⟩ k))))

/-- The scale's gradient is a sum over the rows. -/
theorem dg_rows (z : Fin 1) (j : Fin 1024) :
    val_main_v47 (F := Ideal) x0 x2 x3 x4 x5 x6 (ix2 z j) = ∑ R : Fin 8192, rowTerm x0 x2 x3 x4 x5 x6 R j := by
  rw [dg_eq]
  refine Fin.sum_mul_add_congr (S := 4) (n := 2048) (f := fun R => rowTerm x0 x2 x3 x4 x5 x6 R j) (fun b s hl => ?_) (by decide)
  have hb : (⟨(b.val * 2048 + s.val) / 2048, by omega⟩ : Fin 4) = b := by apply Fin.ext; show (b.val * 2048 + s.val) / 2048 = b.val; omega
  have hs : (⟨(b.val * 2048 + s.val) % 2048, by omega⟩ : Fin 2048) = s := by apply Fin.ext; show (b.val * 2048 + s.val) % 2048 = s.val; omega
  have hr : (⟨b.val * 2048 + s.val, hl⟩ : Fin 8192) = row b s := rfl
  simp only [rowTerm, hb, hs, hr]
  exact mul_comm (_ : EReal) _

end Cert.InBwdRefIdeal.Grad
end
-- ==== Proof.InBwdValue.lean ====
/- The values of the input projection's gradient. -/
module

public import proofs.«01_k».proof.Proof.Gen.InBwdIdeal.Value
public import proofs.«01_k».proof.Proof.Gen.InBwdRefIdeal.Read
public import proofs.«01_k».proof.Proof.InBwdRefValue
public import Idealize.ShloMosaic.Lib.Pipeline.ValueKit
public import Idealize.ShloMosaic.Lib.Pointwise
public import Idealize.ShloMosaic.Lib.Claim

@[expose] public section

set_option maxRecDepth 16384

noncomputable section

namespace Cert.InBwdIdeal.Grad

open Cert.InBwdIdeal Cert.InBwdIdeal.Gen Idealize.ShloMosaic Idealize.ShloMosaic.TcCoe Idealize.SL.Sem
open Idealize.ShloMosaic.Pipeline (Dat)

variable (m : (ℓ : Loc nD τ sig) → Buf (Elt Ideal) ℓ)

/-- Every row window moves one tile a point; the scale, the weight and the scale's gradient stay put. -/
theorem place : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![0, 0] ∧ win0_7.index t = ![0, 0] ∧ win0_8.index t = ![t.val, 0] ∧ win0_9.index t = ![0, 0] :=
  (by decide +kernel : ∀ t : Fin grid0.N, _)

/-- What the body writes of the rows' gradient, from the normalised rows' cotangent. -/
theorem pay_dx (v21 : FVec Ideal S512x1024 .f32) (v23 : FVec Ideal S512x1024 .f32) (v41 : Vec Ideal S1x1024 .f32) (v45 : Vec Ideal S512x1024 .f32) (r : Fin 512) (j : Fin 1024) :
    k0_pay4 v21 (k0_pay7 v23) (k0_pay8 v23) v41 v45 (ix2 r j)
      = RmsGrad.byHand (Ideal.ofBits .f32 0x44800000#32) (fun k => v23 (ix2 r k)) (fun k => v21 (ix2 r k) * v41 (ix2 0 k)) (v45 (ix2 r j)) j := by
  pointwise [k0_pay4, k0_pay2, k0_pay1, k0_pay7, k0_pay8]
  rfl

/-- What the body adds to the scale's gradient. -/
theorem pay_dg (v21 : FVec Ideal S512x1024 .f32) (v23 : FVec Ideal S512x1024 .f32) (v32 : Vec Ideal S1x1024 .f32) (z : Fin 1) (j : Fin 1024) :
    k0_pay3 v21 (k0_pay7 v23) (k0_pay8 v23) v32 (ix2 z j)
      = v32 (ix2 z j) + ∑ r : Fin 512, v21 (ix2 r j) * (v23 (ix2 r j) * Ideal.rsqrt (RmsGrad.meanSq (Ideal.ofBits .f32 0x44800000#32) (fun k => v23 (ix2 r k)))) := by
  pointwise [k0_pay3, k0_pay2, k0_pay1, k0_pay7, k0_pay8]
  rfl

/-- The rows a point reads. -/
theorem block_x (c : Dev nD) (t : Fin cfg0.N) (r : Fin 512) (k : Fin 1024) (h : t.val * 512 + r.val < 8192) :
    iblk m c 5 t (ix2 r k) = m ((c : Thread nD τ).loc main_arg0) (ix3 ⟨(t.val * 512 + r.val) / 2048, by omega⟩ ⟨(t.val * 512 + r.val) % 2048, by omega⟩ k) := by
  blk_simp [iblk, V, place t]
  entry_read
  pointwise
  blk_point [place t]

/-- The normalised rows' cotangent at a point. -/
theorem block_up (c : Dev nD) (t : Fin cfg0.N) (r : Fin 512) (k : Fin 1024) (h : t.val * 512 + r.val < 8192) (p q u v):
    k0_pay6 (iblk m c 0 t) (View.ld (iblk m c 7 t) (Rect.unit ![0,0] ![2048,1024] p)) (iblk m c 1 t) (View.ld (iblk m c 7 t) (Rect.unit ![2048,0] ![1024,1024] q)) (iblk m c 2 t) (View.ld (iblk m c 7 t) (Rect.unit ![3072,0] ![256,1024] u)) (iblk m c 3 t) (View.ld (iblk m c 7 t) (Rect.unit ![3328,0] ![2048,1024] v)) (ix2 r k)
     = Cert.InBwdRefIdeal.Grad.up (m ((c : Thread nD τ).loc main_arg2)) (m ((c : Thread nD τ).loc main_arg3)) (m ((c : Thread nD τ).loc main_arg4)) (m ((c : Thread nD τ).loc main_arg5)) (m ((c : Thread nD τ).loc main_arg6)) ⟨t.val * 512 + r.val, h⟩ k := by
  rw [Cert.InBwdRefIdeal.Grad.up]
  pointwise [k0_pay6]
  blk_point [iblk, V, place t]

/-- The array the rows' gradient is claimed to be. -/
abbrev dxRef (c : Dev nD) := Cert.InBwdRefIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The array the scale's gradient is claimed to be. -/
abbrev dgRef (c : Dev nD) := Cert.InBwdRefIdeal.Read.val_main_v47 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))

/-- One element of the rows' gradient. -/
theorem point (c : Dev nD) (t : Fin cfg0.N) (r : Fin 512) (j : Fin 1024) (h : t.val * 512 + r.val < 8192) (p q u v) :
    k0_pay4 (k0_pay6 (iblk m c 0 t) (View.ld (iblk m c 7 t) (Rect.unit ![0,0] ![2048,1024] p)) (iblk m c 1 t) (View.ld (iblk m c 7 t) (Rect.unit ![2048,0] ![1024,1024] q)) (iblk m c 2 t) (View.ld (iblk m c 7 t) (Rect.unit ![3072,0] ![256,1024] u)) (iblk m c 3 t) (View.ld (iblk m c 7 t) (Rect.unit ![3328,0] ![2048,1024] v)))
      (k0_pay7 (iblk m c 5 t)) (k0_pay8 (iblk m c 5 t)) (iblk m c 6 t) (iblk m c 4 t) (ix2 r j) = dxRef m c (ix2 ⟨t.val * 512 + r.val, h⟩ j) := by
  have hg : ∀ k : Fin 1024, iblk m c 6 t (ix2 0 k) = m ((c : Thread nD τ).loc main_arg1) (ix1 k) := fun k => by
    blk_simp [iblk, V, place t]
    entry_read
    pointwise
    blk_point [place t]
  have hd : iblk m c 4 t (ix2 r j) = m ((c : Thread nD τ).loc main_arg7) (ix2 ⟨t.val * 512 + r.val, h⟩ j) := by
    blk_point [iblk, V, place t]
  have hR : (⟨t.val * 512 + r.val, h⟩ : Fin 8192) = Cert.InBwdRefIdeal.Grad.row ⟨(t.val * 512 + r.val) / 2048, by omega⟩ ⟨(t.val * 512 + r.val) % 2048, by omega⟩ := by
    apply Fin.ext; simp only [Cert.InBwdRefIdeal.Grad.row]; omega
  rw [pay_dx, RmsGrad.ofBits_1024, RmsGrad.byHand_eq (by norm_num), ← RmsGrad.ofBits_1024, dxRef, Cert.InBwdRefIdeal.Grad.dx_eq _ _ _ _ _ _ _ _ _ _ _ _ hR,
    Cert.InBwdRefIdeal.Grad.dx3_eq, ← hR, hd]
  simp only [block_x m c t r _ h, block_up m c t r _ h, hg]

theorem element (c : Dev nD) (t : Fin cfg0.N) (y : S512x1024.Idx) (p q u v) :
    k0_pay4 (k0_pay6 (iblk m c 0 t) (View.ld (iblk m c 7 t) (Rect.unit ![0,0] ![2048,1024] p)) (iblk m c 1 t) (View.ld (iblk m c 7 t) (Rect.unit ![2048,0] ![1024,1024] q)) (iblk m c 2 t) (View.ld (iblk m c 7 t) (Rect.unit ![3072,0] ![256,1024] u)) (iblk m c 3 t) (View.ld (iblk m c 7 t) (Rect.unit ![3328,0] ![2048,1024] v))) (k0_pay7 (iblk m c 5 t)) (k0_pay8 (iblk m c 5 t)) (iblk m c 6 t) (iblk m c 4 t) y = dxRef m c ((win0_8.blk t).view.emb y) := by
  obtain ⟨r, j, rfl⟩ : ∃ (r : Fin 512) (j : Fin 1024), y = ix2 r j := ⟨y 0, y 1, by funext a; match a with | ⟨0, _⟩ => rfl | ⟨1, _⟩ => rfl⟩
  have h : t.val * 512 + r.val < 8192 := by have := t.isLt.trans_eq N_0; omega
  refine (point m c t r j h p q u v).trans (congrArg (dxRef m c) ?_)
  blk_ext [place t]

/-- The rows' gradient. -/
theorem dx_final (c : Dev nD) : (dats m 0 c).arrAt 8 (cfgs 0).N = dxRef m c := by
  refine (dats m 0 c).arrAt_eq_of_covers 8 _ (by decide +kernel) fun t _ y => ?_
  blk_simp
  rw [after0_8]
  by_cases h : t.val % 16 = 0
  · rw [outsAt0_A m c t h]
    frame_out
    exact element m c t y _ _ _ _
  · rw [outsAt0_B m c t h]
    frame_out
    exact element m c t y _ _ _ _

/-- What one row adds to the scale's gradient. -/
abbrev rowTerm (c : Dev nD) (R : Fin 8192) (j : Fin 1024) : EReal :=
  Cert.InBwdRefIdeal.Grad.rowTerm (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) R j

theorem row_lt (t : Fin cfg0.N) (r : Fin 512) : t.val * 512 + r.val < 8192 := by have := t.isLt.trans_eq N_0; omega

/-- What one point adds. -/
theorem step (c : Dev nD) (t : Fin cfg0.N) (acc : Vec Ideal S1x1024 .f32) (y : S1x1024.Idx) (p q u v) :
    k0_pay3 (k0_pay6 (iblk m c 0 t) (View.ld (iblk m c 7 t) (Rect.unit ![0,0] ![2048,1024] p)) (iblk m c 1 t) (View.ld (iblk m c 7 t) (Rect.unit ![2048,0] ![1024,1024] q)) (iblk m c 2 t) (View.ld (iblk m c 7 t) (Rect.unit ![3072,0] ![256,1024] u)) (iblk m c 3 t) (View.ld (iblk m c 7 t) (Rect.unit ![3328,0] ![2048,1024] v))) (k0_pay7 (iblk m c 5 t)) (k0_pay8 (iblk m c 5 t)) acc y = acc y + ∑ r : Fin 512, rowTerm m c ⟨t.val * 512 + r.val, row_lt t r⟩ (y 1) := by
  obtain ⟨z, j, rfl⟩ : ∃ (z : Fin 1) (j : Fin 1024), y = ix2 z j := ⟨y 0, y 1, by funext a; match a with | ⟨0, _⟩ => rfl | ⟨1, _⟩ => rfl⟩
  rw [pay_dg]
  refine congrArg (acc (ix2 z j) + ·) (Finset.sum_congr rfl fun r _ => ?_)
  rw [block_up m c t r _ (row_lt t r)]
  simp only [Cert.InBwdRefIdeal.Grad.rowTerm, block_x m c t r _ (row_lt t r)]
  rfl

theorem start (y : S1x1024.Idx) : k0_pay5 (F := Ideal) y = (0 : EReal) := by
  pointwise [k0_pay5]

/-- The sum over the points and their rows is the reference's sum over sequences and tokens. -/
theorem total (c : Dev nD) (y : S1x1024.Idx) : ∑ t : Fin cfg0.N, ∑ r : Fin 512, rowTerm m c ⟨t.val * 512 + r.val, row_lt t r⟩ (y 1) = dgRef m c y := by
  obtain ⟨z, j, rfl⟩ : ∃ (z : Fin 1) (j : Fin 1024), y = ix2 z j := ⟨y 0, y 1, by funext a; match a with | ⟨0, _⟩ => rfl | ⟨1, _⟩ => rfl⟩
  refine (Fin.sum_mul_add_congr (S := cfg0.N) (n := 512) (f := fun R => rowTerm m c R j) (fun s k hl => rfl) (by rw [show cfg0.N = 16 from N_0])).trans ?_
  exact (Cert.InBwdRefIdeal.Grad.dg_rows _ _ _ _ _ _ z j).symm

/-- The scale's gradient. -/
theorem dg_final (c : Dev nD) : (dats m 0 c).arrAt 9 (cfgs 0).N = dgRef m c := by
  refine (dats m 0 c).arrAt_eq_of_after_last 9 t0_15 (by decide +kernel) _ fun j => ?_
  blk_simp
  rw [after0_9, Pipeline.eq_sum_fin_of_reset_step_apply_last (fun n h => (outsAt0 m c n h).2) 16 (fun _ => 0)
    (fun t j => ∑ r : Fin 512, rowTerm m c ⟨t.val * 512 + r.val, row_lt t r⟩ (j 1))
    (fun t h j => by rw [outsAt0_A m c t h]; frame_out; rw [step, start])
    (fun t h j => by rw [outsAt0_B m c t h]; frame_out; rw [step])
    (le_of_eq N_0) t0_15 rfl j, zero_add]
  refine (total m c j).trans (congrArg (dgRef m c) ?_)
  blk_ext [place t0_15]

end Cert.InBwdIdeal.Grad
end
-- ==== Proof.InBwdClaims.lean ====
/- The claims about the input projection's gradient. -/
module

public import proofs.«01_k».proof.Defs
public import proofs.«01_k».proof.Proof.Gen.InBwd.Frame
public import proofs.«01_k».proof.Proof.Gen.InBwdRefIdeal.Run
public import proofs.«01_k».proof.Proof.InBwdValue
public import Idealize.ShloMosaic.Lib.Quiescent

@[expose] public section

noncomputable section

namespace Cert.InBwdClaims

open Idealize.ShloMosaic Idealize.ShloMosaic.TcCoe Idealize.SL.Sem

/-- The kernel as printed leaves its arguments alone and its counters at zero. -/
theorem frame : Cert.quiescent_InBwd := fun m ρ _ => Cert.InBwd.Gen.frame m ρ
/-- So does the idealized kernel. -/
theorem frame_ideal : Cert.quiescent_InBwdIdeal := fun m ρ _ => Cert.InBwdIdeal.Gen.frame m ρ
/-- So does the reference, which has no counters. -/
theorem frame_ref : Cert.quiescent_InBwdRefIdeal := fun m ρ _ =>
  (θ_run Cert.InBwdRefIdeal.defs _ _).mono
    (fun r h => ⟨fun c => (h c).2.2, sem_eq_zero_of_no_sems (by decide) r.2⟩)
    (Cert.InBwdRefIdeal.Value.run (F := Ideal) m ρ)

/-- The gradient of the normalised input and of the norm's scale are the reference's. -/
theorem algebraic : Cert.algebraic_InBwdIdeal_InBwdRefIdeal := by
  intro m ρ m' ρ' _ agree
  refine ⟨_, _, Cert.InBwdIdeal.Value.run_blocks m ρ, ?_⟩
  refine (θ_run _ _ _).mono (fun r h c => ?_) (Cert.InBwdRefIdeal.Value.run m' ρ')
  obtain ⟨hx, hg, kept⟩ := h c
  obtain ⟨a0, a1, a2, a3, a4, a5, a6, a7⟩ := agree c
  replace hx := hx.trans (Cert.InBwdRefIdeal.Read.val_main_v46_eq m' c)
  rw [a0, a1, a2, a3, a4, a5, a6, a7] at hx
  rw [a0, a2, a3, a4, a5, a6] at hg
  exact ⟨hx.trans (Cert.InBwdIdeal.Grad.dx_final m c).symm, hg.trans (Cert.InBwdIdeal.Grad.dg_final m c).symm, kept⟩

end Cert.InBwdClaims
end
-- ==== Proof.AttnMath.lean ====
/- Windowed attention with sinks, over the reals: one block of queries of the heads that share a key head. -/
module

public import proofs.«01_k».proof.Proof.RmsGrad
public import Idealize.ShloMosaic.Lib.Pointwise

@[expose] public section

noncomputable section

namespace Cert.AttnMath

open Idealize.ShloMosaic

/-- A finite sum of reals is a real. -/
theorem coe_sum {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- A quotient of reals, the divisor not zero. -/
theorem div_real (a : ℝ) {b : ℝ} (h : b ≠ 0) : Ideal.div (a : EReal) (b : EReal) = ((a / b : ℝ) : EReal) := by
  rw [Ideal.div_coe h, ← EReal.coe_mul, mul_one_div]

/-- The reciprocal root of the mean of squares of a row of reals is a real. -/
theorem rsqrt_real {n : ℕ} (x : Fin n → ℝ) {N e : ℝ} (hN : 0 < N) (he : 0 < e) :
    Ideal.rsqrt (Ideal.div (∑ k, (x k : EReal) * (x k : EReal)) (N : EReal) + (e : EReal))
      = (((Real.sqrt ((∑ k, x k * x k) / N + e))⁻¹ : ℝ) : EReal) := by
  have hp : 0 < (∑ k, x k * x k) / N + e :=
    add_pos_of_nonneg_of_pos (div_nonneg (Finset.sum_nonneg fun k _ => mul_self_nonneg (x k)) hN.le) he
  simp only [← EReal.coe_mul, coe_sum]
  rw [div_real _ hN.ne', ← EReal.coe_add, Ideal.rsqrt_coe, if_neg hp.not_gt, if_neg hp.ne']

/-! ## The gradient of a softmax with a sink -/

section Softmax
variable {ι : Type} [Fintype ι] (e dp : ι → ℝ) (es l : ℝ)

/-- The chain rule's gradient of a score is the one written by hand. -/
theorem soft_score (hl : l ≠ 0) (s : ι) :
    (dp s / l + -∑ k, dp k * (1 / (l * l)) * e k) * e s = e s / l * (dp s - ∑ k, e k / l * dp k) := by
  have h : ∑ k, dp k * (1 / (l * l)) * e k = (∑ k, e k / l * dp k) / l := by
    rw [Finset.sum_div]
    exact Finset.sum_congr rfl fun k _ => by field_simp
  rw [h]
  field_simp
  ring

/-- Through the maximum nothing comes back. -/
theorem soft_max (hl : l ≠ 0) (he : ∑ k, e k + es = l) :
    -((-∑ k, dp k * (1 / (l * l)) * e k) * es) + ∑ s, -((dp s / l + -∑ k, dp k * (1 / (l * l)) * e k) * e s) = 0 := by
  generalize hA : ∑ k, dp k * (1 / (l * l)) * e k = A
  have h : ∑ k, dp k / l * e k = A * l := by
    rw [← hA, Finset.sum_mul]
    exact Finset.sum_congr rfl fun k _ => by field_simp
  have hs : ∑ s, -((dp s / l + -A) * e s) = -(A * l) + A * ∑ k, e k := by
    rw [← h, Finset.mul_sum, ← Finset.sum_neg_distrib, ← Finset.sum_add_distrib]
    exact Finset.sum_congr rfl fun k _ => by ring
  rw [hs, ← he]
  ring

/-- The sink's gradient. -/
theorem soft_sink (hl : l ≠ 0) : (-∑ k, dp k * (1 / (l * l)) * e k) * es = -(es / l) * ∑ k, e k / l * dp k := by
  have h : ∑ k, dp k * (1 / (l * l)) * e k = (∑ k, e k / l * dp k) / l := by
    rw [Finset.sum_div]
    exact Finset.sum_congr rfl fun k _ => by field_simp
  rw [h]
  field_simp

end Softmax

/-! ## A block of queries and its window -/

/-- The queries of one block for the eight heads that share a key head, and the keys and values of the window: the block before
    and the block itself. Queries and keys are normalised and scaled; `c` is the cotangent of the output. -/
structure Tile where
  first : Prop
  k : Fin 256 → Fin 64 → ℝ
  v : Fin 256 → Fin 64 → ℝ
  q : Fin 8 → Fin 128 → Fin 64 → ℝ
  c : Fin 8 → Fin 128 → Fin 64 → ℝ
  slope : Fin 8 → ℝ
  sink : Fin 8 → ℝ

namespace Tile
variable (T : Tile)

/-- Query `i` sees the window's keys of the last 128 tokens, itself included; before the first block there are none. -/
def ok (i : Fin 128) (s : Fin 256) : Prop := i.val < s.val ∧ s.val ≤ i.val + 128 ∧ (T.first → 128 ≤ s.val)

/-- How far back key `s` lies. -/
def dist (i : Fin 128) (s : Fin 256) : ℝ := (i.val : ℝ) + 128 - s.val

def score (h : Fin 8) (i : Fin 128) (s : Fin 256) : ℝ := (∑ d, T.k s d * T.q h i d) * (1 / 8) + -T.slope h * dist i s

open Classical in
/-- A key's weight, measured against `M`. -/
def wt (M : ℝ) (h : Fin 8) (i : Fin 128) (s : Fin 256) : ℝ := if T.ok i s then Real.exp (T.score h i s - M) else 0

/-- The weights' total and the sink's. -/
def total (M : ℝ) (h : Fin 8) (i : Fin 128) : ℝ := ∑ s, T.wt M h i s + Real.exp (T.sink h - M)

/-- Probabilities. -/
def p (h : Fin 8) (i : Fin 128) (s : Fin 256) : ℝ := T.wt 0 h i s / T.total 0 h i
def ps (h : Fin 8) (i : Fin 128) : ℝ := Real.exp (T.sink h) / T.total 0 h i

def dp (h : Fin 8) (i : Fin 128) (s : Fin 256) : ℝ := ∑ d, T.c h i d * T.v s d
def delta (h : Fin 8) (i : Fin 128) : ℝ := ∑ s, T.p h i s * T.dp h i s
/-- The gradients: of a score, of a sink at one query, of the scaled query, of a key, of a value. -/
def ds (h : Fin 8) (i : Fin 128) (s : Fin 256) : ℝ := T.p h i s * (T.dp h i s - T.delta h i)
def dsink (h : Fin 8) (i : Fin 128) : ℝ := -T.ps h i * T.delta h i
def dq (h : Fin 8) (i : Fin 128) (d : Fin 64) : ℝ := ∑ s, T.ds h i s * (1 / 8) * T.k s d
def dk (s : Fin 256) (d : Fin 64) : ℝ := ∑ i, ∑ h, T.ds h i s * (1 / 8) * T.q h i d
def dv (s : Fin 256) (d : Fin 64) : ℝ := ∑ i, ∑ h, T.c h i d * T.p h i s

theorem wt_nonneg (M : ℝ) (h : Fin 8) (i : Fin 128) (s : Fin 256) : 0 ≤ T.wt M h i s := by
  unfold wt; split
  · exact (Real.exp_pos _).le
  · exact le_rfl

theorem total_pos (M : ℝ) (h : Fin 8) (i : Fin 128) : 0 < T.total M h i :=
  add_pos_of_nonneg_of_pos (Finset.sum_nonneg fun s _ => T.wt_nonneg M h i s) (Real.exp_pos _)

theorem wt_shift (M : ℝ) (h : Fin 8) (i : Fin 128) (s : Fin 256) : T.wt M h i s = T.wt 0 h i s * Real.exp (-M) := by
  unfold wt; split
  · rw [← Real.exp_add, sub_zero, sub_eq_add_neg]
  · rw [zero_mul]

theorem total_shift (M : ℝ) (h : Fin 8) (i : Fin 128) : T.total M h i = T.total 0 h i * Real.exp (-M) := by
  unfold total
  rw [add_mul, Finset.sum_mul, ← Real.exp_add, sub_zero, sub_eq_add_neg]
  simp only [← wt_shift]

/-- A probability does not depend on what the weights are measured against. -/
theorem wt_div_total (M : ℝ) (h : Fin 8) (i : Fin 128) (s : Fin 256) : T.wt M h i s / T.total M h i = T.p h i s := by
  rw [wt_shift, total_shift, mul_div_mul_right _ _ (Real.exp_pos _).ne', p]

theorem sink_div_total (M : ℝ) (h : Fin 8) (i : Fin 128) : Real.exp (T.sink h - M) / T.total M h i = T.ps h i := by
  rw [total_shift, sub_eq_add_neg, Real.exp_add, mul_div_mul_right _ _ (Real.exp_pos _).ne', ps]

theorem p_eq_zero {i : Fin 128} {s : Fin 256} (hs : ¬T.ok i s) (h : Fin 8) : T.p h i s = 0 := by
  rw [p, wt, if_neg hs, zero_div]

theorem ds_eq_zero {i : Fin 128} {s : Fin 256} (hs : ¬T.ok i s) (h : Fin 8) : T.ds h i s = 0 := by
  rw [ds, T.p_eq_zero hs, zero_mul]

/-- Key `k` of a block, in the block before or in the block itself. -/
def prev (k : Fin 128) : Fin 256 := ⟨k.val, by omega⟩
def cur (k : Fin 128) : Fin 256 := ⟨128 + k.val, by omega⟩

/-- Both halves of a window folded onto one block: query `i` sees key `k` of the block before where `k` lies after it, else of its own. -/
def fold (i k : Fin 128) : Fin 256 := if i < k then prev k else cur k

/-- A sum over the window is a sum over the halves. -/
theorem sum_halves {M : Type} [AddCommMonoid M] (f : Fin 256 → M) : ∑ s, f s = ∑ k, f (prev k) + ∑ k, f (cur k) :=
  Fin.sum_univ_add (a := 128) (b := 128) f

/-- A sum over the keys that query `i` sees, folded. -/
theorem sum_fold (i : Fin 128) (f : Fin 256 → ℝ) (hf : ∀ s, ¬(i.val < s.val ∧ s.val ≤ i.val + 128) → f s = 0) :
    ∑ s, f s = ∑ k, f (fold i k) := by
  rw [sum_halves, ← Finset.sum_add_distrib]
  refine Finset.sum_congr rfl fun k _ => ?_
  unfold fold
  split
  · rename_i h
    rw [hf (cur k) (by simp only [cur]; intro g; have : i.val < k.val := h; omega), add_zero]
  · rename_i h
    rw [hf (prev k) (by simp only [prev]; intro g; exact h g.1), zero_add]

theorem sum_fold_p (h : Fin 8) (i : Fin 128) (f : Fin 256 → ℝ) : ∑ s, T.p h i s * f s = ∑ k, T.p h i (fold i k) * f (fold i k) :=
  sum_fold i (fun s => T.p h i s * f s) fun s hs => by
    rw [T.p_eq_zero (fun g => hs ⟨g.1, g.2.1⟩), zero_mul]

/-- A query's own token is among the keys it sees. -/
theorem ok_self (i : Fin 128) : T.ok i (cur i) :=
  ⟨by simp only [cur]; omega, by simp only [cur]; omega, fun _ => by simp only [cur]; omega⟩

end Tile

/-- The largest of finitely many values, some of them real, none infinite from above, is real and one of them. -/
theorem fold_max_real {n : ℕ} (f : Fin n → EReal) (h : ∃ s, ∃ r : ℝ, f s = r) (ht : ∀ s, f s ≠ ⊤) :
    ∃ r : ℝ, Finset.univ.fold max ⊥ f = (r : EReal) ∧ ∃ s, f s = (r : EReal) := by
  obtain ⟨s, r, hs⟩ := h
  have hle : ∀ x, f x ≤ Finset.univ.fold max ⊥ f := fun x =>
    Finset.le_fold_max (c := f x).2 (Or.inr ⟨x, Finset.mem_univ x, le_rfl⟩)
  have hb : Finset.univ.fold max ⊥ f ≠ ⊥ := fun e => by
    have := hle s
    rw [e, hs] at this
    exact EReal.coe_ne_bot r (le_bot_iff.1 this)
  rcases (Finset.le_fold_max (c := Finset.univ.fold max ⊥ f)).1 le_rfl with g | ⟨x, -, g⟩
  · exact absurd (le_bot_iff.1 g) hb
  · have e : f x = Finset.univ.fold max ⊥ f := le_antisymm (hle x) g
    refine ⟨(f x).toReal, ?_, x, ?_⟩
    · rw [EReal.coe_toReal (ht x) (e ▸ hb), e]
    · rw [EReal.coe_toReal (ht x) (e ▸ hb)]

/-! ## The whole batch -/

/-- The norm's small addend, and the logarithm of two as the program has it. -/
def eps : ℝ := (Ideal.ofBits .f32 0x358637BD#32).toReal
def ln2 : ℝ := (Ideal.ofBits .f32 0x3F317218#32).toReal

theorem ofBits_eps : Ideal.ofBits .f32 0x358637BD#32 = (eps : EReal) ∧ 0 < eps := by
  obtain ⟨e, he, hb⟩ := RmsGrad.ofBits_eps
  rw [eps, hb, EReal.toReal_coe]
  exact ⟨rfl, he⟩

theorem ofBits_ln2 : Ideal.ofBits .f32 0x3F317218#32 = (ln2 : EReal) := by
  have h : ∃ e : ℝ, Ideal.ofBits .f32 0x3F317218#32 = (e : EReal) :=
    ⟨_, by simp [Ideal.ofBits, Ideal.ieee, -EReal.coe_mul]; rfl⟩
  obtain ⟨e, h⟩ := h
  rw [ln2, h, EReal.toReal_coe]

theorem ofBits_64 : Ideal.ofBits .f32 0x42800000#32 = ((64 : ℝ) : EReal) := by
  simp [Ideal.ofBits, Ideal.ieee, -EReal.coe_mul]; norm_num

theorem ofBits_eighth : Ideal.ofBits .f32 0x3E000000#32 = ((1 / 8 : ℝ) : EReal) := by
  simp [Ideal.ofBits, Ideal.ieee, -EReal.coe_mul]; norm_num

theorem ofBits_neg_8 : Ideal.ofBits .f32 0xC1000000#32 = ((-8 : ℝ) : EReal) := by
  simp [Ideal.ofBits, Ideal.ieee, -EReal.coe_mul]; norm_num

theorem ofBits_16 : Ideal.ofBits .f32 0x41800000#32 = ((16 : ℝ) : EReal) := by
  simp [Ideal.ofBits, Ideal.ieee, -EReal.coe_mul]; norm_num

/-- The reciprocal root of a row's mean of squares. -/
def root (f : Fin 64 → ℝ) : ℝ := (Real.sqrt ((∑ k, f k * f k) / 64 + eps))⁻¹

theorem root_eq (f : Fin 64 → ℝ) : Ideal.rsqrt (RmsGrad.meanSq (Ideal.ofBits .f32 0x42800000#32) fun k => (f k : EReal)) = (root f : EReal) := by
  rw [RmsGrad.meanSq, ofBits_64, ofBits_eps.1]
  exact rsqrt_real f (by norm_num) ofBits_eps.2

/-- The arguments, all of them finite: the queries' rows, the keys' and values' rows, the two scales, the sinks, the cotangent. -/
structure Args where
  q : Fin 8192 → Fin 1024 → ℝ
  kv : Fin 8192 → Fin 256 → ℝ
  qs : Fin 64 → ℝ
  ks : Fin 64 → ℝ
  sink : Fin 16 → ℝ
  c : Fin 8192 → Fin 1024 → ℝ

/-- Window `z` is a sequence, a key head and a block, in this order. A query's row and column; a key's row and its columns. -/
def qrow (z i : Fin 128) : Fin 8192 := ⟨z.val / 32 * 2048 + (z.val % 16 * 128 + i.val), by omega⟩
def qcol (z : Fin 128) (g : Fin 8) (d : Fin 64) : Fin 1024 := ⟨z.val / 16 % 2 * 512 + (g.val * 64 + d.val), by omega⟩
def krow (z : Fin 128) (s : Fin 256) (h : ¬z.val % 16 * 128 + s.val < 128) : Fin 8192 := ⟨z.val / 32 * 2048 + (z.val % 16 * 128 + s.val - 128), by omega⟩
def kcol (z : Fin 128) (d : Fin 64) : Fin 256 := ⟨z.val / 16 % 2 * 64 + d.val, by omega⟩
def vcol (z : Fin 128) (d : Fin 64) : Fin 256 := ⟨128 + (z.val / 16 % 2 * 64 + d.val), by omega⟩
def head (z : Fin 128) (g : Fin 8) : Fin 16 := ⟨z.val / 16 % 2 * 8 + g.val, by omega⟩

/-- A head's slope. -/
def slope (h : Fin 16) : ℝ := Real.exp (ln2 * (-8 * (1 + (h.val : ℝ)) / 16))

namespace Args
variable (A : Args)

/-- A row of queries of one head. -/
def qv (z : Fin 128) (g : Fin 8) (i : Fin 128) (d : Fin 64) : ℝ := A.q (qrow z i) (qcol z g d)
/-- A key and a value, before the norm. -/
def kx (z : Fin 128) (s : Fin 256) (h : ¬z.val % 16 * 128 + s.val < 128) (d : Fin 64) : ℝ := A.kv (krow z s h) (kcol z d)
def vx (z : Fin 128) (s : Fin 256) (h : ¬z.val % 16 * 128 + s.val < 128) (d : Fin 64) : ℝ := A.kv (krow z s h) (vcol z d)

/-- Window `z`; before the first token there are zeros. -/
def tile (z : Fin 128) : Tile where
  first := z.val % 16 = 0
  k s d := if h : z.val % 16 * 128 + s.val < 128 then 0 else A.kx z s h d * root (A.kx z s h) * A.ks d
  v s d := if h : z.val % 16 * 128 + s.val < 128 then 0 else A.vx z s h d
  q g i d := A.qv z g i d * root (A.qv z g i) * A.qs d
  c g i d := A.c (qrow z i) (qcol z g d)
  slope g := slope (head z g)
  sink g := A.sink (head z g)

end Args
end Cert.AttnMath
end
-- ==== Proof.AttnHand.lean ====
/- The gradient of windowed attention as it is written by hand, over a window folded onto one block. -/
module

public import proofs.«01_k».proof.Proof.AttnMath

@[expose] public section

noncomputable section

namespace Cert.AttnMath

open Idealize.ShloMosaic

/-- A head's queries lie side by side. -/
def col (g : Fin 8) (i : Fin 128) : Fin 1024 := ⟨g.val * 128 + i.val, by omega⟩

theorem col_div (x : Fin 1024) : col ⟨x.val / 128, by omega⟩ ⟨x.val % 128, by omega⟩ = x :=
  Fin.ext (by simp only [col]; omega)

/-- A sum over all columns is a sum over queries and heads. -/
theorem sum_cols {M : Type} [AddCommMonoid M] (f : Fin 1024 → M) : ∑ x, f x = ∑ i, ∑ g, f (col g i) := by
  rw [Finset.sum_comm, ← Fintype.sum_prod_type (f := fun p : Fin 8 × Fin 128 => f (col p.1 p.2))]
  exact (Fintype.sum_equiv (finProdFinEquiv (m := 8) (n := 128)) _ _ fun p => congrArg f (Fin.ext (by
    simp only [col, finProdFinEquiv_apply_val]; omega))).symm

/-! ## A column of scores -/

def top (s : Fin 128 → EReal) (z : EReal) : EReal := max (Finset.univ.fold max ⊥ s) z
def weight (s : Fin 128 → EReal) (z : EReal) (k : Fin 128) : EReal := Ideal.exp (s k - top s z)
def sinkWeight (s : Fin 128 → EReal) (z : EReal) : EReal := Ideal.exp (z - top s z)
def over (s : Fin 128 → EReal) (z : EReal) : EReal := Ideal.div 1 (∑ k, weight s z k + sinkWeight s z)

/-- One where the key comes from the block before. -/
def before (i k : Fin 128) : EReal := if i < k then 1 else 0

namespace Tile
variable (T : Tile) (g : Fin 8) (i : Fin 128)

theorem ok_fold (k : Fin 128) : T.ok i (fold i k) ↔ ¬(T.first ∧ i < k) := by
  unfold ok fold
  split
  · rename_i h
    have h' : i.val < k.val := h
    simp only [prev, h, and_true]
    exact ⟨fun g f => by have := g.2.2 f; omega, fun g => ⟨h', by omega, fun f => absurd f g⟩⟩
  · rename_i h
    have h' : ¬i.val < k.val := h
    simp only [cur, h, and_false, not_false_eq_true, iff_true]
    exact ⟨by omega, by omega, fun _ => by omega⟩

open Classical in
/-- The column's probabilities. -/
theorem probs (s : Fin 128 → EReal) (hs : ∀ k, s k = if T.first ∧ i < k then ⊥ else (T.score g i (fold i k) : EReal)) :
    (∀ k, weight s (T.sink g) k * over s (T.sink g) = (T.p g i (fold i k) : EReal))
      ∧ sinkWeight s (T.sink g) * over s (T.sink g) = (T.ps g i : EReal) := by
  obtain ⟨r, hr, -⟩ := fold_max_real s ⟨i, _, (hs i).trans (if_neg fun h => lt_irrefl _ h.2)⟩ fun k => by
    rw [hs k]
    split
    · exact bot_ne_top
    · exact EReal.coe_ne_top _
  have hM : top s (T.sink g) = ((max r (T.sink g) : ℝ) : EReal) := by
    rw [top, hr]
    exact (EReal.coe_strictMono.monotone.map_max).symm
  generalize max r (T.sink g) = M at hM
  have hw : ∀ k, weight s (T.sink g) k = (T.wt M g i (fold i k) : EReal) := fun k => by
    rw [weight, hM, hs k, wt]
    by_cases h : T.first ∧ i < k
    · rw [if_pos h, if_neg (fun o => (T.ok_fold i k).1 o h), EReal.bot_sub, Ideal.exp_bot, EReal.coe_zero]
    · rw [if_neg h, if_pos ((T.ok_fold i k).2 h), ← EReal.coe_sub, Ideal.exp_coe]
  have hz : sinkWeight s (T.sink g) = (Real.exp (T.sink g - M) : EReal) := by
    rw [sinkWeight, hM, ← EReal.coe_sub, Ideal.exp_coe]
  have ht : ∑ k, T.wt M g i (fold i k) + Real.exp (T.sink g - M) = T.total M g i := by
    rw [total, sum_fold i (T.wt M g i) fun s o => if_neg fun h => o ⟨h.1, h.2.1⟩]
  have ho : over s (T.sink g) = ((1 / T.total M g i : ℝ) : EReal) := by
    rw [over, hz]
    simp only [hw]
    rw [coe_sum, ← EReal.coe_add, ht, ← EReal.coe_one, div_real _ (T.total_pos M g i).ne']
  refine ⟨fun k => ?_, ?_⟩
  · rw [hw, ho, ← EReal.coe_mul, mul_one_div, wt_div_total]
  · rw [hz, ho, ← EReal.coe_mul, mul_one_div, sink_div_total]

/-- The scores' gradient down a column; a key that is not seen may have any cotangent. -/
theorem grads {p dp : Fin 128 → EReal} {a : Fin 128 → ℝ} (hp : ∀ k, p k = (T.p g i (fold i k) : EReal)) (hd : ∀ k, dp k = (a k : EReal))
    (ha : ∀ k, ¬(T.first ∧ i < k) → a k = T.dp g i (fold i k)) :
    ∑ k, p k * dp k = (T.delta g i : EReal) ∧ ∀ k, p k * (dp k - (T.delta g i : EReal)) = (T.ds g i (fold i k) : EReal) := by
  have hz : ∀ k x, T.p g i (fold i k) * (a k - x) = T.p g i (fold i k) * (T.dp g i (fold i k) - x) := fun k x => by
    by_cases h : T.first ∧ i < k
    · rw [T.p_eq_zero (fun o => (T.ok_fold i k).1 o h), zero_mul, zero_mul]
    · rw [ha k h]
  refine ⟨?_, fun k => ?_⟩
  · simp only [hp, hd, ← EReal.coe_mul, coe_sum]
    rw [delta, sum_fold_p]
    exact congrArg _ (Finset.sum_congr rfl fun k _ => by simpa only [sub_zero] using hz k 0)
  · rw [hp, hd, ← EReal.coe_sub, ← EReal.coe_mul, hz, ds]

theorem fold_prev (f : Fin 256 → ℝ) (hf : ∀ s, ¬T.ok i s → f s = 0) (k : Fin 128) :
    (f (fold i k) : EReal) * before i k = (f (prev k) : EReal) := by
  unfold before fold
  split
  · rw [mul_one]
  · rename_i h
    rw [mul_zero, hf (prev k) fun o => h o.1, EReal.coe_zero]

theorem fold_cur (f : Fin 256 → ℝ) (hf : ∀ s, ¬T.ok i s → f s = 0) (k : Fin 128) :
    (f (fold i k) : EReal) - (f (fold i k) : EReal) * before i k = (f (cur k) : EReal) := by
  unfold before fold
  split
  · rename_i h
    rw [mul_one, hf (cur k) fun o => absurd o.2.1 (by have : i.val < k.val := h; simp only [cur]; omega), ← EReal.coe_sub, sub_self]
  · rw [mul_zero, sub_zero]

/-- The scaled query's gradient, from both halves. -/
theorem dq_halves (d : Fin 64) (a : Fin 128 → Fin 64 → ℝ) (ha : ¬T.first → ∀ k, a k d = T.k (prev k) d) :
    (∑ k, (a k d : EReal) * (T.ds g i (prev k) : EReal) + ∑ k, (T.k (cur k) d : EReal) * (T.ds g i (cur k) : EReal)) * ((1 / 8 : ℝ) : EReal)
      = (T.dq g i d : EReal) := by
  simp only [← EReal.coe_mul, coe_sum, ← EReal.coe_add]
  rw [dq, sum_halves, add_mul, Finset.sum_mul, Finset.sum_mul]
  refine congrArg _ (congrArg₂ _ (Finset.sum_congr rfl fun k _ => ?_) (Finset.sum_congr rfl fun k _ => by ring))
  by_cases h : T.first
  · rw [T.ds_eq_zero (fun o => by have := o.2.2 h; simp only [prev] at this; omega)]
    ring
  · rw [ha h]
    ring

/-- A key's and a value's gradient, from the columns. -/
theorem dk_cols (s : Fin 256) (d : Fin 64) {f w : Fin 1024 → EReal} (hf : ∀ g i, f (col g i) = (T.ds g i s : EReal))
    (hw : ∀ g i, w (col g i) = ((T.q g i d * (1 / 8) : ℝ) : EReal)) : ∑ x, f x * w x = (T.dk s d : EReal) := by
  rw [sum_cols]
  simp only [hf, hw, ← EReal.coe_mul, coe_sum]
  rw [dk]
  exact congrArg _ (Finset.sum_congr rfl fun i _ => Finset.sum_congr rfl fun g _ => by ring)

theorem dv_cols (s : Fin 256) (d : Fin 64) {f w : Fin 1024 → EReal} (hf : ∀ g i, f (col g i) = (T.p g i s : EReal))
    (hw : ∀ g i, w (col g i) = (T.c g i d : EReal)) : ∑ x, f x * w x = (T.dv s d : EReal) := by
  rw [sum_cols]
  simp only [hf, hw, ← EReal.coe_mul, coe_sum]
  rw [dv]
  exact congrArg _ (Finset.sum_congr rfl fun i _ => Finset.sum_congr rfl fun g _ => by ring)

end Tile
end Cert.AttnMath
end
-- ==== Proof.AttnHalf.lean ====
/- One key head's half of a block, as the body computes it: the relations between its arrays, and their values. -/
module

public import proofs.«01_k».proof.Proof.AttnHand
public import Idealize.ShloMosaic.Lib.Pointwise

@[expose] public section

noncomputable section

namespace Cert.AttnMath

open Idealize.ShloMosaic

/-- The arrays of the forward computation: queries raw, normalised and scaled (`q`, `y`, `qh`, with the scale `qg`), keys and values of the
    block before and of the block itself, the mask `tri`, what masks the block before (`gate`), the bias, the sinks, scores and probabilities. -/
structure Probs where
  gate : EReal
  q : Fin 64 → Fin 1024 → EReal
  qg : Fin 64 → Fin 1024 → EReal
  y : Fin 64 → Fin 1024 → EReal
  qh : Fin 64 → Fin 1024 → EReal
  kp : Fin 128 → Fin 64 → EReal
  kc : Fin 128 → Fin 64 → EReal
  vp : Fin 128 → Fin 64 → EReal
  vc : Fin 128 → Fin 64 → EReal
  tri : Fin 128 → Fin 1024 → EReal
  bias : Fin 128 → Fin 1024 → EReal
  sink : Fin 1024 → EReal
  s : Fin 128 → Fin 1024 → EReal
  p : Fin 128 → Fin 1024 → EReal
  ps : Fin 1024 → EReal

namespace Probs

/-- How the arrays are computed. -/
structure Runs (H : Probs) : Prop where
  y : ∀ d x, H.y d x = H.q d x * Ideal.rsqrt (RmsGrad.meanSq (Ideal.ofBits .f32 0x42800000#32) fun d => H.q d x)
  qh : ∀ d x, H.qh d x = H.y d x * (H.qg d x * Ideal.ofBits .f32 0x3E000000#32)
  s : ∀ k x, H.s k x = (if Ideal.ofBits .f32 0x3F000000#32 < H.tri k x then ∑ d, H.kp k d * H.qh d x + H.gate else ∑ d, H.kc k d * H.qh d x) + H.bias k x
  p : ∀ k x, H.p k x = weight (fun k => H.s k x) (H.sink x) k * over (fun k => H.s k x) (H.sink x)
  ps : ∀ x, H.ps x = sinkWeight (fun k => H.s k x) (H.sink x) * over (fun k => H.s k x) (H.sink x)

open Classical in
/-- What they are computed from, for the window `T`: `x` the raw queries, `a` and `w` the keys and values of the block before, which
    are arbitrary at the first block. -/
structure Reads (H : Probs) (T : Tile) (x : Fin 8 → Fin 128 → Fin 64 → ℝ) (qs : Fin 64 → ℝ) (a w : Fin 128 → Fin 64 → ℝ) : Prop where
  gate : H.gate = if T.first then ⊥ else 0
  q : ∀ g i d, H.q d (col g i) = (x g i d : EReal)
  tq : ∀ g i d, T.q g i d = x g i d * root (x g i) * qs d
  qg : ∀ g i d, H.qg d (col g i) = (qs d : EReal)
  kp : ∀ k d, H.kp k d = (a k d : EReal)
  ka : ¬T.first → ∀ k d, a k d = T.k (Tile.prev k) d
  kc : ∀ k d, H.kc k d = (T.k (Tile.cur k) d : EReal)
  vp : ∀ k d, H.vp k d = (w k d : EReal)
  va : ¬T.first → ∀ k d, w k d = T.v (Tile.prev k) d
  vc : ∀ k d, H.vc k d = (T.v (Tile.cur k) d : EReal)
  tri : ∀ g i k, H.tri k (col g i) = before i k
  bias : ∀ g i k, H.bias k (col g i) = ((-T.slope g * Tile.dist i (Tile.fold i k) : ℝ) : EReal)
  sink : ∀ g i, H.sink (col g i) = (T.sink g : EReal)

theorem ofBits_half : Ideal.ofBits .f32 0x3F000000#32 = ((1 / 2 : ℝ) : EReal) := by
  simp [Ideal.ofBits, Ideal.ieee, -EReal.coe_mul]; norm_num

theorem half_lt_before (i k : Fin 128) : Ideal.ofBits .f32 0x3F000000#32 < before i k ↔ i < k := by
  rw [ofBits_half]
  unfold before
  split
  · rename_i h
    exact iff_of_true (by rw [← EReal.coe_one]; exact EReal.coe_lt_coe_iff.2 (by norm_num)) h
  · rename_i h
    exact iff_of_false (by rw [← EReal.coe_zero]; exact fun g => absurd (EReal.coe_lt_coe_iff.1 g) (by norm_num)) h

variable {H : Probs} {T : Tile} {x : Fin 8 → Fin 128 → Fin 64 → ℝ} {qs : Fin 64 → ℝ} {a w : Fin 128 → Fin 64 → ℝ}
  (R : H.Runs) (V : H.Reads T x qs a w) (g : Fin 8) (i : Fin 128)
include R V

theorem y_eq (d : Fin 64) : H.y d (col g i) = ((x g i d * root (x g i) : ℝ) : EReal) := by
  rw [R.y]
  simp only [V.q]
  rw [root_eq, ← EReal.coe_mul]

theorem qh_eq (d : Fin 64) : H.qh d (col g i) = ((T.q g i d * (1 / 8) : ℝ) : EReal) := by
  rw [R.qh, y_eq R V, V.qg, ofBits_eighth, ← EReal.coe_mul, ← EReal.coe_mul, V.tq, mul_assoc (x g i d * root (x g i))]

open Classical in
theorem s_eq (k : Fin 128) : H.s k (col g i) = if T.first ∧ i < k then ⊥ else (T.score g i (Tile.fold i k) : EReal) := by
  rw [R.s, V.tri, V.bias, V.gate]
  simp only [qh_eq R V, V.kp, V.kc, ← EReal.coe_mul, coe_sum, half_lt_before]
  by_cases h : i < k
  · rw [if_pos h]
    by_cases f : T.first
    · rw [if_pos f, if_pos ⟨f, h⟩, EReal.add_bot, EReal.bot_add]
    · rw [if_neg f, if_neg (fun o => f o.1), add_zero, ← EReal.coe_add]
      simp only [Tile.score, V.ka f, Tile.fold, if_pos h, Finset.sum_mul, mul_assoc]
  · rw [if_neg h, if_neg (fun o => h o.2), ← EReal.coe_add]
    simp only [Tile.score, Tile.fold, if_neg h, Finset.sum_mul, mul_assoc]

theorem p_eq (k : Fin 128) : H.p k (col g i) = (T.p g i (Tile.fold i k) : EReal) := by
  rw [R.p, V.sink]
  exact (T.probs g i _ (s_eq R V g i)).1 k

theorem ps_eq : H.ps (col g i) = (T.ps g i : EReal) := by
  rw [R.ps, V.sink]
  exact (T.probs g i _ (s_eq R V g i)).2

end Probs

/-- The gradient's arrays: the cotangent `c`, the probabilities' cotangent, its mean, the scores' gradient, that and the probabilities split
    into the block before and the block itself, the sinks' gradient, the scaled query's. -/
structure Grads extends Probs where
  c : Fin 64 → Fin 1024 → EReal
  dp : Fin 128 → Fin 1024 → EReal
  dl : Fin 1024 → EReal
  ds : Fin 128 → Fin 1024 → EReal
  dsp : Fin 128 → Fin 1024 → EReal
  dsc : Fin 128 → Fin 1024 → EReal
  pp : Fin 128 → Fin 1024 → EReal
  pc : Fin 128 → Fin 1024 → EReal
  dz : Fin 1024 → EReal
  dq : Fin 64 → Fin 1024 → EReal

namespace Grads

/-- How they are computed. -/
structure Runs (H : Grads) : Prop where
  fwd : H.toProbs.Runs
  dp : ∀ k x, H.dp k x = if Ideal.ofBits .f32 0x3F000000#32 < H.tri k x then ∑ d, H.vp k d * H.c d x else ∑ d, H.vc k d * H.c d x
  dl : ∀ x, H.dl x = ∑ k, H.p k x * H.dp k x
  ds : ∀ k x, H.ds k x = H.p k x * (H.dp k x - H.dl x)
  dsp : ∀ k x, H.dsp k x = H.ds k x * H.tri k x
  dsc : ∀ k x, H.dsc k x = H.ds k x - H.dsp k x
  pp : ∀ k x, H.pp k x = H.p k x * H.tri k x
  pc : ∀ k x, H.pc k x = H.p k x - H.p k x * H.tri k x
  dz : ∀ x, H.dz x = (0 - H.ps x) * H.dl x
  dq : ∀ d x, H.dq d x = (∑ k, H.kp k d * H.dsp k x + ∑ k, H.kc k d * H.dsc k x) * Ideal.ofBits .f32 0x3E000000#32

/-- The sum over the heads, as the body adds them up. -/
def eight (f : Fin 8 → EReal) : EReal := f 0 + f 1 + f 2 + f 3 + f 4 + f 5 + f 6 + f 7

/-- The norm's gradient at an element of a column: `f` the column, `h` the cotangent times the scale. -/
def norm (f h : Fin 64 → EReal) (d : Fin 64) : EReal := RmsGrad.byHand (Ideal.ofBits .f32 0x42800000#32) f h 0 d

variable {H : Grads} {T : Tile} {x : Fin 8 → Fin 128 → Fin 64 → ℝ} {qs : Fin 64 → ℝ} {a w : Fin 128 → Fin 64 → ℝ}
  (R : H.Runs) (V : H.toProbs.Reads T x qs a w) (C : ∀ g i d, H.c d (col g i) = (T.c g i d : EReal)) (g : Fin 8) (i : Fin 128)
include R V C

/-- A probability's cotangent, the keys of the block before being what they are. -/
def cot (T : Tile) (w : Fin 128 → Fin 64 → ℝ) (g : Fin 8) (i k : Fin 128) : ℝ :=
  if i < k then ∑ d, w k d * T.c g i d else ∑ d, T.v (Tile.cur k) d * T.c g i d

theorem dp_eq (k : Fin 128) : H.dp k (col g i) = (cot T w g i k : EReal) := by
  rw [R.dp, V.tri]
  simp only [V.vp, V.vc, C, ← EReal.coe_mul, coe_sum, Probs.half_lt_before, cot]
  split <;> rfl

theorem cot_eq (k : Fin 128) (h : ¬(T.first ∧ i < k)) : cot T w g i k = T.dp g i (Tile.fold i k) := by
  unfold cot Tile.fold Tile.dp
  split
  · rename_i g'
    exact Finset.sum_congr rfl fun d _ => by rw [V.va (fun f => h ⟨f, g'⟩), mul_comm]
  · exact Finset.sum_congr rfl fun d _ => mul_comm _ _

theorem dl_eq : H.dl (col g i) = (T.delta g i : EReal) := by
  rw [R.dl]
  exact (T.grads g i (Probs.p_eq R.fwd V g i) (dp_eq R V C g i) (cot_eq R V C g i)).1

theorem ds_eq (k : Fin 128) : H.ds k (col g i) = (T.ds g i (Tile.fold i k) : EReal) := by
  rw [R.ds, dl_eq R V C]
  exact (T.grads g i (Probs.p_eq R.fwd V g i) (dp_eq R V C g i) (cot_eq R V C g i)).2 k

theorem dsp_eq (k : Fin 128) : H.dsp k (col g i) = (T.ds g i (Tile.prev k) : EReal) := by
  rw [R.dsp, ds_eq R V C, V.tri]
  exact T.fold_prev i (T.ds g i) (fun s h => T.ds_eq_zero h g) k

theorem dsc_eq (k : Fin 128) : H.dsc k (col g i) = (T.ds g i (Tile.cur k) : EReal) := by
  rw [R.dsc, R.dsp, ds_eq R V C, V.tri]
  exact T.fold_cur i (T.ds g i) (fun s h => T.ds_eq_zero h g) k

omit C in
theorem pp_eq (k : Fin 128) : H.pp k (col g i) = (T.p g i (Tile.prev k) : EReal) := by
  rw [R.pp, Probs.p_eq R.fwd V, V.tri]
  exact T.fold_prev i (T.p g i) (fun s h => T.p_eq_zero h g) k

omit C in
theorem pc_eq (k : Fin 128) : H.pc k (col g i) = (T.p g i (Tile.cur k) : EReal) := by
  rw [R.pc, Probs.p_eq R.fwd V, V.tri]
  exact T.fold_cur i (T.p g i) (fun s h => T.p_eq_zero h g) k

/-- The sinks' gradient, of one query and of all. -/
theorem dz_eq : H.dz (col g i) = (T.dsink g i : EReal) := by
  rw [R.dz, Probs.ps_eq R.fwd V, dl_eq R V C, ← EReal.coe_zero, ← EReal.coe_sub, ← EReal.coe_mul, Tile.dsink, zero_sub]

theorem dz_sum : ∑ i, H.dz (col g i) = ((∑ i, T.dsink g i : ℝ) : EReal) := by
  simp only [dz_eq R V C, coe_sum]

theorem dq_eq (d : Fin 64) : H.dq d (col g i) = (T.dq g i d : EReal) := by
  rw [R.dq, ofBits_eighth]
  simp only [V.kp, V.kc, dsp_eq R V C, dsc_eq R V C]
  exact T.dq_halves g i d a fun f k => V.ka f k d

/-- The queries' scale's gradient: what one block adds. -/
theorem dqg_eq (d : Fin 64) : eight (fun g => H.dq d (col g i) * H.y d (col g i))
    = ((∑ g, T.dq g i d * (x g i d * root (x g i)) : ℝ) : EReal) := by
  simp only [dq_eq R V C, Probs.y_eq R.fwd V, ← EReal.coe_mul]
  rw [← coe_sum, eight, Fin.sum_univ_eight]

/-- The raw queries' gradient. -/
theorem raw_eq (d : Fin 64) : norm (fun d => H.q d (col g i)) (fun d => H.dq d (col g i) * H.qg d (col g i)) d
    = RmsGrad.byRule (Ideal.ofBits .f32 0x42800000#32) (fun d => (x g i d : EReal)) (fun d => ((T.dq g i d * qs d : ℝ) : EReal)) 0 d := by
  rw [norm, ofBits_64, RmsGrad.byHand_eq (by norm_num)]
  simp only [V.q, dq_eq R V C, V.qg, EReal.coe_mul]

/-- Keys' and values' gradients. -/
theorem dkp_eq (k : Fin 128) (d : Fin 64) : ∑ x, H.dsp k x * H.qh d x = (T.dk (Tile.prev k) d : EReal) :=
  T.dk_cols _ d (fun g i => dsp_eq R V C g i k) fun g i => Probs.qh_eq R.fwd V g i d
theorem dkc_eq (k : Fin 128) (d : Fin 64) : ∑ x, H.dsc k x * H.qh d x = (T.dk (Tile.cur k) d : EReal) :=
  T.dk_cols _ d (fun g i => dsc_eq R V C g i k) fun g i => Probs.qh_eq R.fwd V g i d
theorem dvp_eq (k : Fin 128) (d : Fin 64) : ∑ x, H.pp k x * H.c d x = (T.dv (Tile.prev k) d : EReal) :=
  T.dv_cols _ d (fun g i => pp_eq R V g i k) fun g i => C g i d
theorem dvc_eq (k : Fin 128) (d : Fin 64) : ∑ x, H.pc k x * H.c d x = (T.dv (Tile.cur k) d : EReal) :=
  T.dv_cols _ d (fun g i => pc_eq R V g i k) fun g i => C g i d

end Grads
end Cert.AttnMath
end
-- ==== Proof.AttnBwdRefValue.lean ====
/- What the attention gradient's reference computes, stage by stage. -/
module

public import proofs.«01_k».proof.Proof.Gen.AttnBwdRefIdeal.Read
public import proofs.«01_k».proof.Proof.RmsGrad
public import proofs.«01_k».proof.Proof.AttnMath
public import Idealize.ShloMosaic.Lib.WordArith
public import Idealize.ShloMosaic.Lib.WordCmp
public import Idealize.ShloMosaic.Lib.Pointwise

@[expose] public section

set_option maxRecDepth 16384

noncomputable section

namespace Cert.AttnBwdRefIdeal.Grad

open Cert.AttnBwdRefIdeal Cert.AttnBwdRefIdeal.Gen Cert.AttnBwdRefIdeal.Read Idealize.ShloMosaic AttnMath

variable (x0 : (⟨S8192x1024, .f32⟩ : BufTy).Contents (Elt Ideal)) (x1 : (⟨S8192x256, .f32⟩ : BufTy).Contents (Elt Ideal))
  (x2 x3 : (⟨S64, .f32⟩ : BufTy).Contents (Elt Ideal)) (x4 : (⟨S16, .f32⟩ : BufTy).Contents (Elt Ideal))
  (x5 : (⟨S8192x1024, .bf16⟩ : BufTy).Contents (Elt Ideal))

/-- The arguments are the reals `A`. -/
structure Holds (A : Args) : Prop where
  q : ∀ r j, x0 (ix2 r j) = (A.q r j : EReal)
  kv : ∀ r j, x1 (ix2 r j) = (A.kv r j : EReal)
  qs : ∀ d, x2 (ix1 d) = (A.qs d : EReal)
  ks : ∀ d, x3 (ix1 d) = (A.ks d : EReal)
  sink : ∀ h, x4 (ix1 h) = (A.sink h : EReal)
  c : ∀ r j, x5 (ix2 r j) = (A.c r j : EReal)

variable {x0 x1 x2 x3 x4 x5} {A : Args} (H : Holds x0 x1 x2 x3 x4 x5 A)
include H

/-! ## Keys, values, queries and the cotangent -/

omit H in
theorem keys_row (w : Fin 8) (r : Fin 2176) (d : Fin 64) :
    val_main_v20 (F := Ideal) x1 x3 (ix3 w r d) = if h : r.val < 128 then 0 else val_main_v14 (F := Ideal) x1 x3 (ix4 ⟨w.val / 2, by omega⟩ ⟨r.val - 128, by omega⟩ ⟨w.val % 2, by omega⟩ d) := by
  pointwise [val_main_v20, val_main_v19, val_main_v18, val_main_v17, val_main_cst_2]

omit H in
theorem values_row (w : Fin 8) (r : Fin 2176) (d : Fin 64) :
    val_main_v24 (F := Ideal) x1 (ix3 w r d) = if h : r.val < 128 then 0 else val_main_v16 (F := Ideal) x1 (ix4 ⟨w.val / 2, by omega⟩ ⟨r.val - 128, by omega⟩ ⟨w.val % 2, by omega⟩ d) := by
  pointwise [val_main_v24, val_main_v23, val_main_v22, val_main_v17, val_main_cst_2]

omit H in
theorem key_norm (b : Fin 4) (t : Fin 2048) (kh : Fin 2) (d : Fin 64) :
    val_main_v14 (F := Ideal) x1 x3 (ix4 b t kh d) = x1 (ix2 ⟨b.val * 2048 + t.val, by omega⟩ ⟨kh.val * 64 + d.val, by omega⟩) * Ideal.rsqrt (RmsGrad.meanSq (Ideal.ofBits .f32 0x42800000#32) (fun d : Fin 64 => x1 (ix2 ⟨b.val * 2048 + t.val, by omega⟩ ⟨kh.val * 64 + d.val, by omega⟩))) * x3 (ix1 d) := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

omit H in
theorem value_row (b : Fin 4) (t : Fin 2048) (kh : Fin 2) (d : Fin 64) :
    val_main_v16 (F := Ideal) x1 (ix4 b t kh d) = x1 (ix2 ⟨b.val * 2048 + t.val, by omega⟩ ⟨128 + (kh.val * 64 + d.val), by omega⟩) := by
  pointwise [val_main_v16, val_main_v15]

/-- A window's row is a row of its sequence, padded in front. -/
theorem window_row (z : Fin 128) (s : Fin 256) (f : Fin 2176 → EReal) :
    (if h : s.val < 128 then f ⟨z.val % 16 * 128 + s.val, by omega⟩ else f ⟨(1 + z.val % 16) * 128 + (s.val - 128), by omega⟩)
      = f ⟨z.val % 16 * 128 + s.val, by omega⟩ := by
  split
  · rfl
  · exact congrArg f (Fin.ext (by show (1 + z.val % 16) * 128 + (s.val - 128) = z.val % 16 * 128 + s.val; omega))

theorem key_eq (z : Fin 128) (s : Fin 256) (d : Fin 64) :
    val_main_v32 (F := Ideal) x1 x3 (ix3 z s d) = ((A.tile z).k s d : EReal) := by
  pointwise [val_main_v32, val_main_v28, val_main_v27, val_main_v26, val_main_v21]
  rw [window_row H z s fun r => val_main_v20 (F := Ideal) x1 x3 (ix3 ⟨z.val / 16, by omega⟩ r d), keys_row]
  simp only [Args.tile]
  split
  · rename_i h
    exact EReal.coe_zero.symm
  · rename_i h
    rw [key_norm, EReal.coe_mul, EReal.coe_mul, ← root_eq, H.ks]
    have e : ∀ d, x1 (ix2 ⟨z.val / 16 / 2 * 2048 + (z.val % 16 * 128 + s.val - 128), by omega⟩ ⟨z.val / 16 % 2 * 64 + d.val, by omega⟩) = (A.kx z s h d : EReal) := fun d => by
      rw [H.kv]
      refine congrArg Real.toEReal (congrArg₂ A.kv (Fin.ext ?_) rfl)
      show z.val / 16 / 2 * 2048 + (z.val % 16 * 128 + s.val - 128) = z.val / 32 * 2048 + (z.val % 16 * 128 + s.val - 128)
      omega
    simp only [e]

theorem value_eq (z : Fin 128) (s : Fin 256) (d : Fin 64) :
    val_main_v33 (F := Ideal) x1 (ix3 z s d) = ((A.tile z).v s d : EReal) := by
  pointwise [val_main_v33, val_main_v31, val_main_v30, val_main_v29, val_main_v25]
  rw [window_row H z s fun r => val_main_v24 (F := Ideal) x1 (ix3 ⟨z.val / 16, by omega⟩ r d), values_row]
  simp only [Args.tile]
  split
  · rename_i h
    exact EReal.coe_zero.symm
  · rename_i h
    rw [value_row, H.kv]
    refine congrArg Real.toEReal (congrArg₂ A.kv (Fin.ext ?_) rfl)
    show z.val / 16 / 2 * 2048 + (z.val % 16 * 128 + s.val - 128) = z.val / 32 * 2048 + (z.val % 16 * 128 + s.val - 128)
    omega

/-- The rows of queries, by block, position and head. -/
def qrows (A : Args) (u : Fin 64) (i : Fin 128) (h : Fin 16) (d : Fin 64) : ℝ := A.q ⟨u.val * 128 + i.val, by omega⟩ ⟨h.val * 64 + d.val, by omega⟩

omit H in
theorem query_row (u : Fin 64) (i : Fin 128) (h : Fin 16) (d : Fin 64) :
    val_main_v35 (F := Ideal) x0 (ix4 u i h d) = x0 (ix2 ⟨u.val * 128 + i.val, by omega⟩ ⟨h.val * 64 + d.val, by omega⟩) := by
  pointwise [val_main_v35]

omit H in
theorem query_mean (u : Fin 64) (i : Fin 128) (h : Fin 16) (o : Fin 1) :
    val_main_v42 (F := Ideal) x0 (ix4 u i h o) = RmsGrad.meanSq (Ideal.ofBits .f32 0x42800000#32) (fun d => val_main_v35 (F := Ideal) x0 (ix4 u i h d)) := by
  pointwise [val_main_v42, val_main_v41, val_main_v40, val_main_v39, val_main_v38, val_main_v37, val_main_v36, val_main_cst_3, val_main_cst_4, val_main_cst_5]
  rfl

omit H in
theorem query_root (u : Fin 64) (i : Fin 128) (h : Fin 16) (o : Fin 1) :
    val_main_v43 (F := Ideal) x0 (ix4 u i h o) = Ideal.rsqrt (RmsGrad.meanSq (Ideal.ofBits .f32 0x42800000#32) (fun d => val_main_v35 (F := Ideal) x0 (ix4 u i h d))) := by
  rw [val_main_v43_apply, query_mean]
  pointwise []

omit H in
theorem query_scale (u : Fin 64) (i : Fin 128) (h : Fin 16) (d : Fin 64) :
    val_main_v50 (F := Ideal) x2 (ix4 u i h d) = x2 (ix1 d) := by
  pointwise [val_main_v50, val_main_v49, val_main_v34]

theorem query_real (u : Fin 64) (i : Fin 128) (h : Fin 16) (d : Fin 64) :
    val_main_v35 (F := Ideal) x0 (ix4 u i h d) = (qrows A u i h d : EReal) := by
  rw [query_row, H.q]; rfl

theorem query_norm (u : Fin 64) (i : Fin 128) (h : Fin 16) (d : Fin 64) :
    val_main_v48 (F := Ideal) x0 (ix4 u i h d) = ((qrows A u i h d * root (qrows A u i h) : ℝ) : EReal) := by
  rw [val_main_v48_apply, query_real H, EReal.coe_mul, ← root_eq]
  pointwise [val_main_v47]
  rw [query_root]
  simp only [query_real H]

/-- Position `i` of window `z` is position `i` of a block. -/
theorem query_eq (z i : Fin 128) (g : Fin 8) (d : Fin 64) :
    val_main_v54 (F := Ideal) x0 x2 (ix4 z i g d) = ((A.tile z).q g i d : EReal) := by
  pointwise [val_main_v54, val_main_v53, val_main_v52]
  rw [val_main_v51_apply, query_scale, query_norm H, H.qs, Ideal.mulf_def, ← EReal.coe_mul]
  have e : ∀ d' : Fin 64, qrows A ⟨z.val / 32 * 16 + (z.val % 16 * 128 + i.val) / 128, by omega⟩ i ⟨z.val / 16 % 2 * 8 + (g.val * 64 + d.val) / 64, by omega⟩ d' = A.qv z g i d' := fun d' =>
    congrArg₂ A.q (Fin.ext (by simp only [qrow]; omega)) (Fin.ext (by simp only [qcol]; omega))
  have e' : qrows A ⟨z.val / 32 * 16 + (z.val % 16 * 128 + i.val) / 128, by omega⟩ i ⟨z.val / 16 % 2 * 8 + (g.val * 64 + d.val) / 64, by omega⟩ = A.qv z g i := funext e
  rw [e']
  rfl

theorem cot_eq (z i : Fin 128) (g : Fin 8) (d : Fin 64) :
    val_main_v163 (F := Ideal) x5 (ix4 z i g d) = ((A.tile z).c g i d : EReal) := by
  pointwise [val_main_v163, val_main_v162, val_main_v161, val_main_v160]
  rw [H.c]; rfl

/-! ## Scores -/

omit H in
theorem dist_eq (i : Fin 128) (s : Fin 256) :
    val_main_v66 (F := Ideal) (ix2 i s) = IntOp.subi (IntOp.addi (BitVec.ofNat 32 i.val) 128#32) (BitVec.ofNat 32 s.val) := by
  pointwise [val_main_v66, val_main_v65, val_main_v64, val_main_v63, val_main_v62, val_main_v61, val_main_v60, val_main_v59, val_main_v58, val_main_c]

omit H in
theorem dist_int (i : Fin 128) (s : Fin 256) : (val_main_v66 (F := Ideal) (ix2 i s)).toInt = (i.val : ℤ) + 128 - s.val := by
  have ha : IntOp.addi (BitVec.ofNat 32 i.val) 128#32 = BitVec.ofNat 32 (i.val + 128) := (BitVec.ofNat_add i.val 128).symm
  rw [dist_eq, ha, WordArith.toInt_subi_of_nonneg _ _ (by rw [WordArith.toInt_ofNat_small _ (by omega)]; omega) (by rw [WordArith.toInt_ofNat_small _ (by omega)]; omega),
    WordArith.toInt_ofNat_small _ (by omega), WordArith.toInt_ofNat_small _ (by omega)]
  omega

theorem bias_eq (z i : Fin 128) (g : Fin 8) (s : Fin 256) :
    val_main_v108 (F := Ideal) (ix4 z i g s) = ((-(A.tile z).slope g * Tile.dist i s : ℝ) : EReal) := by
  pointwise [val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89,  val_main_cst_13, val_main_cst_14, val_main_cst_15, val_main_cst_16]
  have e : FloatOps.sitofp (F := Ideal) .f32 (val_main_v66 (F := Ideal) (ix2 i s)) = (((i.val : ℝ) + 128 - s.val : ℝ) : EReal) := by
    show (((val_main_v66 (F := Ideal) (ix2 i s)).toInt : ℝ) : EReal) = _
    rw [dist_int]; push_cast; rfl
  have e2 : FloatOps.sitofp (F := Ideal) .f32 (BitVec.ofNat 32 (z.val / 16 % 2 * 8 + g.val)) = (((head z g).val : ℝ) : EReal) := by
    show (((BitVec.ofNat 32 (z.val / 16 % 2 * 8 + g.val)).toInt : ℝ) : EReal) = _
    rw [WordArith.toInt_ofNat_small _ (by omega)]; rfl
  rw [e, e2, ofBits_ln2, ofBits_neg_8, ofBits_16]
  have one : (1 : EReal) = ((1 : ℝ) : EReal) := rfl
  rw [one, ← EReal.coe_add, ← EReal.coe_mul, div_real _ (by norm_num), ← EReal.coe_mul, Ideal.exp_coe, ← EReal.coe_neg, ← EReal.coe_mul]
  rfl

theorem score_eq (z i : Fin 128) (g : Fin 8) (s : Fin 256) :
    val_main_v110 (F := Ideal) x0 x1 x2 x3 (ix4 z i g s) = ((A.tile z).score g i s : EReal) := by
  rw [val_main_v110_apply, bias_eq H]
  pointwise [val_main_v57, val_main_v56, val_main_v55, val_main_cst_7]
  simp only [query_eq H, key_eq H, ofBits_eighth, ← EReal.coe_mul, coe_sum, ← EReal.coe_add, Tile.score, mul_comm]

open Classical in
theorem valid_eq (z i : Fin 128) (s : Fin 256) :
    val_main_v88 (F := Ideal) (ix3 z i s) = if (A.tile z).ok i s then 1#1 else 0#1 := by
  pointwise [val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v61, val_main_v60, val_main_c_8, val_main_c_9, val_main_c_10, val_main_c_11, val_main_c_12]
  have hm : IntOp.muli (BitVec.ofNat 32 (z.val % 16)) 128#32 = BitVec.ofNat 32 (z.val % 16 * 128) := (BitVec.ofNat_mul (z.val % 16) 128).symm
  have h1 : (IntOp.subi (BitVec.ofNat 32 (z.val % 16 * 128)) 128#32).toInt = ((z.val % 16 * 128 : ℕ) : ℤ) - 128 := by
    rw [WordArith.toInt_subi_of_nonneg _ _ (by rw [WordArith.toInt_ofNat_small _ (by omega)]; omega) (by decide), WordArith.toInt_ofNat_small _ (by omega)]
    rfl
  have h2 : (IntOp.addi (IntOp.subi (BitVec.ofNat 32 (z.val % 16 * 128)) 128#32) (BitVec.ofNat 32 s.val)).toInt = ((z.val % 16 * 128 : ℕ) : ℤ) - 128 + s.val := by
    refine (WordArith.toInt_add_of_bounds _ _ ?_ ?_).trans ?_ <;> rw [h1, WordArith.toInt_ofNat_small _ (by omega)] <;> omega
  have c0 : (0#32).toInt = 0 := by decide
  have c1 : (128#32).toInt = 128 := by decide
  rw [hm, WordCmp.cmpi_sge_eq, WordCmp.cmpi_slt_eq, WordCmp.cmpi_sge_eq, WordCmp.andi_ofBool, WordCmp.andi_ofBool, dist_int, h2, c0, c1]
  by_cases h : (A.tile z).ok i s
  · rw [if_pos h]
    obtain ⟨g1, g2, g3⟩ := h
    have g3' : z.val % 16 = 0 → 128 ≤ s.val := g3
    have e1 : (0 : ℤ) ≤ (i.val : ℤ) + 128 - s.val := by omega
    have e2 : (i.val : ℤ) + 128 - s.val < 128 := by omega
    have e3 : (0 : ℤ) ≤ ((z.val % 16 * 128 : ℕ) : ℤ) - 128 + s.val := by omega
    simp only [e1, e2, e3, decide_true, Bool.and_self]
    rfl
  · rw [if_neg h]
    have e : (decide ((0 : ℤ) ≤ (i.val : ℤ) + 128 - s.val) && decide ((i.val : ℤ) + 128 - s.val < 128) && decide ((0 : ℤ) ≤ ((z.val % 16 * 128 : ℕ) : ℤ) - 128 + s.val)) = false := by
      rw [Bool.eq_false_iff]
      intro g
      simp only [Bool.and_eq_true, decide_eq_true_eq] at g
      exact h ⟨by omega, by omega, fun f => by have : z.val % 16 = 0 := f; omega⟩
    rw [e]
    rfl

omit H in
theorem ofBits_bot : Ideal.ofBits .f32 0xFF800000#32 = ⊥ := by
  simp [Ideal.ofBits, Ideal.ieee]

open Classical in
theorem masked_eq (z i : Fin 128) (g : Fin 8) (s : Fin 256) :
    val_main_v111_0 (F := Ideal) x0 x1 x2 x3 (ix4 z i g s) = if (A.tile z).ok i s then ((A.tile z).score g i s : EReal) else ⊥ := by
  rw [val_main_v111_0_apply, score_eq H]
  pointwise [val_main_v111_1, val_main_v109, val_main_call0_v2]
  rw [valid_eq H, val_main_call0_v0_apply, val_main_cst_17_apply]
  split
  · rfl
  · exact ofBits_bot

/-! ## The largest score -/

theorem max_real (z i : Fin 128) (g : Fin 8) :
    ∃ M : ℝ, val_main_v115 (F := Ideal) x0 x1 x2 x3 (ix3 z i g) = (M : EReal) ∧ ∃ s, val_main_v111_0 (F := Ideal) x0 x1 x2 x3 (ix4 z i g s) = (M : EReal) := by
  pointwise [val_main_v115, val_main_cst_18]
  rw [ofBits_bot]
  refine fold_max_real _ ⟨Tile.cur i, (A.tile z).score g i (Tile.cur i), ?_⟩ fun s => ?_
  · rw [masked_eq H, if_pos ((A.tile z).ok_self i)]
  · rw [masked_eq H]
    split
    · exact EReal.coe_ne_top _
    · exact bot_ne_top

/-- How many keys have the largest score: at least one. -/
theorem count_real (z i : Fin 128) (g : Fin 8) :
    ∃ c : ℝ, c ≠ 0 ∧ val_main_v120 (F := Ideal) x0 x1 x2 x3 (ix3 z i g) = (c : EReal) := by
  obtain ⟨M, hM, s, hs⟩ := max_real H z i g
  pointwise [val_main_v120, val_main_v119, val_main_v118, val_main_v117, val_main_v116, val_main_cst_19]
  refine ⟨∑ x : Fin 256, ((BitVec.ofBool (decide (val_main_v111_0 (F := Ideal) x0 x1 x2 x3 (ix4 z i g x) = val_main_v115 (F := Ideal) x0 x1 x2 x3 (ix3 z i g)))).toNat : ℝ), ?_, ?_⟩
  · refine (Finset.sum_pos' (fun x _ => Nat.cast_nonneg _) ⟨s, Finset.mem_univ s, ?_⟩).ne'
    rw [hs, hM]
    simp
  · exact coe_sum _ _

omit H in
theorem sink_row (z i : Fin 128) (g : Fin 8) (o : Fin 1) :
    val_main_v122 (F := Ideal) x4 (ix4 z i g o) = x4 (ix1 ⟨z.val / 16 % 2 * 8 + g.val, by omega⟩) := by
  pointwise [val_main_v122, val_main_v114, val_main_v113, val_main_v112]

/-- What the weights are measured against: the largest score, or the sink. -/
def top (x0 : (⟨S8192x1024, .f32⟩ : BufTy).Contents (Elt Ideal)) (x1 : (⟨S8192x256, .f32⟩ : BufTy).Contents (Elt Ideal))
    (x2 x3 : (⟨S64, .f32⟩ : BufTy).Contents (Elt Ideal)) (x4 : (⟨S16, .f32⟩ : BufTy).Contents (Elt Ideal)) (z i : Fin 128) (g : Fin 8) : ℝ :=
  (val_main_v123 (F := Ideal) x0 x1 x2 x3 x4 (ix4 z i g 0)).toReal

theorem top_eq (z i : Fin 128) (g : Fin 8) (o : Fin 1) :
    val_main_v123 (F := Ideal) x0 x1 x2 x3 x4 (ix4 z i g o) = (top x0 x1 x2 x3 x4 z i g : EReal) := by
  obtain ⟨M, hM, -⟩ := max_real H z i g
  have ho : o = 0 := Subsingleton.elim _ _
  subst ho
  have e : val_main_v123 (F := Ideal) x0 x1 x2 x3 x4 (ix4 z i g 0) = ((max M ((A.tile z).sink g) : ℝ) : EReal) := by
    rw [val_main_v123_apply, sink_row, H.sink]
    pointwise [val_main_v121]
    rw [hM]
    exact (EReal.coe_strictMono.monotone.map_max).symm
  rw [top, e, EReal.toReal_coe]

/-! ## Weights and probabilities -/

theorem wt_eq (z i : Fin 128) (g : Fin 8) (s : Fin 256) :
    val_main_v144 (F := Ideal) x0 x1 x2 x3 x4 (ix4 z i g s) = ((A.tile z).wt (top x0 x1 x2 x3 x4 z i g) g i s : EReal) := by
  rw [val_main_v144_apply, val_main_v143_apply, masked_eq H]
  pointwise [val_main_v142]
  rw [top_eq H, Tile.wt]
  split
  · rw [← EReal.coe_sub, Ideal.exp_coe]
  · rw [EReal.bot_sub, Ideal.exp_bot, EReal.coe_zero]

theorem sink_eq (z i : Fin 128) (g : Fin 8) (o : Fin 1) :
    val_main_v149 (F := Ideal) x0 x1 x2 x3 x4 (ix4 z i g o) = ((Real.exp ((A.tile z).sink g - top x0 x1 x2 x3 x4 z i g) : ℝ) : EReal) := by
  have e : val_main_v147 (F := Ideal) x4 (ix4 z i g o) = ((A.tile z).sink g : EReal) := (sink_row z i g o).trans (H.sink _)
  rw [val_main_v149_apply, val_main_v148_apply, top_eq H, e]
  pointwise []
  rw [← EReal.coe_sub, Ideal.exp_coe]

theorem total_eq (z i : Fin 128) (g : Fin 8) (o : Fin 1) :
    val_main_v150 (F := Ideal) x0 x1 x2 x3 x4 (ix4 z i g o) = ((A.tile z).total (top x0 x1 x2 x3 x4 z i g) g i : EReal) := by
  rw [val_main_v150_apply, sink_eq H]
  pointwise [val_main_v146, val_main_v145, val_main_cst_26]
  simp only [wt_eq H, coe_sum]
  rw [← EReal.coe_add]
  rfl

theorem p_eq (z i : Fin 128) (g : Fin 8) (s : Fin 256) :
    val_main_v152 (F := Ideal) x0 x1 x2 x3 x4 (ix4 z i g s) = ((A.tile z).p g i s : EReal) := by
  rw [val_main_v152_apply, wt_eq H]
  pointwise [val_main_v151]
  rw [total_eq H, div_real _ (Tile.total_pos _ _ _ _).ne', Tile.wt_div_total]

theorem dp_eq (z i : Fin 128) (g : Fin 8) (s : Fin 256) :
    val_main_v166 (F := Ideal) x1 x5 (ix4 z i g s) = ((A.tile z).dp g i s : EReal) := by
  pointwise [val_main_v166]
  simp only [cot_eq H, value_eq H, ← EReal.coe_mul, coe_sum, Tile.dp]

/-! ## Gradients of the scores -/

/-- The chain rule's gradient of the total. -/
def dtotal (T : Tile) (M : ℝ) (g : Fin 8) (i : Fin 128) : ℝ := -∑ k, T.dp g i k * (1 / (T.total M g i * T.total M g i)) * T.wt M g i k

theorem square_eq (z i : Fin 128) (g : Fin 8) (o : Fin 1) :
    val_main_v155 (F := Ideal) x0 x1 x2 x3 x4 (ix4 z i g o)
      = ((1 / ((A.tile z).total (top x0 x1 x2 x3 x4 z i g) g i * (A.tile z).total (top x0 x1 x2 x3 x4 z i g) g i) : ℝ) : EReal) := by
  have h := ((A.tile z).total_pos (top x0 x1 x2 x3 x4 z i g) g i).ne'
  rw [val_main_v155_apply, val_main_v153_apply, total_eq H]
  pointwise [val_main_v154, val_main_cst_27]
  have one : (1 : EReal) = ((1 : ℝ) : EReal) := rfl
  rw [← EReal.coe_mul, one, div_real _ (mul_ne_zero h h)]

theorem dtotal_eq (z i : Fin 128) (g : Fin 8) (o : Fin 1) :
    val_main_v172 (F := Ideal) x0 x1 x2 x3 x4 x5 (ix4 z i g o) = (dtotal (A.tile z) (top x0 x1 x2 x3 x4 z i g) g i : EReal) := by
  pointwise [val_main_v172, val_main_v171, val_main_v170, val_main_v169, val_main_v168, val_main_v167, val_main_cst_28]
  simp only [dp_eq H, square_eq H, wt_eq H, ← EReal.coe_mul, coe_sum]
  rw [← EReal.coe_neg]
  rfl

/-- The chain rule's gradient of a score. -/
def dscore (T : Tile) (M : ℝ) (g : Fin 8) (i : Fin 128) (s : Fin 256) : ℝ :=
  (T.dp g i s / T.total M g i + dtotal T M g i) * T.wt M g i s

omit H in
theorem dscore_ds (T : Tile) (M : ℝ) (g : Fin 8) (i : Fin 128) (s : Fin 256) : dscore T M g i s = T.ds g i s := by
  have h := soft_score (T.wt M g i) (T.dp g i) (T.total M g i) (T.total_pos M g i).ne' s
  simp only [Tile.wt_div_total] at h
  exact h

theorem dscore_eq (z i : Fin 128) (g : Fin 8) (s : Fin 256) :
    val_main_v182 (F := Ideal) x0 x1 x2 x3 x4 x5 (ix4 z i g s) = (dscore (A.tile z) (top x0 x1 x2 x3 x4 z i g) g i s : EReal) := by
  rw [val_main_v182_apply, val_main_v181_apply, val_main_v174_apply, dp_eq H, wt_eq H]
  pointwise [val_main_v173, val_main_v180, val_main_v179, val_main_cst_30]
  rw [total_eq H, Fin.sum_univ_one, dtotal_eq H, div_real _ (Tile.total_pos _ _ _ _).ne', ← EReal.coe_add, ← EReal.coe_mul]
  rfl

theorem dsink_eq (z i : Fin 128) (g : Fin 8) (o : Fin 1) :
    val_main_v175 (F := Ideal) x0 x1 x2 x3 x4 x5 (ix4 z i g o)
      = ((dtotal (A.tile z) (top x0 x1 x2 x3 x4 z i g) g i * Real.exp ((A.tile z).sink g - top x0 x1 x2 x3 x4 z i g) : ℝ) : EReal) := by
  rw [val_main_v175_apply, dtotal_eq H, sink_eq H, Ideal.mulf_def, ← EReal.coe_mul]

omit H in
theorem dtotal_sink (T : Tile) (M : ℝ) (g : Fin 8) (i : Fin 128) : dtotal T M g i * Real.exp (T.sink g - M) = T.dsink g i := by
  have h := soft_sink (T.wt M g i) (T.dp g i) (Real.exp (T.sink g - M)) (T.total M g i) (T.total_pos M g i).ne'
  simp only [Tile.wt_div_total, Tile.sink_div_total] at h
  exact h

/-- Through the largest score nothing comes back. -/
theorem dmax_eq (z i : Fin 128) (g : Fin 8) (o : Fin 1) :
    val_main_v186 (F := Ideal) x0 x1 x2 x3 x4 x5 (ix4 z i g o) = 0 := by
  rw [val_main_v186_apply, val_main_v178_apply, dsink_eq H]
  pointwise [val_main_v185, val_main_v184, val_main_v183, val_main_cst_31]
  simp only [dscore_eq H, ← EReal.coe_neg, coe_sum]
  rw [← EReal.coe_add, ← EReal.coe_zero]
  exact congrArg Real.toEReal (soft_max ((A.tile z).wt _ g i) ((A.tile z).dp g i) _ _ ((A.tile z).total_pos (top x0 x1 x2 x3 x4 z i g) g i).ne' rfl)

theorem dties_eq (z i : Fin 128) (g : Fin 8) (s : Fin 256) :
    val_main_v195 (F := Ideal) x0 x1 x2 x3 x4 x5 (ix4 z i g s) = 0 := by
  obtain ⟨c, hc, h⟩ := count_real H z i g
  rw [val_main_v195_apply]
  pointwise [val_main_v194]
  have e : val_main_v193 (F := Ideal) x0 x1 x2 x3 x4 x5 (ix3 z i g) = 0 := by
    rw [val_main_v193_apply, h]
    pointwise [val_main_v192, val_main_cst_33]
    rw [Fin.sum_univ_one, val_main_v191_apply, dmax_eq H, Ideal.mulf_def, zero_mul, ← EReal.coe_zero, div_real _ hc, zero_div]
  rw [e, zero_mul]

theorem ds_eq (z i : Fin 128) (g : Fin 8) (s : Fin 256) :
    val_main_v203 (F := Ideal) x0 x1 x2 x3 x4 x5 (ix4 z i g s) = (((A.tile z).ds g i s * (1 / 8) : ℝ) : EReal) := by
  rw [val_main_v203_apply, val_main_v201_apply, val_main_v196_apply, dties_eq H, dscore_eq H, dscore_ds]
  pointwise [val_main_v202, val_main_cst_35, val_main_v111_1, val_main_v109, val_main_call1_v0, val_main_call1_cst]
  rw [valid_eq H, ofBits_eighth]
  split
  · exact (EReal.coe_mul _ _).symm
  · rename_i h
    rw [Tile.ds_eq_zero _ h, zero_mul, EReal.coe_zero]
    rfl

theorem dk_eq (z : Fin 128) (s : Fin 256) (d : Fin 64) :
    val_main_v204 (F := Ideal) x0 x1 x2 x3 x4 x5 (ix3 z s d) = ((A.tile z).dk s d : EReal) := by
  pointwise [val_main_v204]
  simp only [ds_eq H, query_eq H, ← EReal.coe_mul, coe_sum, Tile.dk]

theorem dv_eq (z : Fin 128) (s : Fin 256) (d : Fin 64) :
    val_main_v165 (F := Ideal) x0 x1 x2 x3 x4 x5 (ix3 z s d) = ((A.tile z).dv s d : EReal) := by
  pointwise [val_main_v165, val_main_v164]
  simp only [cot_eq H, p_eq H, ← EReal.coe_mul, coe_sum, Tile.dv]

theorem dqh_eq (z i : Fin 128) (g : Fin 8) (d : Fin 64) :
    val_main_v205 (F := Ideal) x0 x1 x2 x3 x4 x5 (ix4 z i g d) = ((A.tile z).dq g i d : EReal) := by
  pointwise [val_main_v205]
  simp only [ds_eq H, key_eq H, ← EReal.coe_mul, coe_sum, Tile.dq]

/-! ## Results -/

/-- The window of a block and a head, and the head's place among those that share its key head. -/
def zof (u : Fin 64) (h : Fin 16) : Fin 128 := ⟨u.val / 16 * 32 + h.val / 8 * 16 + u.val % 16, by omega⟩
def gof (h : Fin 16) : Fin 8 := ⟨h.val % 8, by omega⟩

theorem dqh_row (u : Fin 64) (i : Fin 128) (h : Fin 16) (d : Fin 64) :
    val_main_v208 (F := Ideal) x0 x1 x2 x3 x4 x5 (ix4 u i h d) = ((A.tile (zof u h)).dq (gof h) i d : EReal) := by
  pointwise [val_main_v208, val_main_v207, val_main_v206]
  have e1 : (⟨u.val / 16 * 32 + h.val / 8 * 16 + (u.val % 16 * 128 + i.val) / 128, by omega⟩ : Fin 128) = zof u h := by
    apply Fin.ext; simp only [zof]; omega
  have e2 : (⟨(h.val % 8 * 64 + d.val) / 64, by omega⟩ : Fin 8) = gof h := by
    apply Fin.ext; simp only [gof]; omega
  rw [e1, e2, dqh_eq H]

theorem dscaled_row (u : Fin 64) (i : Fin 128) (h : Fin 16) (d : Fin 64) :
    val_main_v213 (F := Ideal) x0 x1 x2 x3 x4 x5 (ix4 u i h d) = (((A.tile (zof u h)).dq (gof h) i d * A.qs d : ℝ) : EReal) := by
  have e : val_main_v212 (F := Ideal) x2 (ix4 u i h d) = (A.qs d : EReal) := (query_scale u i h d).trans (H.qs d)
  rw [val_main_v213_apply, dqh_row H, e, Ideal.mulf_def, ← EReal.coe_mul]

theorem through_eq (u : Fin 64) (i : Fin 128) (h : Fin 16) :
    val_main_v224 (F := Ideal) x0 x1 x2 x3 x4 x5 (ix3 u i h) = RmsGrad.through (Ideal.ofBits .f32 0x42800000#32) (fun k => (qrows A u i h k : EReal)) (fun k : Fin 64 => (((A.tile (zof u h)).dq (gof h) i k * A.qs k : ℝ) : EReal)) := by
  pointwise [val_main_v224, val_main_cst_40]
  rw [Fin.sum_univ_one, val_main_v223_apply, val_main_v221_apply, val_main_v46_apply, val_main_v44_apply, query_root, query_mean]
  pointwise [val_main_v222, val_main_v218, val_main_v217, val_main_v45, val_main_cst_38, val_main_cst_39, val_main_cst_6]
  simp only [val_main_v216_apply, query_real H, dscaled_row H, Ideal.mulf_def, RmsGrad.through]

theorem dq_row (u : Fin 64) (i : Fin 128) (h : Fin 16) (d : Fin 64) :
    val_main_v229 (F := Ideal) x0 x1 x2 x3 x4 x5 (ix4 u i h d)
      = RmsGrad.byRule (Ideal.ofBits .f32 0x42800000#32) (fun k => (qrows A u i h k : EReal)) (fun k : Fin 64 => (((A.tile (zof u h)).dq (gof h) i k * A.qs k : ℝ) : EReal)) 0 d := by
  have e : val_main_v219 (F := Ideal) x0 (ix4 u i h d) = Ideal.rsqrt (RmsGrad.meanSq (Ideal.ofBits .f32 0x42800000#32) fun k => (qrows A u i h k : EReal)) := by
    pointwise [val_main_v219]
    rw [query_root]
    simp only [query_real H]
  have e' : val_main_v225 (F := Ideal) x0 x1 x2 x3 x4 x5 (ix4 u i h d) = val_main_v224 (F := Ideal) x0 x1 x2 x3 x4 x5 (ix3 u i h) := by
    pointwise [val_main_v225]
  rw [val_main_v229_apply, val_main_v228_apply, val_main_v227_apply, val_main_v226_apply, val_main_v220_apply, e, e', through_eq H, dscaled_row H, query_real H,
    RmsGrad.byRule, zero_add]
  rfl

theorem dq_eq (u : Fin 64) (i : Fin 128) (h : Fin 16) (d : Fin 64) :
    val_main_v236 (F := Ideal) x0 x1 x2 x3 x4 x5 (ix2 ⟨u.val * 128 + i.val, by omega⟩ ⟨h.val * 64 + d.val, by omega⟩)
      = RmsGrad.byRule (Ideal.ofBits .f32 0x42800000#32) (fun k => (qrows A u i h k : EReal)) (fun k : Fin 64 => (((A.tile (zof u h)).dq (gof h) i k * A.qs k : ℝ) : EReal)) 0 d := by
  rw [← dq_row H]
  pointwise [val_main_v236, val_main_v230]

omit H in
/-- A host sum over the first and the third of four axes, at an index. -/
theorem sum_first_third {n0 n1 n2 n3 : Nat} (h : (⟨4, ![n0, n1, n2, n3]⟩ : Shape).ReducesTo [0, 2] ⟨2, ![n1, n3]⟩)
    (v : (⟨4, ![n0, n1, n2, n3]⟩ : Shape).Idx → EReal) (init : EReal) (j : Fin n1) (l : Fin n3) :
    Ideal.hostReduceAdd h v init (ix2 j l) = init + ∑ a : Fin n0, ∑ b : Fin n2, v (ix4 a j b l) := by
  refine congrArg (init + ·) ((Finset.sum_filter_eq_sum_of_fiber _ (fun k : Fin n0 × Fin n2 => ix4 k.1 j k.2 l)
    (fun _ _ e => Prod.ext (congrFun e 0) (congrFun e 2)) (fun i => ?_) v).trans (by simp only [Fintype.sum_prod_type]))
  constructor
  · intro e
    refine ⟨(i 0, i 2), ?_⟩
    funext a; apply Fin.ext
    match a with
    | ⟨0, _⟩ => rfl
    | ⟨1, _⟩ => exact (congrArg Fin.val (congrFun e 0)).symm
    | ⟨2, _⟩ => rfl
    | ⟨3, _⟩ => exact (congrArg Fin.val (congrFun e 1)).symm
  · rintro ⟨k, rfl⟩
    funext b
    apply Fin.ext
    match b with
    | ⟨0, _⟩ => rfl
    | ⟨1, _⟩ => rfl

theorem dqg_eq (d : Fin 64) (i : Fin 128) :
    val_main_v256 (F := Ideal) x0 x1 x2 x3 x4 x5 (ix2 d i)
      = ((∑ u : Fin 64, ∑ h : Fin 16, qrows A u i h d * root (qrows A u i h) * (A.tile (zof u h)).dq (gof h) i d : ℝ) : EReal) := by
  pointwise [val_main_v256, val_main_v255, val_main_v215, val_main_v214, val_main_v211, val_main_v210, sum_first_third, val_main_cst_36, val_main_cst_37]
  simp only [Fin.sum_univ_one, val_main_v209_apply, query_norm H, dqh_row H, Ideal.mulf_def, ← EReal.coe_mul, coe_sum]

theorem dsinks_eq (kh : Fin 2) (g : Fin 8) :
    val_main_v198 (F := Ideal) x0 x1 x2 x3 x4 x5 (ix2 kh g)
      = ((∑ b : Fin 4, ∑ n : Fin 16, ∑ i : Fin 128, (A.tile ⟨b.val * 32 + kh.val * 16 + n.val, by omega⟩).dsink g i : ℝ) : EReal) := by
  pointwise [val_main_v198, val_main_v197, sum_first_third, val_main_cst_34]
  have e : ∀ z : Fin 128, val_main_v190 (F := Ideal) x0 x1 x2 x3 x4 x5 (ix4 z 0 g 0) = ((∑ i : Fin 128, (A.tile z).dsink g i : ℝ) : EReal) := fun z => by
    rw [val_main_v190_apply]
    pointwise [val_main_v189, val_main_v188, val_main_v177, val_main_v176, val_main_cst_29, val_main_cst_32]
    simp only [val_main_v187_apply, dmax_eq H, Ideal.mulf_def, zero_mul, Finset.sum_const_zero, add_zero, dsink_eq H, dtotal_sink, coe_sum]
  simp only [e, coe_sum]

theorem dsk_eq (r : Fin 8) (j : Fin 128) :
    val_main_v235 (F := Ideal) x0 x1 x2 x3 x4 x5 (ix2 r j)
      = if r.val < 1 then if h : j.val < 16 then val_main_v198 (F := Ideal) x0 x1 x2 x3 x4 x5 (ix2 ⟨j.val / 8, by omega⟩ ⟨j.val % 8, by omega⟩) else 0 else 0 := by
  pointwise [val_main_v235, val_main_v234, val_main_v233, val_main_v232, val_main_v231, val_main_v200, val_main_v199, val_main_cst_41, val_main_cst_42]
  rfl

/-- The window, the row and the column of a result's place. -/
def zkv (r : Fin 8192) (j : Fin 128) : Fin 128 := ⟨r.val / 2048 * 32 + j.val / 64 * 16 + r.val % 2048 / 128, by omega⟩

theorem dkvc_eq (r : Fin 8192) (j : Fin 256) :
    val_main_v245 (F := Ideal) x0 x1 x2 x3 x4 x5 (ix2 r j)
      = if h : j.val < 128 then ((A.tile (zkv r ⟨j.val, h⟩)).dk (Tile.cur ⟨r.val % 128, by omega⟩) ⟨j.val % 64, by omega⟩ : EReal)
        else ((A.tile (zkv r ⟨j.val - 128, by omega⟩)).dv (Tile.cur ⟨r.val % 128, by omega⟩) ⟨j.val % 64, by omega⟩ : EReal) := by
  pointwise [val_main_v245, val_main_v244, val_main_v243, val_main_v242, val_main_v241, val_main_v240, val_main_v239, val_main_v238, val_main_v237]
  simp only [dk_eq H, dv_eq H]
  split
  · have e : (⟨128 +r.val % 2048 % 128, by omega⟩ : Fin 256) = Tile.cur ⟨r.val % 128, by omega⟩ := by
      apply Fin.ext; simp only [Tile.cur]; omega
    rw [e]
    rfl
  · have e : (⟨128 + r.val % 2048 % 128, by omega⟩ : Fin 256) = Tile.cur ⟨r.val % 128, by omega⟩ := by
      apply Fin.ext; simp only [Tile.cur]; omega
    have e' : (⟨(j.val - 128) % 64, by omega⟩ : Fin 64) = ⟨j.val % 64, by omega⟩ := by
      apply Fin.ext; simp only []; omega
    rw [e, e']
    rfl

theorem dkvp_eq (r : Fin 8192) (j : Fin 256) :
    val_main_v254 (F := Ideal) x0 x1 x2 x3 x4 x5 (ix2 r j)
      = if h : j.val < 128 then ((A.tile (zkv r ⟨j.val, h⟩)).dk (Tile.prev ⟨r.val % 128, by omega⟩) ⟨j.val % 64, by omega⟩ : EReal)
        else ((A.tile (zkv r ⟨j.val - 128, by omega⟩)).dv (Tile.prev ⟨r.val % 128, by omega⟩) ⟨j.val % 64, by omega⟩ : EReal) := by
  pointwise [val_main_v254, val_main_v253, val_main_v252, val_main_v251, val_main_v250, val_main_v249, val_main_v248, val_main_v247, val_main_v246]
  simp only [dk_eq H, dv_eq H]
  split
  · have e : (⟨r.val % 2048 % 128, by omega⟩ : Fin 256) = Tile.prev ⟨r.val % 128, by omega⟩ := by
      apply Fin.ext; simp only [Tile.prev]; omega
    rw [e]
    rfl
  · have e : (⟨r.val % 2048 % 128, by omega⟩ : Fin 256) = Tile.prev ⟨r.val % 128, by omega⟩ := by
      apply Fin.ext; simp only [Tile.prev]; omega
    have e' : (⟨(j.val - 128) % 64, by omega⟩ : Fin 64) = ⟨j.val % 64, by omega⟩ := by
      apply Fin.ext; simp only []; omega
    rw [e, e']
    rfl

end Cert.AttnBwdRefIdeal.Grad
end
-- ==== Proof.AttnBwdBody.lean ====
/- The body of attention's gradient, element by element. -/
module

public import proofs.«01_k».proof.Proof.Gen.AttnBwdIdeal.Frame
public import proofs.«01_k».proof.Proof.AttnHalf
public import proofs.«01_k».proof.Proof.AttnBwdRefValue
public import Idealize.ShloMosaic.Lib.Pipeline.ValueKit
public import Idealize.ShloMosaic.Lib.Pointwise

@[expose] public section

set_option maxRecDepth 16384

noncomputable section

namespace Cert.AttnBwdIdeal.Grad

open Cert.AttnBwdIdeal Cert.AttnBwdIdeal.Gen Cert.AttnMath Idealize.ShloMosaic Idealize.ShloMosaic.TcCoe

/-! ## What the body computes, by columns: a column is a head and a query of it -/

/-- Queries and cotangents, a row each, turned into columns. -/
theorem pay3 (v6 : Vec Ideal S128x1024 .f32) (r : Fin 1024) (i : Fin 128) :
    k0_pay3 v6 (ix2 r i)
      = v6 (ix2 i r) := by
  pointwise [k0_pay3]

theorem pay4 (v8 : Vec Ideal S128x1024 .bf16) (r : Fin 1024) (i : Fin 128) :
    k0_pay4 v8 (ix2 r i)
      = v8 (ix2 i r) := by
  pointwise [k0_pay4]

/-- A column's query. -/
def tok (x : Fin 1024) : Fin 128 := ⟨x.val % 128, by omega⟩

/-- The heads of the first, and of the second, key head side by side. -/
def row0 (d : Fin 64) (x : Fin 1024) : Fin 1024 := ⟨x.val / 128 * 64 + d.val, by omega⟩
def row1 (d : Fin 64) (x : Fin 1024) : Fin 1024 := ⟨512 + (x.val / 128 * 64 + d.val), by omega⟩

theorem pay8 (v7 : FVec Ideal S1024x128 .f32) (d : Fin 64) (x : Fin 1024) :
    k0_pay8 v7 (ix2 d x)
      = v7 (ix2 (row0 d x) (tok x)) := by
  pointwise [k0_pay8]
  unfold row0 tok
  repeat (split; · exact congrArg _ (congrArg₂ ix2 (Fin.ext (by simp only []; omega)) (Fin.ext (by simp only []; omega))))
  exact congrArg _ (congrArg₂ ix2 (Fin.ext (by simp only []; omega)) (Fin.ext (by simp only []; omega)))

theorem pay22 (v10 : FVec Ideal S1024x128 .f32) (d : Fin 64) (x : Fin 1024) :
    k0_pay22 v10 (ix2 d x)
      = v10 (ix2 (row0 d x) (tok x)) := by
  pointwise [k0_pay22]
  unfold row0 tok
  repeat (split; · exact congrArg _ (congrArg₂ ix2 (Fin.ext (by simp only []; omega)) (Fin.ext (by simp only []; omega))))
  exact congrArg _ (congrArg₂ ix2 (Fin.ext (by simp only []; omega)) (Fin.ext (by simp only []; omega)))

theorem pay53 (v7 : FVec Ideal S1024x128 .f32) (d : Fin 64) (x : Fin 1024) :
    k0_pay53 v7 (ix2 d x)
      = v7 (ix2 (row1 d x) (tok x)) := by
  pointwise [k0_pay53]
  unfold row1 tok
  repeat (split; · exact congrArg _ (congrArg₂ ix2 (Fin.ext (by simp only []; omega)) (Fin.ext (by simp only []; omega))))
  exact congrArg _ (congrArg₂ ix2 (Fin.ext (by simp only []; omega)) (Fin.ext (by simp only []; omega)))

theorem pay72 (v10 : FVec Ideal S1024x128 .f32) (d : Fin 64) (x : Fin 1024) :
    k0_pay72 v10 (k0_pay69 v10) (k0_pay70 v10) (k0_pay71 v10) (ix2 d x) = v10 (ix2 (row1 d x) (tok x)) := by
  pointwise [k0_pay72, k0_pay69, k0_pay70, k0_pay71]
  unfold row1 tok
  repeat (split; · exact congrArg _ (congrArg₂ ix2 (Fin.ext (by simp only []; omega)) (Fin.ext (by simp only []; omega))))
  exact congrArg _ (congrArg₂ ix2 (Fin.ext (by simp only []; omega)) (Fin.ext (by simp only []; omega)))

/-- Keys, normalised and scaled. -/
theorem pay5 (v11 : Vec Ideal S128x64 .f32) (v23 : Vec Ideal S1x64 .f32) (k : Fin 128) (d : Fin 64) :
    k0_pay5 v11 v23 (ix2 k d)
      = v11 (ix2 k d) * Ideal.rsqrt (RmsGrad.meanSq (Ideal.ofBits .f32 0x42800000#32) fun d => v11 (ix2 k d)) * v23 (ix2 0 d) := by
  pointwise [k0_pay5]
  rfl

theorem pay7 (v12 : FVec Ideal S128x64 .f32) (v38 : Vec Ideal S1x64 .f32) (k : Fin 128) (d : Fin 64) :
    k0_pay7 (k0_pay6 v12) v38 (ix2 k d) = v12 (ix2 k d) * Ideal.rsqrt (RmsGrad.meanSq (Ideal.ofBits .f32 0x42800000#32) fun d => v12 (ix2 k d)) * v38 (ix2 0 d) := by
  pointwise [k0_pay7, k0_pay6]
  rfl

theorem pay51 (v281 : FVec Ideal S128x64 .f32) (v293 : Vec Ideal S1x64 .f32) (k : Fin 128) (d : Fin 64) :
    k0_pay51 (k0_pay50 v281) v293 (ix2 k d) = v281 (ix2 k d) * Ideal.rsqrt (RmsGrad.meanSq (Ideal.ofBits .f32 0x42800000#32) fun d => v281 (ix2 k d)) * v293 (ix2 0 d) := by
  pointwise [k0_pay51, k0_pay50]
  rfl

theorem pay52 (v282 : Vec Ideal S128x64 .f32) (v308 : Vec Ideal S1x64 .f32) (k : Fin 128) (d : Fin 64) :
    k0_pay52 v282 v308 (ix2 k d)
      = v282 (ix2 k d) * Ideal.rsqrt (RmsGrad.meanSq (Ideal.ofBits .f32 0x42800000#32) fun d => v282 (ix2 k d)) * v308 (ix2 0 d) := by
  pointwise [k0_pay52]
  rfl

/-- A query's reciprocal root, the query normalised, and scaled. -/
theorem pay9 (v7 : FVec Ideal S1024x128 .f32) (x : Fin 1024) :
    k0_pay9 v7 (ix2 0 x)
      = Ideal.rsqrt (RmsGrad.meanSq (Ideal.ofBits .f32 0x42800000#32) fun d => k0_pay8 v7 (ix2 d x)) := by
  pointwise [k0_pay9]
  rfl

theorem pay10 (v7 : FVec Ideal S1024x128 .f32) (d : Fin 64) (x : Fin 1024) :
    k0_pay10 v7 (ix2 d x)
      = k0_pay8 v7 (ix2 d x) * k0_pay9 v7 (ix2 0 x) := by
  pointwise [k0_pay10]

theorem pay11 (v7 : FVec Ideal S1024x128 .f32) (v62 : Vec Ideal S64x1024 .f32) (d : Fin 64) (x : Fin 1024) :
    k0_pay11 v7 v62 (ix2 d x)
      = k0_pay10 v7 (ix2 d x) * (v62 (ix2 d x) * Ideal.ofBits .f32 0x3E000000#32) := by
  pointwise [k0_pay11]

theorem pay54 (v7 : FVec Ideal S1024x128 .f32) (x : Fin 1024) :
    k0_pay54 v7 (ix2 0 x)
      = Ideal.rsqrt (RmsGrad.meanSq (Ideal.ofBits .f32 0x42800000#32) fun d => k0_pay53 v7 (ix2 d x)) := by
  pointwise [k0_pay54]
  rfl

theorem pay55 (v7 : FVec Ideal S1024x128 .f32) (d : Fin 64) (x : Fin 1024) :
    k0_pay55 v7 (ix2 d x)
      = k0_pay53 v7 (ix2 d x) * k0_pay54 v7 (ix2 0 x) := by
  pointwise [k0_pay55]

theorem pay56 (v7 : FVec Ideal S1024x128 .f32) (v332 : Vec Ideal S64x1024 .f32) (d : Fin 64) (x : Fin 1024) :
    k0_pay56 v7 v332 (ix2 d x)
      = k0_pay55 v7 (ix2 d x) * (v332 (ix2 d x) * Ideal.ofBits .f32 0x3E000000#32) := by
  pointwise [k0_pay56]

/-- Scores. -/
theorem pay12 (arg1 : BitVec 32) (v7 : FVec Ideal S1024x128 .f32) (v27 : FVec Ideal S128x64 .bf16) (v37 : FVec Ideal S128x64 .f32) (v38 : Vec Ideal S1x64 .f32) (v62 : Vec Ideal S64x1024 .f32) (v68 : Vec Ideal S128x1024 .f32) (k : Fin 128) (x : Fin 1024) :
    k0_pay12 arg1 v7 v27 v37 v38 v62 v68 (ix2 k x)
      = if Ideal.ofBits .f32 0x3F000000#32 < v68 (ix2 k x) then ∑ d, v27 (ix2 k d) * k0_pay11 v7 v62 (ix2 d x) + Scalar.select (Scalar.cmpi CmpIPredicate.sgt arg1 0#32) 0 ((Named.named κ "mask" 0xF149F2CA#32 : Ideal .f32)) else ∑ d, k0_pay7 v37 v38 (ix2 k d) * k0_pay11 v7 v62 (ix2 d x) := by
  pointwise [k0_pay12]

theorem pay58 (arg1 : BitVec 32) (v297 : FVec Ideal S128x64 .bf16) (v312 : FVec Ideal S128x64 .bf16) (v337 : FVec Ideal S64x1024 .bf16) (v339 : FVec Ideal S128x1024 .f32) (v349 : Vec Ideal S1x128x1024 .f32) (k : Fin 128) (x : Fin 1024) :
    k0_pay58 arg1 v297 v312 v337 v339 v349 (ix2 k x)
      = (if Ideal.ofBits .f32 0x3F000000#32 < v339 (ix2 k x) then ∑ d, v297 (ix2 k d) * v337 (ix2 d x) + Scalar.select (Scalar.cmpi CmpIPredicate.sgt arg1 0#32) 0 ((Named.named κ "mask" 0xF149F2CA#32 : Ideal .f32)) else ∑ d, v312 (ix2 k d) * v337 (ix2 d x)) + v349 (ix3 0 k x) := by
  pointwise [k0_pay58]

theorem pay57 (v338 : Vec Ideal S128x1024 .f32) (k : Fin 128) (x : Fin 1024) :
    k0_pay57 v338 (ix2 k x)
      = v338 (ix2 k x) := by
  pointwise [k0_pay57]

/-- Probabilities, of the keys and of the sink. -/
theorem pay20 (v78 : FVec Ideal S128x1024 .f32) (v79 : Vec Ideal S1x128x1024 .f32) (v82 : Vec Ideal S1x1024 .f32) (k : Fin 128) (x : Fin 1024) :
    k0_pay20 v78 v79 v82 (ix2 k x)
      = weight (fun k => v78 (ix2 k x) + v79 (ix3 0 k x)) (v82 (ix2 0 x)) k * over (fun k => v78 (ix2 k x) + v79 (ix3 0 k x)) (v82 (ix2 0 x)) := by
  pointwise [k0_pay20, k0_pay18, k0_pay17, k0_pay16, k0_pay15, k0_pay14, k0_pay13]
  rw [AttnBwdRefIdeal.Grad.ofBits_bot]
  rfl

theorem pay21 (v78 : FVec Ideal S128x1024 .f32) (v79 : Vec Ideal S1x128x1024 .f32) (v82 : Vec Ideal S1x1024 .f32) (x : Fin 1024) :
    k0_pay21 v78 v79 v82 (ix2 0 x)
      = sinkWeight (fun k => v78 (ix2 k x) + v79 (ix3 0 k x)) (v82 (ix2 0 x)) * over (fun k => v78 (ix2 k x) + v79 (ix3 0 k x)) (v82 (ix2 0 x)) := by
  pointwise [k0_pay21, k0_pay18, k0_pay17, k0_pay16, k0_pay15, k0_pay14, k0_pay13]
  rw [AttnBwdRefIdeal.Grad.ofBits_bot]
  rfl

theorem pay65 (arg1 : BitVec 32) (v297 : FVec Ideal S128x64 .bf16) (v312 : FVec Ideal S128x64 .bf16) (v337 : FVec Ideal S64x1024 .bf16) (v339 : FVec Ideal S128x1024 .f32) (v349 : Vec Ideal S1x128x1024 .f32) (v352 : Vec Ideal S1x1024 .f32) (k : Fin 128) (x : Fin 1024) :
    k0_pay65 arg1 v297 v312 v337 v339 v349 v352 (ix2 k x)
      = weight (fun k => k0_pay58 arg1 v297 v312 v337 v339 v349 (ix2 k x)) (v352 (ix2 0 x)) k * over (fun k => k0_pay58 arg1 v297 v312 v337 v339 v349 (ix2 k x)) (v352 (ix2 0 x)) := by
  pointwise [k0_pay65, k0_pay63, k0_pay62, k0_pay61, k0_pay60, k0_pay59]
  rw [AttnBwdRefIdeal.Grad.ofBits_bot]
  rfl

theorem pay66 (arg1 : BitVec 32) (v297 : FVec Ideal S128x64 .bf16) (v312 : FVec Ideal S128x64 .bf16) (v337 : FVec Ideal S64x1024 .bf16) (v339 : FVec Ideal S128x1024 .f32) (v349 : Vec Ideal S1x128x1024 .f32) (v352 : Vec Ideal S1x1024 .f32) (x : Fin 1024) :
    k0_pay66 arg1 v297 v312 v337 v339 v349 v352 (ix2 0 x)
      = sinkWeight (fun k => k0_pay58 arg1 v297 v312 v337 v339 v349 (ix2 k x)) (v352 (ix2 0 x)) * over (fun k => k0_pay58 arg1 v297 v312 v337 v339 v349 (ix2 k x)) (v352 (ix2 0 x)) := by
  pointwise [k0_pay66, k0_pay63, k0_pay62, k0_pay61, k0_pay60, k0_pay59]
  rw [AttnBwdRefIdeal.Grad.ofBits_bot]
  rfl

theorem pay19 (v97 : Vec Ideal S128x1024 .f32) (k : Fin 128) (x : Fin 1024) :
    k0_pay19 v97 (ix2 k x)
      = v97 (ix2 k x) := by
  pointwise [k0_pay19]

theorem pay64 (v367 : Vec Ideal S128x1024 .f32) (k : Fin 128) (x : Fin 1024) :
    k0_pay64 v367 (ix2 k x)
      = v367 (ix2 k x) := by
  pointwise [k0_pay64]

theorem pay67 (v373 : Vec Ideal S128x64 .f32) (k : Fin 128) (d : Fin 64) :
    k0_pay67 v373 (ix2 k d)
      = v373 (ix2 k d) := by
  pointwise [k0_pay67]

theorem pay68 (v375 : Vec Ideal S128x64 .f32) (k : Fin 128) (d : Fin 64) :
    k0_pay68 v375 (ix2 k d)
      = v375 (ix2 k d) := by
  pointwise [k0_pay68]

theorem pay24 (v10 : FVec Ideal S1024x128 .f32) (v103 : Vec Ideal S128x64 .f32) (k : Fin 128) (x : Fin 1024) :
    k0_pay24 v10 v103 (ix2 k x)
      = ∑ d, v103 (ix2 k d) * k0_pay22 v10 (ix2 d x) := by
  pointwise [k0_pay24]

theorem pay25 (v10 : FVec Ideal S1024x128 .f32) (v105 : Vec Ideal S128x64 .f32) (k : Fin 128) (x : Fin 1024) :
    k0_pay25 v10 v105 (ix2 k x)
      = ∑ d, v105 (ix2 k d) * k0_pay22 v10 (ix2 d x) := by
  pointwise [k0_pay25]

/-- A probability's cotangent. -/
theorem pay26 (v117 : Vec Ideal S128x1024 .f32) (v121 v122 : FVec Ideal S128x1024 .f32) (k : Fin 128) (x : Fin 1024) :
    k0_pay26 (k0_pay23 v117) v121 v122 (ix2 k x) = if Ideal.ofBits .f32 0x3F000000#32 < v117 (ix2 k x) then v121 (ix2 k x) else v122 (ix2 k x) := by
  pointwise [k0_pay26, k0_pay23]

theorem pay73 (v10 : FVec Ideal S1024x128 .f32) (v374 : FVec Ideal S128x64 .bf16) (v376 : FVec Ideal S128x64 .bf16) (v377 : FVec Ideal S64x128 .f32) (v378 : FVec Ideal S64x128 .f32) (v379 : FVec Ideal S64x128 .f32) (v387 : Vec Ideal S128x1024 .f32) (k : Fin 128) (x : Fin 1024) :
    k0_pay73 v10 v374 v376 v377 v378 v379 v387 (ix2 k x)
      = if Ideal.ofBits .f32 0x3F000000#32 < v387 (ix2 k x) then ∑ d, v374 (ix2 k d) * k0_pay72 v10 v377 v378 v379 (ix2 d x) else ∑ d, v376 (ix2 k d) * k0_pay72 v10 v377 v378 v379 (ix2 d x) := by
  pointwise [k0_pay73]

/-- The gradients of the scores and of the sink. -/
theorem pay27 (v101 : FVec Ideal S128x1024 .f32) (v120 : IVec S128x1024 1) (v121 : FVec Ideal S128x1024 .f32) (v122 : FVec Ideal S128x1024 .f32) (x : Fin 1024) :
    k0_pay27 v101 v120 v121 v122 (ix2 0 x)
      = ∑ k, v101 (ix2 k x) * k0_pay26 v120 v121 v122 (ix2 k x) := by
  pointwise [k0_pay27]

theorem pay28 (v101 : FVec Ideal S128x1024 .f32) (v120 : IVec S128x1024 1) (v121 : FVec Ideal S128x1024 .f32) (v122 : FVec Ideal S128x1024 .f32) (k : Fin 128) (x : Fin 1024) :
    k0_pay28 v101 v120 v121 v122 (ix2 k x)
      = v101 (ix2 k x) * (k0_pay26 v120 v121 v122 (ix2 k x) - k0_pay27 v101 v120 v121 v122 (ix2 0 x)) := by
  pointwise [k0_pay28]

theorem pay74 (v10 : FVec Ideal S1024x128 .f32) (v371 : FVec Ideal S128x1024 .f32) (v374 : FVec Ideal S128x64 .bf16) (v376 : FVec Ideal S128x64 .bf16) (v377 : FVec Ideal S64x128 .f32) (v378 : FVec Ideal S64x128 .f32) (v379 : FVec Ideal S64x128 .f32) (v387 : Vec Ideal S128x1024 .f32) (x : Fin 1024) :
    k0_pay74 v10 v371 v374 v376 v377 v378 v379 v387 (ix2 0 x)
      = ∑ k, v371 (ix2 k x) * k0_pay73 v10 v374 v376 v377 v378 v379 v387 (ix2 k x) := by
  pointwise [k0_pay74]

theorem pay75 (v10 : FVec Ideal S1024x128 .f32) (v371 : FVec Ideal S128x1024 .f32) (v374 : FVec Ideal S128x64 .bf16) (v376 : FVec Ideal S128x64 .bf16) (v377 : FVec Ideal S64x128 .f32) (v378 : FVec Ideal S64x128 .f32) (v379 : FVec Ideal S64x128 .f32) (v387 : Vec Ideal S128x1024 .f32) (k : Fin 128) (x : Fin 1024) :
    k0_pay75 v10 v371 v374 v376 v377 v378 v379 v387 (ix2 k x)
      = v371 (ix2 k x) * (k0_pay73 v10 v374 v376 v377 v378 v379 v387 (ix2 k x) - k0_pay74 v10 v371 v374 v376 v377 v378 v379 v387 (ix2 0 x)) := by
  pointwise [k0_pay75]

theorem pay29 (v99 : FVec Ideal S128x1024 .bf16) (v101 : FVec Ideal S128x1024 .f32) (v120 : IVec S128x1024 1) (v121 : FVec Ideal S128x1024 .f32) (v122 : FVec Ideal S128x1024 .f32) (k : Fin 128) (x : Fin 1024) :
    k0_pay29 v99 v101 v120 v121 v122 (ix2 k x)
      = k0_pay28 v101 v120 v121 v122 (ix2 k x) * v99 (ix2 k x) := by
  pointwise [k0_pay29]

theorem pay30 (v99 : FVec Ideal S128x1024 .bf16) (v101 : FVec Ideal S128x1024 .f32) (v120 : IVec S128x1024 1) (v121 : FVec Ideal S128x1024 .f32) (v122 : FVec Ideal S128x1024 .f32) (k : Fin 128) (x : Fin 1024) :
    k0_pay30 v99 v101 v120 v121 v122 (ix2 k x)
      = k0_pay28 v101 v120 v121 v122 (ix2 k x) - k0_pay29 v99 v101 v120 v121 v122 (ix2 k x) := by
  pointwise [k0_pay30]

theorem pay76 (v10 : FVec Ideal S1024x128 .f32) (v369 : FVec Ideal S128x1024 .bf16) (v371 : FVec Ideal S128x1024 .f32) (v374 : FVec Ideal S128x64 .bf16) (v376 : FVec Ideal S128x64 .bf16) (v377 : FVec Ideal S64x128 .f32) (v378 : FVec Ideal S64x128 .f32) (v379 : FVec Ideal S64x128 .f32) (v387 : Vec Ideal S128x1024 .f32) (k : Fin 128) (x : Fin 1024) :
    k0_pay76 v10 v369 v371 v374 v376 v377 v378 v379 v387 (ix2 k x)
      = k0_pay75 v10 v371 v374 v376 v377 v378 v379 v387 (ix2 k x) * v369 (ix2 k x) := by
  pointwise [k0_pay76]

theorem pay77 (v10 : FVec Ideal S1024x128 .f32) (v369 : FVec Ideal S128x1024 .bf16) (v371 : FVec Ideal S128x1024 .f32) (v374 : FVec Ideal S128x64 .bf16) (v376 : FVec Ideal S128x64 .bf16) (v377 : FVec Ideal S64x128 .f32) (v378 : FVec Ideal S64x128 .f32) (v379 : FVec Ideal S64x128 .f32) (v387 : Vec Ideal S128x1024 .f32) (k : Fin 128) (x : Fin 1024) :
    k0_pay77 v10 v369 v371 v374 v376 v377 v378 v379 v387 (ix2 k x)
      = k0_pay75 v10 v371 v374 v376 v377 v378 v379 v387 (ix2 k x) - k0_pay76 v10 v369 v371 v374 v376 v377 v378 v379 v387 (ix2 k x) := by
  pointwise [k0_pay77]

theorem pay32 (v99 : FVec Ideal S128x1024 .bf16) (v101 : FVec Ideal S128x1024 .f32) (k : Fin 128) (x : Fin 1024) :
    k0_pay32 v99 v101 (ix2 k x)
      = v101 (ix2 k x) * v99 (ix2 k x) := by
  pointwise [k0_pay32, k0_pay31]

theorem pay33 (v99 : FVec Ideal S128x1024 .bf16) (v101 : FVec Ideal S128x1024 .f32) (k : Fin 128) (x : Fin 1024) :
    k0_pay33 v99 v101 (ix2 k x)
      = v101 (ix2 k x) - v101 (ix2 k x) * v99 (ix2 k x) := by
  pointwise [k0_pay33, k0_pay31, k0_pay32]

theorem pay79 (v369 : FVec Ideal S128x1024 .bf16) (v371 : FVec Ideal S128x1024 .f32) (k : Fin 128) (x : Fin 1024) :
    k0_pay79 v369 v371 (ix2 k x)
      = v371 (ix2 k x) * v369 (ix2 k x) := by
  pointwise [k0_pay79, k0_pay78]

theorem pay80 (v369 : FVec Ideal S128x1024 .bf16) (v371 : FVec Ideal S128x1024 .f32) (k : Fin 128) (x : Fin 1024) :
    k0_pay80 v369 v371 (ix2 k x)
      = v371 (ix2 k x) - v371 (ix2 k x) * v369 (ix2 k x) := by
  pointwise [k0_pay80, k0_pay78, k0_pay79]

theorem pay34 (v101 : FVec Ideal S128x1024 .f32) (v102 : FVec Ideal S1x1024 .f32) (v120 : IVec S128x1024 1) (v121 : FVec Ideal S128x1024 .f32) (v122 : FVec Ideal S128x1024 .f32) (x : Fin 1024) :
    k0_pay34 v101 v102 v120 v121 v122 (ix2 0 x)
      = (0 - v102 (ix2 0 x)) * k0_pay27 v101 v120 v121 v122 (ix2 0 x) := by
  pointwise [k0_pay34]

theorem pay81 (v10 : FVec Ideal S1024x128 .f32) (v371 : FVec Ideal S128x1024 .f32) (v372 : FVec Ideal S1x1024 .f32) (v374 : FVec Ideal S128x64 .bf16) (v376 : FVec Ideal S128x64 .bf16) (v377 : FVec Ideal S64x128 .f32) (v378 : FVec Ideal S64x128 .f32) (v379 : FVec Ideal S64x128 .f32) (v387 : Vec Ideal S128x1024 .f32) (x : Fin 1024) :
    k0_pay81 v10 v371 v372 v374 v376 v377 v378 v379 v387 (ix2 0 x)
      = (0 - v372 (ix2 0 x)) * k0_pay74 v10 v371 v374 v376 v377 v378 v379 v387 (ix2 0 x) := by
  pointwise [k0_pay81]

/-- The scaled query's gradient. -/
theorem pay35 (v27 : FVec Ideal S128x64 .bf16) (v42 : FVec Ideal S128x64 .bf16) (v99 : FVec Ideal S128x1024 .bf16) (v101 : FVec Ideal S128x1024 .f32) (v120 : IVec S128x1024 1) (v121 : FVec Ideal S128x1024 .f32) (v122 : FVec Ideal S128x1024 .f32) (d : Fin 64) (x : Fin 1024) :
    k0_pay35 v27 v42 v99 v101 v120 v121 v122 (ix2 d x)
      = (∑ k, v27 (ix2 k d) * k0_pay29 v99 v101 v120 v121 v122 (ix2 k x) + ∑ k, v42 (ix2 k d) * k0_pay30 v99 v101 v120 v121 v122 (ix2 k x)) * Ideal.ofBits .f32 0x3E000000#32 := by
  pointwise [k0_pay35]

theorem pay82 (v10 : FVec Ideal S1024x128 .f32) (v297 : FVec Ideal S128x64 .bf16) (v312 : FVec Ideal S128x64 .bf16) (v369 : FVec Ideal S128x1024 .bf16) (v371 : FVec Ideal S128x1024 .f32) (v374 : FVec Ideal S128x64 .bf16) (v376 : FVec Ideal S128x64 .bf16) (v377 : FVec Ideal S64x128 .f32) (v378 : FVec Ideal S64x128 .f32) (v379 : FVec Ideal S64x128 .f32) (v387 : Vec Ideal S128x1024 .f32) (d : Fin 64) (x : Fin 1024) :
    k0_pay82 v10 v297 v312 v369 v371 v374 v376 v377 v378 v379 v387 (ix2 d x)
      = (∑ k, v297 (ix2 k d) * k0_pay76 v10 v369 v371 v374 v376 v377 v378 v379 v387 (ix2 k x) + ∑ k, v312 (ix2 k d) * k0_pay77 v10 v369 v371 v374 v376 v377 v378 v379 v387 (ix2 k x)) * Ideal.ofBits .f32 0x3E000000#32 := by
  pointwise [k0_pay82]

theorem col_zero (i : Fin 128) : (⟨i.val, by omega⟩ : Fin 1024) = col 0 i := Fin.ext (by simp [col])

/-- What is added to the queries' scale's gradient. -/
theorem pay36 (v27 : FVec Ideal S128x64 .bf16) (v42 : FVec Ideal S128x64 .bf16) (v61 : FVec Ideal S64x1024 .f32) (v99 : FVec Ideal S128x1024 .bf16) (v101 : FVec Ideal S128x1024 .f32) (v120 : IVec S128x1024 1) (v121 : FVec Ideal S128x1024 .f32) (v122 : FVec Ideal S128x1024 .f32) (v145 : Vec Ideal S64x128 .f32) (d : Fin 64) (i : Fin 128) :
    k0_pay36 v27 v42 v61 v99 v101 v120 v121 v122 v145 (ix2 d i)
      = v145 (ix2 d i) + Grads.eight fun g => k0_pay35 v27 v42 v99 v101 v120 v121 v122 (ix2 d (col g i)) * v61 (ix2 d (col g i)) := by
  pointwise [k0_pay36]
  rw [col_zero]
  rfl

theorem pay87 (v10 : FVec Ideal S1024x128 .f32) (v297 : FVec Ideal S128x64 .bf16) (v312 : FVec Ideal S128x64 .bf16) (v331 : FVec Ideal S64x1024 .f32) (v369 : FVec Ideal S128x1024 .bf16) (v371 : FVec Ideal S128x1024 .f32) (v374 : FVec Ideal S128x64 .bf16) (v376 : FVec Ideal S128x64 .bf16) (v377 : FVec Ideal S64x128 .f32) (v378 : FVec Ideal S64x128 .f32) (v379 : FVec Ideal S64x128 .f32) (v387 : Vec Ideal S128x1024 .f32) (v416 : FVec Ideal S64x128 .f32) (d : Fin 64) (i : Fin 128) :
    k0_pay87 (k0_pay83 v10 v297 v312 v331 v369 v371 v374 v376 v377 v378 v379 v387) (k0_pay84 v416) (k0_pay85 v10 v297 v312 v331 v369 v371 v374 v376 v377 v378 v379 v387) (k0_pay86 v10 v297 v312 v331 v369 v371 v374 v376 v377 v378 v379 v387) (ix2 d i)
      = v416 (ix2 d i) + Grads.eight fun g => k0_pay82 v10 v297 v312 v369 v371 v374 v376 v377 v378 v379 v387 (ix2 d (col g i)) * v331 (ix2 d (col g i)) := by
  pointwise [k0_pay87, k0_pay86, k0_pay85, k0_pay84, k0_pay83]
  rw [col_zero]
  rfl

set_option maxHeartbeats 4000000 in
/-- Eight slabs of columns one below the other. -/
theorem slabs (w : FVec Ideal S64x1024 .f32) (r : Fin 512) (i : Fin 128) :
    concatenate S512x128 0 [⟨S64x128, extractStridedSlice S64x128 ![0, 0] w slices_S64x1024_o0_0_S64x128⟩, ⟨S64x128, extractStridedSlice S64x128 ![0, 128] w slices_S64x1024_o0_128_S64x128⟩,
        ⟨S64x128, extractStridedSlice S64x128 ![0, 256] w slices_S64x1024_o0_256_S64x128⟩, ⟨S64x128, extractStridedSlice S64x128 ![0, 384] w slices_S64x1024_o0_384_S64x128⟩,
        ⟨S64x128, extractStridedSlice S64x128 ![0, 512] w slices_S64x1024_o0_512_S64x128⟩, ⟨S64x128, extractStridedSlice S64x128 ![0, 640] w slices_S64x1024_o0_640_S64x128⟩,
        ⟨S64x128, extractStridedSlice S64x128 ![0, 768] w slices_S64x1024_o0_768_S64x128⟩, ⟨S64x128, extractStridedSlice S64x128 ![0, 896] w slices_S64x1024_o0_896_S64x128⟩]
      concatenates_S64x128_S64x128_S64x128_S64x128_S64x128_S64x128_S64x128_S64x128_S512x128_d0 (ix2 r i)
      = w (ix2 ⟨r.val % 64, by omega⟩ (col ⟨r.val / 64, by omega⟩ i)) := by
  pointwise
  unfold col
  repeat (split; · exact congrArg _ (congrArg₂ ix2 (Fin.ext (by simp only []; omega)) (Fin.ext (by simp only []; omega))))
  exact congrArg _ (congrArg₂ ix2 (Fin.ext (by simp only []; omega)) (Fin.ext (by simp only []; omega)))

theorem pay39 (v27 : FVec Ideal S128x64 .bf16) (v42 : FVec Ideal S128x64 .bf16) (v99 : FVec Ideal S128x1024 .bf16) (v101 : FVec Ideal S128x1024 .f32) (v120 : IVec S128x1024 1) (v121 : FVec Ideal S128x1024 .f32) (v122 : FVec Ideal S128x1024 .f32) (v7 : FVec Ideal S1024x128 .f32) (v166 : Vec Ideal S64x1024 .f32) (r : Fin 512) (i : Fin 128) (d : Fin 64) (x : Fin 1024)
    (hd : ⟨r.val % 64, by omega⟩ = d) (hx : col ⟨r.val / 64, by omega⟩ i = x) :
    k0_pay39 (k0_pay9 v7) (k0_pay10 v7) (k0_pay37 v27 v42 v99 v101 v120 v121 v122 v166) (k0_pay38 v27 v42 (k0_pay10 v7) v99 v101 v120 v121 v122 v166) (ix2 r i)
      = Grads.norm (fun d => k0_pay8 v7 (ix2 d x)) (fun d => k0_pay35 v27 v42 v99 v101 v120 v121 v122 (ix2 d x) * v166 (ix2 d x)) d := by
  refine (slabs _ r i).trans ?_
  rw [hd, hx]
  pointwise [k0_pay37, k0_pay38]
  simp only [pay9, pay10]
  exact (zero_add _).symm

theorem pay88 (v7 : FVec Ideal S1024x128 .f32) (v413 : FVec Ideal S64x1024 .f32) (v436 : Vec Ideal S64x1024 .f32) (r : Fin 512) (i : Fin 128) (d : Fin 64) (x : Fin 1024)
    (hd : ⟨r.val % 64, by omega⟩ = d) (hx : col ⟨r.val / 64, by omega⟩ i = x) :
    k0_pay88 (k0_pay54 v7) (k0_pay55 v7) v413 v436 (ix2 r i)
      = Grads.norm (fun d => k0_pay53 v7 (ix2 d x)) (fun d => v413 (ix2 d x) * v436 (ix2 d x)) d := by
  refine (slabs _ r i).trans ?_
  rw [hd, hx]
  pointwise
  simp only [pay54, pay55]
  exact (zero_add _).symm

theorem pay99 (v187 : FVec Ideal S512x128 .f32) (v457 : FVec Ideal S512x128 .f32) (i : Fin 128) (j : Fin 1024) :
    k0_pay99 v187 v457 (ix2 i j)
      = if h : j.val < 512 then v187 (ix2 ⟨j.val, h⟩ i) else v457 (ix2 ⟨j.val - 512, by omega⟩ i) := by
  pointwise [k0_pay99]

/-- The gradients of keys and values. -/
theorem pay46 (v67 : FVec Ideal S64x1024 .bf16) (v131 : FVec Ideal S128x1024 .bf16) (k : Fin 128) (d : Fin 64) :
    k0_pay46 v67 v131 (ix2 k d)
      = ∑ x, v131 (ix2 k x) * v67 (ix2 d x) := by
  pointwise [k0_pay46]

theorem pay47 (v67 : FVec Ideal S64x1024 .bf16) (v132 : FVec Ideal S128x1024 .bf16) (k : Fin 128) (d : Fin 64) :
    k0_pay47 v67 v132 (ix2 k d)
      = ∑ x, v132 (ix2 k x) * v67 (ix2 d x) := by
  pointwise [k0_pay47]

theorem pay48 (v116 : FVec Ideal S64x1024 .bf16) (v134 : FVec Ideal S128x1024 .bf16) (k : Fin 128) (d : Fin 64) :
    k0_pay48 v116 v134 (ix2 k d)
      = ∑ x, v134 (ix2 k x) * v116 (ix2 d x) := by
  pointwise [k0_pay48]

theorem pay49 (v116 : FVec Ideal S64x1024 .bf16) (v135 : FVec Ideal S128x1024 .bf16) (k : Fin 128) (d : Fin 64) :
    k0_pay49 v116 v135 (ix2 k d)
      = ∑ x, v135 (ix2 k x) * v116 (ix2 d x) := by
  pointwise [k0_pay49]

theorem pay95 (v337 : FVec Ideal S64x1024 .bf16) (v401 : FVec Ideal S128x1024 .bf16) (k : Fin 128) (d : Fin 64) :
    k0_pay95 v337 v401 (ix2 k d)
      = ∑ x, v401 (ix2 k x) * v337 (ix2 d x) := by
  pointwise [k0_pay95]

theorem pay96 (v337 : FVec Ideal S64x1024 .bf16) (v402 : FVec Ideal S128x1024 .bf16) (k : Fin 128) (d : Fin 64) :
    k0_pay96 v337 v402 (ix2 k d)
      = ∑ x, v402 (ix2 k x) * v337 (ix2 d x) := by
  pointwise [k0_pay96]

theorem pay97 (v386 : FVec Ideal S64x1024 .bf16) (v404 : FVec Ideal S128x1024 .bf16) (k : Fin 128) (d : Fin 64) :
    k0_pay97 v386 v404 (ix2 k d)
      = ∑ x, v404 (ix2 k x) * v386 (ix2 d x) := by
  pointwise [k0_pay97]

theorem pay98 (v386 : FVec Ideal S64x1024 .bf16) (v405 : FVec Ideal S128x1024 .bf16) (k : Fin 128) (d : Fin 64) :
    k0_pay98 v386 v405 (ix2 k d)
      = ∑ x, v405 (ix2 k x) * v386 (ix2 d x) := by
  pointwise [k0_pay98]

/-- A sink's sum over its head's columns, in its own lane. -/
def lane (w : FVec Ideal S1x1024 .f32) (b : BitVec 32) (l : Fin 128) (g : Fin 8) : EReal :=
  Scalar.select (IntOp.cmpi .eq (BitVec.ofNat 32 l.val) b) (∑ i, w (ix2 0 (col g i))) 0

theorem pay45 (w : FVec Ideal S1x1024 .f32) (v269 : Vec Ideal S1x128 .f32) (l : Fin 128) :
    k0_pay45 (k0_pay42 (iota Kind.tc S1x128 32 [1] iota_S1x128_d1_w32) w (k0_pay40 (iota Kind.tc S1x128 32 [1] iota_S1x128_d1_w32) w) (k0_pay41 (iota Kind.tc S1x128 32 [1] iota_S1x128_d1_w32) w)) (k0_pay43 (iota Kind.tc S1x128 32 [1] iota_S1x128_d1_w32)) (k0_pay44 w) v269 (ix2 0 l)
      = v269 (ix2 0 l) + (lane w 0#32 l 0 + lane w 1#32 l 1 + lane w 2#32 l 2 + lane w 3#32 l 3 + lane w 4#32 l 4 + lane w 5#32 l 5 + lane w 6#32 l 6 + lane w 7#32 l 7) := by
  pointwise [k0_pay45, k0_pay44, k0_pay43, k0_pay42, k0_pay41, k0_pay40]
  rfl

theorem pay94 (w : FVec Ideal S1x1024 .f32) (v539 : Vec Ideal S1x128 .f32) (l : Fin 128) :
    k0_pay94 (iota Kind.tc S1x128 32 [1] iota_S1x128_d1_w32) w (k0_pay92 (iota Kind.tc S1x128 32 [1] iota_S1x128_d1_w32) w (k0_pay89 (iota Kind.tc S1x128 32 [1] iota_S1x128_d1_w32) w) (k0_pay90 (iota Kind.tc S1x128 32 [1] iota_S1x128_d1_w32)) (k0_pay91 w)) k0_pay93 v539 (ix2 0 l)
      = v539 (ix2 0 l) + (lane w 8#32 l 0 + lane w 9#32 l 1 + lane w 10#32 l 2 + lane w 11#32 l 3 + lane w 12#32 l 4 + lane w 13#32 l 5 + lane w 14#32 l 6 + lane w 15#32 l 7) := by
  pointwise [k0_pay94, k0_pay93, k0_pay92, k0_pay91, k0_pay90, k0_pay89]
  rfl

end Cert.AttnBwdIdeal.Grad
end
-- ==== Proof.AttnBwdHalves.lean ====
/- The two halves of the body of attention's gradient: what they compute and what they read. -/
module

public import proofs.«01_k».proof.Proof.AttnHalf
public import proofs.«01_k».proof.Proof.AttnBwdBody

@[expose] public section

set_option maxRecDepth 16384

noncomputable section

namespace Cert.AttnBwdIdeal.Grad

open Cert.AttnBwdIdeal Cert.AttnBwdIdeal.Gen Cert.AttnMath Idealize.ShloMosaic Idealize.ShloMosaic.TcCoe

/-- What masks the block before. -/
def gate (n : BitVec 32) : EReal :=
  Scalar.select (Scalar.cmpi CmpIPredicate.sgt n 0#32) 0 (Named.named κ "mask" 0xF149F2CA#32 : Ideal .f32)

section
variable (n : BitVec 32) (v7 v10 : FVec Ideal S1024x128 .f32) (kp kc vp vc : FVec Ideal S128x64 .f32) (kg : Vec Ideal S1x64 .f32)
  (qg : Vec Ideal S64x1024 .f32) (tri : Vec Ideal S128x1024 .f32) (bias : Vec Ideal S1x128x1024 .f32) (sink : Vec Ideal S1x1024 .f32)

/-- The first half's scores before the bias, its probabilities, and the sinks'. -/
def score0 : FVec Ideal S128x1024 .f32 := k0_pay12 n v7 (k0_pay5 kp kg) (k0_pay6 kc) kg qg tri
def prob0 : FVec Ideal S128x1024 .f32 := k0_pay20 (score0 n v7 kp kc kg qg tri) bias sink
def sink0 : FVec Ideal S1x1024 .f32 := k0_pay21 (score0 n v7 kp kc kg qg tri) bias sink

/-- The half of the first key head. -/
def half0 : Grads where
  gate := gate n
  q d x := k0_pay8 v7 (ix2 d x)
  qg d x := qg (ix2 d x)
  y d x := k0_pay10 v7 (ix2 d x)
  qh d x := k0_pay11 v7 qg (ix2 d x)
  kp k d := k0_pay5 kp kg (ix2 k d)
  kc k d := k0_pay7 (k0_pay6 kc) kg (ix2 k d)
  vp k d := vp (ix2 k d)
  vc k d := vc (ix2 k d)
  tri k x := tri (ix2 k x)
  bias k x := bias (ix3 0 k x)
  sink x := sink (ix2 0 x)
  s k x := score0 n v7 kp kc kg qg tri (ix2 k x) + bias (ix3 0 k x)
  p k x := prob0 n v7 kp kc kg qg tri bias sink (ix2 k x)
  ps x := sink0 n v7 kp kc kg qg tri bias sink (ix2 0 x)
  c d x := k0_pay22 v10 (ix2 d x)
  dp k x := k0_pay26 (k0_pay23 tri) (k0_pay24 v10 vp) (k0_pay25 v10 vc) (ix2 k x)
  dl x := k0_pay27 (prob0 n v7 kp kc kg qg tri bias sink) (k0_pay23 tri) (k0_pay24 v10 vp) (k0_pay25 v10 vc) (ix2 0 x)
  ds k x := k0_pay28 (prob0 n v7 kp kc kg qg tri bias sink) (k0_pay23 tri) (k0_pay24 v10 vp) (k0_pay25 v10 vc) (ix2 k x)
  dsp k x := k0_pay29 (k0_pay19 tri) (prob0 n v7 kp kc kg qg tri bias sink) (k0_pay23 tri) (k0_pay24 v10 vp) (k0_pay25 v10 vc) (ix2 k x)
  dsc k x := k0_pay30 (k0_pay19 tri) (prob0 n v7 kp kc kg qg tri bias sink) (k0_pay23 tri) (k0_pay24 v10 vp) (k0_pay25 v10 vc) (ix2 k x)
  pp k x := k0_pay32 (k0_pay19 tri) (prob0 n v7 kp kc kg qg tri bias sink) (ix2 k x)
  pc k x := k0_pay33 (k0_pay19 tri) (prob0 n v7 kp kc kg qg tri bias sink) (ix2 k x)
  dz x := k0_pay34 (prob0 n v7 kp kc kg qg tri bias sink) (sink0 n v7 kp kc kg qg tri bias sink) (k0_pay23 tri) (k0_pay24 v10 vp) (k0_pay25 v10 vc) (ix2 0 x)
  dq d x := k0_pay35 (k0_pay5 kp kg) (k0_pay7 (k0_pay6 kc) kg) (k0_pay19 tri) (prob0 n v7 kp kc kg qg tri bias sink) (k0_pay23 tri) (k0_pay24 v10 vp) (k0_pay25 v10 vc) (ix2 d x)

theorem runs0 : (half0 n v7 v10 kp kc vp vc kg qg tri bias sink).Runs where
  fwd.y d x := by dsimp only [half0]; rw [pay10, pay9]
  fwd.qh d x := by dsimp only [half0]; rw [pay11]
  fwd.s k x := by dsimp only [half0]; rw [score0, pay12]; rfl
  fwd.p k x := by dsimp only [half0]; rw [prob0, pay20]
  fwd.ps x := by dsimp only [half0]; rw [sink0, pay21]
  dp k x := by dsimp only [half0]; rw [pay26, pay24, pay25]; exact if_congr Iff.rfl rfl rfl
  dl x := by dsimp only [half0]; rw [pay27]
  ds k x := by dsimp only [half0]; rw [pay28]
  dsp k x := by dsimp only [half0]; rw [pay29, pay19]
  dsc k x := by dsimp only [half0]; rw [pay30]
  pp k x := by dsimp only [half0]; rw [pay32, pay19]
  pc k x := by dsimp only [half0]; rw [pay33, pay19]
  dz x := by dsimp only [half0]; rw [pay34]
  dq d x := by dsimp only [half0]; rw [pay35]

/-- The second half's probabilities, and the sinks'. -/
def prob1 : FVec Ideal S128x1024 .f32 := k0_pay65 n (k0_pay51 (k0_pay50 kp) kg) (k0_pay52 kc kg) (k0_pay56 v7 qg) (k0_pay57 tri) bias sink
def sink1 : FVec Ideal S1x1024 .f32 := k0_pay66 n (k0_pay51 (k0_pay50 kp) kg) (k0_pay52 kc kg) (k0_pay56 v7 qg) (k0_pay57 tri) bias sink

/-- The half of the second key head. -/
def half1 : Grads where
  gate := gate n
  q d x := k0_pay53 v7 (ix2 d x)
  qg d x := qg (ix2 d x)
  y d x := k0_pay55 v7 (ix2 d x)
  qh d x := k0_pay56 v7 qg (ix2 d x)
  kp k d := k0_pay51 (k0_pay50 kp) kg (ix2 k d)
  kc k d := k0_pay52 kc kg (ix2 k d)
  vp k d := vp (ix2 k d)
  vc k d := vc (ix2 k d)
  tri k x := tri (ix2 k x)
  bias k x := bias (ix3 0 k x)
  sink x := sink (ix2 0 x)
  s k x := k0_pay58 n (k0_pay51 (k0_pay50 kp) kg) (k0_pay52 kc kg) (k0_pay56 v7 qg) (k0_pay57 tri) bias (ix2 k x)
  p k x := prob1 n v7 kp kc kg qg tri bias sink (ix2 k x)
  ps x := sink1 n v7 kp kc kg qg tri bias sink (ix2 0 x)
  c d x := k0_pay72 v10 (k0_pay69 v10) (k0_pay70 v10) (k0_pay71 v10) (ix2 d x)
  dp k x := k0_pay73 v10 (k0_pay67 vp) (k0_pay68 vc) (k0_pay69 v10) (k0_pay70 v10) (k0_pay71 v10) tri (ix2 k x)
  dl x := k0_pay74 v10 (prob1 n v7 kp kc kg qg tri bias sink) (k0_pay67 vp) (k0_pay68 vc) (k0_pay69 v10) (k0_pay70 v10) (k0_pay71 v10) tri (ix2 0 x)
  ds k x := k0_pay75 v10 (prob1 n v7 kp kc kg qg tri bias sink) (k0_pay67 vp) (k0_pay68 vc) (k0_pay69 v10) (k0_pay70 v10) (k0_pay71 v10) tri (ix2 k x)
  dsp k x := k0_pay76 v10 (k0_pay64 tri) (prob1 n v7 kp kc kg qg tri bias sink) (k0_pay67 vp) (k0_pay68 vc) (k0_pay69 v10) (k0_pay70 v10) (k0_pay71 v10) tri (ix2 k x)
  dsc k x := k0_pay77 v10 (k0_pay64 tri) (prob1 n v7 kp kc kg qg tri bias sink) (k0_pay67 vp) (k0_pay68 vc) (k0_pay69 v10) (k0_pay70 v10) (k0_pay71 v10) tri (ix2 k x)
  pp k x := k0_pay79 (k0_pay64 tri) (prob1 n v7 kp kc kg qg tri bias sink) (ix2 k x)
  pc k x := k0_pay80 (k0_pay64 tri) (prob1 n v7 kp kc kg qg tri bias sink) (ix2 k x)
  dz x := k0_pay81 v10 (prob1 n v7 kp kc kg qg tri bias sink) (sink1 n v7 kp kc kg qg tri bias sink) (k0_pay67 vp) (k0_pay68 vc) (k0_pay69 v10) (k0_pay70 v10) (k0_pay71 v10) tri (ix2 0 x)
  dq d x := k0_pay82 v10 (k0_pay51 (k0_pay50 kp) kg) (k0_pay52 kc kg) (k0_pay64 tri) (prob1 n v7 kp kc kg qg tri bias sink) (k0_pay67 vp) (k0_pay68 vc) (k0_pay69 v10) (k0_pay70 v10) (k0_pay71 v10) tri (ix2 d x)

theorem runs1 : (half1 n v7 v10 kp kc vp vc kg qg tri bias sink).Runs where
  fwd.y d x := by dsimp only [half1]; rw [pay55, pay54]
  fwd.qh d x := by dsimp only [half1]; rw [pay56]
  fwd.s k x := by dsimp only [half1]; rw [pay58, pay57]; rfl
  fwd.p k x := by dsimp only [half1]; rw [prob1, pay65]
  fwd.ps x := by dsimp only [half1]; rw [sink1, pay66]
  dp k x := by dsimp only [half1]; rw [pay73]; simp only [pay67, pay68]; exact if_congr Iff.rfl rfl rfl
  dl x := by dsimp only [half1]; rw [pay74]
  ds k x := by dsimp only [half1]; rw [pay75]
  dsp k x := by dsimp only [half1]; rw [pay76, pay64]
  dsc k x := by dsimp only [half1]; rw [pay77]
  pp k x := by dsimp only [half1]; rw [pay79, pay64]
  pc k x := by dsimp only [half1]; rw [pay80, pay64]
  dz x := by dsimp only [half1]; rw [pay81]
  dq d x := by dsimp only [half1]; rw [pay82]
end

/-! ## What a point reads -/

/-- The window of a point and a key head. -/
def win (t : Fin 64) (kh : Fin 2) : Fin 128 := ⟨t.val / 16 * 32 + kh.val * 16 + t.val % 16, by omega⟩
/-- A row of the point's block, and of the block before; at the first block of a sequence that is the block itself. -/
def rowc (t : Fin 64) (i : Fin 128) : Fin 8192 := ⟨t.val * 128 + i.val, by omega⟩
def rowp (t : Fin 64) (i : Fin 128) : Fin 8192 := ⟨(t.val - if t.val % 16 = 0 then 0 else 1) * 128 + i.val, by split <;> omega⟩

/-- The blocks that a point reads, and its block's number in the sequence. -/
structure In where
  n : BitVec 32
  Q : Vec Ideal S128x1024 .f32
  KC : Vec Ideal S128x256 .f32
  KP : Vec Ideal S128x256 .f32
  C : Vec Ideal S128x1024 .bf16
  QG : Vec Ideal S64x1024 .f32
  KG : Vec Ideal S1x64 .f32
  TRI : Vec Ideal S128x1024 .f32
  BIAS : Vec Ideal S2x128x1024 .f32
  SINK : Vec Ideal S2x1024 .f32

/-- They hold the arguments. -/
structure Blocks (A : Args) (t : Fin 64) (I : In) : Prop where
  gate : Grad.gate I.n = if t.val % 16 = 0 then ⊥ else 0
  q : ∀ i j, I.Q (ix2 i j) = (A.q (rowc t i) j : EReal)
  kc : ∀ i j, I.KC (ix2 i j) = (A.kv (rowc t i) j : EReal)
  kp : ∀ i j, I.KP (ix2 i j) = (A.kv (rowp t i) j : EReal)
  c : ∀ i j, I.C (ix2 i j) = (A.c (rowc t i) j : EReal)
  qg : ∀ d x, I.QG (ix2 d x) = (A.qs d : EReal)
  kg : ∀ d, I.KG (ix2 0 d) = (A.ks d : EReal)
  tri : ∀ k g i, I.TRI (ix2 k (col g i)) = before i k
  bias : ∀ kh k g i, I.BIAS (ix3 kh k (col g i)) = ((-slope ⟨kh.val * 8 + g.val, by omega⟩ * Tile.dist i (Tile.fold i k) : ℝ) : EReal)
  sink : ∀ kh g i, I.SINK (ix2 kh (col g i)) = (A.sink ⟨kh.val * 8 + g.val, by omega⟩ : EReal)

/-- A key of the block before and of the block itself, before the norm. -/
def keyp (A : Args) (t : Fin 64) (kh : Fin 2) (k : Fin 128) (d : Fin 64) : ℝ := A.kv (rowp t k) ⟨kh.val * 64 + d.val, by omega⟩
def keyc (A : Args) (t : Fin 64) (kh : Fin 2) (k : Fin 128) (d : Fin 64) : ℝ := A.kv (rowc t k) ⟨kh.val * 64 + d.val, by omega⟩
def valp (A : Args) (t : Fin 64) (kh : Fin 2) (k : Fin 128) (d : Fin 64) : ℝ := A.kv (rowp t k) ⟨128 + (kh.val * 64 + d.val), by omega⟩
def valc (A : Args) (t : Fin 64) (kh : Fin 2) (k : Fin 128) (d : Fin 64) : ℝ := A.kv (rowc t k) ⟨128 + (kh.val * 64 + d.val), by omega⟩

theorem key_norm (f : Fin 64 → ℝ) (s : ℝ) (d : Fin 64) :
    (f d : EReal) * Ideal.rsqrt (RmsGrad.meanSq (Ideal.ofBits .f32 0x42800000#32) fun d => (f d : EReal)) * (s : EReal) = ((f d * root f * s : ℝ) : EReal) := by
  rw [root_eq, ← EReal.coe_mul, ← EReal.coe_mul]

section
variable (A : Args) (t : Fin 64) (kh : Fin 2)

theorem tile_q (g : Fin 8) (i : Fin 128) (d : Fin 64) : A.qv (win t kh) g i d = A.q (rowc t i) ⟨kh.val * 512 + (g.val * 64 + d.val), by omega⟩ := by
  unfold Args.qv
  exact congrArg₂ A.q (Fin.ext (by simp only [qrow, win, rowc]; omega)) (Fin.ext (by simp only [qcol, win]; omega))

theorem tile_c (g : Fin 8) (i : Fin 128) (d : Fin 64) : (A.tile (win t kh)).c g i d = A.c (rowc t i) ⟨kh.val * 512 + (g.val * 64 + d.val), by omega⟩ := by
  dsimp only [Args.tile]
  exact congrArg₂ A.c (Fin.ext (by simp only [qrow, win, rowc]; omega)) (Fin.ext (by simp only [qcol, win]; omega))

theorem head_eq (g : Fin 8) : head (win t kh) g = ⟨kh.val * 8 + g.val, by omega⟩ := Fin.ext (by simp only [head, win]; omega)

theorem first_eq : (A.tile (win t kh)).first ↔ t.val % 16 = 0 := by
  dsimp only [Args.tile, win]
  omega

theorem tile_kc (k : Fin 128) (d : Fin 64) : (A.tile (win t kh)).k (Tile.cur k) d = keyc A t kh k d * root (keyc A t kh k) * A.ks d := by
  have h : ¬(win t kh).val % 16 * 128 + (Tile.cur k).val < 128 := by simp only [Tile.cur]; omega
  have e : A.kx (win t kh) (Tile.cur k) h = keyc A t kh k := funext fun d =>
    congrArg₂ A.kv (Fin.ext (by simp only [krow, win, rowc, Tile.cur]; omega)) (Fin.ext (by simp only [kcol, win]; omega))
  dsimp only [Args.tile]
  rw [dif_neg h, e]

theorem tile_vc (k : Fin 128) (d : Fin 64) : (A.tile (win t kh)).v (Tile.cur k) d = valc A t kh k d := by
  have h : ¬(win t kh).val % 16 * 128 + (Tile.cur k).val < 128 := by simp only [Tile.cur]; omega
  dsimp only [Args.tile]
  rw [dif_neg h]
  exact congrArg₂ A.kv (Fin.ext (by simp only [krow, win, rowc, Tile.cur]; omega)) (Fin.ext (by simp only [vcol, win]; omega))

theorem tile_kp (f : ¬t.val % 16 = 0) (k : Fin 128) (d : Fin 64) : (A.tile (win t kh)).k (Tile.prev k) d = keyp A t kh k d * root (keyp A t kh k) * A.ks d := by
  have h : ¬(win t kh).val % 16 * 128 + (Tile.prev k).val < 128 := by simp only [Tile.prev, win]; omega
  have e : A.kx (win t kh) (Tile.prev k) h = keyp A t kh k := funext fun d =>
    congrArg₂ A.kv (Fin.ext (by simp only [krow, win, rowp, if_neg f, Tile.prev]; omega)) (Fin.ext (by simp only [kcol, win]; omega))
  dsimp only [Args.tile]
  rw [dif_neg h, e]

theorem tile_vp (f : ¬t.val % 16 = 0) (k : Fin 128) (d : Fin 64) : (A.tile (win t kh)).v (Tile.prev k) d = valp A t kh k d := by
  have h : ¬(win t kh).val % 16 * 128 + (Tile.prev k).val < 128 := by simp only [Tile.prev, win]; omega
  dsimp only [Args.tile]
  rw [dif_neg h]
  exact congrArg₂ A.kv (Fin.ext (by simp only [krow, win, rowp, if_neg f, Tile.prev]; omega)) (Fin.ext (by simp only [vcol, win]; omega))
end

/-- A half that computes with a point's blocks reads the point's window. -/
theorem reads {A : Args} {t : Fin 64} {I : In}
    (B : Blocks A t I) (kh : Fin 2) (H : Probs)
    (hg : H.gate = gate I.n) (hq : ∀ g i d, H.q d (col g i) = I.Q (ix2 i ⟨kh.val * 512 + (g.val * 64 + d.val), by omega⟩))
    (hqg : ∀ d x, H.qg d x = I.QG (ix2 d x))
    (hkp : ∀ k d, H.kp k d = I.KP (ix2 k ⟨kh.val * 64 + d.val, by omega⟩) * Ideal.rsqrt (RmsGrad.meanSq (Ideal.ofBits .f32 0x42800000#32) fun d : Fin 64 => I.KP (ix2 k ⟨kh.val * 64 + d.val, by omega⟩)) * I.KG (ix2 0 d))
    (hkc : ∀ k d, H.kc k d = I.KC (ix2 k ⟨kh.val * 64 + d.val, by omega⟩) * Ideal.rsqrt (RmsGrad.meanSq (Ideal.ofBits .f32 0x42800000#32) fun d : Fin 64 => I.KC (ix2 k ⟨kh.val * 64 + d.val, by omega⟩)) * I.KG (ix2 0 d))
    (hvp : ∀ k d, H.vp k d = I.KP (ix2 k ⟨128 + (kh.val * 64 + d.val), by omega⟩)) (hvc : ∀ k d, H.vc k d = I.KC (ix2 k ⟨128 + (kh.val * 64 + d.val), by omega⟩))
    (ht : ∀ k x, H.tri k x = I.TRI (ix2 k x)) (hb : ∀ k x, H.bias k x = I.BIAS (ix3 kh k x)) (hs : ∀ x, H.sink x = I.SINK (ix2 kh x)) :
    H.Reads (A.tile (win t kh)) (A.qv (win t kh)) A.qs (fun k d => keyp A t kh k d * root (keyp A t kh k) * A.ks d) (valp A t kh) where
  gate := by
    rw [hg, B.gate]
    simp only [first_eq]
  q g i d := by rw [hq, B.q, tile_q]
  tq _ _ _ := rfl
  qg g i d := by rw [hqg, B.qg]
  kp k d := by
    rw [hkp]
    simp only [B.kp, B.kg]
    exact key_norm (keyp A t kh k) _ d
  ka f k d := (tile_kp A t kh (fun o => f ((first_eq A t kh).2 o)) k d).symm
  kc k d := by
    rw [hkc, tile_kc]
    simp only [B.kc, B.kg]
    exact key_norm (keyc A t kh k) _ d
  vp k d := by rw [hvp, B.kp]; rfl
  va f k d := (tile_vp A t kh (fun o => f ((first_eq A t kh).2 o)) k d).symm
  vc k d := by rw [hvc, B.kc, tile_vc]; rfl
  tri g i k := by rw [ht, B.tri]
  bias g i k := by
    rw [hb, B.bias]
    dsimp only [Args.tile]
    rw [head_eq]
  sink g i := by
    rw [hs, B.sink]
    dsimp only [Args.tile]
    rw [head_eq]

end Cert.AttnBwdIdeal.Grad
end
-- ==== Proof.AttnBwdBlocks.lean ====
/- The blocks that a point of attention's gradient reads, in terms of the arguments. -/
module

public import proofs.«01_k».proof.Proof.Gen.AttnBwdIdeal.Value
public import proofs.«01_k».proof.Proof.AttnBwdHalves
public import Idealize.ShloMosaic.Lib.WordArith
public import Idealize.ShloMosaic.Lib.WordCmp

@[expose] public section

set_option maxRecDepth 16384

noncomputable section

namespace Cert.AttnBwdIdeal.Grad

open Cert.AttnBwdIdeal Cert.AttnBwdIdeal.Gen Cert.AttnMath Idealize.ShloMosaic Idealize.ShloMosaic.TcCoe Idealize.SL.Sem

variable (m : (ℓ : Loc nD τ sig) → Buf (Elt Ideal) ℓ)

/-- Where each window stands: the row windows move one block a point, the keys and values before lag one block within a sequence, the rest stay put. -/
theorem place : ∀ t : Fin cfg0.N, win0_0.index t = ![t.val, 0] ∧ win0_1.index t = ![t.val, 0] ∧ win0_2.index t = ![t.val - if t.val % 16 = 0 then 0 else 1, 0]
    ∧ win0_3.index t = ![t.val, 0] ∧ win0_4.index t = ![0, 0] ∧ win0_5.index t = ![0, 0] ∧ win0_6.index t = ![0, 0] ∧ win0_7.index t = ![0, 0, 0]
    ∧ win0_8.index t = ![0, 0] ∧ win0_9.index t = ![t.val, 0] ∧ win0_10.index t = ![t.val, 0] ∧ win0_11.index t = ![t.val, 0]
    ∧ win0_12.index t = ![0, 0] ∧ win0_13.index t = ![0, 0] :=
  (by decide +kernel : ∀ t : Fin grid0.N, _)

/-- A point as a number below 64. -/
def pt (t : Fin cfg0.N) : Fin 64 := ⟨t.val, t.isLt.trans_eq N_0⟩

/-- The second coordinate of a point is its block's place in the sequence. -/
theorem coord_eq : ∀ t : Fin cfg0.N, (grid0.coords t 1).val = t.val % 16 := (by decide +kernel : ∀ t : Fin grid0.N, _)

theorem gate_eq (t : Fin cfg0.N) : gate (BitVec.ofNat 32 ↑(grid0.coords t 1)) = if (pt t).val % 16 = 0 then ⊥ else 0 := by
  have e : (Named.named κ "mask" 0xF149F2CA#32 : Ideal .f32) = (⊥ : EReal) := IdealRules.named_const.ideal_named_scalar _ _ _ _ rfl
  have h : Scalar.cmpi CmpIPredicate.sgt (BitVec.ofNat 32 ↑(grid0.coords t 1)) 0#32 = if (pt t).val % 16 = 0 then 0#1 else 1#1 := by
    rw [coord_eq]
    exact (by decide : ∀ t : Fin 64, Scalar.cmpi CmpIPredicate.sgt (BitVec.ofNat 32 (t.val % 16)) 0#32 = if t.val % 16 = 0 then 0#1 else 1#1) (pt t)
  rw [gate, h, e]
  split <;> rfl

theorem col_mod (g : Fin 8) (i : Fin 128) : (col g i).val % 128 = i.val := by simp only [col]; omega

/-! ## The tables and rows that the host makes -/

theorem entry_qg (c : Dev nD) (d : Fin 64) (x : Fin 1024) : V m c main_v1 (ix2 d x) = m ((c : Thread nD τ).loc main_arg2) (ix1 d) := by
  unfold V
  simp only [hostOps0, hostOps0_1, hostOps0_2, List.flatten_cons, List.flatten_nil, List.append_nil, List.cons_append, List.nil_append]
  entry_read
  pointwise

theorem entry_kg (c : Dev nD) (d : Fin 64) : V m c main_v5 (ix2 0 d) = m ((c : Thread nD τ).loc main_arg3) (ix1 d) := by
  unfold V
  simp only [hostOps0, hostOps0_1, hostOps0_2, List.flatten_cons, List.flatten_nil, List.append_nil, List.cons_append, List.nil_append]
  entry_read
  pointwise

theorem entry_sink (c : Dev nD) (kh : Fin 2) (g : Fin 8) (i : Fin 128) : V m c main_v4 (ix2 kh (col g i)) = m ((c : Thread nD τ).loc main_arg4) (ix1 ⟨kh.val * 8 + g.val, by omega⟩) := by
  unfold V
  simp only [hostOps0, hostOps0_1, hostOps0_2, List.flatten_cons, List.flatten_nil, List.append_nil, List.cons_append, List.nil_append]
  entry_read
  pointwise
  exact congrArg _ (congrArg ix1 (Fin.ext (by simp only [col]; omega)))

theorem entry_tri (c : Dev nD) (k : Fin 128) (g : Fin 8) (i : Fin 128) : V m c main_v61 (ix2 k (col g i)) = before i k := by
  unfold V
  simp only [hostOps0, hostOps0_1, hostOps0_2, List.flatten_cons, List.flatten_nil, List.append_nil, List.cons_append, List.nil_append]
  entry_read
  pointwise
  have h : IntOp.cmpi CmpIPredicate.sgt (BitVec.ofNat 32 k.val) (BitVec.ofNat 32 i.val) = if i < k then 1#1 else 0#1 :=
    (by decide +kernel : ∀ k i : Fin 128, IntOp.cmpi CmpIPredicate.sgt (BitVec.ofNat 32 k.val) (BitVec.ofNat 32 i.val) = if i < k then 1#1 else 0#1) k i
  have u : ∀ b : BitVec 1, FloatOps.uitofp (F := Ideal) .f32 b = ((b.toNat : ℝ) : EReal) := fun _ => rfl
  rw [col_mod, h, u, before]
  split <;> simp

/-- The position of the keys' rows and of the queries' columns in the tables of the host. -/
def posK : IVec S128x1024 32 := broadcastInDim S128x1024 ![0, 1] bcast_S128x1_S128x1024_0_1 (broadcastInDim S128x1 ![0] bcast_S128_S128x1_0 (iotaInDim S128 32 0))
def posQ : IVec S1x1024 32 := shapeCast S1x1024 (broadcastInDim S8x128 ![0, 1] bcast_S1x128_S8x128_0_1 (broadcastInDim S1x128 ![1] bcast_S128_S1x128_1 (iotaInDim S128 32 0))) shapeCasts_S8x128_S1x1024

/-- The distances, of a key of the block before where it lies after the query. -/
def dists : IVec S128x1024 32 :=
  select (cmpi CmpIPredicate.sgt posK (broadcastInDim S128x1024 ![0, 1] bcast_S1x1024_S128x1024_0_1 posQ))
    (subi (broadcastInDim S128x1024 ![0, 1] bcast_S1x1024_S128x1024_0_1 (addi posQ (broadcastInDim S1x1024 ![] bcast_S_S1x1024 (constantI S_ 32 128#32)))) posK)
    (subi (broadcastInDim S128x1024 ![0, 1] bcast_S1x1024_S128x1024_0_1 posQ) posK)

/-- The slopes of a key head's eight heads, negated; `b` is the number of its first. -/
def slopes (b : BitVec 32) : FVec Ideal S1x1024 .f32 :=
  Host.negf (Host.exp (mulf (broadcastInDim S1x1024 ![] bcast_S_S1x1024 (constant S_ FTy.f32 1060205080#32))
    (Host.divf (mulf (broadcastInDim S1x1024 ![] bcast_S_S1x1024 (constant S_ FTy.f32 3238002688#32))
      (addf (addf (broadcastInDim S1x1024 ![] bcast_S_S1x1024 (constant S_ FTy.f32 b))
        (shapeCast S1x1024 (broadcastInDim S8x128 ![0, 1] bcast_S8x1_S8x128_0_1 (broadcastInDim S8x1 ![0] bcast_S8_S8x1_0 (sitofp FTy.f32 (iotaInDim S8 32 0)))) shapeCasts_S8x128_S1x1024))
        (broadcastInDim S1x1024 ![] bcast_S_S1x1024 (constant S_ FTy.f32 1065353216#32))))
      (broadcastInDim S1x1024 ![] bcast_S_S1x1024 (constant S_ FTy.f32 1098907648#32)))))

/-- The two key heads' tables, stacked. -/
theorem stack (a b : FVec Ideal S1x128x1024 .f32) (kh : Fin 2) (k : Fin 128) (x : Fin 1024) :
    concatenate S2x128x1024 0 [⟨S1x128x1024, a⟩, ⟨S1x128x1024, b⟩] concatenates_S1x128x1024_S1x128x1024_S2x128x1024_d0 (ix3 kh k x) = if kh.val < 1 then a (ix3 0 k x) else b (ix3 0 k x) := by
  pointwise
  match kh with
  | ⟨0, _⟩ => rfl
  | ⟨1, _⟩ => rfl

/-- One key head's table. -/
def table (b : BitVec 32) : FVec Ideal S1x128x1024 .f32 :=
  broadcastInDim S1x128x1024 ![1, 2] bcast_S128x1024_S1x128x1024_1_2
    (mulf (broadcastInDim S128x1024 ![0, 1] bcast_S1x1024_S128x1024_0_1 (slopes b)) (sitofp FTy.f32 dists))

theorem entry_bias (c : Dev nD) : V m c main_v64 = concatenate S2x128x1024 0 [⟨S1x128x1024, table 0#32⟩, ⟨S1x128x1024, table 0x41000000#32⟩] concatenates_S1x128x1024_S1x128x1024_S2x128x1024_d0 := by
  unfold V
  simp only [hostOps0, hostOps0_1, hostOps0_2, List.flatten_cons, List.flatten_nil, List.append_nil, List.cons_append, List.nil_append]
  entry_read
  rfl

theorem dists_apply (k : Fin 128) (g : Fin 8) (i : Fin 128) : (dists (ix2 k (col g i))).toInt = if i < k then (i.val : Int) + 128 - k.val else i.val - k.val := by
  have e : dists (ix2 k (col g i)) = Scalar.select (Scalar.cmpi CmpIPredicate.sgt (BitVec.ofNat 32 k.val) (BitVec.ofNat 32 i.val)) (BitVec.ofNat 32 i.val + 128#32 - BitVec.ofNat 32 k.val) (BitVec.ofNat 32 i.val - BitVec.ofNat 32 k.val) := by
    pointwise [dists, posK, posQ]
    rw [col_mod]
    rfl
  rw [e]
  exact (by decide +kernel : ∀ k i : Fin 128, (Scalar.select (Scalar.cmpi CmpIPredicate.sgt (BitVec.ofNat 32 k.val) (BitVec.ofNat 32 i.val)) (BitVec.ofNat 32 i.val + 128#32 - BitVec.ofNat 32 k.val) (BitVec.ofNat 32 i.val - BitVec.ofNat 32 k.val)).toInt
    = if i < k then (i.val : Int) + 128 - k.val else i.val - k.val) k i

theorem slopes_apply (b : BitVec 32) (z : Fin 1) (g : Fin 8) (i : Fin 128) (n : ℕ) (hb : Ideal.ofBits .f32 b = ((n : ℝ) : EReal)) (h : n + g.val < 16) : slopes b (ix2 z (col g i)) = ((-slope ⟨n + g.val, h⟩ : ℝ) : EReal) := by
  pointwise [slopes]
  have e : FloatOps.sitofp (F := Ideal) .f32 (BitVec.ofNat 32 ((col g i).val / 128)) = ((g.val : ℝ) : EReal) := by
    show (((BitVec.ofNat 32 ((col g i).val / 128)).toInt : ℝ) : EReal) = _
    rw [WordArith.toInt_ofNat_small _ (by omega)]
    exact congrArg (fun n : ℕ => ((((n : ℤ)) : ℝ) : EReal)) (by simp only [col]; omega)
  have one : (1 : EReal) = ((1 : ℝ) : EReal) := rfl
  have hn : (n : ℝ) + g.val + 1 = 1 + ((n + g.val : ℕ) : ℝ) := by push_cast; ring
  rw [hb, e, ofBits_ln2, ofBits_neg_8, ofBits_16, one, ← EReal.coe_add, ← EReal.coe_add, ← EReal.coe_mul, div_real _ (by norm_num), ← EReal.coe_mul, Ideal.exp_coe, ← EReal.coe_neg, hn]
  rfl

theorem table_apply (b : BitVec 32) (z : Fin 1) (k : Fin 128) (x : Fin 1024) : table b (ix3 z k x) = slopes b (ix2 0 x) * (((dists (ix2 k x)).toInt : ℝ) : EReal) := by
  pointwise [table]
  rfl

/-! ## The blocks -/

section
variable (c : Dev nD) (t : Fin cfg0.N)

theorem block_q (i : Fin 128) (j : Fin 1024) : iblk m c 0 t (ix2 i j) = m ((c : Thread nD τ).loc main_arg0) (ix2 (rowc (pt t) i) j) := by
  blk_point [iblk, V, place t]
  rfl

theorem block_kc (i : Fin 128) (j : Fin 256) : iblk m c 1 t (ix2 i j) = m ((c : Thread nD τ).loc main_arg1) (ix2 (rowc (pt t) i) j) := by
  blk_point [iblk, V, place t]
  rfl

theorem block_kp (i : Fin 128) (j : Fin 256) : iblk m c 2 t (ix2 i j) = m ((c : Thread nD τ).loc main_arg1) (ix2 (rowp (pt t) i) j) := by
  blk_point [iblk, V, place t]
  rfl

theorem block_c (i : Fin 128) (j : Fin 1024) : iblk m c 3 t (ix2 i j) = m ((c : Thread nD τ).loc main_arg5) (ix2 (rowc (pt t) i) j) := by
  blk_point [iblk, V, place t]
  rfl

theorem block_qg (d : Fin 64) (x : Fin 1024) : iblk m c 4 t (ix2 d x) = m ((c : Thread nD τ).loc main_arg2) (ix1 d) := by
  blk_simp [iblk]
  refine (congrArg _ ?_).trans (entry_qg m c d x)
  blk_ext [place t]

theorem block_kg (d : Fin 64) : iblk m c 5 t (ix2 0 d) = m ((c : Thread nD τ).loc main_arg3) (ix1 d) := by
  blk_simp [iblk]
  refine (congrArg _ ?_).trans (entry_kg m c d)
  blk_ext [place t]

theorem block_sink (kh : Fin 2) (g : Fin 8) (i : Fin 128) : iblk m c 8 t (ix2 kh (col g i)) = m ((c : Thread nD τ).loc main_arg4) (ix1 ⟨kh.val * 8 + g.val, by omega⟩) := by
  blk_simp [iblk]
  refine (congrArg _ ?_).trans (entry_sink m c kh g i)
  blk_ext [place t]

theorem block_tri (k : Fin 128) (g : Fin 8) (i : Fin 128) : iblk m c 6 t (ix2 k (col g i)) = before i k := by
  blk_simp [iblk]
  refine (congrArg _ ?_).trans (entry_tri m c k g i)
  blk_ext [place t]

theorem table_eq (b : BitVec 32) (z : Fin 1) (k : Fin 128) (g : Fin 8) (i : Fin 128) (n : ℕ) (hb : Ideal.ofBits .f32 b = ((n : ℝ) : EReal)) (h : Fin 16) (hh : h.val = n + g.val) :
    table b (ix3 z k (col g i)) = ((-slope h * Tile.dist i (Tile.fold i k) : ℝ) : EReal) := by
  have e : ((dists (ix2 k (col g i))).toInt : ℝ) = Tile.dist i (Tile.fold i k) := by
    rw [dists_apply]
    unfold Tile.dist Tile.fold
    split
    · simp only [Tile.prev]; push_cast; rfl
    · simp only [Tile.cur]; push_cast; ring
  obtain ⟨v, l⟩ := h
  obtain rfl : v = n + g.val := hh
  rw [table_apply, slopes_apply b 0 g i n hb (by omega), e, ← EReal.coe_mul]

theorem block_bias (kh : Fin 2) (k : Fin 128) (g : Fin 8) (i : Fin 128) :
    iblk m c 7 t (ix3 kh k (col g i)) = ((-slope ⟨kh.val * 8 + g.val, by omega⟩ * Tile.dist i (Tile.fold i k) : ℝ) : EReal) := by
  have e : iblk m c 7 t (ix3 kh k (col g i)) = V m c main_v64 (ix3 kh k (col g i)) := by
    blk_simp [iblk]
    refine congrArg _ ?_
    blk_ext [place t]
  have b0 : Ideal.ofBits .f32 0#32 = (((0 : ℕ) : ℝ) : EReal) := by simp [Ideal.ofBits, Ideal.ieee]
  have b8 : Ideal.ofBits .f32 0x41000000#32 = (((8 : ℕ) : ℝ) : EReal) := by simp [Ideal.ofBits, Ideal.ieee, -EReal.coe_mul]; norm_num
  rw [e, entry_bias]
  rw [stack]
  split
  · exact table_eq 0#32 0 k g i 0 b0 _ (by simp only []; omega)
  · exact table_eq 0x41000000#32 0 k g i 8 b8 _ (by simp only []; omega)

end

/-- What a point reads. -/
def inp (c : Dev nD) (t : Fin cfg0.N) : In where
  n := BitVec.ofNat 32 ↑(grid0.coords t 1)
  Q := iblk m c 0 t
  KC := iblk m c 1 t
  KP := iblk m c 2 t
  C := iblk m c 3 t
  QG := iblk m c 4 t
  KG := iblk m c 5 t
  TRI := iblk m c 6 t
  BIAS := iblk m c 7 t
  SINK := iblk m c 8 t

set_option maxHeartbeats 4000000 in
/-- The blocks of a point, where the arguments hold reals. -/
theorem blocks {A : Args} {c : Dev nD}
    (H : Cert.AttnBwdRefIdeal.Grad.Holds (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) A) (t : Fin cfg0.N) :
    Blocks A (pt t) (inp m c t) where
  gate := gate_eq t
  q i j := (block_q m c t i j).trans (H.q _ _)
  kc i j := (block_kc m c t i j).trans (H.kv _ _)
  kp i j := (block_kp m c t i j).trans (H.kv _ _)
  c i j := (block_c m c t i j).trans (H.c _ _)
  qg d x := (block_qg m c t d x).trans (H.qs _)
  kg d := (block_kg m c t d).trans (H.ks _)
  tri k g i := block_tri m c t k g i
  bias kh k g i := block_bias m c t kh k g i
  sink kh g i := (block_sink m c t kh g i).trans (H.sink _)

end Cert.AttnBwdIdeal.Grad
end
-- ==== Proof.AttnBwdPoint.lean ====
/- What a point of attention's gradient writes, from the blocks that it reads. -/
module

public import proofs.«01_k».proof.Proof.AttnBwdHalves

@[expose] public section

set_option maxRecDepth 16384

noncomputable section

namespace Cert.AttnBwdIdeal.Grad

open Cert.AttnBwdIdeal Cert.AttnBwdIdeal.Gen Cert.AttnMath Idealize.ShloMosaic Idealize.ShloMosaic.TcCoe

/-- A block of 64 columns, a key head's bias table, a key head's sinks. -/
theorem cols_apply (X : Vec Ideal S128x256 .f32) (o : ℕ) (h) (k : Fin 128) (d : Fin 64) (j : Fin 256) (hj : j.val = o + d.val) :
    (View.ld X (Rect.unit ![0, o] ![128, 64] h) : FVec Ideal S128x64 .f32) (ix2 k d) = X (ix2 k j) :=
  congrArg X (funext fun a => Fin.ext (by
    match a with
    | ⟨0, _⟩ => show 0 + 1 * k.val = k.val; omega
    | ⟨1, _⟩ => show o + 1 * d.val = j.val; omega))

theorem ld0 (X : Vec Ideal S128x256 .f32) (k : Fin 128) (d : Fin 64) :
    (View.ld X (Rect.unit ![0, 0] ![128, 64] inb_S128x256_S128x64_0_0) : FVec Ideal S128x64 .f32) (ix2 k d) = X (ix2 k ⟨(0 : Fin 2).val * 64 + d.val, by omega⟩) :=
  cols_apply X 0 _ k d _ (by simp)

theorem ld64 (X : Vec Ideal S128x256 .f32) (k : Fin 128) (d : Fin 64) :
    (View.ld X (Rect.unit ![0, 64] ![128, 64] inb_S128x256_S128x64_0_64) : FVec Ideal S128x64 .f32) (ix2 k d) = X (ix2 k ⟨(1 : Fin 2).val * 64 + d.val, by omega⟩) :=
  cols_apply X 64 _ k d _ (by simp)

theorem bias_apply (X : Vec Ideal S2x128x1024 .f32) (kh : Fin 2) (h) (k : Fin 128) (x : Fin 1024) :
    (View.ld X (Rect.unit ![kh.val, 0, 0] ![1, 128, 1024] h) : Vec Ideal S1x128x1024 .f32) (ix3 0 k x) = X (ix3 kh k x) :=
  congrArg X (funext fun a => Fin.ext (by
    match a with
    | ⟨0, _⟩ => show kh.val + 1 * 0 = kh.val; omega
    | ⟨1, _⟩ => show 0 + 1 * k.val = k.val; omega
    | ⟨2, _⟩ => show 0 + 1 * x.val = x.val; omega))

theorem sink_apply (X : Vec Ideal S2x1024 .f32) (kh : Fin 2) (h) (x : Fin 1024) :
    (View.ld X (Rect.unit ![kh.val, 0] ![1, 1024] h) : Vec Ideal S1x1024 .f32) (ix2 0 x) = X (ix2 kh x) :=
  congrArg X (funext fun a => Fin.ext (by
    match a with
    | ⟨0, _⟩ => show kh.val + 1 * 0 = kh.val; omega
    | ⟨1, _⟩ => show 0 + 1 * x.val = x.val; omega))

namespace In
variable (I : In)

/-! ## The two halves of a point -/

abbrev v7 : FVec Ideal S1024x128 .f32 := k0_pay3 I.Q
abbrev v10 : FVec Ideal S1024x128 .f32 := k0_pay4 I.C
abbrev kp0 : FVec Ideal S128x64 .f32 := View.ld I.KP (Rect.unit ![0, 0] ![128, 64] inb_S128x256_S128x64_0_0)
abbrev kp1 : FVec Ideal S128x64 .f32 := View.ld I.KP (Rect.unit ![0, 64] ![128, 64] inb_S128x256_S128x64_0_64)
abbrev vp0 : FVec Ideal S128x64 .f32 := View.ld I.KP (Rect.unit ![0, 128] ![128, 64] inb_S128x256_S128x64_0_128)
abbrev vp1 : FVec Ideal S128x64 .f32 := View.ld I.KP (Rect.unit ![0, 192] ![128, 64] inb_S128x256_S128x64_0_192)
abbrev kc0 : FVec Ideal S128x64 .f32 := View.ld I.KC (Rect.unit ![0, 0] ![128, 64] inb_S128x256_S128x64_0_0)
abbrev kc1 : FVec Ideal S128x64 .f32 := View.ld I.KC (Rect.unit ![0, 64] ![128, 64] inb_S128x256_S128x64_0_64)
abbrev vc0 : FVec Ideal S128x64 .f32 := View.ld I.KC (Rect.unit ![0, 128] ![128, 64] inb_S128x256_S128x64_0_128)
abbrev vc1 : FVec Ideal S128x64 .f32 := View.ld I.KC (Rect.unit ![0, 192] ![128, 64] inb_S128x256_S128x64_0_192)
abbrev b0 : Vec Ideal S1x128x1024 .f32 := View.ld I.BIAS (Rect.unit ![0, 0, 0] ![1, 128, 1024] inb_S2x128x1024_S1x128x1024_0_0_0)
abbrev b1 : Vec Ideal S1x128x1024 .f32 := View.ld I.BIAS (Rect.unit ![1, 0, 0] ![1, 128, 1024] inb_S2x128x1024_S1x128x1024_1_0_0)
abbrev s0 : Vec Ideal S1x1024 .f32 := View.ld I.SINK (Rect.unit ![0, 0] ![1, 1024] inb_S2x1024_S1x1024_0_0)
abbrev s1 : Vec Ideal S1x1024 .f32 := View.ld I.SINK (Rect.unit ![1, 0] ![1, 1024] inb_S2x1024_S1x1024_1_0)

def first : Grads := half0 I.n I.v7 I.v10 I.kp0 I.kc0 I.vp0 I.vc0 I.KG I.QG I.TRI I.b0 I.s0
def second : Grads := half1 I.n I.v7 I.v10 I.kp1 I.kc1 I.vp1 I.vc1 I.KG I.QG I.TRI I.b1 I.s1

theorem first_runs : I.first.Runs := runs0 I.n I.v7 I.v10 I.kp0 I.kc0 I.vp0 I.vc0 I.KG I.QG I.TRI I.b0 I.s0
theorem second_runs : I.second.Runs := runs1 I.n I.v7 I.v10 I.kp1 I.kc1 I.vp1 I.vc1 I.KG I.QG I.TRI I.b1 I.s1

/-! ## What it writes -/

abbrev p0 : FVec Ideal S128x1024 .f32 := prob0 I.n I.v7 I.kp0 I.kc0 I.KG I.QG I.TRI I.b0 I.s0
abbrev p1 : FVec Ideal S128x1024 .f32 := prob1 I.n I.v7 I.kp1 I.kc1 I.KG I.QG I.TRI I.b1 I.s1

/-- The sinks' gradients by columns. -/
def dz0 : FVec Ideal S1x1024 .f32 := k0_pay34 I.p0 (sink0 I.n I.v7 I.kp0 I.kc0 I.KG I.QG I.TRI I.b0 I.s0) (k0_pay23 I.TRI) (k0_pay24 I.v10 I.vp0) (k0_pay25 I.v10 I.vc0)
def dz1 : FVec Ideal S1x1024 .f32 := k0_pay81 I.v10 I.p1 (sink1 I.n I.v7 I.kp1 I.kc1 I.KG I.QG I.TRI I.b1 I.s1) (k0_pay67 I.vp1) (k0_pay68 I.vc1) (k0_pay69 I.v10) (k0_pay70 I.v10) (k0_pay71 I.v10) I.TRI

/-- The queries' gradient. -/
def dq0 : FVec Ideal S512x128 .f32 :=
  k0_pay39 (k0_pay9 I.v7) (k0_pay10 I.v7) (k0_pay37 (k0_pay5 I.kp0 I.KG) (k0_pay7 (k0_pay6 I.kc0) I.KG) (k0_pay19 I.TRI) I.p0 (k0_pay23 I.TRI) (k0_pay24 I.v10 I.vp0) (k0_pay25 I.v10 I.vc0) I.QG)
    (k0_pay38 (k0_pay5 I.kp0 I.KG) (k0_pay7 (k0_pay6 I.kc0) I.KG) (k0_pay10 I.v7) (k0_pay19 I.TRI) I.p0 (k0_pay23 I.TRI) (k0_pay24 I.v10 I.vp0) (k0_pay25 I.v10 I.vc0) I.QG)
def dq1 : FVec Ideal S512x128 .f32 :=
  k0_pay88 (k0_pay54 I.v7) (k0_pay55 I.v7) (k0_pay82 I.v10 (k0_pay51 (k0_pay50 I.kp1) I.KG) (k0_pay52 I.kc1 I.KG) (k0_pay64 I.TRI) I.p1 (k0_pay67 I.vp1) (k0_pay68 I.vc1) (k0_pay69 I.v10) (k0_pay70 I.v10) (k0_pay71 I.v10) I.TRI) I.QG
def dq : FVec Ideal S128x1024 .bf16 := k0_pay99 I.dq0 I.dq1

/-- The gradients of keys and values: of the block itself and of the block before, by key head. -/
def dkc0 : FVec Ideal S128x64 .f32 := k0_pay47 (k0_pay11 I.v7 I.QG) (k0_pay30 (k0_pay19 I.TRI) I.p0 (k0_pay23 I.TRI) (k0_pay24 I.v10 I.vp0) (k0_pay25 I.v10 I.vc0))
def dkp0 : FVec Ideal S128x64 .f32 := k0_pay46 (k0_pay11 I.v7 I.QG) (k0_pay29 (k0_pay19 I.TRI) I.p0 (k0_pay23 I.TRI) (k0_pay24 I.v10 I.vp0) (k0_pay25 I.v10 I.vc0))
def dvc0 : FVec Ideal S128x64 .f32 := k0_pay49 (k0_pay22 I.v10) (k0_pay33 (k0_pay19 I.TRI) I.p0)
def dvp0 : FVec Ideal S128x64 .f32 := k0_pay48 (k0_pay22 I.v10) (k0_pay32 (k0_pay19 I.TRI) I.p0)
def dkc1 : FVec Ideal S128x64 .f32 := k0_pay96 (k0_pay56 I.v7 I.QG) (k0_pay77 I.v10 (k0_pay64 I.TRI) I.p1 (k0_pay67 I.vp1) (k0_pay68 I.vc1) (k0_pay69 I.v10) (k0_pay70 I.v10) (k0_pay71 I.v10) I.TRI)
def dkp1 : FVec Ideal S128x64 .f32 := k0_pay95 (k0_pay56 I.v7 I.QG) (k0_pay76 I.v10 (k0_pay64 I.TRI) I.p1 (k0_pay67 I.vp1) (k0_pay68 I.vc1) (k0_pay69 I.v10) (k0_pay70 I.v10) (k0_pay71 I.v10) I.TRI)
def dvc1 : FVec Ideal S128x64 .f32 := k0_pay98 (k0_pay72 I.v10 (k0_pay69 I.v10) (k0_pay70 I.v10) (k0_pay71 I.v10)) (k0_pay80 (k0_pay64 I.TRI) I.p1)
def dvp1 : FVec Ideal S128x64 .f32 := k0_pay97 (k0_pay72 I.v10 (k0_pay69 I.v10) (k0_pay70 I.v10) (k0_pay71 I.v10)) (k0_pay79 (k0_pay64 I.TRI) I.p1)

/-- The queries' scale's gradient after the point, from what it was before. -/
def qgmid (acc : Vec Ideal S64x128 .f32) : FVec Ideal S64x128 .f32 :=
  k0_pay36 (k0_pay5 I.kp0 I.KG) (k0_pay7 (k0_pay6 I.kc0) I.KG) (k0_pay10 I.v7) (k0_pay19 I.TRI) I.p0 (k0_pay23 I.TRI) (k0_pay24 I.v10 I.vp0) (k0_pay25 I.v10 I.vc0) acc
def dqg (acc : Vec Ideal S64x128 .f32) : FVec Ideal S64x128 .f32 :=
  k0_pay87 (k0_pay83 I.v10 (k0_pay51 (k0_pay50 I.kp1) I.KG) (k0_pay52 I.kc1 I.KG) (k0_pay55 I.v7) (k0_pay64 I.TRI) I.p1 (k0_pay67 I.vp1) (k0_pay68 I.vc1) (k0_pay69 I.v10) (k0_pay70 I.v10) (k0_pay71 I.v10) I.TRI)
    (k0_pay84 (I.qgmid acc))
    (k0_pay85 I.v10 (k0_pay51 (k0_pay50 I.kp1) I.KG) (k0_pay52 I.kc1 I.KG) (k0_pay55 I.v7) (k0_pay64 I.TRI) I.p1 (k0_pay67 I.vp1) (k0_pay68 I.vc1) (k0_pay69 I.v10) (k0_pay70 I.v10) (k0_pay71 I.v10) I.TRI)
    (k0_pay86 I.v10 (k0_pay51 (k0_pay50 I.kp1) I.KG) (k0_pay52 I.kc1 I.KG) (k0_pay55 I.v7) (k0_pay64 I.TRI) I.p1 (k0_pay67 I.vp1) (k0_pay68 I.vc1) (k0_pay69 I.v10) (k0_pay70 I.v10) (k0_pay71 I.v10) I.TRI)

/-- The row of the sinks' gradients after the point, from what it was before. -/
def skmid (acc : Vec Ideal S1x128 .f32) : FVec Ideal S1x128 .f32 :=
  k0_pay45 (k0_pay42 (iota Kind.tc S1x128 32 [1] iota_S1x128_d1_w32) I.dz0 (k0_pay40 (iota Kind.tc S1x128 32 [1] iota_S1x128_d1_w32) I.dz0) (k0_pay41 (iota Kind.tc S1x128 32 [1] iota_S1x128_d1_w32) I.dz0)) (k0_pay43 (iota Kind.tc S1x128 32 [1] iota_S1x128_d1_w32)) (k0_pay44 I.dz0) acc
def dsk (acc : Vec Ideal S1x128 .f32) : FVec Ideal S1x128 .f32 :=
  k0_pay94 (iota Kind.tc S1x128 32 [1] iota_S1x128_d1_w32) I.dz1 (k0_pay92 (iota Kind.tc S1x128 32 [1] iota_S1x128_d1_w32) I.dz1 (k0_pay89 (iota Kind.tc S1x128 32 [1] iota_S1x128_d1_w32) I.dz1) (k0_pay90 (iota Kind.tc S1x128 32 [1] iota_S1x128_d1_w32)) (k0_pay91 I.dz1)) k0_pay93 (I.skmid acc)

end In

variable {A : Args} {t : Fin 64} {I : In} (B : Blocks A t I)
include B

theorem first_reads : I.first.toProbs.Reads (A.tile (win t 0)) (A.qv (win t 0)) A.qs (fun k d => keyp A t 0 k d * root (keyp A t 0 k) * A.ks d) (valp A t 0) :=
  reads B 0 _ rfl
    (fun g i d => by
      show k0_pay8 I.v7 (ix2 d (col g i)) = _
      rw [pay8]
      refine (pay3 I.Q _ _).trans ?_
      exact congrArg I.Q (congrArg₂ ix2 (Fin.ext (by simp only [tok, col]; omega)) (Fin.ext (by simp only [row0, col]; omega))))
    (fun _ _ => rfl)
    (fun k d => by
      show k0_pay5 I.kp0 I.KG (ix2 k d) = _
      rw [pay5]
      simp only [show ∀ d, I.kp0 (ix2 k d) = _ from ld0 I.KP k])
    (fun k d => by
      show k0_pay7 (k0_pay6 I.kc0) I.KG (ix2 k d) = _
      rw [pay7]
      simp only [show ∀ d, I.kc0 (ix2 k d) = _ from ld0 I.KC k])
    (fun k d => cols_apply I.KP 128 _ k d _ (by simp)) (fun k d => cols_apply I.KC 128 _ k d _ (by simp))
    (fun _ _ => rfl) (fun k x => bias_apply I.BIAS 0 _ k x) (fun x => sink_apply I.SINK 0 _ x)

theorem second_reads : I.second.toProbs.Reads (A.tile (win t 1)) (A.qv (win t 1)) A.qs (fun k d => keyp A t 1 k d * root (keyp A t 1 k) * A.ks d) (valp A t 1) :=
  reads B 1 _ rfl
    (fun g i d => by
      show k0_pay53 I.v7 (ix2 d (col g i)) = _
      rw [pay53]
      refine (pay3 I.Q _ _).trans ?_
      exact congrArg I.Q (congrArg₂ ix2 (Fin.ext (by simp only [tok, col]; omega)) (Fin.ext (by simp only [row1, col]; omega))))
    (fun _ _ => rfl)
    (fun k d => by
      show k0_pay51 (k0_pay50 I.kp1) I.KG (ix2 k d) = _
      rw [pay51]
      simp only [show ∀ d, I.kp1 (ix2 k d) = _ from ld64 I.KP k])
    (fun k d => by
      show k0_pay52 I.kc1 I.KG (ix2 k d) = _
      rw [pay52]
      simp only [show ∀ d, I.kc1 (ix2 k d) = _ from ld64 I.KC k])
    (fun k d => cols_apply I.KP 192 _ k d _ (by simp; omega)) (fun k d => cols_apply I.KC 192 _ k d _ (by simp; omega))
    (fun _ _ => rfl) (fun k x => bias_apply I.BIAS 1 _ k x) (fun x => sink_apply I.SINK 1 _ x)

theorem first_cot (g : Fin 8) (i : Fin 128) (d : Fin 64) : I.first.c d (col g i) = ((A.tile (win t 0)).c g i d : EReal) := by
  show k0_pay22 I.v10 (ix2 d (col g i)) = _
  rw [pay22]
  refine (pay4 I.C _ _).trans ?_
  rw [B.c, tile_c]
  exact congrArg _ (congrArg₂ A.c (congrArg (rowc t) (Fin.ext (by simp only [tok, col]; omega))) (Fin.ext (by simp only [row0, col]; omega)))

theorem second_cot (g : Fin 8) (i : Fin 128) (d : Fin 64) : I.second.c d (col g i) = ((A.tile (win t 1)).c g i d : EReal) := by
  show k0_pay72 I.v10 (k0_pay69 I.v10) (k0_pay70 I.v10) (k0_pay71 I.v10) (ix2 d (col g i)) = _
  rw [pay72]
  refine (pay4 I.C _ _).trans ?_
  rw [B.c, tile_c]
  exact congrArg _ (congrArg₂ A.c (congrArg (rowc t) (Fin.ext (by simp only [tok, col]; omega))) (Fin.ext (by simp only [row1, col]; omega)))

/-! ## The results, by point -/

theorem dq_first (i : Fin 128) (g : Fin 8) (d : Fin 64) (j : Fin 1024) (hj : j.val = g.val * 64 + d.val) :
    I.dq (ix2 i j) = RmsGrad.byRule (Ideal.ofBits .f32 0x42800000#32) (fun k => (A.qv (win t 0) g i k : EReal)) (fun k => (((A.tile (win t 0)).dq g i k * A.qs k : ℝ) : EReal)) 0 d := by
  rw [In.dq, pay99, dif_pos (by omega)]
  exact (pay39 _ _ _ _ _ _ _ _ _ _ i d (col g i) (Fin.ext (by simp only []; omega)) (congrArg (col · i) (Fin.ext (by simp only []; omega)))).trans
    (Grads.raw_eq I.first_runs (first_reads B) (first_cot B) g i d)

theorem dq_second (i : Fin 128) (g : Fin 8) (d : Fin 64) (j : Fin 1024) (hj : j.val = 512 + (g.val * 64 + d.val)) :
    I.dq (ix2 i j) = RmsGrad.byRule (Ideal.ofBits .f32 0x42800000#32) (fun k => (A.qv (win t 1) g i k : EReal)) (fun k => (((A.tile (win t 1)).dq g i k * A.qs k : ℝ) : EReal)) 0 d := by
  rw [In.dq, pay99, dif_neg (by omega)]
  exact (pay88 _ _ _ _ i d (col g i) (Fin.ext (by simp only []; omega)) (congrArg (col · i) (Fin.ext (by simp only []; omega)))).trans
    (Grads.raw_eq I.second_runs (second_reads B) (second_cot B) g i d)

theorem dkc_first (k : Fin 128) (d : Fin 64) : I.dkc0 (ix2 k d) = ((A.tile (win t 0)).dk (Tile.cur k) d : EReal) :=
  (pay47 _ _ k d).trans (Grads.dkc_eq I.first_runs (first_reads B) (first_cot B) k d)
theorem dkp_first (k : Fin 128) (d : Fin 64) : I.dkp0 (ix2 k d) = ((A.tile (win t 0)).dk (Tile.prev k) d : EReal) :=
  (pay46 _ _ k d).trans (Grads.dkp_eq I.first_runs (first_reads B) (first_cot B) k d)
theorem dvc_first (k : Fin 128) (d : Fin 64) : I.dvc0 (ix2 k d) = ((A.tile (win t 0)).dv (Tile.cur k) d : EReal) :=
  (pay49 _ _ k d).trans (Grads.dvc_eq I.first_runs (first_reads B) (first_cot B) k d)
theorem dvp_first (k : Fin 128) (d : Fin 64) : I.dvp0 (ix2 k d) = ((A.tile (win t 0)).dv (Tile.prev k) d : EReal) :=
  (pay48 _ _ k d).trans (Grads.dvp_eq I.first_runs (first_reads B) (first_cot B) k d)
theorem dkc_second (k : Fin 128) (d : Fin 64) : I.dkc1 (ix2 k d) = ((A.tile (win t 1)).dk (Tile.cur k) d : EReal) :=
  (pay96 _ _ k d).trans (Grads.dkc_eq I.second_runs (second_reads B) (second_cot B) k d)
theorem dkp_second (k : Fin 128) (d : Fin 64) : I.dkp1 (ix2 k d) = ((A.tile (win t 1)).dk (Tile.prev k) d : EReal) :=
  (pay95 _ _ k d).trans (Grads.dkp_eq I.second_runs (second_reads B) (second_cot B) k d)
theorem dvc_second (k : Fin 128) (d : Fin 64) : I.dvc1 (ix2 k d) = ((A.tile (win t 1)).dv (Tile.cur k) d : EReal) :=
  (pay98 _ _ k d).trans (Grads.dvc_eq I.second_runs (second_reads B) (second_cot B) k d)
theorem dvp_second (k : Fin 128) (d : Fin 64) : I.dvp1 (ix2 k d) = ((A.tile (win t 1)).dv (Tile.prev k) d : EReal) :=
  (pay97 _ _ k d).trans (Grads.dvp_eq I.second_runs (second_reads B) (second_cot B) k d)

omit B in
/-- What a key head adds to the queries' scale's gradient. -/
def dqgTerm (A : Args) (t : Fin 64) (kh : Fin 2) (d : Fin 64) (i : Fin 128) : ℝ :=
  ∑ g, (A.tile (win t kh)).dq g i d * (A.qv (win t kh) g i d * root (A.qv (win t kh) g i))

theorem dqg_point (acc : Vec Ideal S64x128 .f32) (d : Fin 64) (i : Fin 128) :
    I.dqg acc (ix2 d i) = acc (ix2 d i) + ((dqgTerm A t 0 d i + dqgTerm A t 1 d i : ℝ) : EReal) := by
  have h0 : I.qgmid acc (ix2 d i) = acc (ix2 d i) + (dqgTerm A t 0 d i : EReal) :=
    (pay36 _ _ _ _ _ _ _ _ _ d i).trans (congrArg (acc (ix2 d i) + ·) (Grads.dqg_eq I.first_runs (first_reads B) (first_cot B) i d))
  refine (pay87 _ _ _ _ _ _ _ _ _ _ _ _ _ d i).trans ?_
  rw [h0, EReal.coe_add, ← add_assoc]
  exact congrArg (acc (ix2 d i) + (dqgTerm A t 0 d i : EReal) + ·) (Grads.dqg_eq I.second_runs (second_reads B) (second_cot B) i d)

omit B in
/-- A lane holds its own sink's sum. -/
theorem lane_eq (w : FVec Ideal S1x1024 .f32) (b : ℕ) (hb : b < 128) (l : Fin 128) (g : Fin 8) :
    lane w (BitVec.ofNat 32 b) l g = if l.val = b then ∑ i, w (ix2 0 (col g i)) else 0 := by
  have h : IntOp.cmpi CmpIPredicate.eq (BitVec.ofNat 32 l.val) (BitVec.ofNat 32 b) = if l.val = b then 1#1 else 0#1 := by
    exact (by decide +kernel : ∀ l b : Fin 128, IntOp.cmpi CmpIPredicate.eq (BitVec.ofNat 32 l.val) (BitVec.ofNat 32 b.val) = if l.val = b.val then 1#1 else 0#1) l ⟨b, hb⟩
  rw [lane, h]
  split <;> rfl

omit B in
/-- The eight lanes of a key head. -/
theorem lanes_eq (l : Fin 128) (o : ℕ) (f : Fin 8 → EReal) :
    (if l.val = o then f 0 else 0) + (if l.val = o + 1 then f 1 else 0) + (if l.val = o + 2 then f 2 else 0) + (if l.val = o + 3 then f 3 else 0)
      + (if l.val = o + 4 then f 4 else 0) + (if l.val = o + 5 then f 5 else 0) + (if l.val = o + 6 then f 6 else 0) + (if l.val = o + 7 then f 7 else 0)
      = if o ≤ l.val ∧ l.val < o + 8 then f ⟨(l.val - o) % 8, by omega⟩ else 0 := by
  have e : ∀ g : Fin 8, (if l.val = o + g.val then f g else 0) = if o ≤ l.val ∧ l.val < o + 8 then (if (⟨(l.val - o) % 8, by omega⟩ : Fin 8) = g then f g else 0) else 0 := fun g => by
    by_cases h : l.val = o + g.val
    · rw [if_pos h, if_pos (by omega), if_pos (Fin.ext (by simp only []; omega))]
    · rw [if_neg h]
      split
      · rw [if_neg fun c => h (by have := congrArg Fin.val c; simp only [] at this; omega)]
      · rfl
  have s := Fin.sum_univ_eight fun g : Fin 8 => if l.val = o + g.val then f g else 0
  refine s.symm.trans ?_
  simp only [e]
  split
  · rw [Finset.sum_ite_eq, if_pos (Finset.mem_univ _)]
  · exact Finset.sum_const_zero

omit B in
/-- What a point adds to a lane of the sinks' gradients. -/
def sinkTerm (A : Args) (t : Fin 64) (l : Fin 128) : ℝ :=
  if l.val < 16 then ∑ i, (A.tile (win t ⟨l.val / 8 % 2, by omega⟩)).dsink ⟨l.val % 8, by omega⟩ i else 0

theorem dsk_point (acc : Vec Ideal S1x128 .f32) (l : Fin 128) :
    I.dsk acc (ix2 0 l) = acc (ix2 0 l) + (sinkTerm A t l : EReal) := by
  have z0 : ∀ g, ∑ i, I.dz0 (ix2 0 (col g i)) = ((∑ i, (A.tile (win t 0)).dsink g i : ℝ) : EReal) :=
    fun g => Grads.dz_sum I.first_runs (first_reads B) (first_cot B) g
  have z1 : ∀ g, ∑ i, I.dz1 (ix2 0 (col g i)) = ((∑ i, (A.tile (win t 1)).dsink g i : ℝ) : EReal) :=
    fun g => Grads.dz_sum I.second_runs (second_reads B) (second_cot B) g
  have l0 := lanes_eq l 0 fun g => ((∑ i, (A.tile (win t 0)).dsink g i : ℝ) : EReal)
  have l1 := lanes_eq l 8 fun g => ((∑ i, (A.tile (win t 1)).dsink g i : ℝ) : EReal)
  have h0 : I.skmid acc (ix2 0 l) = acc (ix2 0 l) + (if 0 ≤ l.val ∧ l.val < 0 + 8 then ((∑ i, (A.tile (win t 0)).dsink ⟨(l.val - 0) % 8, by omega⟩ i : ℝ) : EReal) else 0) := by
    rw [← l0]
    refine (pay45 I.dz0 acc l).trans ?_
    rw [lane_eq _ 0 (by omega), lane_eq _ 1 (by omega), lane_eq _ 2 (by omega), lane_eq _ 3 (by omega), lane_eq _ 4 (by omega), lane_eq _ 5 (by omega), lane_eq _ 6 (by omega), lane_eq _ 7 (by omega)]
    simp only [z0]
  refine (pay94 I.dz1 (I.skmid acc) l).trans ?_
  rw [lane_eq _ 8 (by omega), lane_eq _ 9 (by omega), lane_eq _ 10 (by omega), lane_eq _ 11 (by omega), lane_eq _ 12 (by omega), lane_eq _ 13 (by omega), lane_eq _ 14 (by omega), lane_eq _ 15 (by omega)]
  simp only [z1]
  rw [l1, h0, add_assoc]
  refine congrArg (acc (ix2 0 l) + ·) ?_
  unfold sinkTerm
  by_cases a : l.val < 8
  · rw [if_pos (by omega), if_neg (by omega), if_pos (by omega), add_zero]
    have hk : (⟨l.val / 8 % 2, by omega⟩ : Fin 2) = 0 := Fin.ext (by simp only []; omega)
    rw [hk]
    rfl
  · by_cases b : l.val < 16
    · rw [if_neg (by omega), if_pos (by omega), if_pos b, zero_add]
      have hk : (⟨l.val / 8 % 2, by omega⟩ : Fin 2) = 1 := Fin.ext (by simp only []; omega)
      have hg : (⟨(l.val - 8) % 8, by omega⟩ : Fin 8) = ⟨l.val % 8, by omega⟩ := Fin.ext (by simp only []; omega)
      rw [hk, hg]
    · rw [if_neg (by omega), if_neg (by omega), if_neg b, add_zero, EReal.coe_zero]

end Cert.AttnBwdIdeal.Grad
end
-- ==== Proof.AttnBwdElement.lean ====
/- The elements that a point of attention's gradient writes are the reference's, where the arguments hold reals. -/
module

public import proofs.«01_k».proof.Proof.Gen.AttnBwdIdeal.Value
public import proofs.«01_k».proof.Proof.Gen.AttnBwdRefIdeal.Read
public import proofs.«01_k».proof.Proof.AttnBwdBlocks
public import proofs.«01_k».proof.Proof.AttnBwdPoint
public import proofs.«01_k».proof.Proof.AttnBwdRefValue
public import Idealize.ShloMosaic.Lib.Pipeline.ValueKit
public import Idealize.ShloMosaic.Lib.Pipeline.ReadBack
public import Idealize.ShloMosaic.Lib.WritesUnit
public import Idealize.ShloMosaic.Lib.Pointwise
public import Idealize.ShloMosaic.Lib.Claim

@[expose] public section

set_option maxRecDepth 16384

noncomputable section

namespace Cert.AttnBwdIdeal.Grad

open Cert.AttnBwdIdeal Cert.AttnBwdIdeal.Gen Cert.AttnMath Idealize.ShloMosaic Idealize.ShloMosaic.TcCoe Idealize.SL.Sem
open Idealize.ShloMosaic.Pipeline (Dat)
open Cert.AttnBwdRefIdeal.Grad (Holds qrows zof gof zkv)

variable (m : (ℓ : Loc nD τ sig) → Buf (Elt Ideal) ℓ)

/-- The arguments hold the reals `A`. -/
abbrev Real (c : Dev nD) (A : Args) : Prop :=
  Holds (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) A

/-- The arrays that the results are claimed to be. -/
abbrev dqRef (c : Dev nD) := Cert.AttnBwdRefIdeal.Read.val_main_v236 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
abbrev dkcRef (c : Dev nD) := Cert.AttnBwdRefIdeal.Read.val_main_v245 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
abbrev dkpRef (c : Dev nD) := Cert.AttnBwdRefIdeal.Read.val_main_v254 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
abbrev dqgRef (c : Dev nD) := Cert.AttnBwdRefIdeal.Read.val_main_v256 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
abbrev dskRef (c : Dev nD) := Cert.AttnBwdRefIdeal.Read.val_main_v235 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem row_lt (t : Fin cfg0.N) (r : Fin 128) : t.val * 128 + r.val < 8192 := by have := t.isLt.trans_eq N_0; omega

/-! ## The reference's windows are the points' -/

theorem zof_eq (t : Fin 64) (kh : Fin 2) (g : Fin 8) : zof t ⟨kh.val * 8 + g.val, by omega⟩ = win t kh :=
  Fin.ext (by simp only [zof, win]; omega)

theorem gof_eq (kh : Fin 2) (g : Fin 8) : gof ⟨kh.val * 8 + g.val, by omega⟩ = g := Fin.ext (by simp only [gof]; omega)

theorem qrows_eq (A : Args) (t : Fin 64) (i : Fin 128) (kh : Fin 2) (g : Fin 8) : qrows A t i ⟨kh.val * 8 + g.val, by omega⟩ = A.qv (win t kh) g i := by
  funext d
  rw [tile_q]
  exact congrArg (A.q (rowc t i)) (Fin.ext (by simp only []; omega))

theorem zkv_eq (t : Fin 64) (kh : Fin 2) (k : Fin 128) (d : Fin 64) (R : Fin 8192) (j : Fin 128) (hR : R.val = t.val * 128 + k.val) (hj : j.val = kh.val * 64 + d.val) :
    zkv R j = win t kh ∧ (⟨R.val % 128, by omega⟩ : Fin 128) = k :=
  ⟨Fin.ext (by simp only [zkv, win]; omega), Fin.ext (by simp only []; omega)⟩

/-! ## The elements -/

section
variable {m} {A : Args} {c : Dev nD} (real : Real m c A) (t : Fin cfg0.N)
include real

theorem dq_ref (r : Fin 128) (kh : Fin 2) (g : Fin 8) (d : Fin 64) (j : Fin 1024) (hj : j.val = kh.val * 512 + (g.val * 64 + d.val)) :
    dqRef m c (ix2 ⟨t.val * 128 + r.val, row_lt t r⟩ j)
      = RmsGrad.byRule (Ideal.ofBits .f32 0x42800000#32) (fun k => (A.qv (win (pt t) kh) g r k : EReal)) (fun k => (((A.tile (win (pt t) kh)).dq g r k * A.qs k : ℝ) : EReal)) 0 d := by
  have e : j = (⟨(⟨kh.val * 8 + g.val, by omega⟩ : Fin 16).val * 64 + d.val, by simp only []; omega⟩ : Fin 1024) := Fin.ext (by simp only []; omega)
  have h := Cert.AttnBwdRefIdeal.Grad.dq_eq real (pt t) r ⟨kh.val * 8 + g.val, by omega⟩ d
  rw [zof_eq, gof_eq, qrows_eq, ← e] at h
  exact h

theorem dq_element (y : S128x1024.Idx) : (inp m c t).dq y = dqRef m c ((win0_9.blk t).view.emb y) := by
  obtain ⟨r, j, rfl⟩ : ∃ (r : Fin 128) (j : Fin 1024), y = ix2 r j := ⟨y 0, y 1, by funext a; match a with | ⟨0, _⟩ => rfl | ⟨1, _⟩ => rfl⟩
  have e : (win0_9.blk t).view.emb (ix2 r j) = ix2 ⟨t.val * 128 + r.val, row_lt t r⟩ j := by blk_ext [place t]
  have d : j.val % 64 < 64 := by omega
  refine Eq.trans ?_ (congrArg (dqRef m c) e).symm
  by_cases a : j.val < 512
  · rw [dq_ref real t r 0 ⟨j.val / 64, by omega⟩ ⟨j.val % 64, d⟩ j (by simp only [Fin.val_zero]; omega)]
    exact dq_first (blocks m real t) r _ _ j (by simp only []; omega)
  · rw [dq_ref real t r 1 ⟨(j.val - 512) / 64, by omega⟩ ⟨j.val % 64, d⟩ j (by simp only [Fin.val_one]; omega)]
    exact dq_second (blocks m real t) r _ _ j (by simp only []; omega)

theorem kc_ref (k : Fin 128) (kh : Fin 2) (d : Fin 64) (j : Fin 256) (hj : j.val = kh.val * 64 + d.val) :
    dkcRef m c (ix2 ⟨t.val * 128 + k.val, row_lt t k⟩ j) = ((A.tile (win (pt t) kh)).dk (Tile.cur k) d : EReal) := by
  rw [dkcRef, Cert.AttnBwdRefIdeal.Grad.dkvc_eq real, dif_pos (by omega)]
  obtain ⟨e, f⟩ := zkv_eq (pt t) kh k d ⟨t.val * 128 + k.val, row_lt t k⟩ ⟨j.val, by omega⟩ rfl hj
  have g : (⟨j.val % 64, by omega⟩ : Fin 64) = d := Fin.ext (by simp only []; omega)
  rw [e, f, g]

theorem vc_ref (k : Fin 128) (kh : Fin 2) (d : Fin 64) (j : Fin 256) (hj : j.val = 128 + (kh.val * 64 + d.val)) :
    dkcRef m c (ix2 ⟨t.val * 128 + k.val, row_lt t k⟩ j) = ((A.tile (win (pt t) kh)).dv (Tile.cur k) d : EReal) := by
  rw [dkcRef, Cert.AttnBwdRefIdeal.Grad.dkvc_eq real, dif_neg (by omega)]
  obtain ⟨e, f⟩ := zkv_eq (pt t) kh k d ⟨t.val * 128 + k.val, row_lt t k⟩ ⟨j.val - 128, by omega⟩ rfl (by simp only []; omega)
  have g : (⟨j.val % 64, by omega⟩ : Fin 64) = d := Fin.ext (by simp only []; omega)
  rw [e, f, g]

theorem kp_ref (k : Fin 128) (kh : Fin 2) (d : Fin 64) (j : Fin 256) (hj : j.val = kh.val * 64 + d.val) :
    dkpRef m c (ix2 ⟨t.val * 128 + k.val, row_lt t k⟩ j) = ((A.tile (win (pt t) kh)).dk (Tile.prev k) d : EReal) := by
  rw [dkpRef, Cert.AttnBwdRefIdeal.Grad.dkvp_eq real, dif_pos (by omega)]
  obtain ⟨e, f⟩ := zkv_eq (pt t) kh k d ⟨t.val * 128 + k.val, row_lt t k⟩ ⟨j.val, by omega⟩ rfl hj
  have g : (⟨j.val % 64, by omega⟩ : Fin 64) = d := Fin.ext (by simp only []; omega)
  rw [e, f, g]

theorem vp_ref (k : Fin 128) (kh : Fin 2) (d : Fin 64) (j : Fin 256) (hj : j.val = 128 + (kh.val * 64 + d.val)) :
    dkpRef m c (ix2 ⟨t.val * 128 + k.val, row_lt t k⟩ j) = ((A.tile (win (pt t) kh)).dv (Tile.prev k) d : EReal) := by
  rw [dkpRef, Cert.AttnBwdRefIdeal.Grad.dkvp_eq real, dif_neg (by omega)]
  obtain ⟨e, f⟩ := zkv_eq (pt t) kh k d ⟨t.val * 128 + k.val, row_lt t k⟩ ⟨j.val - 128, by omega⟩ rfl (by simp only []; omega)
  have g : (⟨j.val % 64, by omega⟩ : Fin 64) = d := Fin.ext (by simp only []; omega)
  rw [e, f, g]

omit real in
/-- A piece of 64 columns, element by element. -/
theorem piece (P : S128x64.Idx → EReal) (G : Fin 128 → Fin 256 → EReal) (o : ℕ) (hP : ∀ (k : Fin 128) (d : Fin 64) (j : Fin 256), j.val = o + d.val → P (ix2 k d) = G k j)
    (r : Fin 128) (j : Fin 256) (x : S128x64.Idx) (e0 : r.val = (x 0).val) (e1 : j.val = o + (x 1).val) : P x = G r j := by
  have hx : x = ix2 r (x 1) := funext fun a => Fin.ext (by
    match a with
    | ⟨0, _⟩ => exact e0.symm
    | ⟨1, _⟩ => rfl)
  exact (congrArg P hx).trans (hP r (x 1) j e1)

theorem pieces_c (r : Fin 128) (j : Fin 256) (x : S128x64.Idx) (e0 : r.val = (x 0).val) :
    (j.val = (x 1).val → (inp m c t).dkc0 x = dkcRef m c (ix2 ⟨t.val * 128 + r.val, row_lt t r⟩ j))
      ∧ (j.val = 64 + (x 1).val → (inp m c t).dkc1 x = dkcRef m c (ix2 ⟨t.val * 128 + r.val, row_lt t r⟩ j))
      ∧ (j.val = 128 + (x 1).val → (inp m c t).dvc0 x = dkcRef m c (ix2 ⟨t.val * 128 + r.val, row_lt t r⟩ j))
      ∧ (j.val = 192 + (x 1).val → (inp m c t).dvc1 x = dkcRef m c (ix2 ⟨t.val * 128 + r.val, row_lt t r⟩ j)) := by
  let G : Fin 128 → Fin 256 → EReal := fun r j => dkcRef m c (ix2 ⟨t.val * 128 + r.val, row_lt t r⟩ j)
  refine ⟨fun e => piece _ G 0 (fun k d j h => ?_) r j x e0 (by omega), fun e => piece _ G 64 (fun k d j h => ?_) r j x e0 e,
    fun e => piece _ G 128 (fun k d j h => ?_) r j x e0 e, fun e => piece _ G 192 (fun k d j h => ?_) r j x e0 e⟩
  · exact (dkc_first (blocks m real t) k d).trans (kc_ref real t k 0 d j (by simp only [Fin.val_zero]; omega)).symm
  · exact (dkc_second (blocks m real t) k d).trans (kc_ref real t k 1 d j (by simp only [Fin.val_one]; omega)).symm
  · exact (dvc_first (blocks m real t) k d).trans (vc_ref real t k 0 d j (by simp only [Fin.val_zero]; omega)).symm
  · exact (dvc_second (blocks m real t) k d).trans (vc_ref real t k 1 d j (by simp only [Fin.val_one]; omega)).symm

theorem pieces_p (r : Fin 128) (j : Fin 256) (x : S128x64.Idx) (e0 : r.val = (x 0).val) :
    (j.val = (x 1).val → (inp m c t).dkp0 x = dkpRef m c (ix2 ⟨t.val * 128 + r.val, row_lt t r⟩ j))
      ∧ (j.val = 64 + (x 1).val → (inp m c t).dkp1 x = dkpRef m c (ix2 ⟨t.val * 128 + r.val, row_lt t r⟩ j))
      ∧ (j.val = 128 + (x 1).val → (inp m c t).dvp0 x = dkpRef m c (ix2 ⟨t.val * 128 + r.val, row_lt t r⟩ j))
      ∧ (j.val = 192 + (x 1).val → (inp m c t).dvp1 x = dkpRef m c (ix2 ⟨t.val * 128 + r.val, row_lt t r⟩ j)) := by
  let G : Fin 128 → Fin 256 → EReal := fun r j => dkpRef m c (ix2 ⟨t.val * 128 + r.val, row_lt t r⟩ j)
  refine ⟨fun e => piece _ G 0 (fun k d j h => ?_) r j x e0 (by omega), fun e => piece _ G 64 (fun k d j h => ?_) r j x e0 e,
    fun e => piece _ G 128 (fun k d j h => ?_) r j x e0 e, fun e => piece _ G 192 (fun k d j h => ?_) r j x e0 e⟩
  · exact (dkp_first (blocks m real t) k d).trans (kp_ref real t k 0 d j (by simp only [Fin.val_zero]; omega)).symm
  · exact (dkp_second (blocks m real t) k d).trans (kp_ref real t k 1 d j (by simp only [Fin.val_one]; omega)).symm
  · exact (dvp_first (blocks m real t) k d).trans (vp_ref real t k 0 d j (by simp only [Fin.val_zero]; omega)).symm
  · exact (dvp_second (blocks m real t) k d).trans (vp_ref real t k 1 d j (by simp only [Fin.val_one]; omega)).symm

end

end Cert.AttnBwdIdeal.Grad
end
-- ==== Proof.AttnBwdValue.lean ====
/- The values of attention's gradient, where the arguments hold reals. -/
module

public import proofs.«01_k».proof.Proof.Gen.AttnBwdIdeal.Value
public import proofs.«01_k».proof.Proof.Gen.AttnBwdRefIdeal.Read
public import proofs.«01_k».proof.Proof.AttnBwdElement
public import Idealize.ShloMosaic.Lib.Pipeline.ValueKit
public import Idealize.ShloMosaic.Lib.Pipeline.ReadBack
public import Idealize.ShloMosaic.Lib.WritesUnit
public import Idealize.ShloMosaic.Lib.Pointwise
public import Idealize.ShloMosaic.Lib.Claim

@[expose] public section

set_option maxRecDepth 16384

noncomputable section

namespace Cert.AttnBwdIdeal.Grad

open Cert.AttnBwdIdeal Cert.AttnBwdIdeal.Gen Cert.AttnMath Idealize.ShloMosaic Idealize.ShloMosaic.TcCoe Idealize.SL.Sem
open Idealize.ShloMosaic.Pipeline (Dat)
open Cert.AttnBwdRefIdeal.Grad (Holds qrows zof gof zkv)

variable (m : (ℓ : Loc nD τ sig) → Buf (Elt Ideal) ℓ)

/-! ## The result arrays -/

section
variable {m} {A : Args} {c : Dev nD} (real : Real m c A)
include real

set_option maxHeartbeats 2000000 in
/-- The queries' gradient. -/
theorem dq_final : (dats m 0 c).arrAt 9 (cfgs 0).N = dqRef m c := by
  refine (dats m 0 c).arrAt_eq_of_covers 9 _ (by decide +kernel) fun t _ y => ?_
  blk_simp
  rw [after0_9]
  have h := dq_element real t y
  simp only [In.dq, In.dq0, In.dq1, In.p0, In.p1, prob0, prob1, score0, In.v7, In.v10, In.kp0, In.kp1, In.kc0, In.kc1, In.vp0, In.vp1, In.vc0, In.vc1, In.b0, In.b1, In.s0, In.s1, inp] at h
  by_cases a : t.val % 64 = 0
  · rw [outsAt0_A m c t a]
    frame_out
    exact h
  · rw [outsAt0_B m c t a]
    frame_out
    exact h

set_option maxHeartbeats 2000000 in
/-- The gradient of a block's own keys and values. -/
theorem dkc_final : (dats m 0 c).arrAt 10 (cfgs 0).N = dkcRef m c := by
  refine (dats m 0 c).arrAt_eq_of_covers 10 _ (by decide +kernel) fun t _ y => ?_
  obtain ⟨r, j, rfl⟩ : ∃ (r : Fin 128) (j : Fin 256), y = ix2 r j := ⟨y 0, y 1, by funext a; match a with | ⟨0, _⟩ => rfl | ⟨1, _⟩ => rfl⟩
  have e : (win0_10.blk t).view.emb (ix2 r j) = ix2 ⟨t.val * 128 + r.val, row_lt t r⟩ j := by blk_ext [place t]
  blk_simp
  rw [after0_10]
  refine Eq.trans ?_ (congrArg (dkcRef m c) e).symm
  have p := pieces_c real t r j
  simp only [In.dkc0, In.dkc1, In.dvc0, In.dvc1, In.p0, In.p1, prob0, prob1, score0, In.v7, In.v10, In.kp0, In.kp1, In.kc0, In.kc1, In.vp0, In.vp1, In.vc0, In.vc1, In.b0, In.b1, In.s0, In.s1, inp] at p
  by_cases a : t.val % 64 = 0
  · rw [outsAt0_A m c t a]
    frame_out
    canon_tiles x h
    · exact (p x h0).2.2.2 h1
    · exact (p x h0).2.1 h1
    · exact (p x h0).2.2.1 h1
    · exact (p x h0).1 h1
  · rw [outsAt0_B m c t a]
    frame_out
    canon_tiles x h
    · exact (p x h0).2.2.2 h1
    · exact (p x h0).2.1 h1
    · exact (p x h0).2.2.1 h1
    · exact (p x h0).1 h1

set_option maxHeartbeats 2000000 in
/-- The gradient of the keys and values of the block before. -/
theorem dkp_final : (dats m 0 c).arrAt 11 (cfgs 0).N = dkpRef m c := by
  refine (dats m 0 c).arrAt_eq_of_covers 11 _ (by decide +kernel) fun t _ y => ?_
  obtain ⟨r, j, rfl⟩ : ∃ (r : Fin 128) (j : Fin 256), y = ix2 r j := ⟨y 0, y 1, by funext a; match a with | ⟨0, _⟩ => rfl | ⟨1, _⟩ => rfl⟩
  have e : (win0_11.blk t).view.emb (ix2 r j) = ix2 ⟨t.val * 128 + r.val, row_lt t r⟩ j := by blk_ext [place t]
  blk_simp
  rw [after0_11]
  refine Eq.trans ?_ (congrArg (dkpRef m c) e).symm
  have p := pieces_p real t r j
  simp only [In.dkp0, In.dkp1, In.dvp0, In.dvp1, In.p0, In.p1, prob0, prob1, score0, In.v7, In.v10, In.kp0, In.kp1, In.kc0, In.kc1, In.vp0, In.vp1, In.vc0, In.vc1, In.b0, In.b1, In.s0, In.s1, inp] at p
  by_cases a : t.val % 64 = 0
  · rw [outsAt0_A m c t a]
    frame_out
    canon_tiles x h
    · exact (p x h0).2.2.2 h1
    · exact (p x h0).2.1 h1
    · exact (p x h0).2.2.1 h1
    · exact (p x h0).1 h1
  · rw [outsAt0_B m c t a]
    frame_out
    canon_tiles x h
    · exact (p x h0).2.2.2 h1
    · exact (p x h0).2.1 h1
    · exact (p x h0).2.2.1 h1
    · exact (p x h0).1 h1

omit real in
theorem start_qg (y : S64x128.Idx) : k0_pay1 (F := Ideal) y = (0 : EReal) := by
  pointwise [k0_pay1]

omit real in
theorem start_sk (y : S8x128.Idx) : k0_pay2 (F := Ideal) y = (0 : EReal) := by
  pointwise [k0_pay2]

omit real in
theorem qg_start (m : (ℓ : Loc nD τ sig) → Buf (Elt Ideal) ℓ) (c : Dev nD) (t : Fin cfg0.N) (h : t.val % 64 = 0) (j : S64x128.Idx) :
    (outsAt0 m c t.val t.isLt).2.2.2.1 j = (inp m c t).dqg (k0_pay1 (F := Ideal)) j := by
  simp only [In.dqg, In.qgmid, In.p0, In.p1, prob0, prob1, score0, In.v7, In.v10, In.kp0, In.kp1, In.kc0, In.kc1, In.vp0, In.vp1, In.vc0, In.vc1, In.b0, In.b1, In.s0, In.s1, inp]
  rw [outsAt0_A m c t h]
  frame_out

omit real in
theorem qg_next (m : (ℓ : Loc nD τ sig) → Buf (Elt Ideal) ℓ) (c : Dev nD) (t : Fin cfg0.N) (h : ¬t.val % 64 = 0) (j : S64x128.Idx) :
    (outsAt0 m c t.val t.isLt).2.2.2.1 j = (inp m c t).dqg (outsAt0 m c (t.val - 1) (Nat.lt_of_le_of_lt (Nat.sub_le _ _) t.isLt)).2.2.2.1 j := by
  simp only [In.dqg, In.qgmid, In.p0, In.p1, prob0, prob1, score0, In.v7, In.v10, In.kp0, In.kp1, In.kc0, In.kc1, In.vp0, In.vp1, In.vc0, In.vc1, In.b0, In.b1, In.s0, In.s1, inp]
  rw [outsAt0_B m c t h]
  frame_out

/-- What a point adds to the queries' scale's gradient. -/
theorem qg_step (t : Fin cfg0.N) (acc : Vec Ideal S64x128 .f32) (y : S64x128.Idx) :
    (inp m c t).dqg acc y = acc y + ((dqgTerm A (pt t) 0 (y 0) (y 1) + dqgTerm A (pt t) 1 (y 0) (y 1) : ℝ) : EReal) := by
  obtain ⟨d, i, rfl⟩ : ∃ (d : Fin 64) (i : Fin 128), y = ix2 d i := ⟨y 0, y 1, by funext a; match a with | ⟨0, _⟩ => rfl | ⟨1, _⟩ => rfl⟩
  exact dqg_point (blocks m real t) acc d i

/-- The points' terms make up the reference's. -/
theorem qg_total (y : S64x128.Idx) :
    ∑ t : Fin cfg0.N, ((dqgTerm A (pt t) 0 (y 0) (y 1) + dqgTerm A (pt t) 1 (y 0) (y 1) : ℝ) : EReal) = dqgRef m c y := by
  obtain ⟨d, i, rfl⟩ : ∃ (d : Fin 64) (i : Fin 128), y = ix2 d i := ⟨y 0, y 1, by funext a; match a with | ⟨0, _⟩ => rfl | ⟨1, _⟩ => rfl⟩
  rw [coe_sum]
  refine Eq.trans (congrArg (fun r : ℝ => (r : EReal)) ?_) (Cert.AttnBwdRefIdeal.Grad.dqg_eq real d i).symm
  refine (Fintype.sum_equiv (finCongr N_0) _ (fun u : Fin 64 => dqgTerm A u 0 d i + dqgTerm A u 1 d i) fun t => rfl).trans ?_
  refine Finset.sum_congr rfl fun u _ => ?_
  have s : ∀ kh : Fin 2, dqgTerm A u kh d i = ∑ g : Fin 8, (fun h : Fin 16 => qrows A u i h d * root (qrows A u i h) * (A.tile (zof u h)).dq (gof h) i d) ⟨kh.val * 8 + g.val, by omega⟩ := fun kh => by
    refine Finset.sum_congr rfl fun g _ => ?_
    simp only [zof_eq, gof_eq, qrows_eq]
    exact mul_comm _ _
  refine Eq.trans ?_ (Fin.sum_mul_add_congr (S := 2) (n := 8) (f := fun h : Fin 16 => qrows A u i h d * root (qrows A u i h) * (A.tile (zof u h)).dq (gof h) i d) (F := fun (kh : Fin 2) (g : Fin 8) => (fun h : Fin 16 => qrows A u i h d * root (qrows A u i h) * (A.tile (zof u h)).dq (gof h) i d) ⟨kh.val * 8 + g.val, by omega⟩) (fun kh g hl => rfl) rfl)
  rw [Fin.sum_univ_two, s 0, s 1]

omit real in
/-- The last point. -/
def last : Fin cfg0.N := ⟨63, by rw [show cfg0.N = 64 from N_0]; decide⟩

/-- The queries' scale's gradient. -/
theorem dqg_final : (dats m 0 c).arrAt 12 (cfgs 0).N = dqgRef m c := by
  refine (dats m 0 c).arrAt_eq_of_after_last 12 last (by decide +kernel) _ fun j => ?_
  blk_simp
  rw [after0_12, Pipeline.eq_sum_fin_of_reset_step_apply_last (fun n h => (outsAt0 m c n h).2.2.2.1) 64 (fun _ => 0)
    (fun t j => ((dqgTerm A (pt t) 0 (j 0) (j 1) + dqgTerm A (pt t) 1 (j 0) (j 1) : ℝ) : EReal))
    (fun t h j => (qg_start m c t h j).trans ((qg_step real t _ j).trans (congrArg (· + _) (start_qg j))))
    (fun t h j => (qg_next m c t h j).trans (qg_step real t _ j))
    (le_of_eq N_0) last rfl j, zero_add]
  refine (qg_total real j).trans (congrArg (dqgRef m c) ?_)
  blk_ext [place last]

/-- The first row of the sinks' gradients. -/
abbrev top : Rect S8x128 := Rect.unit ![0, 0] ![1, 128] inb_S8x128_S1x128_0_0
abbrev topRow (acc : Vec Ideal S8x128 .f32) : Vec Ideal S1x128 .f32 := View.ld acc top

omit real in
/-- Two stores of the first row over a fill. -/
theorem row_canon (w w' : top.shape.Idx → Elt Ideal .f32) (Z : S8x128.Idx → Elt Ideal .f32) (r : Fin 8) (l : Fin 128) :
    View.canon [(⟨top, w⟩ : View.Piece (Elt Ideal) S8x128 .f32), ⟨top, w'⟩, ⟨Rect.unit ![0, 0] ![8, 128] inb_S8x128_S8x128_0_0, Z⟩] (ix2 r l)
      = if r.val = 0 then w (ix2 0 l) else Z (ix2 r l) := by
  split
  · have e : (ix2 r l : S8x128.Idx) = top.emb (ix2 0 l) := funext fun a => Fin.ext (by
      match a with
      | ⟨0, _⟩ => assumption
      | ⟨1, _⟩ => show l.val = 0 + 1 * l.val; omega)
    rw [e]
    exact View.canon_cons_emb _ _ _ _
  · have n : (ix2 r l : S8x128.Idx) ∉ top.set := by
      rw [Rect.mem_set_unit]
      intro q
      have : r.val < 0 + 1 := (q 0).2
      omega
    refine (View.canon_cons_of_not_mem (⟨top, w⟩ : View.Piece (Elt Ideal) S8x128 .f32) _ n).trans ((View.canon_cons_of_not_mem (⟨top, w'⟩ : View.Piece (Elt Ideal) S8x128 .f32) _ n).trans ?_)
    exact congrFun (View.canon_cons_unit_lit _ _ _ (by decide)) _

omit real in
/-- Two stores of the first row over what was there. -/
theorem row_writes {κ : Kind} {sp : Space} (v : View sig κ sp S8x128 .f32) (f : v.ty.Contents (Elt Ideal)) (w w' : top.shape.Idx → Elt Ideal .f32) (r : Fin 8) (l : Fin 128) :
    View.read (Elt Ideal) v (v.writes (Elt Ideal) f [(⟨top, w⟩ : View.Piece (Elt Ideal) S8x128 .f32), ⟨top, w'⟩]) (ix2 r l)
      = if r.val = 0 then w (ix2 0 l) else View.read (Elt Ideal) v f (ix2 r l) := by
  split
  · refine View.read_writes_cons_unit_of_mem (s := S8x128) (size := ![1, 128]) v f inb_S8x128_S1x128_0_0 w _ (ix2 r l) (ix2 0 l : S1x128.Idx) rfl fun a => ?_
    match a with
    | ⟨0, _⟩ => assumption
    | ⟨1, _⟩ => show l.val = 0 + l.val; omega
  · have q : r.val < 0 ∨ 0 + 1 ≤ r.val := by omega
    exact (View.read_writes_cons_unit_of_not_mem (s := S8x128) (size := ![1, 128]) v f inb_S8x128_S1x128_0_0 w _ (ix2 r l) rfl 0 q).trans
      (View.read_writes_cons_unit_of_not_mem (s := S8x128) (size := ![1, 128]) v f inb_S8x128_S1x128_0_0 w' _ (ix2 r l) rfl 0 q)

omit real in
theorem sk_start (m : (ℓ : Loc nD τ sig) → Buf (Elt Ideal) ℓ) (c : Dev nD) (t : Fin cfg0.N) (h : t.val % 64 = 0) (r : Fin 8) (l : Fin 128) :
    (outsAt0 m c t.val t.isLt).2.2.2.2 (ix2 r l) = if r.val = 0 then (inp m c t).dsk (topRow (k0_pay2 (F := Ideal))) (ix2 0 l) else k0_pay2 (F := Ideal) (ix2 r l) := by
  simp only [In.dsk, In.skmid, In.dz0, In.dz1, sink0, sink1, In.p0, In.p1, prob0, prob1, score0, In.v7, In.v10, In.kp0, In.kp1, In.kc0, In.kc1, In.vp0, In.vp1, In.vc0, In.vc1, In.b0, In.b1, In.s0, In.s1, inp]
  rw [outsAt0_A m c t h]
  frame_out
  simp (disch := decide) only [View.readCov_cons_toLoadRect, View.readCov_fill]
  exact row_canon _ _ _ r l

omit real in
theorem sk_next (m : (ℓ : Loc nD τ sig) → Buf (Elt Ideal) ℓ) (c : Dev nD) (t : Fin cfg0.N) (h : ¬t.val % 64 = 0) (r : Fin 8) (l : Fin 128) :
    (outsAt0 m c t.val t.isLt).2.2.2.2 (ix2 r l)
      = if r.val = 0 then (inp m c t).dsk (topRow (outsAt0 m c (t.val - 1) (Nat.lt_of_le_of_lt (Nat.sub_le _ _) t.isLt)).2.2.2.2) (ix2 0 l)
        else (outsAt0 m c (t.val - 1) (Nat.lt_of_le_of_lt (Nat.sub_le _ _) t.isLt)).2.2.2.2 (ix2 r l) := by
  simp only [In.dsk, In.skmid, In.dz0, In.dz1, sink0, sink1, In.p0, In.p1, prob0, prob1, score0, In.v7, In.v10, In.kp0, In.kp1, In.kc0, In.kc1, In.vp0, In.vp1, In.vc0, In.vc1, In.b0, In.b1, In.s0, In.s1, inp]
  rw [outsAt0_B m c t h]
  frame_out
  simp (disch := decide) only [View.readCov_cons_toLoadRect]
  refine (row_writes _ _ _ _ r l).trans ?_
  rw [(hs0_13 t).read_unread]

/-- What a point adds to the sinks' gradients. -/
theorem sk_step (t : Fin cfg0.N) (acc : Vec Ideal S8x128 .f32) (l : Fin 128) :
    (inp m c t).dsk (topRow acc) (ix2 0 l) = acc (ix2 0 l) + (sinkTerm A (pt t) l : EReal) := by
  refine (dsk_point (blocks m real t) _ l).trans (congrArg (· + _) (congrArg acc ?_))
  exact funext fun a => Fin.ext (by
    match a with
    | ⟨0, _⟩ => rfl
    | ⟨1, _⟩ => show 0 + 1 * l.val = l.val; omega)

/-- The points' terms make up the reference's. -/
theorem sk_total (y : S8x128.Idx) :
    ∑ t : Fin cfg0.N, (if (y 0).val = 0 then (sinkTerm A (pt t) (y 1) : EReal) else 0) = dskRef m c y := by
  obtain ⟨r, l, rfl⟩ : ∃ (r : Fin 8) (l : Fin 128), y = ix2 r l := ⟨y 0, y 1, by funext a; match a with | ⟨0, _⟩ => rfl | ⟨1, _⟩ => rfl⟩
  refine Eq.trans ?_ (Cert.AttnBwdRefIdeal.Grad.dsk_eq real r l).symm
  show ∑ t : Fin cfg0.N, (if r.val = 0 then (sinkTerm A (pt t) l : EReal) else 0) = _
  by_cases a : r.val = 0
  · rw [if_pos (by omega)]
    simp only [if_pos a]
    rw [coe_sum]
    by_cases b : l.val < 16
    · rw [dif_pos b, Cert.AttnBwdRefIdeal.Grad.dsinks_eq real]
      refine congrArg (fun r : ℝ => (r : EReal)) ?_
      refine (Fintype.sum_equiv (finCongr N_0) _ (fun u : Fin 64 => sinkTerm A u l) fun t => rfl).trans ?_
      refine (Fin.sum_mul_add_congr (S := 4) (n := 16) (f := fun u : Fin 64 => sinkTerm A u l) (fun b' n hl => ?_) rfl).symm
      rw [sinkTerm, if_pos b]
      refine Finset.sum_congr rfl fun i _ => ?_
      have e : win ⟨b'.val * 16 + n.val, hl⟩ ⟨l.val / 8 % 2, by omega⟩ = ⟨b'.val * 32 + l.val / 8 * 16 + n.val, by omega⟩ := Fin.ext (by simp only [win]; omega)
      rw [e]
    · rw [dif_neg b]
      simp only [sinkTerm, if_neg b, Finset.sum_const_zero, EReal.coe_zero]
  · rw [if_neg (by omega)]
    simp only [if_neg a, Finset.sum_const_zero]

/-- The sinks' gradients. -/
theorem dsk_final : (dats m 0 c).arrAt 13 (cfgs 0).N = dskRef m c := by
  refine (dats m 0 c).arrAt_eq_of_after_last 13 last (by decide +kernel) _ fun j => ?_
  have first : ∀ (t : Fin cfg0.N) (h : t.val % 64 = 0) (j : S8x128.Idx), (outsAt0 m c t.val t.isLt).2.2.2.2 j = (0 : EReal) + if (j 0).val = 0 then (sinkTerm A (pt t) (j 1) : EReal) else 0 := fun t h j => by
    obtain ⟨r, l, rfl⟩ : ∃ (r : Fin 8) (l : Fin 128), j = ix2 r l := ⟨j 0, j 1, by funext a; match a with | ⟨0, _⟩ => rfl | ⟨1, _⟩ => rfl⟩
    refine (sk_start m c t h r l).trans ?_
    show _ = (0 : EReal) + if r.val = 0 then (sinkTerm A (pt t) l : EReal) else 0
    by_cases z : r.val = 0
    · rw [if_pos z, if_pos z]
      exact (sk_step real t _ l).trans (congrArg (· + _) (start_sk _))
    · rw [if_neg z, if_neg z, add_zero]
      exact start_sk _
  have next : ∀ (t : Fin cfg0.N) (h : ¬t.val % 64 = 0) (j : S8x128.Idx), (outsAt0 m c t.val t.isLt).2.2.2.2 j
      = (outsAt0 m c (t.val - 1) (Nat.lt_of_le_of_lt (Nat.sub_le _ _) t.isLt)).2.2.2.2 j + if (j 0).val = 0 then (sinkTerm A (pt t) (j 1) : EReal) else 0 := fun t h j => by
    obtain ⟨r, l, rfl⟩ : ∃ (r : Fin 8) (l : Fin 128), j = ix2 r l := ⟨j 0, j 1, by funext a; match a with | ⟨0, _⟩ => rfl | ⟨1, _⟩ => rfl⟩
    refine (sk_next m c t h r l).trans ?_
    show _ = _ + if r.val = 0 then (sinkTerm A (pt t) l : EReal) else 0
    by_cases z : r.val = 0
    · obtain rfl : r = 0 := Fin.ext z
      rw [if_pos z, if_pos z]
      exact sk_step real t _ l
    · rw [if_neg z, if_neg z]
      exact (add_zero (_ : EReal)).symm
  blk_simp
  rw [after0_13, Pipeline.eq_sum_fin_of_reset_step_apply_last (fun n h => (outsAt0 m c n h).2.2.2.2) 64 (fun _ => (0 : EReal))
    (fun t j => if (j 0).val = 0 then (sinkTerm A (pt t) (j 1) : EReal) else 0) first next (le_of_eq N_0) last rfl j, zero_add]
  refine (sk_total real j).trans (congrArg (dskRef m c) ?_)
  blk_ext [place last]

end

end Cert.AttnBwdIdeal.Grad
end
-- ==== Proof.AttnBwdClaims.lean ====
/- The claims about attention's gradient. -/
module

public import proofs.«01_k».proof.Defs
public import proofs.«01_k».proof.Proof.Gen.AttnBwd.Frame
public import proofs.«01_k».proof.Proof.Gen.AttnBwdRefIdeal.Run
public import proofs.«01_k».proof.Proof.Gen.Pre_finite_attn
public import proofs.«01_k».proof.Proof.AttnBwdValue
public import Idealize.ShloMosaic.Lib.Quiescent

@[expose] public section

noncomputable section

namespace Cert.AttnBwdClaims

open Idealize.ShloMosaic Idealize.ShloMosaic.TcCoe Idealize.SL.Sem

/-- The kernel as printed leaves its arguments alone and its counters at zero. -/
theorem frame : Cert.quiescent_AttnBwd := fun m ρ _ => Cert.AttnBwd.Gen.frame m ρ
/-- So does the idealized kernel, whatever its arguments. -/
theorem frame_ideal : Cert.quiescent_AttnBwdIdeal := fun m ρ _ => Cert.AttnBwdIdeal.Gen.frame m ρ
theorem frame_ideal_pre : Cert.quiescent_AttnBwdIdeal_pre_finite_attn := fun m ρ _ => Cert.AttnBwdIdeal.Gen.frame m ρ
/-- So does the reference, which has no counters. -/
theorem frame_ref : Cert.quiescent_AttnBwdRefIdeal := fun m ρ _ =>
  (θ_run Cert.AttnBwdRefIdeal.defs _ _).mono
    (fun r h => ⟨fun c => (h c).2.2.2.2.2, sem_eq_zero_of_no_sems (by decide) r.2⟩)
    (Cert.AttnBwdRefIdeal.Value.run (F := Ideal) m ρ)
theorem frame_ref_pre : Cert.quiescent_AttnBwdRefIdeal_pre_finite_attn := fun m ρ _ => frame_ref m ρ trivial

/-- The mask is named for what it stands for. -/
theorem preserves : Cert.preserves_AttnBwd_AttnBwdIdeal :=
  IdealRules.named_const.statement Cert.AttnBwdIdeal.κ "mask" .f32 0xF149F2CA#32 (⊥ : EReal) rfl

/-- What compares below infinity in absolute value is a real. -/
theorem real_of_lt (x : EReal) (h : Ideal.cmp .olt (max x (-x)) (Ideal.ofBits .f32 0x7F800000#32) = 1#1) : x = (x.toReal : EReal) := by
  have top : Ideal.ofBits .f32 0x7F800000#32 = (⊤ : EReal) := by simp [Ideal.ofBits, Ideal.ieee]
  rw [top] at h
  have lt : max x (-x) < ⊤ := by
    by_contra n
    simp [Ideal.cmp, n] at h
  refine (EReal.coe_toReal (fun e => ?_) (fun e => ?_)).symm
  · rw [e] at lt
    simp at lt
  · rw [e] at lt
    simp at lt

open Cert.AttnBwdIdeal in
/-- Under the precondition the arguments hold reals. -/
theorem real (m : (ℓ : Loc nD τ sig) → Buf (Elt Ideal) ℓ) (c : Dev nD) (p : Cert.Pre_AttnBwdIdeal_finite_attn m) :
    Cert.AttnBwdIdeal.Grad.Real m c
      ⟨fun r j => EReal.toReal (m ((c : Thread nD τ).loc main_arg0) (ix2 r j)), fun r j => EReal.toReal (m ((c : Thread nD τ).loc main_arg1) (ix2 r j)),
        fun d => EReal.toReal (m ((c : Thread nD τ).loc main_arg2) (ix1 d)), fun d => EReal.toReal (m ((c : Thread nD τ).loc main_arg3) (ix1 d)),
        fun h => EReal.toReal (m ((c : Thread nD τ).loc main_arg4) (ix1 h)), fun r j => EReal.toReal (m ((c : Thread nD τ).loc main_arg5) (ix2 r j))⟩ := by
  obtain ⟨p0, p1, p2, p3, p4, p5⟩ := p c
  exact ⟨fun r j => real_of_lt _ (congrFun p0 (ix2 r j)), fun r j => real_of_lt _ (congrFun p1 (ix2 r j)), fun d => real_of_lt _ (congrFun p2 (ix1 d)),
    fun d => real_of_lt _ (congrFun p3 (ix1 d)), fun h => real_of_lt _ (congrFun p4 (ix1 h)), fun r j => real_of_lt _ (congrFun p5 (ix2 r j))⟩

open Cert.AttnBwdRefIdeal in
/-- What the reference leaves in its results, as functions of its arguments. -/
theorem ref_run (m : (ℓ : Loc nD τ sig) → Buf (Elt Ideal) ℓ) (ρ : Dev nD → PrngReg) :
    θ_run defs (onTc (τ := τ) main) ⟨m, fun _ => 0, ρ⟩ (fun r => ∀ c : Dev nD,
r.2.mem ((c.tc : Thread nD τ).loc main_v236) = Read.val_main_v236 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v245) = Read.val_main_v245 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v254) = Read.val_main_v254 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v256) = Read.val_main_v256 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v235) = Read.val_main_v235 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (Read.val_main_v236_eq (StableHlo.launchContents m c)), (h c).2.1.trans (Read.val_main_v245_eq (StableHlo.launchContents m c)), (h c).2.2.1.trans (Read.val_main_v254_eq (StableHlo.launchContents m c)), (h c).2.2.2.1.trans (Read.val_main_v256_eq (StableHlo.launchContents m c)), (h c).2.2.2.2.1.trans (Read.val_main_v235_eq (StableHlo.launchContents m c)),
    (h c).2.2.2.2.2⟩)
    (Value.run (F := Ideal) m ρ)

/-- Where the arguments are finite, all five results are the reference's. -/
theorem algebraic : Cert.algebraic_AttnBwdIdeal_AttnBwdRefIdeal_pre_finite_attn := by
  intro m ρ m' ρ' p agree
  refine ⟨_, _, _, _, _, Cert.AttnBwdIdeal.Value.run_blocks m ρ, ?_⟩
  refine (θ_run _ _ _).mono (fun r h c => ?_) (ref_run m' ρ')
  obtain ⟨hq, hc, hp, hg, hs, kept⟩ := h c
  obtain ⟨a0, a1, a2, a3, a4, a5⟩ := agree c
  have z := real m c p
  rw [a0, a1, a2, a3, a4, a5] at hq hc hp hg hs
  exact ⟨hq.trans (Cert.AttnBwdIdeal.Grad.dq_final z).symm, hc.trans (Cert.AttnBwdIdeal.Grad.dkc_final z).symm,
    hp.trans (Cert.AttnBwdIdeal.Grad.dkp_final z).symm, hg.trans (Cert.AttnBwdIdeal.Grad.dqg_final z).symm,
    hs.trans (Cert.AttnBwdIdeal.Grad.dsk_final z).symm, kept⟩

end Cert.AttnBwdClaims
end
-- ==== Proof.AttnFwdBlocks.lean ====
/- The blocks that a point of attention reads, in terms of the arguments. -/
module

public import proofs.«01_k».proof.Proof.Gen.AttnFwdIdeal.Value
public import proofs.«01_k».proof.Proof.AttnBwdBlocks

@[expose] public section

set_option maxRecDepth 16384

noncomputable section

namespace Cert.AttnFwdIdeal.Out

open Cert.AttnFwdIdeal Cert.AttnFwdIdeal.Gen Cert.AttnMath Idealize.ShloMosaic Idealize.ShloMosaic.TcCoe Idealize.SL.Sem
open Cert.AttnBwdIdeal.Grad (In Blocks rowc rowp table table_eq stack gate col_mod)

variable (m : (ℓ : Loc nD τ sig) → Buf (Elt Ideal) ℓ)

/-- Where each window stands: queries and output move one block a point, the keys and values before lag one block within a sequence, the tables stay put. -/
theorem place : ∀ t : Fin cfg0.N, win0_0.index t = ![t.val, 0] ∧ win0_1.index t = ![t.val, 0] ∧ win0_2.index t = ![t.val - if t.val % 16 = 0 then 0 else 1, 0]
    ∧ win0_3.index t = ![0, 0] ∧ win0_4.index t = ![0, 0] ∧ win0_5.index t = ![0, 0] ∧ win0_6.index t = ![0, 0, 0] ∧ win0_7.index t = ![0, 0] ∧ win0_8.index t = ![t.val, 0] :=
  (by decide +kernel : ∀ t : Fin grid0.N, _)

/-- A point as a number below 64. -/
def pt (t : Fin cfg0.N) : Fin 64 := ⟨t.val, t.isLt.trans_eq N_0⟩

/-- The second coordinate counts a sequence's blocks, as that of the gradient does. -/
theorem gate_point (t : Fin cfg0.N) : gate (BitVec.ofNat 32 ↑(grid0.coords t 1)) = if (pt t).val % 16 = 0 then ⊥ else 0 :=
  Cert.AttnBwdIdeal.Grad.gate_eq t

theorem entry_qg (c : Dev nD) (d : Fin 64) (x : Fin 1024) : V m c main_v1 (ix2 d x) = m ((c : Thread nD τ).loc main_arg2) (ix1 d) := by
  unfold V
  simp only [hostOps0, hostOps0_1, hostOps0_2, List.flatten_cons, List.flatten_nil, List.append_nil, List.cons_append, List.nil_append]
  entry_read
  pointwise

theorem entry_kg (c : Dev nD) (d : Fin 64) : V m c main_v5 (ix2 0 d) = m ((c : Thread nD τ).loc main_arg3) (ix1 d) := by
  unfold V
  simp only [hostOps0, hostOps0_1, hostOps0_2, List.flatten_cons, List.flatten_nil, List.append_nil, List.cons_append, List.nil_append]
  entry_read
  pointwise

theorem entry_sink (c : Dev nD) (kh : Fin 2) (g : Fin 8) (i : Fin 128) : V m c main_v4 (ix2 kh (col g i)) = m ((c : Thread nD τ).loc main_arg4) (ix1 ⟨kh.val * 8 + g.val, by omega⟩) := by
  unfold V
  simp only [hostOps0, hostOps0_1, hostOps0_2, List.flatten_cons, List.flatten_nil, List.append_nil, List.cons_append, List.nil_append]
  entry_read
  pointwise
  exact congrArg _ (congrArg ix1 (Fin.ext (by simp only [col]; omega)))

theorem entry_tri (c : Dev nD) (k : Fin 128) (g : Fin 8) (i : Fin 128) : V m c main_v61 (ix2 k (col g i)) = before i k := by
  unfold V
  simp only [hostOps0, hostOps0_1, hostOps0_2, List.flatten_cons, List.flatten_nil, List.append_nil, List.cons_append, List.nil_append]
  entry_read
  pointwise
  have h : IntOp.cmpi CmpIPredicate.sgt (BitVec.ofNat 32 k.val) (BitVec.ofNat 32 i.val) = if i < k then 1#1 else 0#1 :=
    (by decide +kernel : ∀ k i : Fin 128, IntOp.cmpi CmpIPredicate.sgt (BitVec.ofNat 32 k.val) (BitVec.ofNat 32 i.val) = if i < k then 1#1 else 0#1) k i
  have u : ∀ b : BitVec 1, FloatOps.uitofp (F := Ideal) .f32 b = ((b.toNat : ℝ) : EReal) := fun _ => rfl
  rw [col_mod, h, u, before]
  split <;> simp

theorem entry_bias (c : Dev nD) : V m c main_v64 = concatenate S2x128x1024 0 [⟨S1x128x1024, table 0#32⟩, ⟨S1x128x1024, table 0x41000000#32⟩] concatenates_S1x128x1024_S1x128x1024_S2x128x1024_d0 := by
  unfold V
  simp only [hostOps0, hostOps0_1, hostOps0_2, List.flatten_cons, List.flatten_nil, List.append_nil, List.cons_append, List.nil_append]
  entry_read
  rfl

section
variable (c : Dev nD) (t : Fin cfg0.N)

theorem block_q (i : Fin 128) (j : Fin 1024) : iblk m c 0 t (ix2 i j) = m ((c : Thread nD τ).loc main_arg0) (ix2 (rowc (pt t) i) j) := by
  blk_point [iblk, V, place t]
  rfl

theorem block_kc (i : Fin 128) (j : Fin 256) : iblk m c 1 t (ix2 i j) = m ((c : Thread nD τ).loc main_arg1) (ix2 (rowc (pt t) i) j) := by
  blk_point [iblk, V, place t]
  rfl

theorem block_kp (i : Fin 128) (j : Fin 256) : iblk m c 2 t (ix2 i j) = m ((c : Thread nD τ).loc main_arg1) (ix2 (rowp (pt t) i) j) := by
  blk_point [iblk, V, place t]
  rfl

theorem block_qg (d : Fin 64) (x : Fin 1024) : iblk m c 3 t (ix2 d x) = m ((c : Thread nD τ).loc main_arg2) (ix1 d) := by
  blk_simp [iblk]
  refine (congrArg _ ?_).trans (entry_qg m c d x)
  blk_ext [place t]

theorem block_kg (d : Fin 64) : iblk m c 4 t (ix2 0 d) = m ((c : Thread nD τ).loc main_arg3) (ix1 d) := by
  blk_simp [iblk]
  refine (congrArg _ ?_).trans (entry_kg m c d)
  blk_ext [place t]

theorem block_tri (k : Fin 128) (g : Fin 8) (i : Fin 128) : iblk m c 5 t (ix2 k (col g i)) = before i k := by
  blk_simp [iblk]
  refine (congrArg _ ?_).trans (entry_tri m c k g i)
  blk_ext [place t]

theorem block_bias (kh : Fin 2) (k : Fin 128) (g : Fin 8) (i : Fin 128) :
    iblk m c 6 t (ix3 kh k (col g i)) = ((-slope ⟨kh.val * 8 + g.val, by omega⟩ * Tile.dist i (Tile.fold i k) : ℝ) : EReal) := by
  have e : iblk m c 6 t (ix3 kh k (col g i)) = V m c main_v64 (ix3 kh k (col g i)) := by
    blk_simp [iblk]
    refine congrArg _ ?_
    blk_ext [place t]
  have b0 : Ideal.ofBits .f32 0#32 = (((0 : ℕ) : ℝ) : EReal) := by simp [Ideal.ofBits, Ideal.ieee]
  have b8 : Ideal.ofBits .f32 0x41000000#32 = (((8 : ℕ) : ℝ) : EReal) := by simp [Ideal.ofBits, Ideal.ieee, -EReal.coe_mul]; norm_num
  rw [e, entry_bias, stack]
  split
  · exact table_eq 0#32 0 k g i 0 b0 _ (by simp only []; omega)
  · exact table_eq 0x41000000#32 0 k g i 8 b8 _ (by simp only []; omega)

theorem block_sink (kh : Fin 2) (g : Fin 8) (i : Fin 128) : iblk m c 7 t (ix2 kh (col g i)) = m ((c : Thread nD τ).loc main_arg4) (ix1 ⟨kh.val * 8 + g.val, by omega⟩) := by
  blk_simp [iblk]
  refine (congrArg _ ?_).trans (entry_sink m c kh g i)
  blk_ext [place t]

end

/-- What a point reads; of a cotangent there is none, and zero stands in its place. -/
def inp (c : Dev nD) (t : Fin cfg0.N) : In where
  n := BitVec.ofNat 32 ↑(grid0.coords t 1)
  Q := iblk m c 0 t
  KC := iblk m c 1 t
  KP := iblk m c 2 t
  C := fun _ => (0 : EReal)
  QG := iblk m c 3 t
  KG := iblk m c 4 t
  TRI := iblk m c 5 t
  BIAS := iblk m c 6 t
  SINK := iblk m c 7 t

/-- The arguments hold the reals `A`, whose cotangent is zero. -/
abbrev Real (c : Dev nD) (A : Args) : Prop :=
  Cert.AttnBwdRefIdeal.Grad.Holds (m ((c : Thread nD τ).loc main_arg0)) (m ((c : Thread nD τ).loc main_arg1)) (m ((c : Thread nD τ).loc main_arg2)) (m ((c : Thread nD τ).loc main_arg3)) (m ((c : Thread nD τ).loc main_arg4)) (fun _ => (0 : EReal)) A

set_option maxHeartbeats 4000000 in
/-- The blocks of a point, where the arguments hold reals. -/
theorem blocks {A : Args} {c : Dev nD} (H : Real m c A) (t : Fin cfg0.N) : Blocks A (pt t) (inp m c t) where
  gate := gate_point t
  q i j := (block_q m c t i j).trans (H.q _ _)
  kc i j := (block_kc m c t i j).trans (H.kv _ _)
  kp i j := (block_kp m c t i j).trans (H.kv _ _)
  c i j := H.c (rowc (pt t) i) j
  qg d x := (block_qg m c t d x).trans (H.qs _)
  kg d := (block_kg m c t d).trans (H.ks _)
  tri k g i := block_tri m c t k g i
  bias kh k g i := block_bias m c t kh k g i
  sink kh g i := (block_sink m c t kh g i).trans (H.sink _)

end Cert.AttnFwdIdeal.Out
end
-- ==== Proof.AttnOut.lean ====
/- The output of windowed attention over a window folded onto one block. -/
module

public import proofs.«01_k».proof.Proof.AttnHalf

@[expose] public section

noncomputable section

namespace Cert.AttnMath

open Idealize.ShloMosaic

namespace Tile
variable (T : Tile) (g : Fin 8) (i : Fin 128)

/-- The output: the values weighted by the probabilities. -/
def o (d : Fin 64) : ℝ := ∑ s, T.p g i s * T.v s d

/-- From both halves; the values of the block before are arbitrary where there is none. -/
theorem o_halves (d : Fin 64) (w : Fin 128 → Fin 64 → ℝ) (hw : ¬T.first → ∀ k, w k d = T.v (prev k) d) :
    ∑ k, (w k d : EReal) * (T.p g i (prev k) : EReal) + ∑ k, (T.v (cur k) d : EReal) * (T.p g i (cur k) : EReal) = (T.o g i d : EReal) := by
  simp only [← EReal.coe_mul, coe_sum, ← EReal.coe_add]
  rw [o, sum_halves]
  refine congrArg _ (congrArg₂ _ (Finset.sum_congr rfl fun k _ => ?_) (Finset.sum_congr rfl fun k _ => mul_comm _ _))
  by_cases h : T.first
  · rw [T.p_eq_zero (fun c => by have := c.2.2 h; simp only [prev] at this; omega), mul_zero, zero_mul]
  · rw [hw h, mul_comm]

end Tile

namespace Probs
variable {H : Probs} {T : Tile} {x : Fin 8 → Fin 128 → Fin 64 → ℝ} {qs : Fin 64 → ℝ} {a w : Fin 128 → Fin 64 → ℝ}

/-- The output at a column: the probabilities are split by the mask, each part meets its block's values. -/
theorem out_eq (R : H.Runs) (V : H.Reads T x qs a w) (g : Fin 8) (i : Fin 128) (d : Fin 64) :
    ∑ k, H.vp k d * (H.p k (col g i) * H.tri k (col g i)) + ∑ k, H.vc k d * (H.p k (col g i) - H.p k (col g i) * H.tri k (col g i)) = (T.o g i d : EReal) := by
  rw [← T.o_halves g i d w fun f k => V.va f k d]
  refine congrArg₂ _ (Finset.sum_congr rfl fun k _ => ?_) (Finset.sum_congr rfl fun k _ => ?_)
  · rw [V.vp, p_eq R V, V.tri]
    exact congrArg _ (T.fold_prev i (T.p g i) (fun s h => T.p_eq_zero h g) k)
  · rw [V.vc, p_eq R V, V.tri]
    exact congrArg _ (T.fold_cur i (T.p g i) (fun s h => T.p_eq_zero h g) k)

end Probs
end Cert.AttnMath
end
-- ==== Proof.AttnFwdBody.lean ====
/- The body of attention, element by element: up to the probabilities it is the body of its gradient. -/
module

public import proofs.«01_k».proof.Proof.Gen.AttnFwdIdeal.Frame
public import proofs.«01_k».proof.Proof.AttnOut
public import proofs.«01_k».proof.Proof.AttnBwdPoint
public import Idealize.ShloMosaic.Lib.Pipeline.ValueKit
public import Idealize.ShloMosaic.Lib.Pointwise

@[expose] public section

set_option maxRecDepth 16384

noncomputable section

namespace Cert.AttnFwdIdeal.Out

open Cert.AttnFwdIdeal Cert.AttnFwdIdeal.Gen Cert.AttnMath Idealize.ShloMosaic Idealize.ShloMosaic.TcCoe
open Cert.AttnBwdIdeal.Grad (In Blocks win slabs score0 first_reads second_reads)

section
variable (n : BitVec 32) (v18 v33 : FVec Ideal S128x64 .bf16) (v34 v35 v36 v37 v38 v39 v40 v41 : FVec Ideal S64x128 .f32)
  (v53 : Vec Ideal S64x1024 .f32) (v59 : Vec Ideal S128x1024 .f32) (v70 : Vec Ideal S1x128x1024 .f32) (v73 : Vec Ideal S1x1024 .f32)

/-- The weights of the first key head's scores, and the sink's. -/
theorem pay16 (k : Fin 128) (x : Fin 1024) :
    k0_pay16 n v18 v33 v34 v35 v36 v37 v38 v39 v40 v41 v53 v59 v70 v73 (ix2 k x)
      = weight (fun k => k0_pay13 n v18 v33 v34 v35 v36 v37 v38 v39 v40 v41 v53 v59 v70 (ix2 k x)) (v73 (ix2 0 x)) k := by
  pointwise [k0_pay16, k0_pay15, k0_pay14]
  rw [AttnBwdRefIdeal.Grad.ofBits_bot]
  rfl

theorem pay17 (x : Fin 1024) :
    Ideal.exp (k0_pay17 n v18 v33 v34 v35 v36 v37 v38 v39 v40 v41 v53 v59 v70 v73 (ix2 0 x))
      = sinkWeight (fun k => k0_pay13 n v18 v33 v34 v35 v36 v37 v38 v39 v40 v41 v53 v59 v70 (ix2 k x)) (v73 (ix2 0 x)) := by
  pointwise [k0_pay17, k0_pay15, k0_pay14]
  rw [AttnBwdRefIdeal.Grad.ofBits_bot]
  rfl
end

/-- The first key head's output: a row is a head and a feature. -/
theorem pay18 (v80 : FVec Ideal S128x1024 .f32) (v81 : FVec Ideal S1x1024 .f32) (v88 : Vec Ideal S128x1024 .f32) (v93 v95 : Vec Ideal S128x64 .f32) (p : Fin 128 → Fin 1024 → EReal)
    (hp : ∀ k x, v80 (ix2 k x) * Ideal.div 1 (∑ k, v80 (ix2 k x) + Ideal.exp (v81 (ix2 0 x))) = p k x)
    (r : Fin 512) (i : Fin 128) (d : Fin 64) (x : Fin 1024) (hd : ⟨r.val % 64, by omega⟩ = d) (hx : col ⟨r.val / 64, by omega⟩ i = x) :
    k0_pay18 v80 v81 v88 v93 v95 (ix2 r i)
      = ∑ k, v93 (ix2 k d) * (p k x * v88 (ix2 k x)) + ∑ k, v95 (ix2 k d) * (p k x - p k x * v88 (ix2 k x)) := by
  refine (slabs _ r i).trans ?_
  rw [hd, hx]
  simp only [← hp]
  pointwise

/-- The whole output: the second key head's rows below the first's, turned back. -/
theorem pay1 (v111 : FVec Ideal S512x128 .f32) (v204 v206 : FVec Ideal S128x64 .bf16) (v208 v209 : FVec Ideal S128x1024 .bf16) (i : Fin 128) (j : Fin 1024) :
    k0_pay1 v111 v204 v206 v208 v209 (ix2 i j)
      = if h : j.val < 512 then v111 (ix2 ⟨j.val, h⟩ i)
        else ∑ k, v204 (ix2 k ⟨j.val % 64, by omega⟩) * v208 (ix2 k (col ⟨(j.val - 512) / 64, by omega⟩ i)) + ∑ k, v206 (ix2 k ⟨j.val % 64, by omega⟩) * v209 (ix2 k (col ⟨(j.val - 512) / 64, by omega⟩ i)) := by
  have e : k0_pay1 v111 v204 v206 v208 v209 (ix2 i j) = if h : j.val < 512 then v111 (ix2 ⟨j.val, h⟩ i) else _ :=
    Cert.AttnBwdIdeal.Grad.pay99 v111 _ i j
  rw [e]
  split
  · rfl
  · refine (slabs _ _ i).trans ?_
    have q : (⟨(j.val - 512) % 64, by omega⟩ : Fin 64) = ⟨j.val % 64, by omega⟩ := Fin.ext (by simp only []; omega)
    rw [q]
    pointwise

/-- The probabilities split by the mask. -/
theorem pay26 (n : BitVec 32) (v128 v143 : FVec Ideal S128x64 .bf16) (v168 : FVec Ideal S64x1024 .bf16) (v169 : Vec Ideal S128x1024 .f32) (v180 : Vec Ideal S1x128x1024 .f32) (v183 : Vec Ideal S1x1024 .f32) (v198 : Vec Ideal S128x1024 .f32) (k : Fin 128) (x : Fin 1024) :
    k0_pay26 n v128 v143 v168 v169 v180 v183 v198 (ix2 k x) = k0_pay25 n v128 v143 v168 v169 v180 v183 (ix2 k x) * v198 (ix2 k x) := by
  pointwise [k0_pay26]

theorem pay27 (n : BitVec 32) (v128 v143 : FVec Ideal S128x64 .bf16) (v168 : FVec Ideal S64x1024 .bf16) (v169 : Vec Ideal S128x1024 .f32) (v180 : Vec Ideal S1x128x1024 .f32) (v183 : Vec Ideal S1x1024 .f32) (v198 : Vec Ideal S128x1024 .f32) (k : Fin 128) (x : Fin 1024) :
    k0_pay27 n v128 v143 v168 v169 v180 v183 v198 (ix2 k x)
      = k0_pay25 n v128 v143 v168 v169 v180 v183 (ix2 k x) - k0_pay25 n v128 v143 v168 v169 v180 v183 (ix2 k x) * v198 (ix2 k x) := by
  pointwise [k0_pay27, k0_pay26]

variable (I : In)

/-- What a point writes. -/
def out : FVec Ideal S128x1024 .bf16 :=
  k0_pay1
    (k0_pay18
      (k0_pay16 I.n (k0_pay3 I.kp0 I.KG) (k0_pay4 I.kc0 I.KG) (k0_pay5 I.Q) (k0_pay6 I.Q) (k0_pay7 I.Q) (k0_pay8 I.Q) (k0_pay9 I.Q) (k0_pay10 I.Q) (k0_pay11 I.Q) (k0_pay12 I.Q) I.QG I.TRI I.b0 I.s0)
      (k0_pay17 I.n (k0_pay3 I.kp0 I.KG) (k0_pay4 I.kc0 I.KG) (k0_pay5 I.Q) (k0_pay6 I.Q) (k0_pay7 I.Q) (k0_pay8 I.Q) (k0_pay9 I.Q) (k0_pay10 I.Q) (k0_pay11 I.Q) (k0_pay12 I.Q) I.QG I.TRI I.b0 I.s0)
      I.TRI I.vp0 I.vc0)
    (k0_pay23 I.vp1) (k0_pay24 I.vc1)
    (k0_pay26 I.n (k0_pay20 (k0_pay19 I.kp1) I.KG) (k0_pay21 I.kc1 I.KG) (k0_pay22 (k0_pay2 I.Q) I.QG) I.TRI I.b1 I.s1 I.TRI)
    (k0_pay27 I.n (k0_pay20 (k0_pay19 I.kp1) I.KG) (k0_pay21 I.kc1 I.KG) (k0_pay22 (k0_pay2 I.Q) I.QG) I.TRI I.b1 I.s1 I.TRI)

/-- The first key head's scores are those of the gradient's body. -/
theorem scores (k : Fin 128) (x : Fin 1024) :
    k0_pay13 I.n (k0_pay3 I.kp0 I.KG) (k0_pay4 I.kc0 I.KG) (k0_pay5 I.Q) (k0_pay6 I.Q) (k0_pay7 I.Q) (k0_pay8 I.Q) (k0_pay9 I.Q) (k0_pay10 I.Q) (k0_pay11 I.Q) (k0_pay12 I.Q) I.QG I.TRI I.b0 (ix2 k x) = I.first.s k x := by
  have e : k0_pay13 I.n (k0_pay3 I.kp0 I.KG) (k0_pay4 I.kc0 I.KG) (k0_pay5 I.Q) (k0_pay6 I.Q) (k0_pay7 I.Q) (k0_pay8 I.Q) (k0_pay9 I.Q) (k0_pay10 I.Q) (k0_pay11 I.Q) (k0_pay12 I.Q) I.QG I.TRI I.b0
      = addf (score0 I.n I.v7 I.kp0 I.kc0 I.KG I.QG I.TRI) (shapeCast S128x1024 I.b0 shapeCasts_S1x128x1024_S128x1024) := rfl
  rw [e]
  pointwise
  rfl

/-- So are the second's probabilities. -/
theorem probs (k : Fin 128) (x : Fin 1024) :
    k0_pay25 I.n (k0_pay20 (k0_pay19 I.kp1) I.KG) (k0_pay21 I.kc1 I.KG) (k0_pay22 (k0_pay2 I.Q) I.QG) I.TRI I.b1 I.s1 (ix2 k x) = I.second.p k x := rfl

variable {A : Args} {t : Fin 64} {I} (B : Blocks A t I)
include B

theorem out_first (i : Fin 128) (g : Fin 8) (d : Fin 64) (j : Fin 1024) (hj : j.val = g.val * 64 + d.val) :
    out I (ix2 i j) = ((A.tile (win t 0)).o g i d : EReal) := by
  rw [out, pay1, dif_pos (by omega)]
  refine (pay18 _ _ _ _ _ (fun k x => I.first.p k x) (fun k x => ?_) _ i d (col g i) (Fin.ext (by simp only []; omega)) (congrArg (col · i) (Fin.ext (by simp only []; omega)))).trans
    (Probs.out_eq I.first_runs.fwd (first_reads B) g i d)
  rw [pay17]
  simp only [pay16, scores]
  exact (I.first_runs.fwd.p k x).symm

theorem out_second (i : Fin 128) (g : Fin 8) (d : Fin 64) (j : Fin 1024) (hj : j.val = 512 + (g.val * 64 + d.val)) :
    out I (ix2 i j) = ((A.tile (win t 1)).o g i d : EReal) := by
  rw [out, pay1, dif_neg (by omega)]
  have e : (⟨j.val % 64, by omega⟩ : Fin 64) = d := Fin.ext (by simp only []; omega)
  have f : (⟨(j.val - 512) / 64, by omega⟩ : Fin 8) = g := Fin.ext (by simp only []; omega)
  rw [e, f]
  refine Eq.trans ?_ (Probs.out_eq I.second_runs.fwd (second_reads B) g i d)
  simp only [pay26, pay27, probs]
  rfl

end Cert.AttnFwdIdeal.Out
end
-- ==== Proof.AttnFwdRefValue.lean ====
/- What attention's reference computes: up to the probabilities it is the reference of its gradient. -/
module

public import proofs.«01_k».proof.Proof.Gen.AttnFwdRefIdeal.Read
public import proofs.«01_k».proof.Proof.AttnBwdRefValue
public import proofs.«01_k».proof.Proof.AttnOut
public import Idealize.ShloMosaic.Lib.Pointwise

@[expose] public section

set_option maxRecDepth 16384

noncomputable section

namespace Cert.AttnFwdRefIdeal.Out

open Cert.AttnFwdRefIdeal Cert.AttnFwdRefIdeal.Gen Cert.AttnFwdRefIdeal.Read Idealize.ShloMosaic AttnMath
open Cert.AttnBwdRefIdeal.Grad (Holds zof gof p_eq value_eq)

variable (x0 : (⟨S8192x1024, .f32⟩ : BufTy).Contents (Elt Ideal)) (x1 : (⟨S8192x256, .f32⟩ : BufTy).Contents (Elt Ideal))
  (x2 x3 : (⟨S64, .f32⟩ : BufTy).Contents (Elt Ideal)) (x4 : (⟨S16, .f32⟩ : BufTy).Contents (Elt Ideal))
  (x5 : (⟨S8192x1024, .bf16⟩ : BufTy).Contents (Elt Ideal))

theorem keys : val_main_v32 (F := Ideal) x1 x3 = Cert.AttnBwdRefIdeal.Read.val_main_v32 (F := Ideal) x1 x3 := rfl
theorem values : val_main_v33 (F := Ideal) x1 = Cert.AttnBwdRefIdeal.Read.val_main_v33 (F := Ideal) x1 := rfl
theorem queries : val_main_v51 (F := Ideal) x0 x2 = Cert.AttnBwdRefIdeal.Read.val_main_v54 (F := Ideal) x0 x2 := rfl
theorem probs : val_main_v126 (F := Ideal) x0 x1 x2 x3 x4 = Cert.AttnBwdRefIdeal.Read.val_main_v152 (F := Ideal) x0 x1 x2 x3 x4 := rfl

variable {x0 x1 x2 x3 x4 x5} {A : Args} (H : Holds x0 x1 x2 x3 x4 x5 A)
include H

theorem o_tile (z i : Fin 128) (g : Fin 8) (d : Fin 64) :
    val_main_v127 (F := Ideal) x0 x1 x2 x3 x4 (ix4 z i g d) = ((A.tile z).o g i d : EReal) := by
  have e : ∀ s, val_main_v126 (F := Ideal) x0 x1 x2 x3 x4 (ix4 z i g s) = ((A.tile z).p g i s : EReal) := fun s => by
    rw [probs]
    exact p_eq H z i g s
  have f : ∀ s, val_main_v33 (F := Ideal) x1 (ix3 z s d) = ((A.tile z).v s d : EReal) := fun s => by
    rw [values]
    exact value_eq H z s d
  pointwise [val_main_v127]
  simp only [e, f, ← EReal.coe_mul, coe_sum, Tile.o]

theorem o_eq (u : Fin 64) (i : Fin 128) (h : Fin 16) (d : Fin 64) (r : Fin 8192) (j : Fin 1024) (hr : r.val = u.val * 128 + i.val) (hj : j.val = h.val * 64 + d.val) :
    val_main_v131 (F := Ideal) x0 x1 x2 x3 x4 (ix2 r j) = ((A.tile (zof u h)).o (gof h) i d : EReal) := by
  rw [← o_tile H]
  pointwise [val_main_v131, val_main_v130, val_main_v129, val_main_v128]
  refine congrArg _ ?_
  funext a
  apply Fin.ext
  match a with
  | ⟨0, _⟩ => simp only [ix4, zof]; omega
  | ⟨1, _⟩ => simp only [ix4]; omega
  | ⟨2, _⟩ => simp only [ix4, gof]; omega
  | ⟨3, _⟩ => simp only [ix4]; omega

end Cert.AttnFwdRefIdeal.Out
end
-- ==== Proof.AttnFwdValue.lean ====
/- The value of attention, where the arguments hold reals. -/
module

public import proofs.«01_k».proof.Proof.AttnBwdElement
public import proofs.«01_k».proof.Proof.AttnFwdBlocks
public import proofs.«01_k».proof.Proof.AttnFwdBody
public import proofs.«01_k».proof.Proof.AttnFwdRefValue
public import Idealize.ShloMosaic.Lib.Pipeline.ValueKit
public import Idealize.ShloMosaic.Lib.Pipeline.ReadBack
public import Idealize.ShloMosaic.Lib.WritesUnit
public import Idealize.ShloMosaic.Lib.Pointwise
public import Idealize.ShloMosaic.Lib.Claim

@[expose] public section

set_option maxRecDepth 16384

noncomputable section

namespace Cert.AttnFwdIdeal.Out

open Cert.AttnFwdIdeal Cert.AttnFwdIdeal.Gen Cert.AttnMath Idealize.ShloMosaic Idealize.ShloMosaic.TcCoe Idealize.SL.Sem
open Cert.AttnBwdIdeal.Grad (In zof_eq gof_eq win)

variable {m : (ℓ : Loc nD τ sig) → Buf (Elt Ideal) ℓ}

/-- The array that the result is claimed to be. -/
abbrev outRef (m : (ℓ : Loc nD τ sig) → Buf (Elt Ideal) ℓ) (c : Dev nD) :=
  Cert.AttnFwdRefIdeal.Read.val_main_v131 (F := Ideal) (m ((c : Thread nD τ).loc main_arg0)) (m ((c : Thread nD τ).loc main_arg1)) (m ((c : Thread nD τ).loc main_arg2)) (m ((c : Thread nD τ).loc main_arg3)) (m ((c : Thread nD τ).loc main_arg4))

theorem row_lt (t : Fin cfg0.N) (r : Fin 128) : t.val * 128 + r.val < 8192 := by have := t.isLt.trans_eq N_0; omega

variable {A : Args} {c : Dev nD} (real : Real m c A)
include real

theorem out_ref (t : Fin cfg0.N) (r : Fin 128) (kh : Fin 2) (g : Fin 8) (d : Fin 64) (j : Fin 1024) (hj : j.val = kh.val * 512 + (g.val * 64 + d.val)) :
    outRef m c (ix2 ⟨t.val * 128 + r.val, row_lt t r⟩ j) = ((A.tile (win (pt t) kh)).o g r d : EReal) := by
  have h := Cert.AttnFwdRefIdeal.Out.o_eq real (pt t) r ⟨kh.val * 8 + g.val, by omega⟩ d ⟨t.val * 128 + r.val, row_lt t r⟩ j rfl (by simp only []; omega)
  rw [zof_eq, gof_eq] at h
  exact h

theorem element (t : Fin cfg0.N) (y : S128x1024.Idx) : out (inp m c t) y = outRef m c ((win0_8.blk t).view.emb y) := by
  obtain ⟨r, j, rfl⟩ : ∃ (r : Fin 128) (j : Fin 1024), y = ix2 r j := ⟨y 0, y 1, by funext a; match a with | ⟨0, _⟩ => rfl | ⟨1, _⟩ => rfl⟩
  have e : (win0_8.blk t).view.emb (ix2 r j) = ix2 ⟨t.val * 128 + r.val, row_lt t r⟩ j := by blk_ext [place t]
  have d : j.val % 64 < 64 := by omega
  refine Eq.trans ?_ (congrArg (outRef m c) e).symm
  by_cases a : j.val < 512
  · rw [out_ref real t r 0 ⟨j.val / 64, by omega⟩ ⟨j.val % 64, d⟩ j (by simp only [Fin.val_zero]; omega)]
    exact out_first (blocks m real t) r _ _ j (by simp only []; omega)
  · rw [out_ref real t r 1 ⟨(j.val - 512) / 64, by omega⟩ ⟨j.val % 64, d⟩ j (by simp only [Fin.val_one]; omega)]
    exact out_second (blocks m real t) r _ _ j (by simp only []; omega)

set_option maxHeartbeats 2000000 in
/-- The output of every head. -/
theorem final : (dats m 0 c).arrAt 8 (cfgs 0).N = outRef m c := by
  refine (dats m 0 c).arrAt_eq_of_covers 8 _ (by decide +kernel) fun t _ y => ?_
  blk_simp
  rw [after0_8]
  have h := element real t y
  simp only [out, In.kp0, In.kp1, In.kc0, In.kc1, In.vp0, In.vp1, In.vc0, In.vc1, In.b0, In.b1, In.s0, In.s1, inp] at h
  unfold_out out0_8
  frame_out
  exact h

end Cert.AttnFwdIdeal.Out
end
-- ==== Proof.AttnFwdClaims.lean ====
/- The claims about attention. -/
module

public import proofs.«01_k».proof.Defs
public import proofs.«01_k».proof.Proof.Gen.AttnFwd.Frame
public import proofs.«01_k».proof.Proof.Gen.AttnFwdRefIdeal.Run
public import proofs.«01_k».proof.Proof.Gen.Pre_finite_attn_fwd
public import proofs.«01_k».proof.Proof.AttnFwdValue
public import proofs.«01_k».proof.Proof.AttnBwdClaims
public import Idealize.ShloMosaic.Lib.Quiescent

@[expose] public section

noncomputable section

namespace Cert.AttnFwdClaims

open Idealize.ShloMosaic Idealize.ShloMosaic.TcCoe Idealize.SL.Sem

/-- The kernel as printed leaves its arguments alone and its counters at zero. -/
theorem frame : Cert.quiescent_AttnFwd := fun m ρ _ => Cert.AttnFwd.Gen.frame m ρ
/-- So does the idealized kernel, whatever its arguments. -/
theorem frame_ideal : Cert.quiescent_AttnFwdIdeal := fun m ρ _ => Cert.AttnFwdIdeal.Gen.frame m ρ
theorem frame_ideal_pre : Cert.quiescent_AttnFwdIdeal_pre_finite_attn_fwd := fun m ρ _ => Cert.AttnFwdIdeal.Gen.frame m ρ
/-- So does the reference, which has no counters. -/
theorem frame_ref : Cert.quiescent_AttnFwdRefIdeal := fun m ρ _ =>
  (θ_run Cert.AttnFwdRefIdeal.defs _ _).mono
    (fun r h => ⟨fun c => (h c).2, sem_eq_zero_of_no_sems (by decide) r.2⟩)
    (Cert.AttnFwdRefIdeal.Value.run (F := Ideal) m ρ)
theorem frame_ref_pre : Cert.quiescent_AttnFwdRefIdeal_pre_finite_attn_fwd := fun m ρ _ => frame_ref m ρ trivial

/-- The mask is named for what it stands for. -/
theorem preserves : Cert.preserves_AttnFwd_AttnFwdIdeal :=
  IdealRules.named_const.statement Cert.AttnFwdIdeal.κ "mask" .f32 0xF149F2CA#32 (⊥ : EReal) rfl

open Cert.AttnFwdIdeal Cert.AttnBwdClaims in
/-- Under the precondition the arguments hold reals. -/
theorem real (m : (ℓ : Loc nD τ sig) → Buf (Elt Ideal) ℓ) (c : Dev nD) (p : Cert.Pre_AttnFwdIdeal_finite_attn_fwd m) :
    Cert.AttnFwdIdeal.Out.Real m c
      ⟨fun r j => EReal.toReal (m ((c : Thread nD τ).loc main_arg0) (ix2 r j)), fun r j => EReal.toReal (m ((c : Thread nD τ).loc main_arg1) (ix2 r j)),
        fun d => EReal.toReal (m ((c : Thread nD τ).loc main_arg2) (ix1 d)), fun d => EReal.toReal (m ((c : Thread nD τ).loc main_arg3) (ix1 d)),
        fun h => EReal.toReal (m ((c : Thread nD τ).loc main_arg4) (ix1 h)), fun _ _ => 0⟩ := by
  obtain ⟨p0, p1, p2, p3, p4⟩ := p c
  exact ⟨fun r j => real_of_lt _ (congrFun p0 (ix2 r j)), fun r j => real_of_lt _ (congrFun p1 (ix2 r j)), fun d => real_of_lt _ (congrFun p2 (ix1 d)),
    fun d => real_of_lt _ (congrFun p3 (ix1 d)), fun h => real_of_lt _ (congrFun p4 (ix1 h)), fun _ _ => EReal.coe_zero.symm⟩

open Cert.AttnFwdRefIdeal in
/-- What the reference leaves in its result, as a function of its arguments. -/
theorem ref_run (m : (ℓ : Loc nD τ sig) → Buf (Elt Ideal) ℓ) (ρ : Dev nD → PrngReg) :
    θ_run defs (onTc (τ := τ) main) ⟨m, fun _ => 0, ρ⟩ (fun r => ∀ c : Dev nD,
      r.2.mem ((c.tc : Thread nD τ).loc main_v131) = Read.val_main_v131 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (Read.val_main_v131_eq m c), (h c).2⟩)
    (Value.run (F := Ideal) m ρ)

/-- Where the arguments are finite, the result is the reference's. -/
theorem algebraic : Cert.algebraic_AttnFwdIdeal_AttnFwdRefIdeal_pre_finite_attn_fwd := by
  intro m ρ m' ρ' p agree
  refine ⟨_, Cert.AttnFwdIdeal.Value.run_blocks m ρ, ?_⟩
  refine (θ_run _ _ _).mono (fun r h c => ?_) (ref_run m' ρ')
  obtain ⟨ho, kept⟩ := h c
  obtain ⟨a0, a1, a2, a3, a4⟩ := agree c
  rw [a0, a1, a2, a3, a4] at ho
  exact ⟨ho.trans (Cert.AttnFwdIdeal.Out.final (real m c p)).symm, kept⟩

end Cert.AttnFwdClaims
end
-- ==== Proof.KvBwdRefValue.lean ====
/- The values of the plain program of the keys' and values' gradient, element by element. -/
module

public import proofs.«01_k».proof.Proof.Gen.KvBwdRefIdeal.Read
public import proofs.«01_k».proof.Proof.AttnBwdRefValue
public import Idealize.ShloMosaic.Lib.Pipeline.ValueKit
public import Idealize.ShloMosaic.Lib.Pointwise

@[expose] public section

set_option maxRecDepth 16384

noncomputable section

namespace Cert.KvBwdRefIdeal.Grad

open Cert.KvBwdRefIdeal Cert.KvBwdRefIdeal.Read Idealize.ShloMosaic

variable (x0 x2 x3 : (⟨S8192x256, .f32⟩ : BufTy).Contents (Elt Ideal)) (x1 : (⟨S64, .f32⟩ : BufTy).Contents (Elt Ideal))

/-- The bit pattern of sixty-four, the number a norm's mean divides by. -/
abbrev n64 : EReal := Ideal.ofBits .f32 0x42800000#32

/-- The cotangent of a row of keys and values: its own block's part, and the part from the block after it in its sequence. -/
def up (x2 x3 : (⟨S8192x256, .f32⟩ : BufTy).Contents (Elt Ideal)) (R : Fin 8192) (j : Fin 256) : EReal :=
  x2 (ix2 R j) + if h : R.val % 2048 < 1920 then x3 (ix2 ⟨R.val + 128, by omega⟩ j) else 0

/-- Position `p` of block `w` is a row of the flattened arrays. -/
def row (w : Fin 64) (p : Fin 128) : Fin 8192 := ⟨w.val * 128 + p.val, by omega⟩

/-- Element `d` of head `h` is a column of the keys. -/
def key (h : Fin 2) (d : Fin 64) : Fin 256 := ⟨h.val * 64 + d.val, by omega⟩

theorem up_congr {R R' : Fin 8192} {j j' : Fin 256} (hR : R.val = R'.val) (hj : j.val = j'.val) : up x2 x3 R j = up x2 x3 R' j' := by
  rw [Fin.ext hR, Fin.ext hj]

theorem block_up (b : Fin 4) (n : Fin 16) (p : Fin 128) (j : Fin 256) :
    (x2 (ix2 ⟨b.val * 2048 + n.val * 128 + p.val, by omega⟩ j)
        + if h : 1 + n.val < 16 then x3 (ix2 ⟨b.val * 2048 + (1 + n.val) * 128 + p.val, by omega⟩ j) else (0 : EReal))
      = up x2 x3 ⟨(b.val * 16 + n.val) * 128 + p.val, by omega⟩ j := by
  unfold up
  have own : (⟨b.val * 2048 + n.val * 128 + p.val, by omega⟩ : Fin 8192) = ⟨(b.val * 16 + n.val) * 128 + p.val, by omega⟩ := Fin.ext (by simp only []; omega)
  rw [own]
  refine congrArg _ ?_
  by_cases h : 1 + n.val < 16
  · rw [dif_pos h, dif_pos (by simp only []; omega)]
    exact congrArg x3 (congrArg (ix2 · j) (Fin.ext (by simp only []; omega)))
  · rw [dif_neg h, dif_neg (by simp only []; omega)]

theorem keys_up (b : Fin 4) (n : Fin 16) (p j : Fin 128) :
    val_main_v56 (F := Ideal) x2 x3 (ix4 b n p j) = up x2 x3 ⟨(b.val * 16 + n.val) * 128 + p.val, by omega⟩ ⟨j.val, by omega⟩ := by
  pointwise [val_main_v56, val_main_v54, val_main_v53, val_main_v52, val_main_v51, val_main_v50, val_main_v37, val_main_v36, val_main_v35, val_main_v34, val_main_v33, val_main_cst_8, val_main_cst_9]
  exact block_up x2 x3 b n p ⟨j.val, by omega⟩

theorem values_up (b : Fin 4) (n : Fin 16) (p j : Fin 128) :
    val_main_v49 (F := Ideal) x2 x3 (ix4 b n p j) = up x2 x3 ⟨(b.val * 16 + n.val) * 128 + p.val, by omega⟩ ⟨128 + j.val, by omega⟩ := by
  pointwise [val_main_v49, val_main_v47, val_main_v46, val_main_v45, val_main_v44, val_main_v43, val_main_v42, val_main_v41, val_main_v40, val_main_v39, val_main_v38, val_main_cst_6, val_main_cst_7]
  exact block_up x2 x3 b n p ⟨128 + j.val, by omega⟩

theorem cot_eq (w : Fin 64) (p : Fin 128) (h : Fin 2) (d : Fin 64) :
    val_main_v59 (F := Ideal) x2 x3 (ix4 w p h d) = up x2 x3 (row w p) (key h d) := by
  pointwise [val_main_v59]
  rw [keys_up]
  exact up_congr _ _ (by simp only [row]; omega) (by simp only [key])

theorem key_eq (w : Fin 64) (p : Fin 128) (h : Fin 2) (d : Fin 64) :
    val_main_v2 (F := Ideal) x0 (ix4 w p h d) = x0 (ix2 (row w p) (key h d)) := by
  pointwise [val_main_v2, val_main_v1]
  exact congrArg x0 (congrArg₂ ix2 (Fin.ext (by simp only [row])) (Fin.ext (by simp only [key])))

theorem var_eq (w : Fin 64) (p : Fin 128) (h : Fin 2) (z : Fin 1) :
    val_main_v9 (F := Ideal) x0 (ix4 w p h z) = RmsGrad.meanSq n64 (fun k => x0 (ix2 (row w p) (key h k))) := by
  pointwise [val_main_v9, val_main_v8, val_main_v7, val_main_v6, val_main_v5, val_main_v4, val_main_cst, val_main_cst_0, val_main_cst_1]
  simp only [val_main_v3_apply, key_eq, Ideal.mulf_def]
  rfl

theorem root_eq (w : Fin 64) (p : Fin 128) (h : Fin 2) (z : Fin 1) :
    val_main_v10 (F := Ideal) x0 (ix4 w p h z) = Ideal.rsqrt (RmsGrad.meanSq n64 (fun k => x0 (ix2 (row w p) (key h k)))) := by
  rw [val_main_v10_apply, var_eq]
  rfl

theorem cube_eq (w : Fin 64) (p : Fin 128) (h : Fin 2) (z : Fin 1) :
    val_main_v13 (F := Ideal) x0 (ix4 w p h z)
      = Ideal.ofBits .f32 0xBF000000#32 * Ideal.div (Ideal.rsqrt (RmsGrad.meanSq n64 (fun k => x0 (ix2 (row w p) (key h k))))) (RmsGrad.meanSq n64 (fun k => x0 (ix2 (row w p) (key h k)))) := by
  rw [val_main_v13_apply, val_main_v11_apply, root_eq, var_eq]
  pointwise [val_main_v12, val_main_cst_2]

theorem normed_eq (w : Fin 64) (p : Fin 128) (h : Fin 2) (d : Fin 64) :
    val_main_v15 (F := Ideal) x0 (ix4 w p h d)
      = x0 (ix2 (row w p) (key h d)) * Ideal.rsqrt (RmsGrad.meanSq n64 (fun k => x0 (ix2 (row w p) (key h k)))) := by
  rw [val_main_v15_apply, key_eq]
  pointwise [val_main_v14]
  rw [root_eq]

theorem scaled_eq (w : Fin 64) (p : Fin 128) (h : Fin 2) (d : Fin 64) :
    val_main_v64 (F := Ideal) x1 x2 x3 (ix4 w p h d) = up x2 x3 (row w p) (key h d) * x1 (ix1 d) := by
  rw [val_main_v64_apply, cot_eq]
  pointwise [val_main_v63, val_main_v16, val_main_v0]

theorem through_eq (w : Fin 64) (p : Fin 128) (h : Fin 2) :
    val_main_v75 (F := Ideal) x0 x1 x2 x3 (ix3 w p h)
      = RmsGrad.through n64 (fun k => x0 (ix2 (row w p) (key h k))) (fun k => up x2 x3 (row w p) (key h k) * x1 (ix1 k)) := by
  pointwise [val_main_v75, val_main_cst_15]
  rw [Fin.sum_univ_one, val_main_v74_apply, val_main_v72_apply, cube_eq]
  pointwise [val_main_v73, val_main_v69, val_main_v68, val_main_cst_13, val_main_cst_14]
  simp only [val_main_v67_apply, Ideal.mulf_def, scaled_eq, key_eq, RmsGrad.through]

theorem keys_eq (w : Fin 64) (p : Fin 128) (h : Fin 2) (d : Fin 64) :
    val_main_v80 (F := Ideal) x0 x1 x2 x3 (ix4 w p h d)
      = RmsGrad.byRule n64 (fun k => x0 (ix2 (row w p) (key h k))) (fun k => up x2 x3 (row w p) (key h k) * x1 (ix1 k)) 0 d := by
  have spread : val_main_v76 (F := Ideal) x0 x1 x2 x3 (ix4 w p h d)
      = RmsGrad.through n64 (fun k => x0 (ix2 (row w p) (key h k))) (fun k => up x2 x3 (row w p) (key h k) * x1 (ix1 k)) := by
    pointwise [val_main_v76]
    exact through_eq x0 x2 x3 x1 w p h
  have root : val_main_v70 (F := Ideal) x0 (ix4 w p h d) = Ideal.rsqrt (RmsGrad.meanSq n64 (fun k => x0 (ix2 (row w p) (key h k)))) := by
    pointwise [val_main_v70]
    exact root_eq x0 w p h 0
  rw [val_main_v80_apply, val_main_v79_apply, val_main_v78_apply, val_main_v77_apply, val_main_v71_apply, scaled_eq, spread, root, key_eq, RmsGrad.byRule, zero_add]
  generalize RmsGrad.through _ _ _ = T
  generalize RmsGrad.meanSq _ _ = M
  generalize up _ _ _ _ = U
  rfl

/-- The first result: the keys' gradient in the first half of the columns, the values' cotangent in the second. -/
theorem dkv_eq (R : Fin 8192) (j : Fin 256) (w : Fin 64) (p : Fin 128) (hR : R = row w p) :
    val_main_v84 (F := Ideal) x0 x1 x2 x3 (ix2 R j)
      = if _h : j.val < 128 then RmsGrad.byRule n64 (fun k => x0 (ix2 R (key ⟨j.val / 64, by omega⟩ k))) (fun k => up x2 x3 R (key ⟨j.val / 64, by omega⟩ k) * x1 (ix1 k)) 0 ⟨j.val % 64, by omega⟩
        else up x2 x3 R j := by
  subst hR
  pointwise [val_main_v84, val_main_v83, val_main_v82, val_main_v81, val_main_v58, val_main_v57, val_main_cst_10, val_main_cst_16]
  have hw : (⟨(row w p).val / 128, by omega⟩ : Fin 64) = w := Fin.ext (by simp only [row]; omega)
  have hp : (⟨(row w p).val % 128, by omega⟩ : Fin 128) = p := Fin.ext (by simp only [row]; omega)
  by_cases h : j.val < 128
  · rw [dif_neg (by omega), dif_pos h, dif_pos h, zero_add, hw, hp, keys_eq]
  · rw [dif_pos (by omega), dif_neg h, dif_neg h, add_zero, values_up]
    exact up_congr _ _ (by simp only [row]; omega) (by simp only []; omega)

/-- What one block of rows adds to the key norm's scale's gradient. -/
def blockTerm (x0 x2 x3 : (⟨S8192x256, .f32⟩ : BufTy).Contents (Elt Ideal)) (w : Fin 64) (d : Fin 64) (p : Fin 128) : EReal :=
  ∑ h : Fin 2, x0 (ix2 (row w p) (key h d)) * Ideal.rsqrt (RmsGrad.meanSq n64 (fun k => x0 (ix2 (row w p) (key h k)))) * up x2 x3 (row w p) (key h d)

/-- The second result: the key norm's scale's gradient, one part for every position of a block. -/
theorem dkg_eq (d : Fin 64) (p : Fin 128) :
    val_main_v86 (F := Ideal) x0 x2 x3 (ix2 d p) = ∑ w : Fin 64, blockTerm x0 x2 x3 w d p := by
  pointwise [val_main_v86, val_main_v85, val_main_v66, val_main_v65, val_main_v62, val_main_v61, AttnBwdRefIdeal.Grad.sum_first_third, val_main_cst_11, val_main_cst_12]
  simp only [Fin.sum_univ_one, val_main_v60_apply, normed_eq, cot_eq, Ideal.mulf_def, blockTerm]

end Cert.KvBwdRefIdeal.Grad
end
-- ==== Proof.KvBwdBody.lean ====
/- The body of the keys' and values' gradient, element by element. -/
module

public import proofs.«01_k».proof.Proof.Gen.KvBwdIdeal.Value
public import proofs.«01_k».proof.Proof.Gen.KvBwdRefIdeal.Read
public import proofs.«01_k».proof.Proof.KvBwdRefValue
public import Idealize.ShloMosaic.Lib.Pipeline.ValueKit
public import Idealize.ShloMosaic.Lib.Pointwise
public import Idealize.ShloMosaic.Lib.Claim

@[expose] public section

set_option maxRecDepth 16384

noncomputable section

namespace Cert.KvBwdIdeal.Grad

open Cert.KvBwdIdeal Cert.KvBwdIdeal.Gen Idealize.ShloMosaic Idealize.ShloMosaic.TcCoe Idealize.SL.Sem
open Idealize.ShloMosaic.Pipeline (Dat)

variable (A : Vec Ideal S1920x256 .f32) (B : Vec Ideal S2048x256 .f32) (K : Vec Ideal S2048x128 .f32) (G : Vec Ideal S64x128 .f32)

/-- Element `d` of head `h` is a column of the keys. -/
def lane (h : Fin 2) (d : Fin 64) : Fin 128 := ⟨h.val * 64 + d.val, by omega⟩

/-- The bit pattern of sixty-four. -/
abbrev n64 : EReal := Ideal.ofBits .f32 0x42800000#32

/-- The cotangent of one row of a sequence, at a column of the keys. -/
def cot (s : Fin 2048) (l : Fin 128) : EReal := k0_pay3 A B (ix2 s ⟨l.val, by omega⟩)

/-- The cotangent of one row of a sequence. -/
theorem pay3 (r : Fin 2048) (j : Fin 256) :
    k0_pay3 A B (ix2 r j) = B (ix2 r j) + if h : r.val < 1920 then A (ix2 ⟨r.val, h⟩ j) else (0 : EReal) := by
  pointwise [k0_pay3]

/-- The scale's table, once for every block of a sequence. -/
theorem pay6 (d : Fin 64) (s : Fin 2048) : k0_pay6 G (ix2 d s) = G (ix2 d ⟨s.val % 128, by omega⟩) := by
  unfold k0_pay6
  refine (concatenate_replicate_apply (t := S64x2048) (s₁ := S64x128) 1 16 (shapeCast S64x128 G shapeCasts_S64x128_S64x128) _ rfl (ix2 d s) (ix2 d ⟨s.val % 128, by omega⟩) rfl fun b hb => ?_).trans ?_
  · match b with
    | ⟨0, _⟩ => rfl
    | ⟨1, _⟩ => exact absurd rfl hb
  · pointwise

/-- The cotangent of the keys, columns as rows. -/
theorem pay4 (l : Fin 128) (s : Fin 2048) : k0_pay4 A B (ix2 l s) = cot A B s l := by
  pointwise [k0_pay4]
  rfl

theorem pay5 (l : Fin 128) (s : Fin 2048) : k0_pay5 K (ix2 l s) = K (ix2 s l) := by
  pointwise [k0_pay5]

theorem cot0 (d : Fin 64) (s : Fin 2048) : k0_pay10 A B (ix2 d s) = cot A B s (lane 0 d) := by
  pointwise [k0_pay10]
  rw [pay4]
  exact congrArg (cot A B s) (Fin.ext (by simp [lane]))

theorem cot1 (d : Fin 64) (s : Fin 2048) : k0_pay19 (k0_pay4 A B) (ix2 d s) = cot A B s (lane 1 d) := by
  pointwise [k0_pay19]
  rw [pay4]
  exact congrArg (cot A B s) (Fin.ext (by simp [lane]))

theorem key0 (d : Fin 64) (s : Fin 2048) : k0_pay7 K (ix2 d s) = K (ix2 s (lane 0 d)) := by
  pointwise [k0_pay7]
  rw [pay5]
  exact congrArg (fun l => K (ix2 s l)) (Fin.ext (by simp [lane]))

theorem key1 (d : Fin 64) (s : Fin 2048) : k0_pay16 (k0_pay5 K) (ix2 d s) = K (ix2 s (lane 1 d)) := by
  pointwise [k0_pay16]
  rw [pay5]
  exact congrArg (fun l => K (ix2 s l)) (Fin.ext (by simp [lane]))

/-- The reciprocal root of a head's row. -/
abbrev root (h : Fin 2) (s : Fin 2048) : EReal := Ideal.rsqrt (RmsGrad.meanSq n64 fun k => K (ix2 s (lane h k)))

theorem root0 (z : Fin 1) (s : Fin 2048) : k0_pay8 K (ix2 z s) = root K 0 s := by
  pointwise [k0_pay8]
  simp only [key0]
  rfl

theorem root1 (z : Fin 1) (s : Fin 2048) : k0_pay17 (k0_pay5 K) (ix2 z s) = root K 1 s := by
  pointwise [k0_pay17]
  simp only [key1]
  rfl

theorem normed0 (d : Fin 64) (s : Fin 2048) : k0_pay9 K (ix2 d s) = K (ix2 s (lane 0 d)) * root K 0 s := by
  pointwise [k0_pay9]
  rw [key0, root0]

theorem normed1 (d : Fin 64) (s : Fin 2048) : k0_pay18 (k0_pay5 K) (ix2 d s) = K (ix2 s (lane 1 d)) * root K 1 s := by
  pointwise [k0_pay18]
  rw [key1, root1]

/-- The gradient of a key before its norm. -/
def grad (s : Fin 2048) (h : Fin 2) (d : Fin 64) : EReal :=
  RmsGrad.byHand n64 (fun k => K (ix2 s (lane h k))) (fun k => cot A B s (lane h k) * G (ix2 k ⟨s.val % 128, by omega⟩)) 0 d

theorem head0 (d : Fin 64) (s : Fin 2048) : k0_pay15 (k0_pay6 G) (k0_pay8 K) (k0_pay9 K) (k0_pay10 A B) (ix2 d s) = grad A B K G s 0 d := by
  pointwise [k0_pay15]
  simp only [pay6, root0, normed0, cot0]
  exact (zero_add _).symm

/-- The keys' gradient, in the first half of the columns. -/
theorem keys (r : Fin 2048) (j : Fin 128) :
    k0_pay23 (k0_pay6 G) (k0_pay15 (k0_pay6 G) (k0_pay8 K) (k0_pay9 K) (k0_pay10 A B)) (k0_pay17 (k0_pay5 K)) (k0_pay18 (k0_pay5 K)) (k0_pay19 (k0_pay4 A B)) (ix2 r j)
      = grad A B K G r ⟨j.val / 64, by omega⟩ ⟨j.val % 64, by omega⟩ := by
  pointwise [k0_pay23]
  split
  · next h =>
    rw [head0]
    exact congrArg₂ (grad A B K G r) (Fin.ext (by simp only [Fin.val_zero]; omega)) (Fin.ext (by simp only []; omega))
  · next h =>
    simp only [pay6, root1, normed1, cot1]
    refine (zero_add _).symm.trans (congrArg₂ (grad A B K G r) (x := 1) (y := ⟨j.val - 64, by omega⟩) (Fin.ext (by simp only [Fin.val_one]; omega)) (Fin.ext (by simp only []; omega)))

/-- The values' gradient, in the second half. -/
theorem values (r : Fin 2048) (j : Fin 128) : k0_pay1 (k0_pay24 (k0_pay3 A B)) (ix2 r j) = k0_pay3 A B (ix2 r ⟨128 + j.val, by omega⟩) := by
  pointwise [k0_pay1, k0_pay24]

/-- What one row of a sequence adds to the scale's gradient. -/
def term (h : Fin 2) (d : Fin 64) (s : Fin 2048) : EReal := cot A B s (lane h d) * (K (ix2 s (lane h d)) * root K h s)

theorem term0 (d : Fin 64) (s : Fin 2048) : k0_pay11 A B K (ix2 d s) = term A B K 0 d s := by
  pointwise [k0_pay11]
  rw [cot0, normed0, term]

theorem term1 (d : Fin 64) (s : Fin 2048) : k0_pay20 (k0_pay4 A B) (k0_pay5 K) (ix2 d s) = term A B K 1 d s := by
  pointwise [k0_pay20]
  rw [cot1, normed1, term]

/-- Position `p` of block `n` of a sequence. -/
def pos (n : Fin 16) (p : Fin 128) : Fin 2048 := ⟨n.val * 128 + p.val, by omega⟩

/-- Sixteen slices, one after the other, are a sum over the blocks. -/
theorem slices (f : Fin 2048 → EReal) (p : Fin 128) :
    0 + f ⟨p.val, by omega⟩ + f ⟨128 + p.val, by omega⟩ + f ⟨256 + p.val, by omega⟩ + f ⟨384 + p.val, by omega⟩ + f ⟨512 + p.val, by omega⟩ + f ⟨640 + p.val, by omega⟩
      + f ⟨768 + p.val, by omega⟩ + f ⟨896 + p.val, by omega⟩ + f ⟨1024 + p.val, by omega⟩ + f ⟨1152 + p.val, by omega⟩ + f ⟨1280 + p.val, by omega⟩ + f ⟨1408 + p.val, by omega⟩
      + f ⟨1536 + p.val, by omega⟩ + f ⟨1664 + p.val, by omega⟩ + f ⟨1792 + p.val, by omega⟩ + f ⟨1920 + p.val, by omega⟩ = ∑ n : Fin 16, f (pos n p) := by
  simp only [Fin.sum_univ_succ, Fin.sum_univ_zero, zero_add, add_zero, add_assoc]
  simp [pos, Fin.succ]

/-- The first head's part of the scale's gradient, added to what is there. -/
theorem add0 (acc : Vec Ideal S64x128 .f32) (d : Fin 64) (p : Fin 128) :
    k0_pay14 (k0_pay11 A B K) (k0_pay12 acc) (k0_pay13 A B K) (ix2 d p) = acc (ix2 d p) + ∑ n : Fin 16, term A B K 0 d (pos n p) := by
  rw [← slices (term A B K 0 d) p]
  pointwise [k0_pay14, k0_pay12, k0_pay13]
  simp only [term0]

/-- The second head's part. -/
theorem add1 (acc : Vec Ideal S64x128 .f32) (d : Fin 64) (p : Fin 128) :
    k0_pay22 (k0_pay20 (k0_pay4 A B) (k0_pay5 K)) (k0_pay21 acc) (ix2 d p) = acc (ix2 d p) + ∑ n : Fin 16, term A B K 1 d (pos n p) := by
  rw [← slices (term A B K 1 d) p]
  pointwise [k0_pay22, k0_pay21]
  simp only [term1]

end Cert.KvBwdIdeal.Grad
end
-- ==== Proof.KvBwdValue.lean ====
/- The values of the keys' and values' gradient. -/
module

public import proofs.«01_k».proof.Proof.KvBwdBody
public import Idealize.ShloMosaic.Lib.Pipeline.ValueKit
public import Idealize.ShloMosaic.Lib.Pointwise
public import Idealize.ShloMosaic.Lib.Claim

@[expose] public section

set_option maxRecDepth 16384

noncomputable section

namespace Cert.KvBwdIdeal.Grad

open Cert.KvBwdIdeal Cert.KvBwdIdeal.Gen Idealize.ShloMosaic Idealize.ShloMosaic.TcCoe Idealize.SL.Sem
open Idealize.ShloMosaic.Pipeline (Dat)

variable (m : (ℓ : Loc nD τ sig) → Buf (Elt Ideal) ℓ)

/-- Every window of rows moves one sequence a point; the scale's table and its gradient stay put. -/
theorem place : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] :=
  (by decide +kernel : ∀ t : Fin grid0.N, _)

/-- The arrays the results are claimed to be. -/
abbrev dkvRef (c : Dev nD) := Cert.KvBwdRefIdeal.Read.val_main_v84 (F := Ideal) (m ((c : Thread nD τ).loc main_arg0)) (m ((c : Thread nD τ).loc main_arg1)) (m ((c : Thread nD τ).loc main_arg2)) (m ((c : Thread nD τ).loc main_arg3))
abbrev dkgRef (c : Dev nD) := Cert.KvBwdRefIdeal.Read.val_main_v86 (F := Ideal) (m ((c : Thread nD τ).loc main_arg0)) (m ((c : Thread nD τ).loc main_arg2)) (m ((c : Thread nD τ).loc main_arg3))

/-- What a point reads: the keys, and the cotangents from the block after and from the block itself. -/
abbrev K (c : Dev nD) (t : Fin cfg0.N) : Vec Ideal S2048x128 .f32 := View.ld (iblk m c 0 t) (Rect.unit ![0, 0] ![2048, 128] inb_S2048x256_S2048x128_0_0)
abbrev A (c : Dev nD) (t : Fin cfg0.N) : Vec Ideal S1920x256 .f32 := View.ld (iblk m c 2 t) (Rect.unit ![128, 0] ![1920, 256] inb_S2048x256_S1920x256_128_0)
abbrev B (c : Dev nD) (t : Fin cfg0.N) : Vec Ideal S2048x256 .f32 := iblk m c 1 t

theorem row_lt (t : Fin cfg0.N) (s : Fin 2048) : t.val * 2048 + s.val < 8192 := by have := t.isLt.trans_eq N_0; omega

/-- Row `s` of sequence `t`. -/
abbrev row (t : Fin cfg0.N) (s : Fin 2048) : Fin 8192 := ⟨t.val * 2048 + s.val, row_lt t s⟩

abbrev up (c : Dev nD) (R : Fin 8192) (j : Fin 256) : EReal := Cert.KvBwdRefIdeal.Grad.up (m ((c : Thread nD τ).loc main_arg2)) (m ((c : Thread nD τ).loc main_arg3)) R j

theorem block_k (c : Dev nD) (t : Fin cfg0.N) (s : Fin 2048) (l : Fin 128) : K m c t (ix2 s l) = m ((c : Thread nD τ).loc main_arg0) (ix2 (row t s) ⟨l.val, by omega⟩) := by
  unfold K
  pointwise
  blk_point [iblk, V, place t]

theorem block_g (c : Dev nD) (t : Fin cfg0.N) (d : Fin 64) (p : Fin 128) : iblk m c 3 t (ix2 d p) = m ((c : Thread nD τ).loc main_arg1) (ix1 d) := by
  blk_simp [iblk, V, place t]
  entry_read
  pointwise
  blk_point [place t]

theorem block_up (c : Dev nD) (t : Fin cfg0.N) (s : Fin 2048) (j : Fin 256) : k0_pay3 (A m c t) (B m c t) (ix2 s j) = up m c (row t s) j := by
  have e : (row t s).val % 2048 = s.val := by simp only []; omega
  have b : B m c t (ix2 s j) = m ((c : Thread nD τ).loc main_arg2) (ix2 (row t s) j) := by
    blk_point [iblk, V, place t]
  rw [pay3, up, Cert.KvBwdRefIdeal.Grad.up, b]
  refine congrArg _ ?_
  by_cases h : s.val < 1920
  · rw [dif_pos h, dif_pos (e ▸ h), A]
    pointwise
    blk_point [iblk, V, place t]
  · rw [dif_neg h, dif_neg (e ▸ h)]

/-- One element of the keys' gradient. -/
theorem keys_point (c : Dev nD) (t : Fin cfg0.N) (s : Fin 2048) (j : Fin 128) :
    grad (A m c t) (B m c t) (K m c t) (iblk m c 3 t) s ⟨j.val / 64, by omega⟩ ⟨j.val % 64, by omega⟩ = dkvRef m c (ix2 (row t s) ⟨j.val, by omega⟩) := by
  have hR : row t s = Cert.KvBwdRefIdeal.Grad.row ⟨(row t s).val / 128, by omega⟩ ⟨(row t s).val % 128, by omega⟩ := by
    apply Fin.ext; simp only [Cert.KvBwdRefIdeal.Grad.row]; omega
  rw [dkvRef, Cert.KvBwdRefIdeal.Grad.dkv_eq _ _ _ _ _ _ _ _ hR, dif_pos j.isLt, grad, n64, AttnMath.ofBits_64, RmsGrad.byHand_eq (by norm_num), ← AttnMath.ofBits_64]
  simp only [cot, block_up m c t, block_k m c t, block_g m c t]
  rfl

/-- One element of the values' gradient. -/
theorem values_point (c : Dev nD) (t : Fin cfg0.N) (s : Fin 2048) (j : Fin 128) :
    k0_pay3 (A m c t) (B m c t) (ix2 s ⟨128 + j.val, by omega⟩) = dkvRef m c (ix2 (row t s) ⟨128 + j.val, by omega⟩) := by
  have hR : row t s = Cert.KvBwdRefIdeal.Grad.row ⟨(row t s).val / 128, by omega⟩ ⟨(row t s).val % 128, by omega⟩ := by
    apply Fin.ext; simp only [Cert.KvBwdRefIdeal.Grad.row]; omega
  rw [dkvRef, Cert.KvBwdRefIdeal.Grad.dkv_eq _ _ _ _ _ _ _ _ hR, dif_neg (by simp only []; omega), block_up]

/-- Both stores of a point, at an element. -/
theorem pieces (c : Dev nD) (t : Fin cfg0.N) (r : Fin 2048) (j : Fin 256) (x : S2048x128.Idx) (e0 : r.val = (x 0).val) :
    (j.val = (x 1).val →
      k0_pay23 (k0_pay6 (iblk m c 3 t)) (k0_pay15 (k0_pay6 (iblk m c 3 t)) (k0_pay8 (K m c t)) (k0_pay9 (K m c t)) (k0_pay10 (A m c t) (B m c t))) (k0_pay17 (k0_pay5 (K m c t))) (k0_pay18 (k0_pay5 (K m c t))) (k0_pay19 (k0_pay4 (A m c t) (B m c t))) x
        = dkvRef m c (ix2 (row t r) j))
    ∧ (j.val = 128 + (x 1).val → k0_pay1 (k0_pay24 (k0_pay3 (A m c t) (B m c t))) x = dkvRef m c (ix2 (row t r) j)) := by
  obtain ⟨s, l, rfl⟩ : ∃ (s : Fin 2048) (l : Fin 128), x = ix2 s l := ⟨x 0, x 1, by funext a; match a with | ⟨0, _⟩ => rfl | ⟨1, _⟩ => rfl⟩
  obtain rfl : r = s := Fin.ext e0
  refine ⟨fun e1 => ?_, fun e1 => ?_⟩
  · rw [keys, keys_point]
    exact congrArg (fun q => dkvRef m c (ix2 (row t r) q)) (Fin.ext e1.symm)
  · rw [values, values_point]
    exact congrArg (fun q => dkvRef m c (ix2 (row t r) q)) (Fin.ext e1.symm)

/-- The keys' and values' gradient. -/
theorem dkv_final (c : Dev nD) : (dats m 0 c).arrAt 4 (cfgs 0).N = dkvRef m c := by
  refine (dats m 0 c).arrAt_eq_of_covers 4 _ (by decide +kernel) fun t _ y => ?_
  obtain ⟨r, j, rfl⟩ : ∃ (r : Fin 2048) (j : Fin 256), y = ix2 r j := ⟨y 0, y 1, by funext a; match a with | ⟨0, _⟩ => rfl | ⟨1, _⟩ => rfl⟩
  have e : (win0_4.blk t).view.emb (ix2 r j) = ix2 (row t r) j := by blk_ext [place t]
  blk_simp
  rw [after0_4]
  refine Eq.trans ?_ (congrArg (dkvRef m c) e).symm
  have p := pieces m c t r j
  by_cases a : t.val % 4 = 0
  · rw [outsAt0_A m c t a]
    dsimp only
    frame_out
    canon_tiles x h
    · exact (p x h0).2 h1
    · exact (p x h0).1 h1
  · rw [outsAt0_B m c t a]
    frame_out
    canon_tiles x h
    · exact (p x h0).2 h1
    · exact (p x h0).1 h1

theorem start (y : S64x128.Idx) : k0_pay2 (F := Ideal) y = (0 : EReal) := by
  pointwise [k0_pay2]

/-- What one block of rows adds to the scale's gradient. -/
abbrev blockTerm (c : Dev nD) (w : Fin 64) (d : Fin 64) (p : Fin 128) : EReal :=
  Cert.KvBwdRefIdeal.Grad.blockTerm (m ((c : Thread nD τ).loc main_arg0)) (m ((c : Thread nD τ).loc main_arg2)) (m ((c : Thread nD τ).loc main_arg3)) w d p

theorem block_lt (t : Fin cfg0.N) (n : Fin 16) : t.val * 16 + n.val < 64 := by have := t.isLt.trans_eq N_0; omega

/-- What one point adds. -/
theorem step (c : Dev nD) (t : Fin cfg0.N) (acc : Vec Ideal S64x128 .f32) (y : S64x128.Idx) :
    k0_pay22 (k0_pay20 (k0_pay4 (A m c t) (B m c t)) (k0_pay5 (K m c t)))
      (k0_pay21 (k0_pay14 (k0_pay11 (A m c t) (B m c t) (K m c t)) (k0_pay12 acc) (k0_pay13 (A m c t) (B m c t) (K m c t)))) y
      = acc y + ∑ n : Fin 16, blockTerm m c ⟨t.val * 16 + n.val, block_lt t n⟩ (y 0) (y 1) := by
  obtain ⟨d, p, rfl⟩ : ∃ (d : Fin 64) (p : Fin 128), y = ix2 d p := ⟨y 0, y 1, by funext a; match a with | ⟨0, _⟩ => rfl | ⟨1, _⟩ => rfl⟩
  rw [add1, add0, add_assoc, ← Finset.sum_add_distrib]
  refine congrArg (acc (ix2 d p) + ·) (Finset.sum_congr rfl fun n _ => ?_)
  have hR : row t (pos n p) = Cert.KvBwdRefIdeal.Grad.row ⟨t.val * 16 + n.val, block_lt t n⟩ p := by
    apply Fin.ext; simp only [Cert.KvBwdRefIdeal.Grad.row, pos]; omega
  show _ = Cert.KvBwdRefIdeal.Grad.blockTerm _ _ _ _ d p
  rw [Cert.KvBwdRefIdeal.Grad.blockTerm, Fin.sum_univ_two, ← hR]
  simp only [term, root, cot, block_up m c t, block_k m c t, mul_comm (up m c _ _)]
  rfl

/-- The sum over the points and their blocks is the reference's sum over the blocks. -/
theorem total (c : Dev nD) (y : S64x128.Idx) : ∑ t : Fin cfg0.N, ∑ n : Fin 16, blockTerm m c ⟨t.val * 16 + n.val, block_lt t n⟩ (y 0) (y 1) = dkgRef m c y := by
  obtain ⟨d, p, rfl⟩ : ∃ (d : Fin 64) (p : Fin 128), y = ix2 d p := ⟨y 0, y 1, by funext a; match a with | ⟨0, _⟩ => rfl | ⟨1, _⟩ => rfl⟩
  refine (Fin.sum_mul_add_congr (S := cfg0.N) (n := 16) (f := fun w => blockTerm m c w d p) (fun s k hl => rfl) (by rw [show cfg0.N = 4 from N_0])).trans ?_
  exact (Cert.KvBwdRefIdeal.Grad.dkg_eq _ _ _ d p).symm

/-- The key norm's scale's gradient. -/
theorem dkg_final (c : Dev nD) : (dats m 0 c).arrAt 5 (cfgs 0).N = dkgRef m c := by
  refine (dats m 0 c).arrAt_eq_of_after_last 5 t0_3 (by decide +kernel) _ fun j => ?_
  blk_simp
  rw [after0_5, Pipeline.eq_sum_fin_of_reset_step_apply_last (fun n h => (outsAt0 m c n h).2) 4 (fun _ => 0)
    (fun t j => ∑ n : Fin 16, blockTerm m c ⟨t.val * 16 + n.val, block_lt t n⟩ (j 0) (j 1))
    (fun t h j => by rw [outsAt0_A m c t h]; frame_out; exact (step m c t _ j).trans (congrArg (· + _) (start j)))
    (fun t h j => by rw [outsAt0_B m c t h]; frame_out; exact step m c t _ j)
    (le_of_eq N_0) t0_3 rfl j, zero_add]
  refine (total m c j).trans (congrArg (dkgRef m c) ?_)
  blk_ext [place t0_3]

end Cert.KvBwdIdeal.Grad
end
-- ==== Proof.KvBwdClaims.lean ====
/- The claims about the keys' and values' gradient. -/
module

public import proofs.«01_k».proof.Defs
public import proofs.«01_k».proof.Proof.Gen.KvBwd.Frame
public import proofs.«01_k».proof.Proof.Gen.KvBwdRefIdeal.Run
public import proofs.«01_k».proof.Proof.KvBwdValue
public import Idealize.ShloMosaic.Lib.Quiescent

@[expose] public section

noncomputable section

namespace Cert.KvBwdClaims

open Idealize.ShloMosaic Idealize.ShloMosaic.TcCoe Idealize.SL.Sem

/-- The kernel as printed leaves its arguments alone and its counters at zero. -/
theorem frame : Cert.quiescent_KvBwd := fun m ρ _ => Cert.KvBwd.Gen.frame m ρ
/-- So does the idealized kernel. -/
theorem frame_ideal : Cert.quiescent_KvBwdIdeal := fun m ρ _ => Cert.KvBwdIdeal.Gen.frame m ρ
/-- So does the reference, which has no counters. -/
theorem frame_ref : Cert.quiescent_KvBwdRefIdeal := fun m ρ _ =>
  (θ_run Cert.KvBwdRefIdeal.defs _ _).mono
    (fun r h => ⟨fun c => (h c).2.2, sem_eq_zero_of_no_sems (by decide) r.2⟩)
    (Cert.KvBwdRefIdeal.Value.run (F := Ideal) m ρ)

/-- The gradients of the keys and values before the key norm, and of the key norm's scale, are the reference's. -/
theorem algebraic : Cert.algebraic_KvBwdIdeal_KvBwdRefIdeal := by
  intro m ρ m' ρ' _ agree
  refine ⟨_, _, Cert.KvBwdIdeal.Value.run_blocks m ρ, ?_⟩
  refine (θ_run _ _ _).mono (fun r h c => ?_) (Cert.KvBwdRefIdeal.Value.run m' ρ')
  obtain ⟨hx, hg, kept⟩ := h c
  obtain ⟨a0, a1, a2, a3⟩ := agree c
  replace hx := hx.trans (Cert.KvBwdRefIdeal.Read.val_main_v84_eq m' c)
  replace hg := hg.trans (Cert.KvBwdRefIdeal.Read.val_main_v86_eq _ _ _)
  rw [a0, a1, a2, a3] at hx
  rw [a0, a2, a3] at hg
  exact ⟨hx.trans (Cert.KvBwdIdeal.Grad.dkv_final m c).symm, hg.trans (Cert.KvBwdIdeal.Grad.dkg_final m c).symm, kept⟩

end Cert.KvBwdClaims
end
-- ==== Proof.FfnRow.lean ====
/- The feed-forward layer, its loss and their gradients, over the extended reals, at one row. -/
module

public import proofs.«01_k».proof.Proof.RmsGrad
public import Idealize.ShloMosaic.Lib.Pointwise
public import Idealize.ShloMosaic.Lib.Pipeline.ValueKit

@[expose] public section

noncomputable section

namespace Cert.FfnRow

open Idealize.ShloMosaic

/-- The bit pattern of one. -/
theorem ofBits_one : Ideal.ofBits .f32 0x3F800000#32 = ((1 : ℝ) : EReal) := by
  simp [Ideal.ofBits, Ideal.ieee, -EReal.coe_mul]; norm_num

/-- The bit pattern of two. -/
theorem ofBits_two : Ideal.ofBits .f32 0x40000000#32 = ((2 : ℝ) : EReal) := by
  simp [Ideal.ofBits, Ideal.ieee, -EReal.coe_mul]; norm_num

/-- The bit pattern of a half. -/
theorem ofBits_half : Ideal.ofBits .f32 0x3F000000#32 = ((1 / 2 : ℝ) : EReal) := by
  simp [Ideal.ofBits, Ideal.ieee, -EReal.coe_mul]; norm_num

/-- The bit pattern of one part in a thousand and twenty-four. -/
theorem ofBits_inv : Ideal.ofBits .f32 0x3A800000#32 = ((1 / 1024 : ℝ) : EReal) := by
  simp [Ideal.ofBits, Ideal.ieee, -EReal.coe_mul]; norm_num

abbrev n1024 : EReal := Ideal.ofBits .f32 0x44800000#32

/-- The logistic function, as it is written. -/
def logistic (z : EReal) : EReal := Ideal.div (1 : EReal) (1 + Ideal.exp (-z))

/-- What a row's results depend on: the row, its target, the norm's scale and the two weights. -/
structure Row where
  x : Fin 1024 → EReal
  y : Fin 1024 → EReal
  g : Fin 1024 → EReal
  W : Fin 1024 → Fin 5632 → EReal
  V : Fin 2816 → Fin 1024 → EReal

namespace Row

variable (a : Row)

/-- The row over the root of its mean of squares. -/
def hhat (k : Fin 1024) : EReal := a.x k * Ideal.rsqrt (RmsGrad.meanSq n1024 a.x)
/-- The normalised row. -/
def hn (k : Fin 1024) : EReal := a.hhat k * a.g k
/-- The row times the first weight. -/
def pre (j : Fin 5632) : EReal := ∑ k, a.hn k * a.W k j
def gate (c : Fin 2816) : EReal := a.pre ⟨c.val, by omega⟩
def up (c : Fin 2816) : EReal := a.pre ⟨2816 + c.val, by omega⟩
def act (c : Fin 2816) : EReal := a.gate c * logistic (a.gate c) * a.up c
/-- The layer's output. -/
def out (j : Fin 1024) : EReal := a.x j + ∑ c, a.act c * a.V c j
def err (j : Fin 1024) : EReal := a.out j - a.y j
/-- The loss's gradient at the output. -/
def dout (j : Fin 1024) : EReal := a.err j * Ideal.ofBits .f32 0x3A800000#32
def dact (c : Fin 2816) : EReal := ∑ j, a.dout j * a.V c j
/-- The gate's gradient, as it is written by hand. -/
def dgate (c : Fin 2816) : EReal := a.dact c * a.up c * (logistic (a.gate c) * (1 + a.gate c * (1 - logistic (a.gate c))))
/-- The gate's gradient, as the chain rule gives it. -/
def dgateRule (c : Fin 2816) : EReal :=
  a.dact c * a.up c * logistic (a.gate c) + a.gate c * (a.dact c * a.up c) * (logistic (a.gate c) * (1 - logistic (a.gate c)))
def dup (c : Fin 2816) : EReal := a.dact c * (a.gate c * logistic (a.gate c))
/-- The gradient at the first product: the gate's, then the other half's. -/
def dgu (j : Fin 5632) : EReal := if h : j.val < 2816 then a.dgate ⟨j.val, h⟩ else a.dup ⟨j.val - 2816, by omega⟩
def dhn (k : Fin 1024) : EReal := ∑ j, a.dgu j * a.W k j
/-- The row's gradient. -/
def dh (j : Fin 1024) : EReal := RmsGrad.byHand n1024 a.x (fun k => a.dhn k * a.g k) (a.dout j) j

end Row

/-- A value that is a real. -/
def IsReal (z : EReal) : Prop := ∃ r : ℝ, z = r

theorem IsReal.add {z w : EReal} (h : IsReal z) (k : IsReal w) : IsReal (z + w) := by
  obtain ⟨r, rfl⟩ := h; obtain ⟨s, rfl⟩ := k; exact ⟨r + s, (EReal.coe_add r s).symm⟩

theorem IsReal.sub {z w : EReal} (h : IsReal z) (k : IsReal w) : IsReal (z - w) := by
  obtain ⟨r, rfl⟩ := h; obtain ⟨s, rfl⟩ := k; exact ⟨r - s, (EReal.coe_sub r s).symm⟩

theorem IsReal.mul {z w : EReal} (h : IsReal z) (k : IsReal w) : IsReal (z * w) := by
  obtain ⟨r, rfl⟩ := h; obtain ⟨s, rfl⟩ := k; exact ⟨r * s, (EReal.coe_mul r s).symm⟩

theorem IsReal.sum {ι : Type} (s : Finset ι) (f : ι → EReal) (h : ∀ k, IsReal (f k)) : IsReal (∑ k ∈ s, f k) := by
  classical
  induction s using Finset.induction_on with
  | empty => exact ⟨0, by simp⟩
  | insert b s hb ih => rw [Finset.sum_insert hb]; exact (h b).add ih

theorem IsReal.logistic {z : EReal} (h : IsReal z) : IsReal (FfnRow.logistic z) := by
  obtain ⟨r, rfl⟩ := h
  have p : (1 + Real.exp (-r)) ≠ 0 := by positivity
  refine ⟨1 * (1 / (1 + Real.exp (-r))), ?_⟩
  rw [FfnRow.logistic, ← EReal.coe_neg, Ideal.exp_coe, ← EReal.coe_one, ← EReal.coe_add, Ideal.div_coe p, ← EReal.coe_mul]

/-- The reciprocal root of a row's mean of squares is a real, at any row. -/
theorem root_real {n : ℕ} (x : Fin n → EReal) : IsReal (Ideal.rsqrt (RmsGrad.meanSq n1024 x)) := by
  obtain ⟨e, he, hb⟩ := RmsGrad.ofBits_eps
  obtain ⟨r, _, hx, _⟩ := RmsGrad.rsqrt_pos (RmsGrad.mean_pos x (N := 1024) (by norm_num) he)
  exact ⟨r, by rw [RmsGrad.meanSq, n1024, RmsGrad.ofBits_1024, hb, hx]⟩

/-- A row of reals, its target, scale and weights real as well. -/
structure Row.Real (a : Row) : Prop where
  x : ∀ k, IsReal (a.x k)
  y : ∀ k, IsReal (a.y k)
  g : ∀ k, IsReal (a.g k)
  W : ∀ k j, IsReal (a.W k j)
  V : ∀ c j, IsReal (a.V c j)

namespace Row.Real

variable {a : Row} (h : a.Real)
include h

theorem pre (j : Fin 5632) : IsReal (a.pre j) :=
  .sum _ _ fun k => (((h.x k).mul (root_real a.x)).mul (h.g k)).mul (h.W k j)

theorem dact (c : Fin 2816) : IsReal (a.dact c) :=
  .sum _ _ fun j => ((((h.x j).add (.sum _ _ fun c => (((h.pre _).mul (h.pre _).logistic).mul (h.pre _)).mul (h.V c j))).sub (h.y j)).mul
    ⟨_, ofBits_inv⟩).mul (h.V c j)

/-- Over the reals both forms of the gate's gradient are the same. -/
theorem dgate_eq (c : Fin 2816) : a.dgateRule c = a.dgate c := by
  obtain ⟨s, hs⟩ : IsReal (logistic (a.gate c)) := (h.pre _).logistic
  obtain ⟨g, hg⟩ : IsReal (a.gate c) := h.pre _
  obtain ⟨u, hu⟩ : IsReal (a.up c) := h.pre _
  obtain ⟨d, hd⟩ := h.dact c
  rw [Row.dgateRule, Row.dgate, hs, hg, hu, hd, ← EReal.coe_one]
  norm_cast
  ring

end Row.Real

/-- A sum over all columns, in the four parts in which the first weight is held. -/
theorem sum_parts (f : Fin 5632 → EReal) :
    (∑ c : Fin 1408, f ⟨c.val, by omega⟩) + (∑ c : Fin 1408, f ⟨2816 + c.val, by omega⟩) + (∑ c : Fin 1408, f ⟨1408 + c.val, by omega⟩)
      + (∑ c : Fin 1408, f ⟨4224 + c.val, by omega⟩) = ∑ j, f j := by
  have e : ∑ j, f j = ∑ s : Fin 4, ∑ k : Fin 1408, f ⟨s.val * 1408 + k.val, by omega⟩ :=
    (Fin.sum_mul_add_congr (S := 4) (n := 1408) (f := f) (fun s k hl => rfl) rfl).symm
  rw [e]
  simp only [Fin.sum_univ_succ (n := 3), Fin.sum_univ_succ (n := 2), Fin.sum_univ_succ (n := 1), Fin.sum_univ_succ (n := 0), Finset.univ_eq_empty, Finset.sum_empty, add_zero]
  simp [Fin.succ]
  rw [add_assoc, add_left_comm, add_assoc, add_left_comm]

/-- A sum over the columns of 1 half, in two parts. -/
theorem sum_halves (f : Fin 2816 → EReal) :
    (∑ c : Fin 1408, f ⟨c.val, by omega⟩) + (∑ c : Fin 1408, f ⟨1408 + c.val, by omega⟩) = ∑ j, f j := by
  have e : ∑ j, f j = ∑ s : Fin 2, ∑ k : Fin 1408, f ⟨s.val * 1408 + k.val, by omega⟩ :=
    (Fin.sum_mul_add_congr (S := 2) (n := 1408) (f := f) (fun s k hl => rfl) rfl).symm
  rw [e, Fin.sum_univ_two]
  simp

end Cert.FfnRow
end
-- ==== Proof.FfnBody.lean ====
/- The body of the feed-forward layer, element by element. -/
module

public import proofs.«01_k».proof.Proof.Gen.FfnIdeal.Skeleton
public import proofs.«01_k».proof.Proof.FfnRow
public import Idealize.ShloMosaic.Lib.Pipeline.ValueKit
public import Idealize.ShloMosaic.Lib.Pointwise

@[expose] public section

set_option maxRecDepth 16384

noncomputable section

namespace Cert.FfnIdeal.Layer

open Cert.FfnIdeal Cert.FfnIdeal.Gen Idealize.ShloMosaic Idealize.SL.Sem
open Cert.FfnRow

/-- A column of the first and of the second half of the layer's width. -/
abbrev lo (c : Fin 1408) : Fin 2816 := ⟨c.val, by omega⟩
abbrev hi (c : Fin 1408) : Fin 2816 := ⟨1408 + c.val, by omega⟩

/-- What a point reads: rows, targets, the scale, the first weight in four parts, the second in two. -/
structure Blocks where
  X : Vec Ideal S256x1024 .f32
  Y : Vec Ideal S256x1024 .f32
  G : Vec Ideal S1x1024 .f32
  C0 : Vec Ideal S1x1024x1408 .bf16
  C1 : Vec Ideal S1x1024x1408 .bf16
  C2 : Vec Ideal S1x1024x1408 .bf16
  C3 : Vec Ideal S1x1024x1408 .bf16
  D0 : Vec Ideal S1408x1024 .bf16
  D1 : Vec Ideal S1408x1024 .bf16

namespace Blocks

variable (B : Blocks)

/-- The body's values, in the order in which it computes them. -/
abbrev hn := k0_pay7 (F := Ideal) B.X B.G
abbrev g0 := k0_pay8 (F := Ideal) B.X B.G B.C0
abbrev u0 := k0_pay9 (F := Ideal) B.X B.G B.C2
abbrev g1 := k0_pay14 (F := Ideal) B.hn B.C1
abbrev u1 := k0_pay15 (F := Ideal) B.hn B.C3
abbrev act0 := k0_pay12 (F := Ideal) B.g0 B.u0
abbrev act1 := k0_pay20 (F := Ideal) B.g1 B.u1 (k0_pay18 (F := Ideal) B.hn B.C1) (k0_pay19 (F := Ideal))
abbrev half := k0_pay13 (F := Ideal) (k0_pay4 B.X) B.g0 B.u0 B.D0
abbrev err := k0_pay21 (F := Ideal) B.half B.g1 B.u1 (k0_pay18 B.hn B.C1) k0_pay19 B.D1 B.Y
abbrev dout := k0_pay22 (F := Ideal) B.half B.g1 B.u1 (k0_pay18 B.hn B.C1) k0_pay19 B.D1 B.Y
abbrev doutb := k0_pay23 (F := Ideal) B.half B.g1 B.u1 (k0_pay18 B.hn B.C1) k0_pay19 B.D1 B.Y
abbrev sg0 := k0_pay10 (F := Ideal) B.X B.G B.C0
abbrev su0 := k0_pay11 (F := Ideal) B.X B.G B.C2
abbrev sg1 := k0_pay16 (F := Ideal) B.hn B.C1
abbrev su1 := k0_pay17 (F := Ideal) B.hn B.C3
abbrev dact0 := k0_pay25 (F := Ideal) B.half B.g1 B.u1 (k0_pay18 B.hn B.C1) k0_pay19 B.D1 B.Y B.D0
abbrev dactu0 := k0_pay27 (F := Ideal) B.half B.g1 B.u1 (k0_pay18 B.hn B.C1) k0_pay19 B.D1 B.Y B.su0 B.D0
abbrev dg0 := k0_pay29 (F := Ideal) (k0_pay26 B.sg0) B.dactu0 (k0_pay28 B.sg0)
abbrev du0 := k0_pay30 (F := Ideal) B.sg0 B.dact0 (k0_pay26 B.sg0)
abbrev part := k0_pay31 (F := Ideal) k0_pay24 B.sg0 B.dact0 (k0_pay26 B.sg0) B.dactu0 (k0_pay28 B.sg0) B.C0 B.C2
abbrev dact1 := k0_pay32 (F := Ideal) B.doutb B.D1
abbrev dactu1 := k0_pay34 (F := Ideal) B.doutb B.su1 B.D1
abbrev dg1 := k0_pay36 (F := Ideal) (k0_pay33 B.sg1) B.dactu1 (k0_pay35 B.sg1)
abbrev du1 := k0_pay37 (F := Ideal) B.sg1 B.dact1 (k0_pay33 B.sg1)
abbrev dhn := k0_pay38 (F := Ideal) B.part B.sg1 B.dact1 (k0_pay33 B.sg1) B.dactu1 (k0_pay35 B.sg1) B.C1 B.C3
abbrev scale (acc : Vec Ideal S1x1024 .f32) := k0_pay39 (F := Ideal) (k0_pay6 B.X) B.part B.sg1 B.dact1 (k0_pay33 B.sg1) B.dactu1 (k0_pay35 B.sg1) B.C1 B.C3 acc
abbrev squares (acc : Vec Ideal S1x1024 .f32) := k0_pay40 (F := Ideal) B.err acc
abbrev dh := k0_pay1 (F := Ideal) (k0_pay5 B.X) (k0_pay6 B.X) B.dout B.dhn (k0_pay41 B.G)
abbrev dhb := k0_pay2 (F := Ideal) (k0_pay5 B.X) (k0_pay6 B.X) B.dout B.dhn (k0_pay41 B.G)

/-- The blocks hold the rows `a`. -/
structure Holds (a : Fin 256 → Row) : Prop where
  X : ∀ r k, B.X (ix2 r k) = (a r).x k
  Y : ∀ r k, B.Y (ix2 r k) = (a r).y k
  G : ∀ r z k, B.G (ix2 z k) = (a r).g k
  C0 : ∀ r z k c, B.C0 (ix3 z k c) = (a r).W k ⟨c.val, by omega⟩
  C1 : ∀ r z k c, B.C1 (ix3 z k c) = (a r).W k ⟨1408 + c.val, by omega⟩
  C2 : ∀ r z k c, B.C2 (ix3 z k c) = (a r).W k ⟨2816 + c.val, by omega⟩
  C3 : ∀ r z k c, B.C3 (ix3 z k c) = (a r).W k ⟨4224 + c.val, by omega⟩
  D0 : ∀ r c j, B.D0 (ix2 c j) = (a r).V (lo c) j
  D1 : ∀ r c j, B.D1 (ix2 c j) = (a r).V (hi c) j

variable {B} {a : Fin 256 → Row} (H : B.Holds a) (r : Fin 256)
include H

theorem root_eq (z : Fin 1) : k0_pay5 (F := Ideal) B.X (ix2 r z) = Ideal.rsqrt (RmsGrad.meanSq n1024 (a r).x) := by
  pointwise [k0_pay5, k0_pay4]
  simp only [H.X]
  rfl

theorem hhat_eq (k : Fin 1024) : k0_pay6 (F := Ideal) B.X (ix2 r k) = (a r).hhat k := by
  pointwise [k0_pay6, k0_pay4]
  rw [root_eq H, H.X]
  rfl

theorem hn_eq (k : Fin 1024) : B.hn (ix2 r k) = (a r).hn k := by
  pointwise [k0_pay7]
  rw [hhat_eq H, H.G r]
  rfl

theorem g0_eq (c : Fin 1408) : B.g0 (ix2 r c) = (a r).gate (lo c) := by
  pointwise [k0_pay8]
  simp only [hn_eq H, H.C0 r]
  rfl

theorem u0_eq (c : Fin 1408) : B.u0 (ix2 r c) = (a r).up (lo c) := by
  pointwise [k0_pay9]
  simp only [hn_eq H, H.C2 r]
  rfl

theorem g1_eq (c : Fin 1408) : B.g1 (ix2 r c) = (a r).gate (hi c) := by
  pointwise [k0_pay14]
  simp only [hn_eq H, H.C1 r]
  rfl

theorem u1_eq (c : Fin 1408) : B.u1 (ix2 r c) = (a r).up (hi c) := by
  pointwise [k0_pay15]
  simp only [hn_eq H, H.C3 r, Row.up, Row.pre]
  exact Finset.sum_congr rfl fun k _ => congrArg ((a r).hn k * (a r).W k ·) (Fin.ext (by simp only []; omega))

theorem sg0_eq (c : Fin 1408) : B.sg0 (ix2 r c) = (a r).gate (lo c) := by
  pointwise [k0_pay10]
  exact g0_eq H r c

theorem su0_eq (c : Fin 1408) : B.su0 (ix2 r c) = (a r).up (lo c) := by
  pointwise [k0_pay11]
  exact u0_eq H r c

theorem sg1_eq (c : Fin 1408) : B.sg1 (ix2 r c) = (a r).gate (hi c) := by
  pointwise [k0_pay16]
  exact g1_eq H r c

theorem su1_eq (c : Fin 1408) : B.su1 (ix2 r c) = (a r).up (hi c) := by
  pointwise [k0_pay17]
  exact u1_eq H r c

theorem act0_eq (c : Fin 1408) : B.act0 (ix2 r c) = (a r).act (lo c) := by
  pointwise [k0_pay12]
  rw [g0_eq H, u0_eq H, zero_sub]
  rfl

theorem act1_eq (c : Fin 1408) : B.act1 (ix2 r c) = (a r).act (hi c) := by
  pointwise [k0_pay20, k0_pay18, k0_pay19]
  have g := g1_eq H r c
  have u := u1_eq H r c
  dsimp only [Blocks.g1, Blocks.u1] at g u ⊢
  rw [g, u, zero_sub]
  rfl

theorem out_eq (j : Fin 1024) : B.half (ix2 r j) + ∑ c, (a r).act (hi c) * (a r).V (hi c) j = (a r).out j := by
  pointwise [k0_pay13, k0_pay4]
  simp only [act0_eq H, H.D0 r, H.X]
  rw [add_assoc, Row.out, ← sum_halves]

theorem err_eq (j : Fin 1024) : B.err (ix2 r j) = (a r).err j := by
  pointwise [k0_pay21]
  simp only [act1_eq H, H.D1 r, H.Y]
  rw [out_eq H]
  rfl

theorem dout_eq (j : Fin 1024) : B.dout (ix2 r j) = (a r).dout j := by
  pointwise [k0_pay22]
  exact congrArg (· * _) (err_eq H r j)

theorem doutb_eq (j : Fin 1024) : B.doutb (ix2 r j) = (a r).dout j := by
  pointwise [k0_pay23]
  exact dout_eq H r j

theorem dact0_eq (c : Fin 1408) : B.dact0 (ix2 r c) = (a r).dact (lo c) := by
  pointwise [k0_pay25]
  simp only [doutb_eq H, H.D0 r]
  rfl

theorem dact1_eq (c : Fin 1408) : B.dact1 (ix2 r c) = (a r).dact (hi c) := by
  pointwise [k0_pay32]
  simp only [doutb_eq H, H.D1 r]
  rfl

theorem sig0_eq (c : Fin 1408) : k0_pay26 (F := Ideal) B.sg0 (ix2 r c) = logistic ((a r).gate (lo c)) := by
  pointwise [k0_pay26]
  rw [sg0_eq H, zero_sub]
  rfl

theorem sig1_eq (c : Fin 1408) : k0_pay33 (F := Ideal) B.sg1 (ix2 r c) = logistic ((a r).gate (hi c)) := by
  pointwise [k0_pay33]
  rw [sg1_eq H, zero_sub]
  rfl

theorem dg0_eq (c : Fin 1408) : B.dg0 (ix2 r c) = (a r).dgate (lo c) := by
  pointwise [k0_pay29, k0_pay28, k0_pay27]
  have d := dact0_eq H r c
  dsimp only [Blocks.dact0] at d ⊢
  rw [d, sig0_eq H, sg0_eq H, su0_eq H]
  rfl

theorem du0_eq (c : Fin 1408) : B.du0 (ix2 r c) = (a r).dup (lo c) := by
  pointwise [k0_pay30]
  rw [sig0_eq H, sg0_eq H, dact0_eq H]
  rfl

theorem dg1_eq (c : Fin 1408) : B.dg1 (ix2 r c) = (a r).dgate (hi c) := by
  pointwise [k0_pay36, k0_pay35, k0_pay34]
  have d := dact1_eq H r c
  dsimp only [Blocks.dact1] at d ⊢
  rw [d, sig1_eq H, sg1_eq H, su1_eq H]
  rfl

theorem du1_eq (c : Fin 1408) : B.du1 (ix2 r c) = (a r).dup (hi c) := by
  pointwise [k0_pay37]
  rw [sig1_eq H, sg1_eq H, dact1_eq H]
  rfl

/-- The four parts of the gradient at the first product. -/
theorem dgu_0 (c : Fin 1408) : (a r).dgate (lo c) = (a r).dgu ⟨c.val, by omega⟩ := by
  rw [Row.dgu, dif_pos (by simp only []; omega)]

theorem dgu_1 (c : Fin 1408) : (a r).dgate (hi c) = (a r).dgu ⟨1408 + c.val, by omega⟩ := by
  rw [Row.dgu, dif_pos (by simp only []; omega)]

theorem dgu_2 (c : Fin 1408) : (a r).dup (lo c) = (a r).dgu ⟨2816 + c.val, by omega⟩ := by
  rw [Row.dgu, dif_neg (by simp only []; omega)]
  exact congrArg (a r).dup (Fin.ext (by simp only []; omega))

theorem dgu_3 (c : Fin 1408) : (a r).dup (hi c) = (a r).dgu ⟨4224 + c.val, by omega⟩ := by
  rw [Row.dgu, dif_neg (by simp only []; omega)]
  exact congrArg (a r).dup (Fin.ext (by simp only []; omega))

theorem dhn_eq (k : Fin 1024) : B.dhn (ix2 r k) = (a r).dhn k := by
  pointwise [k0_pay38, k0_pay31, k0_pay24]
  simp only [dg0_eq H, du0_eq H, dg1_eq H, du1_eq H, H.C0 r, H.C1 r, H.C2 r, H.C3 r, dgu_0 H, dgu_1 H, dgu_2 H, dgu_3 H]
  rw [Row.dhn, ← sum_parts]

theorem dh_eq (j : Fin 1024) : B.dh (ix2 r j) = (a r).dh j := by
  pointwise [k0_pay1, k0_pay41]
  simp only [dhn_eq H, hhat_eq H, root_eq H, dout_eq H, H.G r]
  rfl

theorem dhb_eq (j : Fin 1024) : B.dhb (ix2 r j) = (a r).dh j := by
  pointwise [k0_pay2]
  exact dh_eq H r j

theorem scale_eq (acc : Vec Ideal S1x1024 .f32) (z : Fin 1) (k : Fin 1024) :
    B.scale acc (ix2 z k) = acc (ix2 z k) + ∑ r, (a r).hhat k * (a r).dhn k := by
  pointwise [k0_pay39]
  simp only [dhn_eq H, hhat_eq H, mul_comm ((a _).hhat k)]

theorem squares_eq (acc : Vec Ideal S1x1024 .f32) (z : Fin 1) (k : Fin 1024) :
    B.squares acc (ix2 z k) = acc (ix2 z k) + ∑ r, (a r).err k * (a r).err k := by
  pointwise [k0_pay40]
  simp only [err_eq H]

end Blocks
end Cert.FfnIdeal.Layer
end
-- ==== Proof.FfnRefValue.lean ====
/- What the reference of the feed-forward layer computes, element by element. -/
module

public import proofs.«01_k».proof.Proof.Gen.FfnRefIdeal.Read
public import proofs.«01_k».proof.Proof.FfnRow
public import Idealize.ShloMosaic.Lib.Pointwise

@[expose] public section

set_option maxRecDepth 16384

noncomputable section

namespace Cert.FfnRefIdeal.Layer

open Cert.FfnRefIdeal Cert.FfnRefIdeal.Gen Cert.FfnRefIdeal.Read Idealize.ShloMosaic Idealize.SL.Sem
open Cert.FfnRow

variable (x0 x1 : (⟨S4x2048x1024, .f32⟩ : BufTy).Contents (Elt Ideal)) (x2 : (⟨S1024, .f32⟩ : BufTy).Contents (Elt Ideal))
  (x3 : (⟨S1024x5632, .f32⟩ : BufTy).Contents (Elt Ideal)) (x4 : (⟨S2816x1024, .f32⟩ : BufTy).Contents (Elt Ideal))

/-- Row `s` of sequence `b`, with what its results depend on. -/
def row (b : Fin 4) (s : Fin 2048) : Row :=
  ⟨fun k => x0 (ix3 b s k), fun k => x1 (ix3 b s k), fun k => x2 (ix1 k), fun k j => x3 (ix2 k j), fun c j => x4 (ix2 c j)⟩

variable (b : Fin 4) (s : Fin 2048)

theorem var_eq (z : Fin 1) : val_main_v6 (F := Ideal) x0 (ix3 b s z) = RmsGrad.meanSq n1024 (fun k => x0 (ix3 b s k)) := by
  pointwise [val_main_v6, val_main_v5, val_main_v4, val_main_v3, val_main_v2, val_main_v1, val_main_cst, val_main_cst_0, val_main_cst_1]
  simp only [val_main_v0_apply, Ideal.mulf_def]
  rfl

theorem root_eq (z : Fin 1) : val_main_v7 (F := Ideal) x0 (ix3 b s z) = Ideal.rsqrt (RmsGrad.meanSq n1024 (fun k => x0 (ix3 b s k))) := by
  rw [val_main_v7_apply, var_eq]
  rfl

theorem hhat_eq (k : Fin 1024) : val_main_v12 (F := Ideal) x0 (ix3 b s k) = (row x0 x1 x2 x3 x4 b s).hhat k := by
  pointwise [val_main_v12, val_main_v11]
  rw [root_eq]
  rfl

theorem hn_eq (k : Fin 1024) : val_main_v15 (F := Ideal) x0 x2 (ix3 b s k) = (row x0 x1 x2 x3 x4 b s).hn k := by
  rw [val_main_v15_apply, hhat_eq x0 x1 x2 x3 x4]
  pointwise [val_main_v14, val_main_v13]
  rfl

theorem pre_eq (j : Fin 5632) : val_main_v16 (F := Ideal) x0 x2 x3 (ix3 b s j) = (row x0 x1 x2 x3 x4 b s).pre j := by
  pointwise [val_main_v16]
  simp only [hn_eq x0 x1 x2 x3 x4]
  rfl

theorem gate_eq (c : Fin 2816) : val_main_v17 (F := Ideal) x0 x2 x3 (ix3 b s c) = (row x0 x1 x2 x3 x4 b s).gate c := by
  pointwise [val_main_v17]
  rw [pre_eq x0 x1 x2 x3 x4]
  rfl

theorem up_eq (c : Fin 2816) : val_main_v18 (F := Ideal) x0 x2 x3 (ix3 b s c) = (row x0 x1 x2 x3 x4 b s).up c := by
  pointwise [val_main_v18]
  rw [pre_eq x0 x1 x2 x3 x4]
  rfl

theorem sig_eq (c : Fin 2816) : val_main_v19_2 (F := Ideal) x0 x2 x3 (ix3 b s c) = logistic ((row x0 x1 x2 x3 x4 b s).gate c) := by
  pointwise [val_main_v19_2, val_main_call0_v0, val_main_call0_v1, val_main_call0_v2, val_main_call0_v3, val_main_call0_v4, val_main_call0_cst, val_main_call0_cst_0]
  rw [gate_eq x0 x1 x2 x3 x4]
  rfl

theorem act_eq (c : Fin 2816) : val_main_v20 (F := Ideal) x0 x2 x3 (ix3 b s c) = (row x0 x1 x2 x3 x4 b s).act c := by
  rw [val_main_v20_apply, val_main_v19_0_apply, gate_eq x0 x1 x2 x3 x4, up_eq x0 x1 x2 x3 x4, sig_eq x0 x1 x2 x3 x4]
  rfl

theorem out_eq (j : Fin 1024) : val_main_v22 (F := Ideal) x0 x2 x3 x4 (ix3 b s j) = (row x0 x1 x2 x3 x4 b s).out j := by
  pointwise [val_main_v22, val_main_v21]
  simp only [act_eq x0 x1 x2 x3 x4]
  rfl

theorem err_eq (j : Fin 1024) : val_main_v23 (F := Ideal) x0 x1 x2 x3 x4 (ix3 b s j) = (row x0 x1 x2 x3 x4 b s).err j := by
  rw [val_main_v23_apply, out_eq x0 x1 x2 x3 x4]
  rfl

/-- The chain rule's factors are together one part in a thousand and twenty-four. -/
theorem factor (z : EReal) :
    Ideal.div (Ideal.ofBits .f32 0x3F000000#32) n1024 * (Ideal.ofBits .f32 0x40000000#32 * z)
      = z * Ideal.ofBits .f32 0x3A800000#32 := by
  rw [ofBits_half, ofBits_two, ofBits_inv, n1024, RmsGrad.ofBits_1024, Ideal.div_coe (by norm_num), ← mul_assoc, mul_comm z]
  norm_cast
  norm_num

theorem dout_eq (j : Fin 1024) : val_main_v37 (F := Ideal) x0 x1 x2 x3 x4 (ix3 b s j) = (row x0 x1 x2 x3 x4 b s).dout j := by
  pointwise [val_main_v37, val_main_v36, val_main_v35, val_main_v34, val_main_v33, val_main_v32, val_main_v26, val_main_v25, val_main_cst_3, val_main_cst_8, val_main_cst_9, val_main_cst_10]
  rw [err_eq x0 x1 x2 x3 x4]
  exact factor _

theorem dact_eq (c : Fin 2816) : val_main_v38 (F := Ideal) x0 x1 x2 x3 x4 (ix3 b s c) = (row x0 x1 x2 x3 x4 b s).dact c := by
  pointwise [val_main_v38]
  simp only [dout_eq x0 x1 x2 x3 x4]
  rfl

theorem dup_eq (c : Fin 2816) : val_main_v39 (F := Ideal) x0 x1 x2 x3 x4 (ix3 b s c) = (row x0 x1 x2 x3 x4 b s).dup c := by
  rw [val_main_v39_apply, val_main_v19_0_apply, gate_eq x0 x1 x2 x3 x4, sig_eq x0 x1 x2 x3 x4, dact_eq]
  exact mul_comm _ _

theorem dgate_eq (h : (row x0 x1 x2 x3 x4 b s).Real) (c : Fin 2816) :
    val_main_v41 (F := Ideal) x0 x1 x2 x3 x4 (ix3 b s c) = (row x0 x1 x2 x3 x4 b s).dgate c := by
  rw [← h.dgate_eq, val_main_v41_apply, val_main_call1_v1_apply, val_main_call1_v2_apply, val_main_call1_v0_apply, val_main_v40_apply, val_main_v19_1_apply,
    val_main_call0_v7_apply, gate_eq x0 x1 x2 x3 x4, sig_eq x0 x1 x2 x3 x4, up_eq x0 x1 x2 x3 x4, dact_eq]
  pointwise [val_main_call0_v6, val_main_call0_cst_1]
  rfl

theorem dgu_eq (h : (row x0 x1 x2 x3 x4 b s).Real) (j : Fin 5632) :
    val_main_v42 (F := Ideal) x0 x1 x2 x3 x4 (ix3 b s j) = (row x0 x1 x2 x3 x4 b s).dgu j := by
  pointwise [val_main_v42]
  rw [Row.dgu]
  split
  · rw [dgate_eq x0 x1 x2 x3 x4 b s h]
  · rw [dup_eq]

theorem dhn_eq (h : (row x0 x1 x2 x3 x4 b s).Real) (k : Fin 1024) :
    val_main_v43 (F := Ideal) x0 x1 x2 x3 x4 (ix3 b s k) = (row x0 x1 x2 x3 x4 b s).dhn k := by
  pointwise [val_main_v43]
  simp only [dgu_eq x0 x1 x2 x3 x4 b s h]
  rfl

theorem scaled_eq (h : (row x0 x1 x2 x3 x4 b s).Real) (k : Fin 1024) :
    val_main_v48 (F := Ideal) x0 x1 x2 x3 x4 (ix3 b s k) = (row x0 x1 x2 x3 x4 b s).dhn k * x2 (ix1 k) := by
  rw [val_main_v48_apply, dhn_eq x0 x1 x2 x3 x4 b s h]
  pointwise [val_main_v47, val_main_v13]

theorem cube_eq (z : Fin 1) :
    val_main_v10 (F := Ideal) x0 (ix3 b s z)
      = Ideal.ofBits .f32 0xBF000000#32 * Ideal.div (Ideal.rsqrt (RmsGrad.meanSq n1024 (fun k => x0 (ix3 b s k)))) (RmsGrad.meanSq n1024 (fun k => x0 (ix3 b s k))) := by
  rw [val_main_v10_apply, val_main_v8_apply, root_eq, var_eq]
  pointwise [val_main_v9, val_main_cst_2]

theorem through_eq (h : (row x0 x1 x2 x3 x4 b s).Real) :
    val_main_v58 (F := Ideal) x0 x1 x2 x3 x4 (ix2 b s)
      = RmsGrad.through n1024 (row x0 x1 x2 x3 x4 b s).x (fun k => (row x0 x1 x2 x3 x4 b s).dhn k * (row x0 x1 x2 x3 x4 b s).g k) := by
  pointwise [val_main_v58, val_main_cst_15]
  rw [Fin.sum_univ_one, val_main_v57_apply, val_main_v55_apply, cube_eq]
  pointwise [val_main_v56, val_main_v52, val_main_v51, val_main_cst_13, val_main_cst_14]
  simp only [val_main_v50_apply, Ideal.mulf_def, scaled_eq x0 x1 x2 x3 x4 b s h, RmsGrad.through]
  rfl

theorem dh_eq (h : (row x0 x1 x2 x3 x4 b s).Real) (j : Fin 1024) :
    val_main_v64 (F := Ideal) x0 x1 x2 x3 x4 (ix3 b s j) = (row x0 x1 x2 x3 x4 b s).dh j := by
  have spread : val_main_v59 (F := Ideal) x0 x1 x2 x3 x4 (ix3 b s j)
      = RmsGrad.through n1024 (row x0 x1 x2 x3 x4 b s).x (fun k => (row x0 x1 x2 x3 x4 b s).dhn k * (row x0 x1 x2 x3 x4 b s).g k) := by
    pointwise [val_main_v59]
    exact through_eq x0 x1 x2 x3 x4 b s h
  have root : val_main_v53 (F := Ideal) x0 (ix3 b s j) = Ideal.rsqrt (RmsGrad.meanSq n1024 (fun k => x0 (ix3 b s k))) := by
    pointwise [val_main_v53]
    exact root_eq x0 b s 0
  rw [val_main_v64_apply, val_main_v63_apply, val_main_v62_apply, val_main_v61_apply, val_main_v60_apply, val_main_v54_apply, scaled_eq x0 x1 x2 x3 x4 b s h, spread, root,
    dout_eq, Row.dh, n1024, RmsGrad.ofBits_1024, RmsGrad.byHand_eq (by norm_num), ← RmsGrad.ofBits_1024, RmsGrad.byRule]
  generalize RmsGrad.through _ _ _ = T
  rw [add_assoc, add_assoc]
  simp only [Ideal.addf_def, Ideal.mulf_def, add_assoc]
  rfl

/-- The gradient of the norm's scale and the squared errors, each summed over all rows; the six rows below hold zeros. -/
theorem st_eq (h : ∀ b s, (row x0 x1 x2 x3 x4 b s).Real) (i : Fin 8) (j : Fin 1024) :
    val_main_v72 (F := Ideal) x0 x1 x2 x3 x4 (ix2 i j)
      = if i.val = 0 then ∑ b : Fin 4, ∑ s : Fin 2048, (row x0 x1 x2 x3 x4 b s).hhat j * (row x0 x1 x2 x3 x4 b s).dhn j
        else if i.val = 1 then ∑ b : Fin 4, ∑ s : Fin 2048, (row x0 x1 x2 x3 x4 b s).err j * (row x0 x1 x2 x3 x4 b s).err j
        else 0 := by
  have scale : val_main_v49 (F := Ideal) x0 x1 x2 x3 x4 (ix1 j) = ∑ b : Fin 4, ∑ s : Fin 2048, (row x0 x1 x2 x3 x4 b s).hhat j * (row x0 x1 x2 x3 x4 b s).dhn j := by
    have e45 : val_main_v45 (F := Ideal) x0 x1 x2 x3 x4 (ix1 j) = ∑ b : Fin 4, ∑ s : Fin 2048, (row x0 x1 x2 x3 x4 b s).hhat j * (row x0 x1 x2 x3 x4 b s).dhn j := by
      refine (RmsGrad.sum_lead _ _ _ j).trans ?_
      pointwise [val_main_cst_11]
      simp only [val_main_v44_apply, hhat_eq x0 x1 x2 x3 x4, dhn_eq x0 x1 x2 x3 x4 _ _ (h _ _), Ideal.mulf_def]
    refine (RmsGrad.sum_lead _ _ _ j).trans ?_
    rw [Fin.sum_univ_one, Fin.sum_univ_one]
    pointwise [val_main_cst_12, val_main_v46]
    exact e45
  have sq : val_main_v68 (F := Ideal) x0 x1 x2 x3 x4 (ix1 j) = ∑ b : Fin 4, ∑ s : Fin 2048, (row x0 x1 x2 x3 x4 b s).err j * (row x0 x1 x2 x3 x4 b s).err j := by
    refine (RmsGrad.sum_lead _ _ _ j).trans ?_
    pointwise [val_main_cst_16]
    simp only [val_main_v67_apply, val_main_v66_apply, out_eq x0 x1 x2 x3 x4, Ideal.mulf_def]
    rfl
  pointwise [val_main_v72, val_main_v71, val_main_v70, val_main_v69, val_main_cst_17]
  rw [scale, sq]
  split_ifs <;> first | rfl | omega

variable (R : Fin 8192)

/-- Row `R` of the flattened arrays. -/
abbrev flat : Row := row x0 x1 x2 x3 x4 ⟨R.val / 2048, by omega⟩ ⟨R.val % 2048, by omega⟩

theorem dh_flat (h : ∀ b s, (row x0 x1 x2 x3 x4 b s).Real) (j : Fin 1024) : val_main_v65 (F := Ideal) x0 x1 x2 x3 x4 (ix2 R j) = (flat x0 x1 x2 x3 x4 R).dh j := by
  pointwise [val_main_v65]
  exact dh_eq x0 x1 x2 x3 x4 _ _ (h _ _) j

theorem dhb_flat (h : ∀ b s, (row x0 x1 x2 x3 x4 b s).Real) (j : Fin 1024) : val_main_v73 (F := Ideal) x0 x1 x2 x3 x4 (ix2 R j) = (flat x0 x1 x2 x3 x4 R).dh j := by
  pointwise [val_main_v73]
  exact dh_flat x0 x1 x2 x3 x4 R h j

theorem hn_flat (j : Fin 1024) : val_main_v75 (F := Ideal) x0 x2 (ix2 R j) = (flat x0 x1 x2 x3 x4 R).hn j := by
  pointwise [val_main_v75, val_main_v74]
  exact hn_eq x0 x1 x2 x3 x4 _ _ j

theorem act_flat (c : Fin 2816) : val_main_v77 (F := Ideal) x0 x2 x3 (ix2 R c) = (flat x0 x1 x2 x3 x4 R).act c := by
  pointwise [val_main_v77, val_main_v76]
  exact act_eq x0 x1 x2 x3 x4 _ _ c

theorem dout_flat (j : Fin 1024) : val_main_v79 (F := Ideal) x0 x1 x2 x3 x4 (ix2 R j) = (flat x0 x1 x2 x3 x4 R).dout j := by
  pointwise [val_main_v79, val_main_v78]
  exact dout_eq x0 x1 x2 x3 x4 _ _ j

theorem dgu_flat (h : ∀ b s, (row x0 x1 x2 x3 x4 b s).Real) (j : Fin 5632) : val_main_v81 (F := Ideal) x0 x1 x2 x3 x4 (ix2 R j) = (flat x0 x1 x2 x3 x4 R).dgu j := by
  pointwise [val_main_v81, val_main_v80]
  exact dgu_eq x0 x1 x2 x3 x4 _ _ (h _ _) j

end Cert.FfnRefIdeal.Layer
end
-- ==== Proof.FfnBlocks.lean ====
/- What a point of the feed-forward layer reads. -/
module

public import proofs.«01_k».proof.Proof.Gen.FfnIdeal.Value
public import proofs.«01_k».proof.Proof.FfnBody
public import proofs.«01_k».proof.Proof.FfnRefValue
public import Idealize.ShloMosaic.Lib.Pipeline.ValueKit
public import Idealize.ShloMosaic.Lib.Pointwise
public import Idealize.ShloMosaic.Lib.Claim

@[expose] public section

set_option maxRecDepth 16384

noncomputable section

namespace Cert.FfnIdeal.Layer

open Cert.FfnIdeal Cert.FfnIdeal.Gen Idealize.ShloMosaic Idealize.ShloMosaic.TcCoe Idealize.SL.Sem
open Idealize.ShloMosaic.Pipeline (Dat)
open Cert.FfnRow

variable (m : (ℓ : Loc nD τ sig) → Buf (Elt Ideal) ℓ)

/-- Every window of rows moves one tile a point; the scale, the weights and the sums stay put. -/
theorem place : ∀ t : Fin cfg0.N, win0_0.index t = ![t.val, 0] ∧ win0_1.index t = ![t.val, 0] ∧ win0_2.index t = ![0, 0]
    ∧ win0_3.index t = ![0, 0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0] ∧ win0_11.index t = ![0, 0] :=
  (by decide +kernel : ∀ t : Fin grid0.N, _)

theorem row_lt (t : Fin cfg0.N) (r : Fin 256) : t.val * 256 + r.val < 8192 := by have := t.isLt.trans_eq N_0; omega

/-- Row `r` of tile `t`. -/
abbrev rowOf (t : Fin cfg0.N) (r : Fin 256) : Fin 8192 := ⟨t.val * 256 + r.val, row_lt t r⟩

/-- Row `s` of sequence `b` of the arguments, and row `R` of the flattened arguments. -/
abbrev seqRow (c : Dev nD) (b : Fin 4) (s : Fin 2048) : Row := Cert.FfnRefIdeal.Layer.row (m ((c : Thread nD τ).loc main_arg0)) (m ((c : Thread nD τ).loc main_arg1))
  (m ((c : Thread nD τ).loc main_arg2)) (m ((c : Thread nD τ).loc main_arg3)) (m ((c : Thread nD τ).loc main_arg4)) b s
abbrev flat (c : Dev nD) (R : Fin 8192) : Row := seqRow m c ⟨R.val / 2048, by omega⟩ ⟨R.val % 2048, by omega⟩

/-- The blocks a point reads. -/
abbrev blocks (c : Dev nD) (t : Fin cfg0.N) : Blocks :=
  ⟨iblk m c 0 t, iblk m c 1 t, iblk m c 2 t,
    View.ld (iblk m c 3 t) (Rect.unit ![0, 0, 0] ![1, 1024, 1408] inb_S4x1024x1408_S1x1024x1408_0_0_0),
    View.ld (iblk m c 3 t) (Rect.unit ![1, 0, 0] ![1, 1024, 1408] inb_S4x1024x1408_S1x1024x1408_1_0_0),
    View.ld (iblk m c 3 t) (Rect.unit ![2, 0, 0] ![1, 1024, 1408] inb_S4x1024x1408_S1x1024x1408_2_0_0),
    View.ld (iblk m c 3 t) (Rect.unit ![3, 0, 0] ![1, 1024, 1408] inb_S4x1024x1408_S1x1024x1408_3_0_0),
    View.ld (iblk m c 4 t) (Rect.unit ![0, 0] ![1408, 1024] inb_S2816x1024_S1408x1024_0_0),
    View.ld (iblk m c 4 t) (Rect.unit ![1408, 0] ![1408, 1024] inb_S2816x1024_S1408x1024_1408_0)⟩

theorem block_x (c : Dev nD) (t : Fin cfg0.N) (r : Fin 256) (k : Fin 1024) :
    iblk m c 0 t (ix2 r k) = m ((c : Thread nD τ).loc main_arg0) (ix3 ⟨(rowOf t r).val / 2048, by omega⟩ ⟨(rowOf t r).val % 2048, by omega⟩ k) := by
  blk_simp [iblk, V, place t]
  entry_read
  pointwise
  blk_point [place t]

theorem block_y (c : Dev nD) (t : Fin cfg0.N) (r : Fin 256) (k : Fin 1024) :
    iblk m c 1 t (ix2 r k) = m ((c : Thread nD τ).loc main_arg1) (ix3 ⟨(rowOf t r).val / 2048, by omega⟩ ⟨(rowOf t r).val % 2048, by omega⟩ k) := by
  blk_simp [iblk, V, place t]
  entry_read
  pointwise
  blk_point [place t]

theorem block_g (c : Dev nD) (t : Fin cfg0.N) (z : Fin 1) (k : Fin 1024) : iblk m c 2 t (ix2 z k) = m ((c : Thread nD τ).loc main_arg2) (ix1 k) := by
  blk_simp [iblk, V, place t]
  entry_read
  pointwise
  blk_point [place t]

theorem block_w (c : Dev nD) (t : Fin cfg0.N) (q : Fin 4) (k : Fin 1024) (l : Fin 1408) :
    iblk m c 3 t (ix3 q k l) = m ((c : Thread nD τ).loc main_arg3) (ix2 k ⟨q.val * 1408 + l.val, by omega⟩) := by
  blk_simp [iblk, V, place t]
  entry_read
  pointwise
  blk_point [place t]

theorem block_v (c : Dev nD) (t : Fin cfg0.N) (l : Fin 2816) (j : Fin 1024) : iblk m c 4 t (ix2 l j) = m ((c : Thread nD τ).loc main_arg4) (ix2 l j) := by
  blk_simp [iblk, V, place t]
  entry_read
  pointwise
  blk_point [place t]

/-- One part of the first weight. -/
theorem part_w (c : Dev nD) (t : Fin cfg0.N) (q : Fin 4) (p) (z : Fin 1) (k : Fin 1024) (l : Fin 1408) (j : Fin 5632) (e : j.val = q.val * 1408 + l.val) :
    View.ld (iblk m c 3 t) (Rect.unit ![q.val, 0, 0] ![1, 1024, 1408] p) (ix3 z k l) = m ((c : Thread nD τ).loc main_arg3) (ix2 k j) := by
  pointwise
  refine (congrArg (iblk m c 3 t) ?_).trans ((block_w m c t q k l).trans (congrArg (fun j => m ((c : Thread nD τ).loc main_arg3) (ix2 k j)) (Fin.ext e.symm)))
  funext a; apply Fin.ext
  match a with
  | ⟨0, _⟩ => simp
  | ⟨1, _⟩ => simp
  | ⟨2, _⟩ => simp

/-- One half of the second weight. -/
theorem part_v (c : Dev nD) (t : Fin cfg0.N) (q : ℕ) (p) (l : Fin 1408) (j : Fin 1024) (l' : Fin 2816) (e : l'.val = q + l.val) :
    View.ld (iblk m c 4 t) (Rect.unit ![q, 0] ![1408, 1024] p) (ix2 l j) = m ((c : Thread nD τ).loc main_arg4) (ix2 l' j) := by
  pointwise
  refine (congrArg (iblk m c 4 t) ?_).trans (block_v m c t l' j)
  funext a; apply Fin.ext
  match a with
  | ⟨0, _⟩ => simp [e]
  | ⟨1, _⟩ => simp

/-- A point's blocks hold its rows. -/
theorem holds (c : Dev nD) (t : Fin cfg0.N) : (blocks m c t).Holds (fun r => flat m c (rowOf t r)) where
  X r k := block_x m c t r k
  Y r k := block_y m c t r k
  G r z k := block_g m c t z k
  C0 r z k l := part_w m c t 0 _ z k l _ (by simp)
  C1 r z k l := part_w m c t 1 _ z k l _ (by simp)
  C2 r z k l := part_w m c t 2 _ z k l _ (by simp)
  C3 r z k l := part_w m c t 3 _ z k l _ (by simp)
  D0 r l j := part_v m c t 0 _ l j _ (by simp)
  D1 r l j := part_v m c t 1408 _ l j _ (by simp)

end Cert.FfnIdeal.Layer
end
-- ==== Proof.FfnSums.lean ====
/- What a point of the feed-forward layer keeps, and the two rows of sums that it adds to. -/
module

public import proofs.«01_k».proof.Proof.FfnBlocks
public import Idealize.ShloMosaic.Lib.Pipeline.ReadBack
public import Idealize.ShloMosaic.Lib.WritesUnit

@[expose] public section

set_option maxRecDepth 16384

noncomputable section

namespace Cert.FfnIdeal.Layer

open Cert.FfnIdeal Cert.FfnIdeal.Gen Idealize.ShloMosaic Idealize.ShloMosaic.TcCoe Idealize.SL.Sem
open Idealize.ShloMosaic.Pipeline (Dat)
open Cert.FfnRow

variable (m : (ℓ : Loc nD τ sig) → Buf (Elt Ideal) ℓ)

/-- The arguments are numbers. -/
abbrev Reals (c : Dev nD) : Prop := ∀ b s, (seqRow m c b s).Real

/-- The arrays the results are claimed to be. -/
abbrev dhRef (c : Dev nD) := Cert.FfnRefIdeal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4))
abbrev dhbRef (c : Dev nD) := Cert.FfnRefIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4))
abbrev hnRef (c : Dev nD) := Cert.FfnRefIdeal.Read.val_main_v75 (F := Ideal) (m ((c : Thread nD τ).loc main_arg0)) (m ((c : Thread nD τ).loc main_arg2))
abbrev actRef (c : Dev nD) := Cert.FfnRefIdeal.Read.val_main_v77 (F := Ideal) (m ((c : Thread nD τ).loc main_arg0)) (m ((c : Thread nD τ).loc main_arg2)) (m ((c : Thread nD τ).loc main_arg3))
abbrev doutRef (c : Dev nD) := Cert.FfnRefIdeal.Read.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4))
abbrev dguRef (c : Dev nD) := Cert.FfnRefIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4))
abbrev stRef (c : Dev nD) := Cert.FfnRefIdeal.Read.val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- The two halves of what a point keeps of the first product, and the two rows of its sums. -/
abbrev half0 := Rect.unit (s := S256x2816) ![0, 0] ![256, 1408] inb_S256x2816_S256x1408_0_0
abbrev half1 := Rect.unit (s := S256x2816) ![0, 1408] ![256, 1408] inb_S256x2816_S256x1408_0_1408
abbrev row0 := Rect.unit (s := S8x1024) ![0, 0] ![1, 1024] inb_S8x1024_S1x1024_0_0
abbrev row1 := Rect.unit (s := S8x1024) ![1, 0] ![1, 1024] inb_S8x1024_S1x1024_1_0
abbrev rows := Rect.unit (s := S8x1024) ![0, 0] ![8, 1024] inb_S8x1024_S8x1024_0_0

/-- What was kept of a half of the width is read back. -/
theorem load_hi {sp : Space} (v : View sig .tc sp S256x2816 .f32) (x : half1.shape.Idx → Elt Ideal .f32) (y : half0.shape.Idx → Elt Ideal .f32) :
    v.readCov [⟨half1, x⟩, ⟨half0, y⟩] half1.toLoadRect = x :=
  View.readCov_cons_toLoadRect v half1 x _

theorem load_lo {sp : Space} (v : View sig .tc sp S256x2816 .f32) (x : half1.shape.Idx → Elt Ideal .f32) (y : half0.shape.Idx → Elt Ideal .f32) :
    v.readCov [⟨half1, x⟩, ⟨half0, y⟩] half0.toLoadRect = y :=
  (View.readCov_skip v half1 x _ _ (by decide)).trans (View.readCov_cons_toLoadRect v half0 y _)

/-- The first point's sums start from the fill. -/
theorem load_row0 {sp : Space} (v : View sig .tc sp S8x1024 .f32) (z : S8x1024.Idx → Elt Ideal .f32) :
    v.readCov [⟨rows, z⟩] row0.toLoadRect = View.ld z row0 :=
  View.readCov_fill v _ z _ row0 (by decide)

theorem load_row1 {sp : Space} (v : View sig .tc sp S8x1024 .f32) (z : S8x1024.Idx → Elt Ideal .f32) (x : row0.shape.Idx → Elt Ideal .f32) :
    v.readCov [⟨row0, x⟩, ⟨rows, z⟩] row1.toLoadRect = View.ld z row1 :=
  (View.readCov_skip v row0 x _ _ (by decide)).trans (View.readCov_fill v _ z _ row1 (by decide))

/-- Rows nought and one replaced in a block. -/
def put (p q : Vec Ideal S1x1024 .f32) (z : Vec Ideal S8x1024 .f32) (i : Fin 8) (j : Fin 1024) : EReal :=
  if i.val = 0 then q (ix2 0 j) else if i.val = 1 then p (ix2 0 j) else z (ix2 i j)

theorem put_over {sp : Space} (v : View sig .tc sp S8x1024 .f32) (f : v.ty.Contents (Elt Ideal)) (p : row1.shape.Idx → Elt Ideal .f32) (q : row0.shape.Idx → Elt Ideal .f32) (i : Fin 8) (j : Fin 1024) :
    View.read (Elt Ideal) v (v.writes (Elt Ideal) f [⟨row1, p⟩, ⟨row0, q⟩]) (ix2 i j) = put p q (View.read (Elt Ideal) v f) i j := by
  by_cases h1 : i.val = 1
  · rw [put, if_neg (by omega), if_pos h1]
    exact View.read_writes_cons_unit_of_mem v f _ p _ _ (ix2 0 j) rfl fun a => by
      match a with
      | ⟨0, _⟩ => exact h1
      | ⟨1, _⟩ => exact (Nat.zero_add _).symm
  · refine (View.read_writes_cons_unit_of_not_mem v f _ p _ _ rfl (0 : Fin 2) ?_).trans ?_
    · show i.val < 1 ∨ 1 + 1 ≤ i.val
      omega
    · by_cases h0 : i.val = 0
      · rw [put, if_pos h0]
        exact View.read_writes_cons_unit_of_mem v f _ q _ _ (ix2 0 j) rfl fun a => by
          match a with
          | ⟨0, _⟩ => exact h0
          | ⟨1, _⟩ => exact (Nat.zero_add _).symm
      · rw [put, if_neg h0, if_neg h1]
        refine View.read_writes_cons_unit_of_not_mem v f _ q _ _ rfl (0 : Fin 2) ?_
        show i.val < 0 ∨ 0 + 1 ≤ i.val
        omega

theorem put_fill {sp : Space} (v : View sig .tc sp S8x1024 .f32) (z : S8x1024.Idx → Elt Ideal .f32) (p : row1.shape.Idx → Elt Ideal .f32) (q : row0.shape.Idx → Elt Ideal .f32) (i : Fin 8) (j : Fin 1024) :
    View.canon [⟨row1, p⟩, ⟨row0, q⟩, ⟨rows, z⟩] (ix2 i j) = put p q z i j := by
  have e : View.read (Elt Ideal) v (v.writes (Elt Ideal) v.junk [⟨rows, z⟩]) = z := by
    funext y
    obtain ⟨a, b, rfl⟩ : ∃ (a : Fin 8) (b : Fin 1024), y = ix2 a b := ⟨y 0, y 1, by funext a; match a with | ⟨0, _⟩ => rfl | ⟨1, _⟩ => rfl⟩
    exact View.read_writes_cons_unit_of_mem v _ _ z _ _ (ix2 a b) rfl fun d => by
      match d with
      | ⟨0, _⟩ => exact (Nat.zero_add _).symm
      | ⟨1, _⟩ => exact (Nat.zero_add _).symm
  have h := put_over v (v.writes (Elt Ideal) v.junk [⟨rows, z⟩]) p q i j
  rw [e, ← View.writes_append] at h
  rw [← h]
  exact (View.read_writes_junk_apply_eq_canon v (ix2 i j) _).symm

/-- What one point adds to the sums. -/
def term (c : Dev nD) (t : Fin cfg0.N) (i : Fin 8) (j : Fin 1024) : EReal :=
  if i.val = 0 then ∑ r, (flat m c (rowOf t r)).hhat j * (flat m c (rowOf t r)).dhn j
  else if i.val = 1 then ∑ r, (flat m c (rowOf t r)).err j * (flat m c (rowOf t r)).err j else 0

theorem step (c : Dev nD) (t : Fin cfg0.N) (z : Vec Ideal S8x1024 .f32) (i : Fin 8) (j : Fin 1024) :
    put ((blocks m c t).squares (View.ld z row1)) ((blocks m c t).scale (View.ld z row0)) z i j = z (ix2 i j) + term m c t i j := by
  rw [put, term, Blocks.scale_eq (holds m c t), Blocks.squares_eq (holds m c t)]
  split_ifs with h0 h1
  · refine congrArg (· + _) (congrArg z ?_)
    funext a; apply Fin.ext
    match a with
    | ⟨0, _⟩ => simp [h0]
    | ⟨1, _⟩ => simp
  · refine congrArg (· + _) (congrArg z ?_)
    funext a; apply Fin.ext
    match a with
    | ⟨0, _⟩ => simp [h1]
    | ⟨1, _⟩ => simp
  · exact (add_zero _).symm

theorem fill_eq (y : S8x1024.Idx) : k0_pay3 (F := Ideal) y = (0 : EReal) := by
  pointwise [k0_pay3]

/-- The sum over the points and their rows is the reference's sum over the sequences. -/
theorem total (c : Dev nD) (hr : Reals m c) (i : Fin 8) (j : Fin 1024) : ∑ t : Fin cfg0.N, term m c t i j = stRef m c (ix2 i j) := by
  have regroup : ∀ f : Row → EReal, ∑ t : Fin cfg0.N, ∑ r : Fin 256, f (flat m c (rowOf t r)) = ∑ b : Fin 4, ∑ s : Fin 2048, f (seqRow m c b s) := fun f =>
    (Fin.sum_mul_add_congr (S := cfg0.N) (n := 256) (f := fun R => f (flat m c R)) (fun s k hl => rfl) (by rw [show cfg0.N = 32 from N_0])).trans
      (Fin.sum_mul_add_congr (S := 4) (n := 2048) (f := fun R : Fin 8192 => f (flat m c R)) (fun b s hl => by
        have e0 : (⟨(b.val * 2048 + s.val) / 2048, by omega⟩ : Fin 4) = b := Fin.ext (by simp only []; omega)
        have e1 : (⟨(b.val * 2048 + s.val) % 2048, by omega⟩ : Fin 2048) = s := Fin.ext (by simp only []; omega)
        show f (seqRow m c b s) = f (seqRow m c _ _)
        rw [e0, e1]) (by norm_num)).symm
  rw [stRef, Cert.FfnRefIdeal.Layer.st_eq _ _ _ _ _ hr, ← regroup (fun a => a.hhat j * a.dhn j), ← regroup (fun a => a.err j * a.err j)]
  unfold term
  split_ifs
  · rfl
  · rfl
  · exact Finset.sum_const_zero

end Cert.FfnIdeal.Layer
end
-- ==== Proof.FfnValue.lean ====
/- The values of the feed-forward layer. -/
module

public import proofs.«01_k».proof.Proof.FfnSums

@[expose] public section

set_option maxRecDepth 16384

noncomputable section

namespace Cert.FfnIdeal.Layer

open Cert.FfnIdeal Cert.FfnIdeal.Gen Idealize.ShloMosaic Idealize.ShloMosaic.TcCoe Idealize.SL.Sem
open Idealize.ShloMosaic.Pipeline (Dat)
open Cert.FfnRow

variable (m : (ℓ : Loc nD τ sig) → Buf (Elt Ideal) ℓ)

set_option maxHeartbeats 2000000 in
/-- The gradient at the layer's input. -/
theorem dh_final (c : Dev nD) (hr : Reals m c) : (dats m 0 c).arrAt 5 (cfgs 0).N = dhRef m c := by
  refine (dats m 0 c).arrAt_eq_of_covers 5 _ (by decide +kernel) fun t _ y => ?_
  obtain ⟨r, j, rfl⟩ : ∃ (r : Fin 256) (j : Fin 1024), y = ix2 r j := ⟨y 0, y 1, by funext a; match a with | ⟨0, _⟩ => rfl | ⟨1, _⟩ => rfl⟩
  have e : (win0_5.blk t).view.emb (ix2 r j) = ix2 (rowOf t r) j := by blk_ext [place t]
  have p : (blocks m c t).dh (ix2 r j) = dhRef m c (ix2 (rowOf t r) j) :=
    (Blocks.dh_eq (holds m c t) r j).trans (Cert.FfnRefIdeal.Layer.dh_flat _ _ _ _ _ _ hr j).symm
  blk_simp
  rw [after0_5]
  refine Eq.trans ?_ (congrArg (dhRef m c) e).symm
  by_cases a : t.val % 32 = 0
  · rw [outsAt0_A m c t a]
    dsimp only
    frame_out
    simp only [load_hi, load_lo]
    dsimp only [blocks, Blocks.dh, Blocks.dhb, Blocks.dhn, Blocks.dout, Blocks.err, Blocks.half, Blocks.part, Blocks.dact0, Blocks.dactu0, Blocks.dact1, Blocks.dactu1, Blocks.doutb, Blocks.sg0, Blocks.su0, Blocks.sg1, Blocks.su1, Blocks.g0, Blocks.u0, Blocks.g1, Blocks.u1, Blocks.hn] at p
    exact p
  · rw [outsAt0_B m c t a]
    dsimp only
    frame_out
    simp only [load_hi, load_lo]
    dsimp only [blocks, Blocks.dh, Blocks.dhb, Blocks.dhn, Blocks.dout, Blocks.err, Blocks.half, Blocks.part, Blocks.dact0, Blocks.dactu0, Blocks.dact1, Blocks.dactu1, Blocks.doutb, Blocks.sg0, Blocks.su0, Blocks.sg1, Blocks.su1, Blocks.g0, Blocks.u0, Blocks.g1, Blocks.u1, Blocks.hn] at p
    exact p

set_option maxHeartbeats 2000000 in
/-- The same in the narrow format. -/
theorem dhb_final (c : Dev nD) (hr : Reals m c) : (dats m 0 c).arrAt 6 (cfgs 0).N = dhbRef m c := by
  refine (dats m 0 c).arrAt_eq_of_covers 6 _ (by decide +kernel) fun t _ y => ?_
  obtain ⟨r, j, rfl⟩ : ∃ (r : Fin 256) (j : Fin 1024), y = ix2 r j := ⟨y 0, y 1, by funext a; match a with | ⟨0, _⟩ => rfl | ⟨1, _⟩ => rfl⟩
  have e : (win0_6.blk t).view.emb (ix2 r j) = ix2 (rowOf t r) j := by blk_ext [place t]
  have p : (blocks m c t).dhb (ix2 r j) = dhbRef m c (ix2 (rowOf t r) j) :=
    (Blocks.dhb_eq (holds m c t) r j).trans (Cert.FfnRefIdeal.Layer.dhb_flat _ _ _ _ _ _ hr j).symm
  blk_simp
  rw [after0_6]
  refine Eq.trans ?_ (congrArg (dhbRef m c) e).symm
  by_cases a : t.val % 32 = 0
  · rw [outsAt0_A m c t a]
    dsimp only
    frame_out
    simp only [load_hi, load_lo]
    dsimp only [blocks, Blocks.dh, Blocks.dhb, Blocks.dhn, Blocks.dout, Blocks.err, Blocks.half, Blocks.part, Blocks.dact0, Blocks.dactu0, Blocks.dact1, Blocks.dactu1, Blocks.doutb, Blocks.sg0, Blocks.su0, Blocks.sg1, Blocks.su1, Blocks.g0, Blocks.u0, Blocks.g1, Blocks.u1, Blocks.hn] at p
    exact p
  · rw [outsAt0_B m c t a]
    dsimp only
    frame_out
    simp only [load_hi, load_lo]
    dsimp only [blocks, Blocks.dh, Blocks.dhb, Blocks.dhn, Blocks.dout, Blocks.err, Blocks.half, Blocks.part, Blocks.dact0, Blocks.dactu0, Blocks.dact1, Blocks.dactu1, Blocks.doutb, Blocks.sg0, Blocks.su0, Blocks.sg1, Blocks.su1, Blocks.g0, Blocks.u0, Blocks.g1, Blocks.u1, Blocks.hn] at p
    exact p

set_option maxHeartbeats 2000000 in
/-- The layer's normed input. -/
theorem hn_final (c : Dev nD) : (dats m 0 c).arrAt 7 (cfgs 0).N = hnRef m c := by
  refine (dats m 0 c).arrAt_eq_of_covers 7 _ (by decide +kernel) fun t _ y => ?_
  obtain ⟨r, j, rfl⟩ : ∃ (r : Fin 256) (j : Fin 1024), y = ix2 r j := ⟨y 0, y 1, by funext a; match a with | ⟨0, _⟩ => rfl | ⟨1, _⟩ => rfl⟩
  have e : (win0_7.blk t).view.emb (ix2 r j) = ix2 (rowOf t r) j := by blk_ext [place t]
  have p : (blocks m c t).hn (ix2 r j) = hnRef m c (ix2 (rowOf t r) j) :=
    (Blocks.hn_eq (holds m c t) r j).trans (Cert.FfnRefIdeal.Layer.hn_flat _ (m ((c : Thread nD τ).loc main_arg1)) _ (m ((c : Thread nD τ).loc main_arg3)) (m ((c : Thread nD τ).loc main_arg4)) _ j).symm
  blk_simp
  rw [after0_7]
  refine Eq.trans ?_ (congrArg (hnRef m c) e).symm
  by_cases a : t.val % 32 = 0
  · rw [outsAt0_A m c t a]
    dsimp only
    frame_out
    exact p
  · rw [outsAt0_B m c t a]
    dsimp only
    frame_out
    exact p

set_option maxHeartbeats 2000000 in
/-- The gradient at the layer's output. -/
theorem dout_final (c : Dev nD) : (dats m 0 c).arrAt 9 (cfgs 0).N = doutRef m c := by
  refine (dats m 0 c).arrAt_eq_of_covers 9 _ (by decide +kernel) fun t _ y => ?_
  obtain ⟨r, j, rfl⟩ : ∃ (r : Fin 256) (j : Fin 1024), y = ix2 r j := ⟨y 0, y 1, by funext a; match a with | ⟨0, _⟩ => rfl | ⟨1, _⟩ => rfl⟩
  have e : (win0_9.blk t).view.emb (ix2 r j) = ix2 (rowOf t r) j := by blk_ext [place t]
  have p : (blocks m c t).doutb (ix2 r j) = doutRef m c (ix2 (rowOf t r) j) :=
    (Blocks.doutb_eq (holds m c t) r j).trans (Cert.FfnRefIdeal.Layer.dout_flat _ _ _ _ _ _ j).symm
  blk_simp
  rw [after0_9]
  refine Eq.trans ?_ (congrArg (doutRef m c) e).symm
  by_cases a : t.val % 32 = 0
  · rw [outsAt0_A m c t a]
    dsimp only
    frame_out
    exact p
  · rw [outsAt0_B m c t a]
    dsimp only
    frame_out
    exact p

set_option maxHeartbeats 2000000 in
/-- The gate's output. -/
theorem act_final (c : Dev nD) : (dats m 0 c).arrAt 8 (cfgs 0).N = actRef m c := by
  refine (dats m 0 c).arrAt_eq_of_covers 8 _ (by decide +kernel) fun t _ y => ?_
  obtain ⟨r, j, rfl⟩ : ∃ (r : Fin 256) (j : Fin 2816), y = ix2 r j := ⟨y 0, y 1, by funext a; match a with | ⟨0, _⟩ => rfl | ⟨1, _⟩ => rfl⟩
  have e : (win0_8.blk t).view.emb (ix2 r j) = ix2 (rowOf t r) j := by blk_ext [place t]
  have p0 : ∀ l : Fin 1408, j.val = l.val → (blocks m c t).act0 (ix2 r l) = actRef m c (ix2 (rowOf t r) j) := fun l h =>
    ((Blocks.act0_eq (holds m c t) r l).trans (congrArg (flat m c (rowOf t r)).act (Fin.ext h.symm))).trans (Cert.FfnRefIdeal.Layer.act_flat _ (m ((c : Thread nD τ).loc main_arg1)) _ _ (m ((c : Thread nD τ).loc main_arg4)) _ j).symm
  have p1 : ∀ l : Fin 1408, j.val = 1408 + l.val → (blocks m c t).act1 (ix2 r l) = actRef m c (ix2 (rowOf t r) j) := fun l h =>
    ((Blocks.act1_eq (holds m c t) r l).trans (congrArg (flat m c (rowOf t r)).act (Fin.ext h.symm))).trans (Cert.FfnRefIdeal.Layer.act_flat _ (m ((c : Thread nD τ).loc main_arg1)) _ _ (m ((c : Thread nD τ).loc main_arg4)) _ j).symm
  dsimp only [blocks, Blocks.dh, Blocks.dhb, Blocks.dhn, Blocks.dout, Blocks.err, Blocks.half, Blocks.part, Blocks.dg0, Blocks.du0, Blocks.dg1, Blocks.du1, Blocks.dact0, Blocks.dactu0, Blocks.dact1, Blocks.dactu1, Blocks.doutb, Blocks.sg0, Blocks.su0, Blocks.sg1, Blocks.su1, Blocks.act0, Blocks.act1, Blocks.g0, Blocks.u0, Blocks.g1, Blocks.u1, Blocks.hn] at p0 p1
  blk_simp
  rw [after0_8]
  refine Eq.trans ?_ (congrArg (actRef m c) e).symm
  by_cases a : t.val % 32 = 0
  · rw [outsAt0_A m c t a]
    dsimp only
    frame_out
    canon_tiles x h
    all_goals
      obtain ⟨s, l, rfl⟩ : ∃ (s : Fin 256) (l : Fin 1408), x = ix2 s l := ⟨x 0, x 1, by funext a; match a with | ⟨0, _⟩ => rfl | ⟨1, _⟩ => rfl⟩
      obtain rfl : r = s := Fin.ext h0
    · exact p1 l h1
    · exact p0 l h1
  · rw [outsAt0_B m c t a]
    dsimp only
    frame_out
    canon_tiles x h
    all_goals
      obtain ⟨s, l, rfl⟩ : ∃ (s : Fin 256) (l : Fin 1408), x = ix2 s l := ⟨x 0, x 1, by funext a; match a with | ⟨0, _⟩ => rfl | ⟨1, _⟩ => rfl⟩
      obtain rfl : r = s := Fin.ext h0
    · exact p1 l h1
    · exact p0 l h1

set_option maxHeartbeats 4000000 in
/-- The gradient at the first product. -/
theorem dgu_final (c : Dev nD) (hr : Reals m c) : (dats m 0 c).arrAt 10 (cfgs 0).N = dguRef m c := by
  refine (dats m 0 c).arrAt_eq_of_covers 10 _ (by decide +kernel) fun t _ y => ?_
  obtain ⟨r, j, rfl⟩ : ∃ (r : Fin 256) (j : Fin 5632), y = ix2 r j := ⟨y 0, y 1, by funext a; match a with | ⟨0, _⟩ => rfl | ⟨1, _⟩ => rfl⟩
  have e : (win0_10.blk t).view.emb (ix2 r j) = ix2 (rowOf t r) j := by blk_ext [place t]
  have H := holds m c t
  have q : ∀ k : Fin 5632, j.val = k.val → (flat m c (rowOf t r)).dgu k = dguRef m c (ix2 (rowOf t r) j) := fun k h =>
    (congrArg (flat m c (rowOf t r)).dgu (Fin.ext h.symm)).trans (Cert.FfnRefIdeal.Layer.dgu_flat _ _ _ _ _ _ hr j).symm
  have p0 : ∀ l : Fin 1408, j.val = l.val → (blocks m c t).dg0 (ix2 r l) = dguRef m c (ix2 (rowOf t r) j) := fun l h =>
    ((Blocks.dg0_eq H r l).trans (Blocks.dgu_0 H r l)).trans (q _ h)
  have p1 : ∀ l : Fin 1408, j.val = 1408 + l.val → (blocks m c t).dg1 (ix2 r l) = dguRef m c (ix2 (rowOf t r) j) := fun l h =>
    ((Blocks.dg1_eq H r l).trans (Blocks.dgu_1 H r l)).trans (q _ h)
  have p2 : ∀ l : Fin 1408, j.val = 2816 + l.val → (blocks m c t).du0 (ix2 r l) = dguRef m c (ix2 (rowOf t r) j) := fun l h =>
    ((Blocks.du0_eq H r l).trans (Blocks.dgu_2 H r l)).trans (q _ h)
  have p3 : ∀ l : Fin 1408, j.val = 4224 + l.val → (blocks m c t).du1 (ix2 r l) = dguRef m c (ix2 (rowOf t r) j) := fun l h =>
    ((Blocks.du1_eq H r l).trans (Blocks.dgu_3 H r l)).trans (q _ h)
  dsimp only [blocks, Blocks.dh, Blocks.dhb, Blocks.dhn, Blocks.dout, Blocks.err, Blocks.half, Blocks.part, Blocks.dg0, Blocks.du0, Blocks.dg1, Blocks.du1, Blocks.dact0, Blocks.dactu0, Blocks.dact1, Blocks.dactu1, Blocks.doutb, Blocks.sg0, Blocks.su0, Blocks.sg1, Blocks.su1, Blocks.act0, Blocks.act1, Blocks.g0, Blocks.u0, Blocks.g1, Blocks.u1, Blocks.hn] at p0 p1 p2 p3
  blk_simp
  rw [after0_10]
  refine Eq.trans ?_ (congrArg (dguRef m c) e).symm
  by_cases a : t.val % 32 = 0
  · rw [outsAt0_A m c t a]
    dsimp only
    frame_out
    simp only [load_hi, load_lo]
    canon_tiles x h
    all_goals
      obtain ⟨s, l, rfl⟩ : ∃ (s : Fin 256) (l : Fin 1408), x = ix2 s l := ⟨x 0, x 1, by funext a; match a with | ⟨0, _⟩ => rfl | ⟨1, _⟩ => rfl⟩
      obtain rfl : r = s := Fin.ext h0
    · exact p3 l h1
    · exact p1 l h1
    · exact p2 l h1
    · exact p0 l h1
  · rw [outsAt0_B m c t a]
    dsimp only
    frame_out
    simp only [load_hi, load_lo]
    canon_tiles x h
    all_goals
      obtain ⟨s, l, rfl⟩ : ∃ (s : Fin 256) (l : Fin 1408), x = ix2 s l := ⟨x 0, x 1, by funext a; match a with | ⟨0, _⟩ => rfl | ⟨1, _⟩ => rfl⟩
      obtain rfl : r = s := Fin.ext h0
    · exact p3 l h1
    · exact p1 l h1
    · exact p2 l h1
    · exact p0 l h1

set_option maxHeartbeats 4000000 in
/-- The first point's sums. -/
theorem st_first (c : Dev nD) (t : Fin cfg0.N) (a : t.val % 32 = 0) (i : Fin 8) (j : Fin 1024) : (outsAt0 m c t.val t.isLt).2.2.2.2.2.2 (ix2 i j) = 0 + term m c t i j := by
  rw [outsAt0_A m c t a]
  dsimp only
  frame_out
  simp only [load_hi, load_lo, load_row0, load_row1]
  refine (put_fill (ms0_11 t).view _ _ _ i j).trans ?_
  have p := step m c t (k0_pay3 (F := Ideal)) i j
  dsimp only [blocks, Blocks.dh, Blocks.dhb, Blocks.dhn, Blocks.dout, Blocks.err, Blocks.half, Blocks.part, Blocks.dg0, Blocks.du0, Blocks.dg1, Blocks.du1, Blocks.dact0, Blocks.dactu0, Blocks.dact1, Blocks.dactu1, Blocks.doutb, Blocks.sg0, Blocks.su0, Blocks.sg1, Blocks.su1, Blocks.act0, Blocks.act1, Blocks.g0, Blocks.u0, Blocks.g1, Blocks.u1, Blocks.hn, Blocks.scale, Blocks.squares] at p
  exact p.trans (congrArg (· + term m c t i j) (fill_eq (ix2 i j)))

set_option maxHeartbeats 4000000 in
/-- Every later point adds to what the point before left. -/
theorem st_next (c : Dev nD) (t : Fin cfg0.N) (a : ¬t.val % 32 = 0) (i : Fin 8) (j : Fin 1024) :
    (outsAt0 m c t.val t.isLt).2.2.2.2.2.2 (ix2 i j)
      = (outsAt0 m c (t.val - 1) (Nat.lt_of_le_of_lt (Nat.sub_le _ _) t.isLt)).2.2.2.2.2.2 (ix2 i j) + term m c t i j := by
  rw [outsAt0_B m c t a]
  dsimp only
  frame_out
  simp only [load_hi, load_lo]
  refine (put_over (ms0_11 t).view _ _ _ i j).trans ?_
  rw [Memref.IsWhole.read_unread]
  have p := step m c t (outsAt0 m c (t.val - 1) (Nat.lt_of_le_of_lt (Nat.sub_le _ _) t.isLt)).2.2.2.2.2.2 i j
  dsimp only [blocks, Blocks.dh, Blocks.dhb, Blocks.dhn, Blocks.dout, Blocks.err, Blocks.half, Blocks.part, Blocks.dg0, Blocks.du0, Blocks.dg1, Blocks.du1, Blocks.dact0, Blocks.dactu0, Blocks.dact1, Blocks.dactu1, Blocks.doutb, Blocks.sg0, Blocks.su0, Blocks.sg1, Blocks.su1, Blocks.act0, Blocks.act1, Blocks.g0, Blocks.u0, Blocks.g1, Blocks.u1, Blocks.hn, Blocks.scale, Blocks.squares] at p
  exact p

/-- The last point. -/
abbrev lastPoint : Fin cfg0.N := ⟨31, by rw [show cfg0.N = 32 from N_0]; omega⟩

/-- The scale's gradient and the squared errors. -/
theorem st_final (c : Dev nD) (hr : Reals m c) : (dats m 0 c).arrAt 11 (cfgs 0).N = stRef m c := by
  refine (dats m 0 c).arrAt_eq_of_after_last 11 lastPoint (by decide +kernel) _ fun y => ?_
  obtain ⟨i, j, rfl⟩ : ∃ (i : Fin 8) (j : Fin 1024), y = ix2 i j := ⟨y 0, y 1, by funext a; match a with | ⟨0, _⟩ => rfl | ⟨1, _⟩ => rfl⟩
  blk_simp
  rw [after0_11, Pipeline.eq_sum_fin_of_reset_step_apply_last (fun n h => (outsAt0 m c n h).2.2.2.2.2.2) 32 (fun _ => 0)
    (fun t y => term m c t (y 0) (y 1))
    (fun t h y => by
      obtain ⟨i, j, rfl⟩ : ∃ (i : Fin 8) (j : Fin 1024), y = ix2 i j := ⟨y 0, y 1, by funext a; match a with | ⟨0, _⟩ => rfl | ⟨1, _⟩ => rfl⟩
      exact st_first m c t h i j)
    (fun t h y => by
      obtain ⟨i, j, rfl⟩ : ∃ (i : Fin 8) (j : Fin 1024), y = ix2 i j := ⟨y 0, y 1, by funext a; match a with | ⟨0, _⟩ => rfl | ⟨1, _⟩ => rfl⟩
      exact st_next m c t h i j)
    (le_of_eq N_0) lastPoint rfl (ix2 i j), zero_add]
  refine (total m c hr i j).trans (congrArg (stRef m c) ?_)
  blk_ext [place lastPoint]

end Cert.FfnIdeal.Layer
end
-- ==== Proof.FfnClaims.lean ====
/- The claims about the feed-forward layer. -/
module

public import proofs.«01_k».proof.Defs
public import proofs.«01_k».proof.Proof.Gen.Ffn.Frame
public import proofs.«01_k».proof.Proof.Gen.FfnRefIdeal.Run
public import proofs.«01_k».proof.Proof.Gen.Pre_finite_ffn
public import proofs.«01_k».proof.Proof.FfnValue
public import proofs.«01_k».proof.Proof.AttnBwdClaims
public import Idealize.ShloMosaic.Lib.Quiescent

@[expose] public section

noncomputable section

namespace Cert.FfnClaims

open Idealize.ShloMosaic Idealize.ShloMosaic.TcCoe Idealize.SL.Sem

/-- The kernel as printed leaves its arguments alone and its counters at zero. -/
theorem frame : Cert.quiescent_Ffn := fun m ρ _ => Cert.Ffn.Gen.frame m ρ
/-- So does the idealized kernel, whatever its arguments. -/
theorem frame_ideal : Cert.quiescent_FfnIdeal := fun m ρ _ => Cert.FfnIdeal.Gen.frame m ρ
theorem frame_ideal_pre : Cert.quiescent_FfnIdeal_pre_finite_ffn := fun m ρ _ => Cert.FfnIdeal.Gen.frame m ρ
/-- So does the reference, which has no counters. -/
theorem frame_ref : Cert.quiescent_FfnRefIdeal := fun m ρ _ =>
  (θ_run Cert.FfnRefIdeal.defs _ _).mono
    (fun r h => ⟨fun c => (h c).2.2.2.2.2.2.2, sem_eq_zero_of_no_sems (by decide) r.2⟩)
    (Cert.FfnRefIdeal.Value.run (F := Ideal) m ρ)
theorem frame_ref_pre : Cert.quiescent_FfnRefIdeal_pre_finite_ffn := fun m ρ _ => frame_ref m ρ trivial

open Cert.FfnIdeal Cert.AttnBwdClaims in
/-- Under the precondition every row holds reals. -/
theorem real (m : (ℓ : Loc nD τ sig) → Buf (Elt Ideal) ℓ) (c : Dev nD) (p : Cert.Pre_FfnIdeal_finite_ffn m) : Cert.FfnIdeal.Layer.Reals m c := by
  obtain ⟨p0, p1, p2, p3, p4⟩ := p c
  intro b s
  exact ⟨fun k => ⟨_, real_of_lt _ (congrFun p0 (ix3 b s k))⟩, fun k => ⟨_, real_of_lt _ (congrFun p1 (ix3 b s k))⟩, fun k => ⟨_, real_of_lt _ (congrFun p2 (ix1 k))⟩,
    fun k j => ⟨_, real_of_lt _ (congrFun p3 (ix2 k j))⟩, fun l j => ⟨_, real_of_lt _ (congrFun p4 (ix2 l j))⟩⟩

/-- Where the arguments are finite, the layer's seven arrays are the reference's. -/
theorem algebraic : Cert.algebraic_FfnIdeal_FfnRefIdeal_pre_finite_ffn := by
  intro m ρ m' ρ' p agree
  refine ⟨_, _, _, _, _, _, _, Cert.FfnIdeal.Value.run_blocks m ρ, ?_⟩
  refine (θ_run _ _ _).mono (fun r h c => ?_) (Cert.FfnRefIdeal.Value.run m' ρ')
  obtain ⟨h0, h1, h2, h3, h4, h5, h6, kept⟩ := h c
  obtain ⟨a0, a1, a2, a3, a4⟩ := agree c
  have hr := real m c p
  replace h0 := h0.trans (Cert.FfnRefIdeal.Read.val_main_v65_eq m' c)
  replace h1 := h1.trans (Cert.FfnRefIdeal.Read.val_main_v73_eq m' c)
  replace h2 := h2.trans (Cert.FfnRefIdeal.Read.val_main_v75_eq _ _)
  replace h3 := h3.trans (Cert.FfnRefIdeal.Read.val_main_v77_eq _ _ _)
  replace h4 := h4.trans (Cert.FfnRefIdeal.Read.val_main_v79_eq _ _ _ _ _)
  replace h5 := h5.trans (Cert.FfnRefIdeal.Read.val_main_v81_eq m' c)
  replace h6 := h6.trans (Cert.FfnRefIdeal.Read.val_main_v72_eq m' c)
  rw [a0, a1, a2, a3, a4] at h0 h1 h4 h5 h6
  rw [a0, a2] at h2
  rw [a0, a2, a3] at h3
  exact ⟨h0.trans (Cert.FfnIdeal.Layer.dh_final m c hr).symm, h1.trans (Cert.FfnIdeal.Layer.dhb_final m c hr).symm,
    h2.trans (Cert.FfnIdeal.Layer.hn_final m c).symm, h3.trans (Cert.FfnIdeal.Layer.act_final m c).symm,
    h4.trans (Cert.FfnIdeal.Layer.dout_final m c).symm, h5.trans (Cert.FfnIdeal.Layer.dgu_final m c hr).symm,
    h6.trans (Cert.FfnIdeal.Layer.st_final m c hr).symm, kept⟩

end Cert.FfnClaims
end
-- ==== Proof.MergeFwdValue.lean ====
/- The values of the gates, block by block. -/
module

public import proofs.«01_k».proof.Proof.Gen.MergeFwdIdeal.Value
public import proofs.«01_k».proof.Proof.Gen.MergeFwdRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.MergeFwdIdeal.Fwd

open Cert.MergeFwdIdeal Cert.MergeFwdIdeal.Gen Idealize.ShloMosaic Idealize.ShloMosaic.TcCoe Idealize.SL.Sem
open Idealize.ShloMosaic.Pipeline (Dat)

variable (m : (ℓ : Loc nD τ sig) → Buf (Elt Ideal) ℓ)

/-- Every row window moves one tile a point, every weight stays put. -/
theorem place : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] :=
  (by decide +kernel : ∀ t : Fin grid0.N, _)

/-- A negated exponent, spelt as a difference from nought. -/
theorem exp_zero_sub (x : EReal) : Ideal.exp (0 - x) = Ideal.exp (-x) := by rw [zero_sub]

/-- The convolution branch's output. -/
theorem yc_final (c : Dev nD) : (dats m 0 c).arrAt 9 (cfgs 0).N
    = Cert.MergeFwdRefIdeal.Read.val_main_v1 (F := Ideal) (m ((c : Thread nD τ).loc main_arg2)) (m ((c : Thread nD τ).loc main_arg6)) := by
  refine (dats m 0 c).arrAt_eq_of_covers 9 _ (by decide +kernel) fun t _ y => ?_
  blk_simp
  rw [after0_9]; frame_out
  rw [← Cert.MergeFwdRefIdeal.Read.val_main_v1_eq]
  pointwise [k0_pay2]
  blk_point [iblk, V, place t]

/-- The gated mix of both branches. -/
theorem mix_final (c : Dev nD) : (dats m 0 c).arrAt 7 (cfgs 0).N
    = Cert.MergeFwdRefIdeal.Read.val_main_v21 (F := Ideal) (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m 0 c).arrAt_eq_of_covers 7 _ (by decide +kernel) fun t _ y => ?_
  blk_simp
  rw [after0_7]; frame_out
  rw [← Cert.MergeFwdRefIdeal.Read.val_main_v21_eq]
  pointwise [k0_pay3, k0_pay2, exp_zero_sub]
  blk_point [iblk, V, place t]

/-- The residual stream after the mix's projection. -/
theorem h_final (c : Dev nD) : (dats m 0 c).arrAt 8 (cfgs 0).N
    = Cert.MergeFwdRefIdeal.Read.val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]; frame_out
  rw [← Cert.MergeFwdRefIdeal.Read.val_main_v23_eq]
  pointwise [k0_pay1, k0_pay3, k0_pay2, exp_zero_sub]
  blk_point [iblk, V, place t]

end Cert.MergeFwdIdeal.Fwd
end
-- ==== Proof.MergeFwdClaims.lean ====
/- The claims about the gates. -/
module

public import proofs.«01_k».proof.Defs
public import proofs.«01_k».proof.Proof.Gen.MergeFwd.Frame
public import proofs.«01_k».proof.Proof.Gen.MergeFwdRefIdeal.Run
public import proofs.«01_k».proof.Proof.MergeFwdValue
public import Idealize.ShloMosaic.Lib.Quiescent

@[expose] public section

noncomputable section

namespace Cert.MergeFwdClaims

open Idealize.ShloMosaic Idealize.ShloMosaic.TcCoe Idealize.SL.Sem

/-- The kernel as printed leaves its arguments alone and its counters at zero. -/
theorem frame : Cert.quiescent_MergeFwd := fun m ρ _ => Cert.MergeFwd.Gen.frame m ρ
/-- So does the idealized kernel. -/
theorem frame_ideal : Cert.quiescent_MergeFwdIdeal := fun m ρ _ => Cert.MergeFwdIdeal.Gen.frame m ρ
/-- So does the reference, which has no counters. -/
theorem frame_ref : Cert.quiescent_MergeFwdRefIdeal := fun m ρ _ =>
  (θ_run Cert.MergeFwdRefIdeal.defs _ _).mono
    (fun r h => ⟨fun c => (h c).2.2.2, sem_eq_zero_of_no_sems (by decide) r.2⟩)
    (Cert.MergeFwdRefIdeal.Value.run (F := Ideal) m ρ)

/-- The gates: all three results are the reference's. -/
theorem algebraic : Cert.algebraic_MergeFwdIdeal_MergeFwdRefIdeal := by
  intro m ρ m' ρ' _ agree
  refine ⟨_, _, _, Cert.MergeFwdIdeal.Value.run_blocks m ρ, ?_⟩
  refine (θ_run _ _ _).mono (fun r h c => ?_) (Cert.MergeFwdRefIdeal.Value.run m' ρ')
  obtain ⟨h21, h23, h1, kept⟩ := h c
  obtain ⟨a0, a1, a2, a3, a4, a5, a6⟩ := agree c
  rw [a1, a2, a3, a4, a6] at h21
  rw [a0, a1, a2, a3, a4, a5, a6] at h23
  rw [a2, a6] at h1
  exact ⟨h21.trans (Cert.MergeFwdIdeal.Fwd.mix_final m c).symm, h23.trans (Cert.MergeFwdIdeal.Fwd.h_final m c).symm,
    h1.trans (Cert.MergeFwdIdeal.Fwd.yc_final m c).symm, kept⟩

end Cert.MergeFwdClaims
end
-- ==== Proof.lean ====
/- The certificate's claims, put together. Each call of the training step has its own modules: `<Call>Value` for what its
   result arrays hold, `<Call>Claims` for the claims themselves. -/
module

public import proofs.«01_k».proof.Defs
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.InBwd
public import proofs.«01_k».proof.Proof.Gen.InBwd.Skeleton
public import proofs.«01_k».proof.Proof.Gen.InBwd.Launch
public import proofs.«01_k».proof.Proof.Gen.InBwd.Points
public import proofs.«01_k».proof.Proof.Gen.InBwd.Frame
public import proofs.«01_k».proof.Proof.Gen.InBwdIdeal
public import proofs.«01_k».proof.Proof.Gen.InBwdIdeal.Skeleton
public import proofs.«01_k».proof.Proof.Gen.InBwdIdeal.Launch
public import proofs.«01_k».proof.Proof.Gen.InBwdIdeal.Points
public import proofs.«01_k».proof.Proof.Gen.InBwdIdeal.Frame
public import proofs.«01_k».proof.Proof.Gen.InBwdIdeal.Value
public import proofs.«01_k».proof.Proof.Gen.InBwdRefIdeal
public import proofs.«01_k».proof.Proof.Gen.InBwdRefIdeal.Run
public import proofs.«01_k».proof.Proof.Gen.InBwdRefIdeal.Read
public import proofs.«01_k».proof.Proof.Gen.AttnBwd
public import proofs.«01_k».proof.Proof.Gen.AttnBwd.Skeleton
public import proofs.«01_k».proof.Proof.Gen.AttnBwd.Launch
public import proofs.«01_k».proof.Proof.Gen.AttnBwd.Points
public import proofs.«01_k».proof.Proof.Gen.AttnBwd.Frame
public import proofs.«01_k».proof.Proof.Gen.AttnBwdIdeal
public import proofs.«01_k».proof.Proof.Gen.AttnBwdIdeal.Skeleton
public import proofs.«01_k».proof.Proof.Gen.AttnBwdIdeal.Launch
public import proofs.«01_k».proof.Proof.Gen.AttnBwdIdeal.Points
public import proofs.«01_k».proof.Proof.Gen.AttnBwdIdeal.Frame
public import proofs.«01_k».proof.Proof.Gen.AttnBwdIdeal.Value
public import proofs.«01_k».proof.Proof.Gen.AttnBwdRefIdeal
public import proofs.«01_k».proof.Proof.Gen.AttnBwdRefIdeal.Run
public import proofs.«01_k».proof.Proof.Gen.AttnBwdRefIdeal.Read
public import proofs.«01_k».proof.Proof.Gen.AttnFwd
public import proofs.«01_k».proof.Proof.Gen.AttnFwd.Skeleton
public import proofs.«01_k».proof.Proof.Gen.AttnFwd.Launch
public import proofs.«01_k».proof.Proof.Gen.AttnFwd.Points
public import proofs.«01_k».proof.Proof.Gen.AttnFwd.Frame
public import proofs.«01_k».proof.Proof.Gen.AttnFwdIdeal
public import proofs.«01_k».proof.Proof.Gen.AttnFwdIdeal.Skeleton
public import proofs.«01_k».proof.Proof.Gen.AttnFwdIdeal.Launch
public import proofs.«01_k».proof.Proof.Gen.AttnFwdIdeal.Points
public import proofs.«01_k».proof.Proof.Gen.AttnFwdIdeal.Frame
public import proofs.«01_k».proof.Proof.Gen.AttnFwdIdeal.Value
public import proofs.«01_k».proof.Proof.Gen.AttnFwdRefIdeal
public import proofs.«01_k».proof.Proof.Gen.AttnFwdRefIdeal.Run
public import proofs.«01_k».proof.Proof.Gen.AttnFwdRefIdeal.Read
public import proofs.«01_k».proof.Proof.Gen.KvBwd
public import proofs.«01_k».proof.Proof.Gen.KvBwd.Skeleton
public import proofs.«01_k».proof.Proof.Gen.KvBwd.Launch
public import proofs.«01_k».proof.Proof.Gen.KvBwd.Points
public import proofs.«01_k».proof.Proof.Gen.KvBwd.Frame
public import proofs.«01_k».proof.Proof.Gen.KvBwdIdeal
public import proofs.«01_k».proof.Proof.Gen.KvBwdIdeal.Skeleton
public import proofs.«01_k».proof.Proof.Gen.KvBwdIdeal.Launch
public import proofs.«01_k».proof.Proof.Gen.KvBwdIdeal.Points
public import proofs.«01_k».proof.Proof.Gen.KvBwdIdeal.Frame
public import proofs.«01_k».proof.Proof.Gen.KvBwdIdeal.Value
public import proofs.«01_k».proof.Proof.Gen.KvBwdRefIdeal
public import proofs.«01_k».proof.Proof.Gen.KvBwdRefIdeal.Run
public import proofs.«01_k».proof.Proof.Gen.KvBwdRefIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.MergeFwd
public import proofs.«01_k».proof.Proof.Gen.MergeFwd.Skeleton
public import proofs.«01_k».proof.Proof.Gen.MergeFwd.Launch
public import proofs.«01_k».proof.Proof.Gen.MergeFwd.Points
public import proofs.«01_k».proof.Proof.Gen.MergeFwd.Frame
public import proofs.«01_k».proof.Proof.Gen.MergeFwdIdeal
public import proofs.«01_k».proof.Proof.Gen.MergeFwdIdeal.Skeleton
public import proofs.«01_k».proof.Proof.Gen.MergeFwdIdeal.Launch
public import proofs.«01_k».proof.Proof.Gen.MergeFwdIdeal.Points
public import proofs.«01_k».proof.Proof.Gen.MergeFwdIdeal.Frame
public import proofs.«01_k».proof.Proof.Gen.MergeFwdIdeal.Value
public import proofs.«01_k».proof.Proof.Gen.MergeFwdRefIdeal
public import proofs.«01_k».proof.Proof.Gen.MergeFwdRefIdeal.Run
public import proofs.«01_k».proof.Proof.Gen.MergeFwdRefIdeal.Read
public import proofs.«01_k».proof.Proof.Gen.Pre_finite_attn
public import proofs.«01_k».proof.Proof.Gen.Pre_finite_attn_fwd
public import proofs.«01_k».proof.Proof.Gen.Pre_finite_ffn
public import proofs.«01_k».proof.Proof.MergeClaims
public import proofs.«01_k».proof.Proof.InBwdClaims
public import proofs.«01_k».proof.Proof.AttnBwdClaims
public import proofs.«01_k».proof.Proof.AttnFwdClaims
public import proofs.«01_k».proof.Proof.KvBwdClaims
public import proofs.«01_k».proof.Proof.FfnClaims
public import proofs.«01_k».proof.Proof.MergeFwdClaims
public import Idealize.ShloMosaic.Adequacy
public import Idealize.ShloMosaic.Init

@[expose] public section

noncomputable section

namespace Cert.Proof

/-- Everything claimed of the step's calls. -/
theorem claim : Cert.Claim := ⟨Cert.Merge.Gen.facts, Cert.MergeIdeal.Gen.facts, Cert.MergeRefIdeal.Gen.facts,
  Cert.InBwd.Gen.facts, Cert.InBwdIdeal.Gen.facts, Cert.InBwdRefIdeal.Gen.facts,
  Cert.AttnBwd.Gen.facts, Cert.AttnBwdIdeal.Gen.facts, Cert.AttnBwdRefIdeal.Gen.facts,
  Cert.AttnFwd.Gen.facts, Cert.AttnFwdIdeal.Gen.facts, Cert.AttnFwdRefIdeal.Gen.facts,
  Cert.KvBwd.Gen.facts, Cert.KvBwdIdeal.Gen.facts, Cert.KvBwdRefIdeal.Gen.facts,
  Cert.Ffn.Gen.facts, Cert.FfnIdeal.Gen.facts, Cert.FfnRefIdeal.Gen.facts,
  Cert.MergeFwd.Gen.facts, Cert.MergeFwdIdeal.Gen.facts, Cert.MergeFwdRefIdeal.Gen.facts, Cert.Pre_finite_attn.Gen.facts, Cert.Pre_finite_attn_fwd.Gen.facts, Cert.Pre_finite_ffn.Gen.facts,
  Cert.MergeClaims.frame, Cert.MergeClaims.frame_ideal, Cert.MergeClaims.frame_ref,
  Cert.InBwdClaims.frame, Cert.InBwdClaims.frame_ideal, Cert.InBwdClaims.frame_ref,
  Cert.AttnBwdClaims.frame, Cert.AttnBwdClaims.frame_ideal, Cert.AttnBwdClaims.frame_ideal_pre, Cert.AttnBwdClaims.frame_ref, Cert.AttnBwdClaims.frame_ref_pre,
  Cert.AttnFwdClaims.frame, Cert.AttnFwdClaims.frame_ideal, Cert.AttnFwdClaims.frame_ideal_pre, Cert.AttnFwdClaims.frame_ref, Cert.AttnFwdClaims.frame_ref_pre,
  Cert.KvBwdClaims.frame, Cert.KvBwdClaims.frame_ideal, Cert.KvBwdClaims.frame_ref,
  Cert.FfnClaims.frame, Cert.FfnClaims.frame_ideal, Cert.FfnClaims.frame_ideal_pre, Cert.FfnClaims.frame_ref, Cert.FfnClaims.frame_ref_pre,
  Cert.MergeFwdClaims.frame, Cert.MergeFwdClaims.frame_ideal, Cert.MergeFwdClaims.frame_ref,
  trivial, Cert.MergeClaims.algebraic,
  trivial, Cert.InBwdClaims.algebraic,
  Cert.AttnBwdClaims.preserves, Cert.AttnBwdClaims.algebraic,
  Cert.AttnFwdClaims.preserves, Cert.AttnFwdClaims.algebraic,
  trivial, Cert.KvBwdClaims.algebraic,
  trivial, Cert.FfnClaims.algebraic,
  trivial, Cert.MergeFwdClaims.algebraic⟩

end Cert.Proof

end
